-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_idx_in_rows [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReference (m : (ℓ : Loc Cert.ProjReference.nD Cert.ProjReference.τ Cert.ProjReference.sig) → Buf (Elt Bits) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReference (m : (ℓ : Loc Cert.MergeReference.nD Cert.MergeReference.τ Cert.MergeReference.sig) → Buf (Elt Bits) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Experts [hPre_blocks_in_order : Cert.Pre_blocks_in_order.Facts] (m : (ℓ : Loc Cert.Experts.nD Cert.Experts.τ Cert.Experts.sig) → Buf (Elt Bits) ℓ) : Prop :=
  ∀ c : Dev Cert.Experts.nD,
    (Cert.Pre_blocks_in_order.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))) = (fun _ => 1#1)

def Pre_ExpertsIdeal [hPre_blocks_in_order : Cert.Pre_blocks_in_order.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_in_order.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)

def Pre_ExpertsReference (m : (ℓ : Loc Cert.ExpertsReference.nD Cert.ExpertsReference.τ Cert.ExpertsReference.sig) → Buf (Elt Bits) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blocks_in_order [hPre_blocks_in_order : Cert.Pre_blocks_in_order.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_in_order.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8)) (m ((c.tc : Thread Cert.ExpertsReferenceIdeal.nD Cert.ExpertsReferenceIdeal.τ).loc Cert.ExpertsReferenceIdeal.main_arg9))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReference (m : (ℓ : Loc Cert.CombineReference.nD Cert.CombineReference.τ Cert.CombineReference.sig) → Buf (Elt Bits) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Scatter [hPre_dest_distinct : Cert.Pre_dest_distinct.Facts] (m : (ℓ : Loc Cert.Scatter.nD Cert.Scatter.τ Cert.Scatter.sig) → Buf (Elt Bits) ℓ) : Prop :=
  ∀ c : Dev Cert.Scatter.nD,
    (Cert.Pre_dest_distinct.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_dest_distinct : Cert.Pre_dest_distinct.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_dest_distinct.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_ScatterReference (m : (ℓ : Loc Cert.ScatterReference.nD Cert.ScatterReference.τ Cert.ScatterReference.sig) → Buf (Elt Bits) ℓ) : Prop :=
  True

def Pre_ScatterReference_dest_distinct [hPre_dest_distinct : Cert.Pre_dest_distinct.Facts] (m : (ℓ : Loc Cert.ScatterReference.nD Cert.ScatterReference.τ Cert.ScatterReference.sig) → Buf (Elt Bits) ℓ) : Prop :=
  ∀ c : Dev Cert.ScatterReference.nD,
    (Cert.Pre_dest_distinct.fn (F := Bits) (m ((c.tc : Thread Cert.ScatterReference.nD Cert.ScatterReference.τ).loc Cert.ScatterReference.main_arg0)) (m ((c.tc : Thread Cert.ScatterReference.nD Cert.ScatterReference.τ).loc Cert.ScatterReference.main_arg1))) = (fun _ => 1#1)

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReferenceIdeal_dest_distinct [hPre_dest_distinct : Cert.Pre_dest_distinct.Facts] (m : (ℓ : Loc Cert.ScatterReferenceIdeal.nD Cert.ScatterReferenceIdeal.τ Cert.ScatterReferenceIdeal.sig) → Buf (Elt Ideal) ℓ) : Prop :=
  ∀ c : Dev Cert.ScatterReferenceIdeal.nD,
    (Cert.Pre_dest_distinct.fn (F := Ideal) (m ((c.tc : Thread Cert.ScatterReferenceIdeal.nD Cert.ScatterReferenceIdeal.τ).loc Cert.ScatterReferenceIdeal.main_arg0)) (m ((c.tc : Thread Cert.ScatterReferenceIdeal.nD Cert.ScatterReferenceIdeal.τ).loc Cert.ScatterReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_idx_in_rows [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference_idx_in_rows m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReference [hProjReference : Cert.ProjReference.Facts] : Prop :=
  ∀ (m : (ℓ : Loc Cert.ProjReference.nD Cert.ProjReference.τ Cert.ProjReference.sig) → Buf (Elt Bits) ℓ) (g : Dev Cert.ProjReference.nD → PrngReg), Pre_ProjReference m →
    θ_run (Cert.ProjReference.defs (F := Bits)) (onTc (τ := Cert.ProjReference.τ) (Cert.ProjReference.main (F := Bits))) ⟨m, fun _ => 0, g⟩ (fun r => (∀ c : Dev Cert.ProjReference.nD,
      r.2.mem ((c.tc : Thread Cert.ProjReference.nD Cert.ProjReference.τ).loc Cert.ProjReference.main_arg0) = m ((c.tc : Thread Cert.ProjReference.nD Cert.ProjReference.τ).loc Cert.ProjReference.main_arg0)
      ∧ r.2.mem ((c.tc : Thread Cert.ProjReference.nD Cert.ProjReference.τ).loc Cert.ProjReference.main_arg1) = m ((c.tc : Thread Cert.ProjReference.nD Cert.ProjReference.τ).loc Cert.ProjReference.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReference [hMergeReference : Cert.MergeReference.Facts] : Prop :=
  ∀ (m : (ℓ : Loc Cert.MergeReference.nD Cert.MergeReference.τ Cert.MergeReference.sig) → Buf (Elt Bits) ℓ) (g : Dev Cert.MergeReference.nD → PrngReg), Pre_MergeReference m →
    θ_run (Cert.MergeReference.defs (F := Bits)) (onTc (τ := Cert.MergeReference.τ) (Cert.MergeReference.main (F := Bits))) ⟨m, fun _ => 0, g⟩ (fun r => (∀ c : Dev Cert.MergeReference.nD,
      r.2.mem ((c.tc : Thread Cert.MergeReference.nD Cert.MergeReference.τ).loc Cert.MergeReference.main_arg0) = m ((c.tc : Thread Cert.MergeReference.nD Cert.MergeReference.τ).loc Cert.MergeReference.main_arg0)
      ∧ r.2.mem ((c.tc : Thread Cert.MergeReference.nD Cert.MergeReference.τ).loc Cert.MergeReference.main_arg1) = m ((c.tc : Thread Cert.MergeReference.nD Cert.MergeReference.τ).loc Cert.MergeReference.main_arg1)
      ∧ r.2.mem ((c.tc : Thread Cert.MergeReference.nD Cert.MergeReference.τ).loc Cert.MergeReference.main_arg2) = m ((c.tc : Thread Cert.MergeReference.nD Cert.MergeReference.τ).loc Cert.MergeReference.main_arg2)
      ∧ r.2.mem ((c.tc : Thread Cert.MergeReference.nD Cert.MergeReference.τ).loc Cert.MergeReference.main_arg3) = m ((c.tc : Thread Cert.MergeReference.nD Cert.MergeReference.τ).loc Cert.MergeReference.main_arg3)
      ∧ r.2.mem ((c.tc : Thread Cert.MergeReference.nD Cert.MergeReference.τ).loc Cert.MergeReference.main_arg4) = m ((c.tc : Thread Cert.MergeReference.nD Cert.MergeReference.τ).loc Cert.MergeReference.main_arg4)
      ∧ r.2.mem ((c.tc : Thread Cert.MergeReference.nD Cert.MergeReference.τ).loc Cert.MergeReference.main_arg5) = m ((c.tc : Thread Cert.MergeReference.nD Cert.MergeReference.τ).loc Cert.MergeReference.main_arg5)
      ∧ r.2.mem ((c.tc : Thread Cert.MergeReference.nD Cert.MergeReference.τ).loc Cert.MergeReference.main_arg6) = m ((c.tc : Thread Cert.MergeReference.nD Cert.MergeReference.τ).loc Cert.MergeReference.main_arg6)
      ∧ r.2.mem ((c.tc : Thread Cert.MergeReference.nD Cert.MergeReference.τ).loc Cert.MergeReference.main_arg7) = m ((c.tc : Thread Cert.MergeReference.nD Cert.MergeReference.τ).loc Cert.MergeReference.main_arg7)
      ∧ r.2.mem ((c.tc : Thread Cert.MergeReference.nD Cert.MergeReference.τ).loc Cert.MergeReference.main_arg8) = m ((c.tc : Thread Cert.MergeReference.nD Cert.MergeReference.τ).loc Cert.MergeReference.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Experts [hExperts : Cert.Experts.Facts] [hPre_blocks_in_order : Cert.Pre_blocks_in_order.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] [hPre_blocks_in_order : Cert.Pre_blocks_in_order.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsReference [hExpertsReference : Cert.ExpertsReference.Facts] : Prop :=
  ∀ (m : (ℓ : Loc Cert.ExpertsReference.nD Cert.ExpertsReference.τ Cert.ExpertsReference.sig) → Buf (Elt Bits) ℓ) (g : Dev Cert.ExpertsReference.nD → PrngReg), Pre_ExpertsReference m →
    θ_run (Cert.ExpertsReference.defs (F := Bits)) (onTc (τ := Cert.ExpertsReference.τ) (Cert.ExpertsReference.main (F := Bits))) ⟨m, fun _ => 0, g⟩ (fun r => (∀ c : Dev Cert.ExpertsReference.nD,
      r.2.mem ((c.tc : Thread Cert.ExpertsReference.nD Cert.ExpertsReference.τ).loc Cert.ExpertsReference.main_arg0) = m ((c.tc : Thread Cert.ExpertsReference.nD Cert.ExpertsReference.τ).loc Cert.ExpertsReference.main_arg0)
      ∧ r.2.mem ((c.tc : Thread Cert.ExpertsReference.nD Cert.ExpertsReference.τ).loc Cert.ExpertsReference.main_arg1) = m ((c.tc : Thread Cert.ExpertsReference.nD Cert.ExpertsReference.τ).loc Cert.ExpertsReference.main_arg1)
      ∧ r.2.mem ((c.tc : Thread Cert.ExpertsReference.nD Cert.ExpertsReference.τ).loc Cert.ExpertsReference.main_arg2) = m ((c.tc : Thread Cert.ExpertsReference.nD Cert.ExpertsReference.τ).loc Cert.ExpertsReference.main_arg2)
      ∧ r.2.mem ((c.tc : Thread Cert.ExpertsReference.nD Cert.ExpertsReference.τ).loc Cert.ExpertsReference.main_arg3) = m ((c.tc : Thread Cert.ExpertsReference.nD Cert.ExpertsReference.τ).loc Cert.ExpertsReference.main_arg3)
      ∧ r.2.mem ((c.tc : Thread Cert.ExpertsReference.nD Cert.ExpertsReference.τ).loc Cert.ExpertsReference.main_arg4) = m ((c.tc : Thread Cert.ExpertsReference.nD Cert.ExpertsReference.τ).loc Cert.ExpertsReference.main_arg4)
      ∧ r.2.mem ((c.tc : Thread Cert.ExpertsReference.nD Cert.ExpertsReference.τ).loc Cert.ExpertsReference.main_arg5) = m ((c.tc : Thread Cert.ExpertsReference.nD Cert.ExpertsReference.τ).loc Cert.ExpertsReference.main_arg5)
      ∧ r.2.mem ((c.tc : Thread Cert.ExpertsReference.nD Cert.ExpertsReference.τ).loc Cert.ExpertsReference.main_arg6) = m ((c.tc : Thread Cert.ExpertsReference.nD Cert.ExpertsReference.τ).loc Cert.ExpertsReference.main_arg6)
      ∧ r.2.mem ((c.tc : Thread Cert.ExpertsReference.nD Cert.ExpertsReference.τ).loc Cert.ExpertsReference.main_arg7) = m ((c.tc : Thread Cert.ExpertsReference.nD Cert.ExpertsReference.τ).loc Cert.ExpertsReference.main_arg7)
      ∧ r.2.mem ((c.tc : Thread Cert.ExpertsReference.nD Cert.ExpertsReference.τ).loc Cert.ExpertsReference.main_arg8) = m ((c.tc : Thread Cert.ExpertsReference.nD Cert.ExpertsReference.τ).loc Cert.ExpertsReference.main_arg8)
      ∧ r.2.mem ((c.tc : Thread Cert.ExpertsReference.nD Cert.ExpertsReference.τ).loc Cert.ExpertsReference.main_arg9) = m ((c.tc : Thread Cert.ExpertsReference.nD Cert.ExpertsReference.τ).loc Cert.ExpertsReference.main_arg9))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8)
      ∧ r.2.mem ((c.tc : Thread Cert.ExpertsReferenceIdeal.nD Cert.ExpertsReferenceIdeal.τ).loc Cert.ExpertsReferenceIdeal.main_arg9) = m ((c.tc : Thread Cert.ExpertsReferenceIdeal.nD Cert.ExpertsReferenceIdeal.τ).loc Cert.ExpertsReferenceIdeal.main_arg9))
      ∧ r.2.sem = fun _ => 0)

def quiescent_ExpertsReferenceIdeal_pre_blocks_in_order [hExpertsReferenceIdeal : Cert.ExpertsReferenceIdeal.Facts] [hPre_blocks_in_order : Cert.Pre_blocks_in_order.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blocks_in_order m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8)
      ∧ r.2.mem ((c.tc : Thread Cert.ExpertsReferenceIdeal.nD Cert.ExpertsReferenceIdeal.τ).loc Cert.ExpertsReferenceIdeal.main_arg9) = m ((c.tc : Thread Cert.ExpertsReferenceIdeal.nD Cert.ExpertsReferenceIdeal.τ).loc Cert.ExpertsReferenceIdeal.main_arg9))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ r.2.sem = fun _ => 0)

def quiescent_CombineReference [hCombineReference : Cert.CombineReference.Facts] : Prop :=
  ∀ (m : (ℓ : Loc Cert.CombineReference.nD Cert.CombineReference.τ Cert.CombineReference.sig) → Buf (Elt Bits) ℓ) (g : Dev Cert.CombineReference.nD → PrngReg), Pre_CombineReference m →
    θ_run (Cert.CombineReference.defs (F := Bits)) (onTc (τ := Cert.CombineReference.τ) (Cert.CombineReference.main (F := Bits))) ⟨m, fun _ => 0, g⟩ (fun r => (∀ c : Dev Cert.CombineReference.nD,
      r.2.mem ((c.tc : Thread Cert.CombineReference.nD Cert.CombineReference.τ).loc Cert.CombineReference.main_arg0) = m ((c.tc : Thread Cert.CombineReference.nD Cert.CombineReference.τ).loc Cert.CombineReference.main_arg0)
      ∧ r.2.mem ((c.tc : Thread Cert.CombineReference.nD Cert.CombineReference.τ).loc Cert.CombineReference.main_arg1) = m ((c.tc : Thread Cert.CombineReference.nD Cert.CombineReference.τ).loc Cert.CombineReference.main_arg1)
      ∧ r.2.mem ((c.tc : Thread Cert.CombineReference.nD Cert.CombineReference.τ).loc Cert.CombineReference.main_arg2) = m ((c.tc : Thread Cert.CombineReference.nD Cert.CombineReference.τ).loc Cert.CombineReference.main_arg2)
      ∧ r.2.mem ((c.tc : Thread Cert.CombineReference.nD Cert.CombineReference.τ).loc Cert.CombineReference.main_arg3) = m ((c.tc : Thread Cert.CombineReference.nD Cert.CombineReference.τ).loc Cert.CombineReference.main_arg3)
      ∧ r.2.mem ((c.tc : Thread Cert.CombineReference.nD Cert.CombineReference.τ).loc Cert.CombineReference.main_arg4) = m ((c.tc : Thread Cert.CombineReference.nD Cert.CombineReference.τ).loc Cert.CombineReference.main_arg4)
      ∧ r.2.mem ((c.tc : Thread Cert.CombineReference.nD Cert.CombineReference.τ).loc Cert.CombineReference.main_arg5) = m ((c.tc : Thread Cert.CombineReference.nD Cert.CombineReference.τ).loc Cert.CombineReference.main_arg5)
      ∧ r.2.mem ((c.tc : Thread Cert.CombineReference.nD Cert.CombineReference.τ).loc Cert.CombineReference.main_arg6) = m ((c.tc : Thread Cert.CombineReference.nD Cert.CombineReference.τ).loc Cert.CombineReference.main_arg6)
      ∧ r.2.mem ((c.tc : Thread Cert.CombineReference.nD Cert.CombineReference.τ).loc Cert.CombineReference.main_arg7) = m ((c.tc : Thread Cert.CombineReference.nD Cert.CombineReference.τ).loc Cert.CombineReference.main_arg7)
      ∧ r.2.mem ((c.tc : Thread Cert.CombineReference.nD Cert.CombineReference.τ).loc Cert.CombineReference.main_arg8) = m ((c.tc : Thread Cert.CombineReference.nD Cert.CombineReference.τ).loc Cert.CombineReference.main_arg8)
      ∧ r.2.mem ((c.tc : Thread Cert.CombineReference.nD Cert.CombineReference.τ).loc Cert.CombineReference.main_arg9) = m ((c.tc : Thread Cert.CombineReference.nD Cert.CombineReference.τ).loc Cert.CombineReference.main_arg9))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9))
      ∧ r.2.sem = fun _ => 0)

def quiescent_Scatter [hScatter : Cert.Scatter.Facts] [hPre_dest_distinct : Cert.Pre_dest_distinct.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_dest_distinct : Cert.Pre_dest_distinct.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterReference [hScatterReference : Cert.ScatterReference.Facts] : Prop :=
  ∀ (m : (ℓ : Loc Cert.ScatterReference.nD Cert.ScatterReference.τ Cert.ScatterReference.sig) → Buf (Elt Bits) ℓ) (g : Dev Cert.ScatterReference.nD → PrngReg), Pre_ScatterReference m →
    θ_run (Cert.ScatterReference.defs (F := Bits)) (onTc (τ := Cert.ScatterReference.τ) (Cert.ScatterReference.main (F := Bits))) ⟨m, fun _ => 0, g⟩ (fun r => (∀ c : Dev Cert.ScatterReference.nD,
      r.2.mem ((c.tc : Thread Cert.ScatterReference.nD Cert.ScatterReference.τ).loc Cert.ScatterReference.main_arg0) = m ((c.tc : Thread Cert.ScatterReference.nD Cert.ScatterReference.τ).loc Cert.ScatterReference.main_arg0)
      ∧ r.2.mem ((c.tc : Thread Cert.ScatterReference.nD Cert.ScatterReference.τ).loc Cert.ScatterReference.main_arg1) = m ((c.tc : Thread Cert.ScatterReference.nD Cert.ScatterReference.τ).loc Cert.ScatterReference.main_arg1))
      ∧ r.2.sem = fun _ => 0)

def quiescent_ScatterReference_pre_dest_distinct [hScatterReference : Cert.ScatterReference.Facts] [hPre_dest_distinct : Cert.Pre_dest_distinct.Facts] : Prop :=
  ∀ (m : (ℓ : Loc Cert.ScatterReference.nD Cert.ScatterReference.τ Cert.ScatterReference.sig) → Buf (Elt Bits) ℓ) (g : Dev Cert.ScatterReference.nD → PrngReg), Pre_ScatterReference_dest_distinct m →
    θ_run (Cert.ScatterReference.defs (F := Bits)) (onTc (τ := Cert.ScatterReference.τ) (Cert.ScatterReference.main (F := Bits))) ⟨m, fun _ => 0, g⟩ (fun r => (∀ c : Dev Cert.ScatterReference.nD,
      r.2.mem ((c.tc : Thread Cert.ScatterReference.nD Cert.ScatterReference.τ).loc Cert.ScatterReference.main_arg0) = m ((c.tc : Thread Cert.ScatterReference.nD Cert.ScatterReference.τ).loc Cert.ScatterReference.main_arg0)
      ∧ r.2.mem ((c.tc : Thread Cert.ScatterReference.nD Cert.ScatterReference.τ).loc Cert.ScatterReference.main_arg1) = m ((c.tc : Thread Cert.ScatterReference.nD Cert.ScatterReference.τ).loc Cert.ScatterReference.main_arg1))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_ScatterReferenceIdeal_pre_dest_distinct [hScatterReferenceIdeal : Cert.ScatterReferenceIdeal.Facts] [hPre_dest_distinct : Cert.Pre_dest_distinct.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal_dest_distinct m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def preserves_Kernel_KernelIdeal : Prop :=
  True

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v7) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_v55) = v1 c
          ∧ r.2.mem ((c.tc : Thread Cert.MergeReferenceIdeal.nD Cert.MergeReferenceIdeal.τ).loc Cert.MergeReferenceIdeal.main_v58) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_blocks_in_order : Cert.Pre_blocks_in_order.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)
      ∧ m' ((c.tc : Thread Cert.ExpertsReferenceIdeal.nD Cert.ExpertsReferenceIdeal.τ).loc Cert.ExpertsReferenceIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v7)) (v1 : (c : Dev Cert.ExpertsIdeal.nD) → Buf (Elt Ideal) ((c.tc : Thread Cert.ExpertsIdeal.nD Cert.ExpertsIdeal.τ).loc Cert.ExpertsIdeal.main_v8)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_v8) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v62) = v0 c
          ∧ r.2.mem ((c.tc : Thread Cert.ExpertsReferenceIdeal.nD Cert.ExpertsReferenceIdeal.τ).loc Cert.ExpertsReferenceIdeal.main_v65) = v1 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8)
          ∧ r.2.mem ((c.tc : Thread Cert.ExpertsReferenceIdeal.nD Cert.ExpertsReferenceIdeal.τ).loc Cert.ExpertsReferenceIdeal.main_arg9) = m' ((c.tc : Thread Cert.ExpertsReferenceIdeal.nD Cert.ExpertsReferenceIdeal.τ).loc Cert.ExpertsReferenceIdeal.main_arg9))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)) →
    ∃ (v0 : (c : Dev Cert.CombineIdeal.nD) → Buf (Elt Ideal) ((c.tc : Thread Cert.CombineIdeal.nD Cert.CombineIdeal.τ).loc Cert.CombineIdeal.main_v6)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v6) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v56) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9))

def preserves_Scatter_ScatterIdeal : Prop :=
  True

def bitexact_Scatter_ScatterReference [hScatter : Cert.Scatter.Facts] [hScatterReference : Cert.ScatterReference.Facts] [hPre_dest_distinct : Cert.Pre_dest_distinct.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterReference.nD Cert.ScatterReference.τ Cert.ScatterReference.sig) → Buf (Elt Bits) ℓ) (g' : Dev Cert.ScatterReference.nD → PrngReg), Pre_Scatter m →
    (∀ c : Dev Cert.Scatter.nD,
      m' ((c.tc : Thread Cert.ScatterReference.nD Cert.ScatterReference.τ).loc Cert.ScatterReference.main_arg0) = m ((c.tc : Thread Cert.Scatter.nD Cert.Scatter.τ).loc Cert.Scatter.main_arg0)
      ∧ m' ((c.tc : Thread Cert.ScatterReference.nD Cert.ScatterReference.τ).loc Cert.ScatterReference.main_arg1) = m ((c.tc : Thread Cert.Scatter.nD Cert.Scatter.τ).loc Cert.Scatter.main_arg1)) →
    ∃ (v0 : (c : Dev Cert.Scatter.nD) → Buf (Elt Bits) ((c.tc : Thread Cert.Scatter.nD Cert.Scatter.τ).loc Cert.Scatter.main_v8)),
      θ_run (Cert.Scatter.defs (F := Bits)) (Cert.Scatter.threads (F := Bits)) ⟨m, fun _ => 0, g⟩ (fun r => ∀ c : Dev Cert.Scatter.nD,
          r.2.mem ((c.tc : Thread Cert.Scatter.nD Cert.Scatter.τ).loc Cert.Scatter.main_v8) = v0 c
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1))
      ∧ θ_run (Cert.ScatterReference.defs (F := Bits)) (onTc (τ := Cert.ScatterReference.τ) (Cert.ScatterReference.main (F := Bits))) ⟨m', fun _ => 0, g'⟩ (fun r => ∀ c : Dev Cert.ScatterReference.nD,
          r.2.mem ((c.tc : Thread Cert.ScatterReference.nD Cert.ScatterReference.τ).loc Cert.ScatterReference.main_v2) = v0 c
          ∧ r.2.mem ((c.tc : Thread Cert.ScatterReference.nD Cert.ScatterReference.τ).loc Cert.ScatterReference.main_arg0) = m' ((c.tc : Thread Cert.ScatterReference.nD Cert.ScatterReference.τ).loc Cert.ScatterReference.main_arg0)
          ∧ r.2.mem ((c.tc : Thread Cert.ScatterReference.nD Cert.ScatterReference.τ).loc Cert.ScatterReference.main_arg1) = m' ((c.tc : Thread Cert.ScatterReference.nD Cert.ScatterReference.τ).loc Cert.ScatterReference.main_arg1))

def algebraic_ScatterIdeal_ScatterReferenceIdeal [hScatterIdeal : Cert.ScatterIdeal.Facts] [hScatterReferenceIdeal : Cert.ScatterReferenceIdeal.Facts] [hPre_dest_distinct : Cert.Pre_dest_distinct.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v8)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v8) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v2) = v0 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1))

def Claim : Prop :=
  ∃ (hKernel : Cert.Kernel.Facts) (hKernelIdeal : Cert.KernelIdeal.Facts) (hReference : Cert.Reference.Facts) (hReferenceIdeal : Cert.ReferenceIdeal.Facts) (hProj : Cert.Proj.Facts) (hProjIdeal : Cert.ProjIdeal.Facts) (hProjReference : Cert.ProjReference.Facts) (hProjReferenceIdeal : Cert.ProjReferenceIdeal.Facts) (hMerge : Cert.Merge.Facts) (hMergeIdeal : Cert.MergeIdeal.Facts) (hMergeReference : Cert.MergeReference.Facts) (hMergeReferenceIdeal : Cert.MergeReferenceIdeal.Facts) (hExperts : Cert.Experts.Facts) (hExpertsIdeal : Cert.ExpertsIdeal.Facts) (hExpertsReference : Cert.ExpertsReference.Facts) (hExpertsReferenceIdeal : Cert.ExpertsReferenceIdeal.Facts) (hCombine : Cert.Combine.Facts) (hCombineIdeal : Cert.CombineIdeal.Facts) (hCombineReference : Cert.CombineReference.Facts) (hCombineReferenceIdeal : Cert.CombineReferenceIdeal.Facts) (hScatter : Cert.Scatter.Facts) (hScatterIdeal : Cert.ScatterIdeal.Facts) (hScatterReference : Cert.ScatterReference.Facts) (hScatterReferenceIdeal : Cert.ScatterReferenceIdeal.Facts) (hPre_idx_in_rows : Cert.Pre_idx_in_rows.Facts) (hPre_blocks_in_order : Cert.Pre_blocks_in_order.Facts) (hPre_dest_distinct : Cert.Pre_dest_distinct.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_Reference (hReference := hReference)
    ∧ quiescent_Reference_pre_idx_in_rows (hReference := hReference) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Proj (hProj := hProj)
    ∧ quiescent_ProjIdeal (hProjIdeal := hProjIdeal)
    ∧ quiescent_ProjReference (hProjReference := hProjReference)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReference (hMergeReference := hMergeReference)
    ∧ quiescent_MergeReferenceIdeal (hMergeReferenceIdeal := hMergeReferenceIdeal)
    ∧ quiescent_Experts (hExperts := hExperts) (hPre_blocks_in_order := hPre_blocks_in_order)
    ∧ quiescent_ExpertsIdeal (hExpertsIdeal := hExpertsIdeal) (hPre_blocks_in_order := hPre_blocks_in_order)
    ∧ quiescent_ExpertsReference (hExpertsReference := hExpertsReference)
    ∧ quiescent_ExpertsReferenceIdeal (hExpertsReferenceIdeal := hExpertsReferenceIdeal)
    ∧ quiescent_ExpertsReferenceIdeal_pre_blocks_in_order (hExpertsReferenceIdeal := hExpertsReferenceIdeal) (hPre_blocks_in_order := hPre_blocks_in_order)
    ∧ quiescent_Combine (hCombine := hCombine)
    ∧ quiescent_CombineIdeal (hCombineIdeal := hCombineIdeal)
    ∧ quiescent_CombineReference (hCombineReference := hCombineReference)
    ∧ quiescent_CombineReferenceIdeal (hCombineReferenceIdeal := hCombineReferenceIdeal)
    ∧ quiescent_Scatter (hScatter := hScatter) (hPre_dest_distinct := hPre_dest_distinct)
    ∧ quiescent_ScatterIdeal (hScatterIdeal := hScatterIdeal) (hPre_dest_distinct := hPre_dest_distinct)
    ∧ quiescent_ScatterReference (hScatterReference := hScatterReference)
    ∧ quiescent_ScatterReference_pre_dest_distinct (hScatterReference := hScatterReference) (hPre_dest_distinct := hPre_dest_distinct)
    ∧ quiescent_ScatterReferenceIdeal (hScatterReferenceIdeal := hScatterReferenceIdeal)
    ∧ quiescent_ScatterReferenceIdeal_pre_dest_distinct (hScatterReferenceIdeal := hScatterReferenceIdeal) (hPre_dest_distinct := hPre_dest_distinct)
    ∧ preserves_Kernel_KernelIdeal
    ∧ bitexact_Kernel_Reference (hKernel := hKernel) (hReference := hReference) (hPre_idx_in_rows := hPre_idx_in_rows)
    ∧ algebraic_KernelIdeal_ReferenceIdeal (hKernelIdeal := hKernelIdeal) (hReferenceIdeal := hReferenceIdeal) (hPre_idx_in_rows := hPre_idx_in_rows)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Experts_ExpertsIdeal
    ∧ algebraic_ExpertsIdeal_ExpertsReferenceIdeal (hExpertsIdeal := hExpertsIdeal) (hExpertsReferenceIdeal := hExpertsReferenceIdeal) (hPre_blocks_in_order := hPre_blocks_in_order)
    ∧ preserves_Combine_CombineIdeal
    ∧ algebraic_CombineIdeal_CombineReferenceIdeal (hCombineIdeal := hCombineIdeal) (hCombineReferenceIdeal := hCombineReferenceIdeal)
    ∧ preserves_Scatter_ScatterIdeal
    ∧ bitexact_Scatter_ScatterReference (hScatter := hScatter) (hScatterReference := hScatterReference) (hPre_dest_distinct := hPre_dest_distinct)
    ∧ algebraic_ScatterIdeal_ScatterReferenceIdeal (hScatterIdeal := hScatterIdeal) (hScatterReferenceIdeal := hScatterReferenceIdeal) (hPre_dest_distinct := hPre_dest_distinct)
-- ==== Pre_blocks_in_order.lean ====
abbrev S1 : Shape := ⟨1, ![1]⟩
abbrev S768 : Shape := ⟨1, ![768]⟩
abbrev S786432x512 : Shape := ⟨2, ![786432, 512]⟩
abbrev S256x1024x256 : Shape := ⟨3, ![256, 1024, 256]⟩
abbrev S256x256x1024 : Shape := ⟨3, ![256, 256, 1024]⟩
abbrev S767 : Shape := ⟨1, ![767]⟩
abbrev S_ : Shape := ⟨0, ![]⟩

class Facts : Prop where
  slices_S768_S1_0 : S768.Slices ![0] S1
  slices_S768_S767_0 : S768.Slices ![0] S767
  concatenates_S1_S767_S768_d0 : Shape.Concatenates [S1, S767] S768 0
  bcast_S_S1 : S_.BroadcastsInDim S1 (![] : Fin 0 → Fin S1.rank)
  bcast_S_S768 : S_.BroadcastsInDim S768 (![] : Fin 0 → Fin S768.rank)
  bcast_S1_S768_0 : S1.BroadcastsInDim S768 (![0] : Fin 1 → Fin S768.rank)

variable [Facts]

def fn_part1 {F : FTy → Type} [FloatOps F] (main_arg2 : IVec S768 32) (main_arg3 : IVec S768 32) (main_v0 : IVec S768 32) (main_v3 : IVec S768 32) (main_v18 : IVec S768 1) : IVec S768 1 :=
  let main_c_4 : IVec S_ 32 := constantI S_ 32 256#32
  let main_v19 : IVec S768 32 := broadcastInDim S768 ![] bcast_S_S768 main_c_4
  let main_v20 : IVec S768 1 := cmpi .slt main_arg2 main_v19
  let main_v21 : IVec S768 1 := andi main_v18 main_v20
  let main_c_5 : IVec S_ 32 := constantI S_ 32 2#32
  let main_v22 : IVec S768 32 := broadcastInDim S768 ![] bcast_S_S768 main_c_5
  let main_v23 : IVec S768 1 := cmpi .sge main_arg3 main_v22
  let main_c_6 : IVec S_ 32 := constantI S_ 32 0#32
  let main_v24 : IVec S768 32 := broadcastInDim S768 ![] bcast_S_S768 main_c_6
  let main_v25 : IVec S768 1 := cmpi .sgt main_v0 main_v24
  let main_v26 : IVec S768 1 := cmpi .eq main_arg2 main_v3
  let main_v27 : IVec S768 1 := andi main_v25 main_v26
  let main_v28 : IVec S768 1 := ori main_v23 main_v27
  let main_v29 : IVec S768 1 := andi main_v21 main_v28
  main_v29

def fn {F : FTy → Type} [FloatOps F] (main_arg0 : IVec S1 32) (main_arg1 : IVec S768 32) (main_arg2 : IVec S768 32) (main_arg3 : IVec S768 32) (main_arg4 : IVec S768 32) (main_arg5 : FVec F S786432x512 .bf16) (main_arg6 : FVec F S786432x512 .bf16) (main_arg7 : FVec F S256x1024x256 .f32) (main_arg8 : FVec F S256x1024x256 .f32) (main_arg9 : FVec F S256x256x1024 .f32) : IVec S768 1 :=
  let main_v0 : IVec S768 32 := iotaInDim S768 32 0
  let main_v1 : IVec S1 32 := (extractStridedSlice S1 ![0] · slices_S768_S1_0) main_arg2
  let main_v2 : IVec S767 32 := (extractStridedSlice S767 ![0] · slices_S768_S767_0) main_arg2
  let main_v3 : IVec S768 32 := (fun a b => concatenate S768 0 [⟨S1, a⟩, ⟨S767, b⟩] concatenates_S1_S767_S768_d0) main_v1 main_v2
  let main_c : IVec S_ 32 := constantI S_ 32 1#32
  let main_v4 : IVec S1 32 := broadcastInDim S1 ![] bcast_S_S1 main_c
  let main_v5 : IVec S1 1 := cmpi .sge main_arg0 main_v4
  let main_c_0 : IVec S_ 32 := constantI S_ 32 768#32
  let main_v6 : IVec S1 32 := broadcastInDim S1 ![] bcast_S_S1 main_c_0
  let main_v7 : IVec S1 1 := cmpi .sle main_arg0 main_v6
  let main_v8 : IVec S1 1 := andi main_v5 main_v7
  let main_c_1 : IVec S_ 32 := constantI S_ 32 0#32
  let main_v9 : IVec S768 32 := broadcastInDim S768 ![] bcast_S_S768 main_c_1
  let main_v10 : IVec S768 1 := cmpi .sge main_arg1 main_v9
  let main_v11 : IVec S768 1 := broadcastInDim S768 ![0] bcast_S1_S768_0 main_v8
  let main_v12 : IVec S768 1 := andi main_v11 main_v10
  let main_c_2 : IVec S_ 32 := constantI S_ 32 768#32
  let main_v13 : IVec S768 32 := broadcastInDim S768 ![] bcast_S_S768 main_c_2
  let main_v14 : IVec S768 1 := cmpi .slt main_arg1 main_v13
  let main_v15 : IVec S768 1 := andi main_v12 main_v14
  let main_c_3 : IVec S_ 32 := constantI S_ 32 0#32
  let main_v16 : IVec S768 32 := broadcastInDim S768 ![] bcast_S_S768 main_c_3
  let main_v17 : IVec S768 1 := cmpi .sge main_arg2 main_v16
  let main_v18 : IVec S768 1 := andi main_v15 main_v17
  fn_part1 (F := F) main_arg2 main_arg3 main_v0 main_v3 main_v18
-- ==== Pre_dest_distinct.lean ====
abbrev S65536x256 : Shape := ⟨2, ![65536, 256]⟩
abbrev S8x65536 : Shape := ⟨2, ![8, 65536]⟩
abbrev S524288 : Shape := ⟨1, ![524288]⟩
abbrev S_ : Shape := ⟨0, ![]⟩
abbrev S524287 : Shape := ⟨1, ![524287]⟩

class Facts : Prop where
  shapeCasts_S8x65536_S524288 : S8x65536.ShapeCasts S524288
  bcast_S_S8x65536 : S_.BroadcastsInDim S8x65536 (![] : Fin 0 → Fin S8x65536.rank)
  reducesTo_S8x65536_S_d0_1 : S8x65536.ReducesTo [0, 1] S_
  h_S_ : 0 < S_.numel
  slices_S524288_S524287_0 : S524288.Slices ![0] S524287
  slices_S524288_S524287_1 : S524288.Slices ![1] S524287
  reducesTo_S524287_S_d0 : S524287.ReducesTo [0] S_

variable [Facts]

def comparator_i32_d0 : BitVec 32 → BitVec 32 → BitVec 1 :=
  fun l r =>
    let v1 := IntOp.cmpi .slt l r
    v1
def fn_sort {F : FTy → Type} [FloatOps F] (arg0 : IVec S524288 32) : IVec S524288 32 :=
  let v0 : IVec S524288 32 := (fun x => Host.sort S524288 0 comparator_i32_d0 x) arg0
  v0

def fn {F : FTy → Type} [FloatOps F] (main_arg0 : IVec S65536x256 32) (main_arg1 : IVec S8x65536 32) : IVec S_ 1 :=
  let main_v0 : IVec S524288 32 := shapeCast S524288 main_arg1 shapeCasts_S8x65536_S524288
  let main_v1 : IVec S524288 32 := fn_sort (F := F) main_v0
  let main_c : IVec S_ 32 := constantI S_ 32 0#32
  let main_v2 : IVec S8x65536 32 := broadcastInDim S8x65536 ![] bcast_S_S8x65536 main_c
  let main_v3 : IVec S8x65536 1 := cmpi .sge main_arg1 main_v2
  let main_c_0 : IVec S_ 32 := constantI S_ 32 786432#32
  let main_v4 : IVec S8x65536 32 := broadcastInDim S8x65536 ![] bcast_S_S8x65536 main_c_0
  let main_v5 : IVec S8x65536 1 := cmpi .slt main_arg1 main_v4
  let main_v6 : IVec S8x65536 1 := andi main_v3 main_v5
  let main_c_1 : IVec S_ 1 := constantI S_ 1 1#1
  let main_v7 : IVec S_ 1 := (fun x v => Host.reduce IntOp.andi x v reducesTo_S8x65536_S_d0_1 h_S_) main_v6 main_c_1
  let main_v8 : IVec S524287 32 := (extractStridedSlice S524287 ![0] · slices_S524288_S524287_0) main_v1
  let main_v9 : IVec S524287 32 := (extractStridedSlice S524287 ![1] · slices_S524288_S524287_1) main_v1
  let main_v10 : IVec S524287 1 := cmpi .slt main_v8 main_v9
  let main_c_2 : IVec S_ 1 := constantI S_ 1 1#1
  let main_v11 : IVec S_ 1 := (fun x v => Host.reduce IntOp.andi x v reducesTo_S524287_S_d0 h_S_) main_v10 main_c_2
  let main_v12 : IVec S_ 1 := andi main_v7 main_v11
  main_v12
-- ==== Pre_idx_in_rows.lean ====
abbrev S786432x256 : Shape := ⟨2, ![786432, 256]⟩
abbrev S131072 : Shape := ⟨1, ![131072]⟩
abbrev S_ : Shape := ⟨0, ![]⟩

class Facts : Prop where
  bcast_S_S131072 : S_.BroadcastsInDim S131072 (![] : Fin 0 → Fin S131072.rank)

variable [Facts]

def fn {F : FTy → Type} [FloatOps F] (main_arg0 : IVec S786432x256 32) (main_arg1 : IVec S131072 32) : IVec S131072 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 786432#32
  let main_v2 : IVec S131072 32 := broadcastInDim S131072 ![] bcast_S_S131072 main_c_0
  let main_v3 : IVec S131072 1 := cmpi .slt main_arg1 main_v2
  let main_v4 : IVec S131072 1 := andi main_v1 main_v3
  main_v4
-- ==== Kernel.lean ====
abbrev S786432x256 : Shape := ⟨2, ![786432, 256]⟩
abbrev S131072 : Shape := ⟨1, ![131072]⟩
abbrev S786432x2x128 : Shape := ⟨3, ![786432, 2, 128]⟩
abbrev S1x131072 : Shape := ⟨2, ![1, 131072]⟩
abbrev S131072x2x128 : Shape := ⟨3, ![131072, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩

abbrev nBuf : Table → Nat
  | .hbm => 5
  | .local .scVector .vmem => 2
  | _ => 0

abbrev bufTy : (tb : Table) → Fin (nBuf tb) → BufTy
  | .hbm, ⟨0, _⟩ => ⟨S786432x256, .i32⟩
  | .hbm, ⟨1, _⟩ => ⟨S131072, .i32⟩
  | .hbm, ⟨2, _⟩ => ⟨S786432x2x128, .i32⟩
  | .hbm, ⟨3, _⟩ => ⟨S1x131072, .i32⟩
  | .hbm, ⟨4, _⟩ => ⟨S131072x2x128, .i32⟩
  | .local .scVector .vmem, ⟨0, _⟩ => ⟨S2x1x128, .i32⟩
  | .local .scVector .vmem, ⟨1, _⟩ => ⟨S2x128x2x128, .i32⟩
  | _, _ => ⟨S786432x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_72_r0 : BitVec 32 := 31#32
  let v83_r0 : BitVec 1 := Scalar.cmpi .sge arg5_r0 c31_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_59_r0 : BitVec 32 := 31#32
  let v65_r0 : BitVec 1 := Scalar.cmpi .eq arg5_r0 c31_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S131072x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S131072x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S131072x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S131072x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S131072x2x128.size a)
theorem k0_off19_inb : ∀ (i : grid0.Coords) (v33_4_r0 : BitVec 32) (k0_hw5 : k0_chk5 i v33_4_r0), ∀ a, (k0_off19 i v33_4_r0) a + S128x2x128.size a ≤ S131072x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S786432x256 : Shape := ⟨2, ![786432, 256]⟩
abbrev S131072 : Shape := ⟨1, ![131072]⟩
abbrev S_ : Shape := ⟨0, ![]⟩
abbrev S131072x1 : Shape := ⟨2, ![131072, 1]⟩
abbrev S131072x256 : Shape := ⟨2, ![131072, 256]⟩
abbrev S131072x2x128 : Shape := ⟨3, ![131072, 2, 128]⟩

abbrev nBuf : Space → Nat
  | .hbm => 12
  | .vmem => 0
  | .smem => 0
  | _ => 0

abbrev bufTy : (tb : Table) → Fin (tcTables nBuf tb) → BufTy
  | .hbm, ⟨0, _⟩ => ⟨S786432x256, .i32⟩
  | .hbm, ⟨1, _⟩ => ⟨S131072, .i32⟩
  | .hbm, ⟨2, _⟩ => ⟨S_, .i32⟩
  | .hbm, ⟨3, _⟩ => ⟨S131072, .i32⟩
  | .hbm, ⟨4, _⟩ => ⟨S131072, .i1⟩
  | .hbm, ⟨5, _⟩ => ⟨S_, .i32⟩
  | .hbm, ⟨6, _⟩ => ⟨S131072, .i32⟩
  | .hbm, ⟨7, _⟩ => ⟨S131072, .i32⟩
  | .hbm, ⟨8, _⟩ => ⟨S131072, .i32⟩
  | .hbm, ⟨9, _⟩ => ⟨S131072x1, .i32⟩
  | .hbm, ⟨10, _⟩ => ⟨S131072x256, .i32⟩
  | .hbm, ⟨11, _⟩ => ⟨S131072x2x128, .i32⟩
  | _, _ => ⟨S786432x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proj.lean ====
abbrev S32x2048x1024 : Shape := ⟨3, ![32, 2048, 1024]⟩
abbrev S1024x7184 : Shape := ⟨2, ![1024, 7184]⟩
abbrev S65536x1024 : Shape := ⟨2, ![65536, 1024]⟩
abbrev S1024x5120 : Shape := ⟨2, ![1024, 5120]⟩
abbrev S1024x2048 : Shape := ⟨2, ![1024, 2048]⟩
abbrev S1024x16 : Shape := ⟨2, ![1024, 16]⟩
abbrev S_ : Shape := ⟨0, ![]⟩
abbrev S1024x112 : Shape := ⟨2, ![1024, 112]⟩
abbrev S1024x7296 : Shape := ⟨2, ![1024, 7296]⟩
abbrev S65536x7296 : Shape := ⟨2, ![65536, 7296]⟩
abbrev S512x1024 : Shape := ⟨2, ![512, 1024]⟩
abbrev S512x7296 : Shape := ⟨2, ![512, 7296]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩

abbrev nBuf : Space → Nat
  | .hbm => 11
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024x7184, .f32⟩
  | .hbm, ⟨2, _⟩ => ⟨S65536x1024, .f32⟩
  | .hbm, ⟨3, _⟩ => ⟨S1024x5120, .f32⟩
  | .hbm, ⟨4, _⟩ => ⟨S1024x2048, .f32⟩
  | .hbm, ⟨5, _⟩ => ⟨S1024x16, .f32⟩
  | .hbm, ⟨6, _⟩ => ⟨S_, .f32⟩
  | .hbm, ⟨7, _⟩ => ⟨S1024x112, .f32⟩
  | .hbm, ⟨8, _⟩ => ⟨S1024x7296, .f32⟩
  | .hbm, ⟨9, _⟩ => ⟨S1024x7296, .bf16⟩
  | .hbm, ⟨10, _⟩ => ⟨S65536x7296, .bf16⟩
  | .local _ .vmem, ⟨0, _⟩ => ⟨S512x1024, .f32⟩
  | .local _ .vmem, ⟨1, _⟩ => ⟨S512x1024, .f32⟩
  | .local _ .vmem, ⟨2, _⟩ => ⟨S1024x7296, .bf16⟩
  | .local _ .vmem, ⟨3, _⟩ => ⟨S512x7296, .bf16⟩
  | .local _ .vmem, ⟨4, _⟩ => ⟨S512x7296, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7296 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7296 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjReference.lean ====
abbrev S32x2048x1024 : Shape := ⟨3, ![32, 2048, 1024]⟩
abbrev S1024x7184 : Shape := ⟨2, ![1024, 7184]⟩
abbrev S32x2048x7184 : Shape := ⟨3, ![32, 2048, 7184]⟩
abbrev S65536x7184 : Shape := ⟨2, ![65536, 7184]⟩
abbrev S65536x5120 : Shape := ⟨2, ![65536, 5120]⟩
abbrev S65536x2048 : Shape := ⟨2, ![65536, 2048]⟩
abbrev S65536x16 : Shape := ⟨2, ![65536, 16]⟩
abbrev S_ : Shape := ⟨0, ![]⟩
abbrev S65536x112 : Shape := ⟨2, ![65536, 112]⟩
abbrev S65536x7296 : Shape := ⟨2, ![65536, 7296]⟩

abbrev nBuf : Space → Nat
  | .hbm => 11
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x7184, .f32⟩
  | .hbm, ⟨2, _⟩ => ⟨S32x2048x7184, .f32⟩
  | .hbm, ⟨3, _⟩ => ⟨S65536x7184, .f32⟩
  | .hbm, ⟨4, _⟩ => ⟨S65536x5120, .f32⟩
  | .hbm, ⟨5, _⟩ => ⟨S65536x2048, .f32⟩
  | .hbm, ⟨6, _⟩ => ⟨S65536x16, .f32⟩
  | .hbm, ⟨7, _⟩ => ⟨S_, .f32⟩
  | .hbm, ⟨8, _⟩ => ⟨S65536x112, .f32⟩
  | .hbm, ⟨9, _⟩ => ⟨S65536x7296, .f32⟩
  | .hbm, ⟨10, _⟩ => ⟨S65536x7296, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Merge.lean ====
abbrev S65536x1024 : Shape := ⟨2, ![65536, 1024]⟩
abbrev S65536x7296 : Shape := ⟨2, ![65536, 7296]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S65536x512 : Shape := ⟨2, ![65536, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 18
  | .vmem => 21
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x7296, .bf16⟩
  | .hbm, ⟨3, _⟩ => ⟨S32x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S65536x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S65536x1024, .f32⟩
  | .hbm, ⟨16, _⟩ => ⟨S65536x512, .bf16⟩
  | .hbm, ⟨17, _⟩ => ⟨S65536x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReference.lean ====
abbrev S65536x1024 : Shape := ⟨2, ![65536, 1024]⟩
abbrev S65536x7296 : Shape := ⟨2, ![65536, 7296]⟩
abbrev S32x2048x1024 : Shape := ⟨3, ![32, 2048, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x256 : Shape := ⟨2, ![65536, 256]⟩
abbrev S65536x512 : Shape := ⟨2, ![65536, 512]⟩

abbrev nBuf : Space → Nat
  | .hbm => 78
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x7296, .bf16⟩
  | .hbm, ⟨3, _⟩ => ⟨S32x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S65536x1024, .bf16⟩
  | .hbm, ⟨10, _⟩ => ⟨S65536x1024, .f32⟩
  | .hbm, ⟨11, _⟩ => ⟨S65536x1024, .bf16⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x1, .f32⟩
  | .hbm, ⟨63, _⟩ => ⟨S65536x1024, .f32⟩
  | .hbm, ⟨64, _⟩ => ⟨S65536x1024, .f32⟩
  | .hbm, ⟨65, _⟩ => ⟨S1x1024, .f32⟩
  | .hbm, ⟨66, _⟩ => ⟨S65536x1024, .f32⟩
  | .hbm, ⟨67, _⟩ => ⟨S65536x1024, .f32⟩
  | .hbm, ⟨68, _⟩ => ⟨S1x1024, .f32⟩
  | .hbm, ⟨69, _⟩ => ⟨S65536x1024, .f32⟩
  | .hbm, ⟨70, _⟩ => ⟨S65536x1024, .f32⟩
  | .hbm, ⟨71, _⟩ => ⟨S65536x1024, .bf16⟩
  | .hbm, ⟨72, _⟩ => ⟨S65536x256, .bf16⟩
  | .hbm, ⟨73, _⟩ => ⟨S65536x256, .bf16⟩
  | .hbm, ⟨74, _⟩ => ⟨S65536x512, .bf16⟩
  | .hbm, ⟨75, _⟩ => ⟨S65536x256, .bf16⟩
  | .hbm, ⟨76, _⟩ => ⟨S65536x256, .bf16⟩
  | .hbm, ⟨77, _⟩ => ⟨S65536x512, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Experts.lean ====
abbrev S1 : Shape := ⟨1, ![1]⟩
abbrev S768 : Shape := ⟨1, ![768]⟩
abbrev S786432x512 : Shape := ⟨2, ![786432, 512]⟩
abbrev S256x1024x256 : Shape := ⟨3, ![256, 1024, 256]⟩
abbrev S256x256x1024 : Shape := ⟨3, ![256, 256, 1024]⟩
abbrev S_ : Shape := ⟨0, ![]⟩
abbrev S1024x512 : Shape := ⟨2, ![1024, 512]⟩
abbrev S1x1024x256 : Shape := ⟨3, ![1, 1024, 256]⟩
abbrev S1x256x1024 : Shape := ⟨3, ![1, 256, 1024]⟩
abbrev S256x1024 : Shape := ⟨2, ![256, 1024]⟩
abbrev S1024x256 : Shape := ⟨2, ![1024, 256]⟩
abbrev S512x512 : Shape := ⟨2, ![512, 512]⟩
abbrev S512x256 : Shape := ⟨2, ![512, 256]⟩
abbrev S512x1024 : Shape := ⟨2, ![512, 1024]⟩

abbrev nBuf : Space → Nat
  | .hbm => 20
  | .vmem => 16
  | .smem => 5
  | _ => 0

abbrev bufTy : (tb : Table) → Fin (tcTables nBuf tb) → BufTy
  | .hbm, ⟨0, _⟩ => ⟨S1, .i32⟩
  | .hbm, ⟨1, _⟩ => ⟨S786432x512, .bf16⟩
  | .hbm, ⟨2, _⟩ => ⟨S786432x512, .bf16⟩
  | .hbm, ⟨3, _⟩ => ⟨S256x1024x256, .f32⟩
  | .hbm, ⟨4, _⟩ => ⟨S256x1024x256, .f32⟩
  | .hbm, ⟨5, _⟩ => ⟨S256x256x1024, .f32⟩
  | .hbm, ⟨6, _⟩ => ⟨S786432x512, .bf16⟩
  | .hbm, ⟨7, _⟩ => ⟨S786432x512, .bf16⟩
  | .hbm, ⟨8, _⟩ => ⟨S786432x512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S786432x512, .i32⟩
  | .hbm, ⟨13, _⟩ => ⟨S786432x512, .i1⟩
  | .hbm, ⟨14, _⟩ => ⟨S_, .bf16⟩
  | .hbm, ⟨15, _⟩ => ⟨S786432x512, .bf16⟩
  | .hbm, ⟨16, _⟩ => ⟨S786432x512, .bf16⟩
  | .hbm, ⟨17, _⟩ => ⟨S_, .bf16⟩
  | .hbm, ⟨18, _⟩ => ⟨S786432x512, .bf16⟩
  | .hbm, ⟨19, _⟩ => ⟨S786432x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S256x1024, .bf16⟩
  | .local _ .smem, ⟨0, _⟩ => ⟨S_, .i32⟩
  | .local _ .smem, ⟨1, _⟩ => ⟨S768, .i32⟩
  | .local _ .smem, ⟨2, _⟩ => ⟨S768, .i32⟩
  | .local _ .smem, ⟨3, _⟩ => ⟨S768, .i32⟩
  | .local _ .smem, ⟨4, _⟩ => ⟨S768, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_v7 : Ref sig .tc := ⟨.hbm, 16, rfl⟩
abbrev main_cst_0 : Ref sig .tc := ⟨.hbm, 17, rfl⟩
abbrev main_call1_v0 : Ref sig .tc := ⟨.hbm, 18, rfl⟩
abbrev main_v8 : Ref sig .tc := ⟨.hbm, 19, rfl⟩
abbrev main_v0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![0], ![true]⟩

abbrev pre0 : Pipeline.Prefetch sig := ⟨5, ![main_v0.idx, main_arg1.idx, main_arg2.idx, main_arg3.idx, main_arg4.idx], fun | 0 => main_v0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def dynb0 (pf : pre0.Contents (Elt F)) : grid0.Bounds := ![(pf 0 fun a => a.elim0).toNat]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v0 : Index := Scalar.indexCast arg0
  ![v0.toNat]

def k0_off3 (arg0 : BitVec 32) : Fin 1 → Nat :=
  let v5 : Index := Scalar.indexCast arg0
  ![v5.toNat]

def k0_chk1 (arg0 : BitVec 32) : Prop :=
  (∀ a, (k0_off2 arg0) a + S1.size a ≤ S768.size a) ∧
  (∀ a, (k0_off3 arg0) a + S1.size a ≤ S768.size a)
theorem k0_off2_inb : ∀ (arg0 : BitVec 32) (k0_hw1 : k0_chk1 arg0), ∀ a, (k0_off2 arg0) a + S1.size a ≤ S768.size a := fun arg0 k0_hw1 => k0_hw1.1
theorem k0_off3_inb : ∀ (arg0 : BitVec 32) (k0_hw1 : k0_chk1 arg0), ∀ a, (k0_off3 arg0) a + S1.size a ≤ S768.size a := fun arg0 k0_hw1 => k0_hw1.2

def k0_cond2 (v6 : BitVec 32) : BitVec 1 :=
  let c0_i32_0 : BitVec 32 := 0#32
  let v7 : BitVec 1 := Scalar.cmpi .sgt v6 c0_i32_0
  let v8 : BitVec 32 := Scalar.extui v7
  let c0_i32_1 : BitVec 32 := 0#32
  let v9 : BitVec 1 := Scalar.cmpi .ne v8 c0_i32_1
  v9

def k0_cond3 (v6 : BitVec 32) : BitVec 1 :=
  let c0_i32_2 : BitVec 32 := 0#32
  let v10 : BitVec 1 := Scalar.cmpi .sle v6 c0_i32_2
  let v11 : BitVec 32 := Scalar.extui v10
  let c0_i32_3 : BitVec 32 := 0#32
  let v12 : BitVec 1 := Scalar.cmpi .ne v11 c0_i32_3
  v12

def k0_cond4 (v6 : BitVec 32) : BitVec 1 :=
  let c512_i32 : BitVec 32 := 512#32
  let v13 : BitVec 1 := Scalar.cmpi .sgt v6 c512_i32
  let v14 : BitVec 32 := Scalar.extui v13
  let c0_i32_4 : BitVec 32 := 0#32
  let v15 : BitVec 1 := Scalar.cmpi .ne v14 c0_i32_4
  v15

def k0_cond5 (v6 : BitVec 32) : BitVec 1 :=
  let c512_i32_5 : BitVec 32 := 512#32
  let v16 : BitVec 1 := Scalar.cmpi .sle v6 c512_i32_5
  let v17 : BitVec 32 := Scalar.extui v16
  let c0_i32_6 : BitVec 32 := 0#32
  let v18 : BitVec 1 := Scalar.cmpi .ne v17 c0_i32_6
  v18

def cc0_transform_0 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

def cc0_transform_1 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

def cc0_transform_2 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 2 ![v0.toNat]
  let c0_i32 : BitVec 32 := 0#32
  let c0_i32_0 : BitVec 32 := 0#32
  let c0_i32_1 : BitVec 32 := 0#32
  ![v1.toNat, c0_i32.toNat, c0_i32_0.toNat]

def cc0_transform_3 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 2 ![v0.toNat]
  let c0_i32 : BitVec 32 := 0#32
  let c0_i32_0 : BitVec 32 := 0#32
  let c0_i32_1 : BitVec 32 := 0#32
  ![v1.toNat, c0_i32.toNat, c0_i32_0.toNat]

def cc0_transform_4 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 2 ![v0.toNat]
  let c0_i32 : BitVec 32 := 0#32
  let c0_i32_0 : BitVec 32 := 0#32
  let c0_i32_1 : BitVec 32 := 0#32
  ![v1.toNat, c0_i32.toNat, c0_i32_0.toNat]

def cc0_transform_5 (b : grid0.Bounds) (i : (grid0.at b).Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (b : grid0.Bounds) (i : (grid0.at b).Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsReference.lean ====
abbrev S1 : Shape := ⟨1, ![1]⟩
abbrev S768 : Shape := ⟨1, ![768]⟩
abbrev S786432x512 : Shape := ⟨2, ![786432, 512]⟩
abbrev S256x1024x256 : Shape := ⟨3, ![256, 1024, 256]⟩
abbrev S256x256x1024 : Shape := ⟨3, ![256, 256, 1024]⟩
abbrev S768x1024x512 : Shape := ⟨3, ![768, 1024, 512]⟩
abbrev S_ : Shape := ⟨0, ![]⟩
abbrev S768x1 : Shape := ⟨2, ![768, 1]⟩
abbrev S768x1024x256 : Shape := ⟨3, ![768, 1024, 256]⟩
abbrev S768x1024x1024 : Shape := ⟨3, ![768, 1024, 1024]⟩
abbrev S768x1x1 : Shape := ⟨3, ![768, 1, 1]⟩
abbrev S768x256x1024 : Shape := ⟨3, ![768, 256, 1024]⟩
abbrev S786432x1024 : Shape := ⟨2, ![786432, 1024]⟩
abbrev S786432x256 : Shape := ⟨2, ![786432, 256]⟩

abbrev nBuf : Space → Nat
  | .hbm => 100
  | .vmem => 0
  | .smem => 0
  | _ => 0

abbrev bufTy : (tb : Table) → Fin (tcTables nBuf tb) → BufTy
  | .hbm, ⟨0, _⟩ => ⟨S1, .i32⟩
  | .hbm, ⟨1, _⟩ => ⟨S768, .i32⟩
  | .hbm, ⟨2, _⟩ => ⟨S768, .i32⟩
  | .hbm, ⟨3, _⟩ => ⟨S768, .i32⟩
  | .hbm, ⟨4, _⟩ => ⟨S768, .i32⟩
  | .hbm, ⟨5, _⟩ => ⟨S786432x512, .bf16⟩
  | .hbm, ⟨6, _⟩ => ⟨S786432x512, .bf16⟩
  | .hbm, ⟨7, _⟩ => ⟨S256x1024x256, .f32⟩
  | .hbm, ⟨8, _⟩ => ⟨S256x1024x256, .f32⟩
  | .hbm, ⟨9, _⟩ => ⟨S256x256x1024, .f32⟩
  | .hbm, ⟨10, _⟩ => ⟨S768x1024x512, .bf16⟩
  | .hbm, ⟨11, _⟩ => ⟨S_, .i32⟩
  | .hbm, ⟨12, _⟩ => ⟨S768, .i32⟩
  | .hbm, ⟨13, _⟩ => ⟨S768, .i1⟩
  | .hbm, ⟨14, _⟩ => ⟨S_, .i32⟩
  | .hbm, ⟨15, _⟩ => ⟨S768, .i32⟩
  | .hbm, ⟨16, _⟩ => ⟨S768, .i32⟩
  | .hbm, ⟨17, _⟩ => ⟨S768, .i32⟩
  | .hbm, ⟨18, _⟩ => ⟨S768x1, .i32⟩
  | .hbm, ⟨19, _⟩ => ⟨S768x1024x512, .bf16⟩
  | .hbm, ⟨20, _⟩ => ⟨S768x1024x512, .bf16⟩
  | .hbm, ⟨21, _⟩ => ⟨S_, .i32⟩
  | .hbm, ⟨22, _⟩ => ⟨S768, .i32⟩
  | .hbm, ⟨23, _⟩ => ⟨S768, .i1⟩
  | .hbm, ⟨24, _⟩ => ⟨S_, .i32⟩
  | .hbm, ⟨25, _⟩ => ⟨S768, .i32⟩
  | .hbm, ⟨26, _⟩ => ⟨S768, .i32⟩
  | .hbm, ⟨27, _⟩ => ⟨S768, .i32⟩
  | .hbm, ⟨28, _⟩ => ⟨S768x1, .i32⟩
  | .hbm, ⟨29, _⟩ => ⟨S768x1024x512, .bf16⟩
  | .hbm, ⟨30, _⟩ => ⟨S768x1024x256, .bf16⟩
  | .hbm, ⟨31, _⟩ => ⟨S768x1024x256, .bf16⟩
  | .hbm, ⟨32, _⟩ => ⟨S768x1024x256, .bf16⟩
  | .hbm, ⟨33, _⟩ => ⟨S768x1024x256, .bf16⟩
  | .hbm, ⟨34, _⟩ => ⟨S768x1024x1024, .bf16⟩
  | .hbm, ⟨35, _⟩ => ⟨S768x1024x1024, .f32⟩
  | .hbm, ⟨36, _⟩ => ⟨S768x1024x1024, .i32⟩
  | .hbm, ⟨37, _⟩ => ⟨S768x1x1, .i32⟩
  | .hbm, ⟨38, _⟩ => ⟨S768x1024x1024, .i32⟩
  | .hbm, ⟨39, _⟩ => ⟨S768x1024x1024, .i1⟩
  | .hbm, ⟨40, _⟩ => ⟨S_, .f32⟩
  | .hbm, ⟨41, _⟩ => ⟨S_, .f32⟩
  | .hbm, ⟨42, _⟩ => ⟨S768x1024x1024, .f32⟩
  | .hbm, ⟨43, _⟩ => ⟨S768x1024x1024, .f32⟩
  | .hbm, ⟨44, _⟩ => ⟨S_, .i32⟩
  | .hbm, ⟨45, _⟩ => ⟨S768, .i32⟩
  | .hbm, ⟨46, _⟩ => ⟨S768, .i1⟩
  | .hbm, ⟨47, _⟩ => ⟨S_, .i32⟩
  | .hbm, ⟨48, _⟩ => ⟨S768, .i32⟩
  | .hbm, ⟨49, _⟩ => ⟨S768, .i32⟩
  | .hbm, ⟨50, _⟩ => ⟨S768, .i32⟩
  | .hbm, ⟨51, _⟩ => ⟨S768x1, .i32⟩
  | .hbm, ⟨52, _⟩ => ⟨S768x1024x256, .f32⟩
  | .hbm, ⟨53, _⟩ => ⟨S768x1024x256, .f32⟩
  | .hbm, ⟨54, _⟩ => ⟨S768x1024x256, .f32⟩
  | .hbm, ⟨55, _⟩ => ⟨S768x1024x256, .f32⟩
  | .hbm, ⟨56, _⟩ => ⟨S_, .f32⟩
  | .hbm, ⟨57, _⟩ => ⟨S768x1024x256, .f32⟩
  | .hbm, ⟨58, _⟩ => ⟨S768x1024x256, .f32⟩
  | .hbm, ⟨59, _⟩ => ⟨S_, .f32⟩
  | .hbm, ⟨60, _⟩ => ⟨S768x1024x256, .f32⟩
  | .hbm, ⟨61, _⟩ => ⟨S768x1024x256, .f32⟩
  | .hbm, ⟨62, _⟩ => ⟨S768x1024x256, .f32⟩
  | .hbm, ⟨63, _⟩ => ⟨S_, .i32⟩
  | .hbm, ⟨64, _⟩ => ⟨S768, .i32⟩
  | .hbm, ⟨65, _⟩ => ⟨S768, .i1⟩
  | .hbm, ⟨66, _⟩ => ⟨S_, .i32⟩
  | .hbm, ⟨67, _⟩ => ⟨S768, .i32⟩
  | .hbm, ⟨68, _⟩ => ⟨S768, .i32⟩
  | .hbm, ⟨69, _⟩ => ⟨S768, .i32⟩
  | .hbm, ⟨70, _⟩ => ⟨S768x1, .i32⟩
  | .hbm, ⟨71, _⟩ => ⟨S768x1024x256, .f32⟩
  | .hbm, ⟨72, _⟩ => ⟨S768x1024x256, .f32⟩
  | .hbm, ⟨73, _⟩ => ⟨S768x1024x256, .f32⟩
  | .hbm, ⟨74, _⟩ => ⟨S_, .i32⟩
  | .hbm, ⟨75, _⟩ => ⟨S768, .i32⟩
  | .hbm, ⟨76, _⟩ => ⟨S768, .i1⟩
  | .hbm, ⟨77, _⟩ => ⟨S_, .i32⟩
  | .hbm, ⟨78, _⟩ => ⟨S768, .i32⟩
  | .hbm, ⟨79, _⟩ => ⟨S768, .i32⟩
  | .hbm, ⟨80, _⟩ => ⟨S768, .i32⟩
  | .hbm, ⟨81, _⟩ => ⟨S768x1, .i32⟩
  | .hbm, ⟨82, _⟩ => ⟨S768x256x1024, .f32⟩
  | .hbm, ⟨83, _⟩ => ⟨S768x1024x1024, .f32⟩
  | .hbm, ⟨84, _⟩ => ⟨S768x1024x1024, .i32⟩
  | .hbm, ⟨85, _⟩ => ⟨S_, .i32⟩
  | .hbm, ⟨86, _⟩ => ⟨S768x1024x1024, .i32⟩
  | .hbm, ⟨87, _⟩ => ⟨S768x1024x1024, .i1⟩
  | .hbm, ⟨88, _⟩ => ⟨S_, .f32⟩
  | .hbm, ⟨89, _⟩ => ⟨S_, .f32⟩
  | .hbm, ⟨90, _⟩ => ⟨S768x1024x1024, .f32⟩
  | .hbm, ⟨91, _⟩ => ⟨S768x1024x1024, .f32⟩
  | .hbm, ⟨92, _⟩ => ⟨S786432x1024, .f32⟩
  | .hbm, ⟨93, _⟩ => ⟨S786432x1024, .bf16⟩
  | .hbm, ⟨94, _⟩ => ⟨S786432x256, .bf16⟩
  | .hbm, ⟨95, _⟩ => ⟨S786432x256, .bf16⟩
  | .hbm, ⟨96, _⟩ => ⟨S786432x512, .bf16⟩
  | .hbm, ⟨97, _⟩ => ⟨S786432x256, .bf16⟩
  | .hbm, ⟨98, _⟩ => ⟨S786432x256, .bf16⟩
  | .hbm, ⟨99, _⟩ => ⟨S786432x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call0_v0 : Ref sig .tc := ⟨.hbm, 41, rfl⟩
abbrev main_call0_v1 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v35 : Ref sig .tc := ⟨.hbm, 62, rfl⟩
abbrev main_c_5 : Ref sig .tc := ⟨.hbm, 63, rfl⟩
abbrev main_v36 : Ref sig .tc := ⟨.hbm, 64, rfl⟩
abbrev main_v37 : Ref sig .tc := ⟨.hbm, 65, rfl⟩
abbrev main_c_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_call2_v0 : Ref sig .tc := ⟨.hbm, 89, rfl⟩
abbrev main_call2_v1 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Combine.lean ====
abbrev S65536x1024 : Shape := ⟨2, ![65536, 1024]⟩
abbrev S8x65536 : Shape := ⟨2, ![8, 65536]⟩
abbrev S131072x256 : Shape := ⟨2, ![131072, 256]⟩
abbrev S1024x256 : Shape := ⟨2, ![1024, 256]⟩
abbrev S256x1024 : Shape := ⟨2, ![256, 1024]⟩
abbrev S1024 : Shape := ⟨1, ![1024]⟩
abbrev S1024x512 : Shape := ⟨2, ![1024, 512]⟩
abbrev S65536x8 : Shape := ⟨2, ![65536, 8]⟩
abbrev S1x1024 : Shape := ⟨2, ![1, 1024]⟩
abbrev S512x1024 : Shape := ⟨2, ![512, 1024]⟩
abbrev S512x8 : Shape := ⟨2, ![512, 8]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 17
  | .vmem => 42
  | .smem => 0
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S131072x256, .i32⟩
  | .hbm, ⟨3, _⟩ => ⟨S131072x256, .i32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S65536x1024, .f32⟩
  | .hbm, ⟨10, _⟩ => ⟨S1024x512, .f32⟩
  | .hbm, ⟨11, _⟩ => ⟨S1024x512, .bf16⟩
  | .hbm, ⟨12, _⟩ => ⟨S256x1024, .bf16⟩
  | .hbm, ⟨13, _⟩ => ⟨S65536x8, .f32⟩
  | .hbm, ⟨14, _⟩ => ⟨S1x1024, .f32⟩
  | .hbm, ⟨15, _⟩ => ⟨S1x1024, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x8, .f32⟩
  | .local _ .vmem, ⟨3, _⟩ => ⟨S512x8, .f32⟩
  | .local _ .vmem, ⟨4, _⟩ => ⟨S512x256, .i32⟩
  | .local _ .vmem, ⟨5, _⟩ => ⟨S512x256, .i32⟩
  | .local _ .vmem, ⟨6, _⟩ => ⟨S512x256, .i32⟩
  | .local _ .vmem, ⟨7, _⟩ => ⟨S512x256, .i32⟩
  | .local _ .vmem, ⟨8, _⟩ => ⟨S512x256, .i32⟩
  | .local _ .vmem, ⟨9, _⟩ => ⟨S512x256, .i32⟩
  | .local _ .vmem, ⟨10, _⟩ => ⟨S512x256, .i32⟩
  | .local _ .vmem, ⟨11, _⟩ => ⟨S512x256, .i32⟩
  | .local _ .vmem, ⟨12, _⟩ => ⟨S512x256, .i32⟩
  | .local _ .vmem, ⟨13, _⟩ => ⟨S512x256, .i32⟩
  | .local _ .vmem, ⟨14, _⟩ => ⟨S512x256, .i32⟩
  | .local _ .vmem, ⟨15, _⟩ => ⟨S512x256, .i32⟩
  | .local _ .vmem, ⟨16, _⟩ => ⟨S512x256, .i32⟩
  | .local _ .vmem, ⟨17, _⟩ => ⟨S512x256, .i32⟩
  | .local _ .vmem, ⟨18, _⟩ => ⟨S512x256, .i32⟩
  | .local _ .vmem, ⟨19, _⟩ => ⟨S512x256, .i32⟩
  | .local _ .vmem, ⟨20, _⟩ => ⟨S512x256, .i32⟩
  | .local _ .vmem, ⟨21, _⟩ => ⟨S512x256, .i32⟩
  | .local _ .vmem, ⟨22, _⟩ => ⟨S512x256, .i32⟩
  | .local _ .vmem, ⟨23, _⟩ => ⟨S512x256, .i32⟩
  | .local _ .vmem, ⟨24, _⟩ => ⟨S512x256, .i32⟩
  | .local _ .vmem, ⟨25, _⟩ => ⟨S512x256, .i32⟩
  | .local _ .vmem, ⟨26, _⟩ => ⟨S512x256, .i32⟩
  | .local _ .vmem, ⟨27, _⟩ => ⟨S512x256, .i32⟩
  | .local _ .vmem, ⟨28, _⟩ => ⟨S512x256, .i32⟩
  | .local _ .vmem, ⟨29, _⟩ => ⟨S512x256, .i32⟩
  | .local _ .vmem, ⟨30, _⟩ => ⟨S512x256, .i32⟩
  | .local _ .vmem, ⟨31, _⟩ => ⟨S512x256, .i32⟩
  | .local _ .vmem, ⟨32, _⟩ => ⟨S512x256, .i32⟩
  | .local _ .vmem, ⟨33, _⟩ => ⟨S512x256, .i32⟩
  | .local _ .vmem, ⟨34, _⟩ => ⟨S512x256, .i32⟩
  | .local _ .vmem, ⟨35, _⟩ => ⟨S512x256, .i32⟩
  | .local _ .vmem, ⟨36, _⟩ => ⟨S1024x512, .bf16⟩
  | .local _ .vmem, ⟨37, _⟩ => ⟨S256x1024, .bf16⟩
  | .local _ .vmem, ⟨38, _⟩ => ⟨S1x1024, .f32⟩
  | .local _ .vmem, ⟨39, _⟩ => ⟨S1x1024, .f32⟩
  | .local _ .vmem, ⟨40, _⟩ => ⟨S512x1024, .f32⟩
  | .local _ .vmem, ⟨41, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c160_i32 : BitVec 32 := 160#32
  let v0 : BitVec 32 := Scalar.addi c160_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c224_i32 : BitVec 32 := 224#32
  let v0 : BitVec 32 := Scalar.addi c224_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== CombineReference.lean ====
abbrev S65536x1024 : Shape := ⟨2, ![65536, 1024]⟩
abbrev S8x65536 : Shape := ⟨2, ![8, 65536]⟩
abbrev S131072x256 : Shape := ⟨2, ![131072, 256]⟩
abbrev S1024x256 : Shape := ⟨2, ![1024, 256]⟩
abbrev S256x1024 : Shape := ⟨2, ![256, 1024]⟩
abbrev S1024 : Shape := ⟨1, ![1024]⟩
abbrev S16384x1024 : Shape := ⟨2, ![16384, 1024]⟩
abbrev S8x16384x256 : Shape := ⟨3, ![8, 16384, 256]⟩
abbrev S8x16384x256x2 : Shape := ⟨4, ![8, 16384, 256, 2]⟩
abbrev S8x16384x256x1 : Shape := ⟨4, ![8, 16384, 256, 1]⟩
abbrev S8x16384x1024 : Shape := ⟨3, ![8, 16384, 1024]⟩
abbrev S8x16384 : Shape := ⟨2, ![8, 16384]⟩
abbrev S8x16384x1 : Shape := ⟨3, ![8, 16384, 1]⟩
abbrev S_ : Shape := ⟨0, ![]⟩
abbrev S16384x256 : Shape := ⟨2, ![16384, 256]⟩
abbrev S16384 : Shape := ⟨1, ![16384]⟩
abbrev S16384x1 : Shape := ⟨2, ![16384, 1]⟩
abbrev S1x1024 : Shape := ⟨2, ![1, 1024]⟩
abbrev S32768x1024 : Shape := ⟨2, ![32768, 1024]⟩

abbrev nBuf : Space → Nat
  | .hbm => 82
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S131072x256, .i32⟩
  | .hbm, ⟨3, _⟩ => ⟨S131072x256, .i32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S65536x1024, .f32⟩
  | .hbm, ⟨10, _⟩ => ⟨S16384x1024, .f32⟩
  | .hbm, ⟨11, _⟩ => ⟨S8x16384x256, .i32⟩
  | .hbm, ⟨12, _⟩ => ⟨S8x16384x256x2, .bf16⟩
  | .hbm, ⟨13, _⟩ => ⟨S8x16384x256x2, .f32⟩
  | .hbm, ⟨14, _⟩ => ⟨S8x16384x256, .i32⟩
  | .hbm, ⟨15, _⟩ => ⟨S8x16384x256x2, .bf16⟩
  | .hbm, ⟨16, _⟩ => ⟨S8x16384x256x2, .f32⟩
  | .hbm, ⟨17, _⟩ => ⟨S8x16384x256x1, .f32⟩
  | .hbm, ⟨18, _⟩ => ⟨S8x16384x256, .f32⟩
  | .hbm, ⟨19, _⟩ => ⟨S8x16384x256x1, .f32⟩
  | .hbm, ⟨20, _⟩ => ⟨S8x16384x256, .f32⟩
  | .hbm, ⟨21, _⟩ => ⟨S8x16384x256x1, .f32⟩
  | .hbm, ⟨22, _⟩ => ⟨S8x16384x256, .f32⟩
  | .hbm, ⟨23, _⟩ => ⟨S8x16384x256x1, .f32⟩
  | .hbm, ⟨24, _⟩ => ⟨S8x16384x256, .f32⟩
  | .hbm, ⟨25, _⟩ => ⟨S8x16384x1024, .f32⟩
  | .hbm, ⟨26, _⟩ => ⟨S8x16384, .f32⟩
  | .hbm, ⟨27, _⟩ => ⟨S8x16384x1, .f32⟩
  | .hbm, ⟨28, _⟩ => ⟨S8x16384x1024, .f32⟩
  | .hbm, ⟨29, _⟩ => ⟨S8x16384x1024, .f32⟩
  | .hbm, ⟨30, _⟩ => ⟨S_, .f32⟩
  | .hbm, ⟨31, _⟩ => ⟨S16384x1024, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S32768x1024, .f32⟩
  | .hbm, ⟨81, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_1 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Scatter.lean ====
abbrev S65536x256 : Shape := ⟨2, ![65536, 256]⟩
abbrev S8x65536 : Shape := ⟨2, ![8, 65536]⟩
abbrev S65536x2x128 : Shape := ⟨3, ![65536, 2, 128]⟩
abbrev S786432x2x128 : Shape := ⟨3, ![786432, 2, 128]⟩
abbrev S2x128x2x128 : Shape := ⟨4, ![2, 128, 2, 128]⟩
abbrev S2 : Shape := ⟨1, ![2]⟩
abbrev S2x8x128 : Shape := ⟨3, ![2, 8, 128]⟩
abbrev S1x128x2x128 : Shape := ⟨4, ![1, 128, 2, 128]⟩
abbrev S128x2x128 : Shape := ⟨3, ![128, 2, 128]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S1x128 : Shape := ⟨2, ![1, 128]⟩
abbrev S128 : Shape := ⟨1, ![128]⟩
abbrev S8x65536x1 : Shape := ⟨3, ![8, 65536, 1]⟩
abbrev S8x65536x2x128 : Shape := ⟨4, ![8, 65536, 2, 128]⟩

abbrev nBuf : Table → Nat
  | .hbm => 13
  | .local .scVector .vmem => 2
  | _ => 0

abbrev bufTy : (tb : Table) → Fin (nBuf tb) → BufTy
  | .hbm, ⟨0, _⟩ => ⟨S65536x256, .i32⟩
  | .hbm, ⟨1, _⟩ => ⟨S8x65536, .i32⟩
  | .hbm, ⟨2, _⟩ => ⟨S65536x2x128, .i32⟩
  | .hbm, ⟨3, _⟩ => ⟨S786432x2x128, .i32⟩
  | .hbm, ⟨4, _⟩ => ⟨S_, .i32⟩
  | .hbm, ⟨5, _⟩ => ⟨S8x65536, .i32⟩
  | .hbm, ⟨6, _⟩ => ⟨S8x65536, .i1⟩
  | .hbm, ⟨7, _⟩ => ⟨S_, .i32⟩
  | .hbm, ⟨8, _⟩ => ⟨S8x65536, .i32⟩
  | .hbm, ⟨9, _⟩ => ⟨S8x65536, .i32⟩
  | .hbm, ⟨10, _⟩ => ⟨S8x65536, .i32⟩
  | .hbm, ⟨11, _⟩ => ⟨S8x65536x1, .i32⟩
  | .hbm, ⟨12, _⟩ => ⟨S8x65536x2x128, .i32⟩
  | .local .scVector .vmem, ⟨0, _⟩ => ⟨S2x128x2x128, .i32⟩
  | .local .scVector .vmem, ⟨1, _⟩ => ⟨S2x8x128, .i32⟩
  | _, _ => ⟨S65536x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 4 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  let c0_i32_17_r0 : BitVec 32 := 0#32
  ![v21_r0.toNat, 0, 0, 0]
def k0_off2 (i : grid0.Coords) : Fin 3 → Nat :=
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  let c0_i32_18_r0 : BitVec 32 := 0#32
  let c0_i32_19_r0 : BitVec 32 := 0#32
  ![v22_r0.toNat, 0, 0]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
def k0_off4 : Fin 3 → Nat :=
  let c0_i32_27_r0 : BitVec 32 := 0#32
  let c2_i32_28_r0 : BitVec 32 := 2#32
  let v32_r0 : BitVec 32 := Scalar.remui c0_i32_27_r0 c2_i32_28_r0
  let c0_i32_30_r0 : BitVec 32 := 0#32
  let c0_i32_31_r0 : BitVec 32 := 0#32
  ![v32_r0.toNat, 0, 0]
def k0_off5 (i : grid0.Coords) : Fin 2 → Nat :=
  let c0_i32_32_r0 : BitVec 32 := 0#32
  let c128_i32_29_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v33_r0 : BitVec 32 := Scalar.muli c128_i32_29_r0 v7_r0
  ![0, v33_r0.toNat]
@[reducible] def k0_t1_loop : Scf.Loop 32 :=
  let c0_i32_41_r0 : BitVec 32 := 0#32
  let c16_i32_42_r0 : BitVec 32 := 16#32
  let v43_r0 : BitVec 32 := Scalar.addi c0_i32_41_r0 c16_i32_42_r0
  let c1_i32_43_r0 : BitVec 32 := 1#32
  ⟨c0_i32_41_r0, v43_r0, c1_i32_43_r0⟩
def k0_off6 (arg6_r0 : BitVec 32) : Fin 4 → Nat :=
  let c2_i32_111_r0 : BitVec 32 := 2#32
  let v151_r0 : BitVec 32 := Scalar.remui arg6_r0 c2_i32_111_r0
  let c0_i32_113_r0 : BitVec 32 := 0#32
  let c0_i32_114_r0 : BitVec 32 := 0#32
  let c0_i32_115_r0 : BitVec 32 := 0#32
  ![v151_r0.toNat, 0, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi arg10_r0 v4
  let true_68_r0 : BitVec 1 := 1#1
  let c1_i32_67_r0 : BitVec 32 := 1#32
  let v73_r0 : BitVec 32 := Scalar.addi arg10_r0 c1_i32_67_r0
  let v74_r0 : BitVec 32 := Scalar.select true_68_r0 v73_r0 arg10_r0
  let c16_i32_69_r0 : BitVec 32 := 16#32
  let v75_r0 : BitVec 1 := Scalar.cmpi .eq v74_r0 c16_i32_69_r0
  let c0_i32_70_r0 : BitVec 32 := 0#32
  let v76_r0 : BitVec 32 := Scalar.select v75_r0 c0_i32_70_r0 v74_r0
  let v77_r0 : BitVec 32 := Scalar.addi v76_r0 v4
  let v83_r0 : BitVec 1 := Scalar.cmpi .ne v67_r0 v77_r0
  let c0_i32_41_r0 : BitVec 32 := 0#32
  let c1_i32_43_r0 : BitVec 32 := 1#32
  let arg5_r0 : BitVec 32 := Scf.iv c0_i32_41_r0 c1_i32_43_r0 k0_t1
  let c15_i32_75_r0 : BitVec 32 := 15#32
  let v84_r0 : BitVec 1 := Scalar.cmpi .sge arg5_r0 c15_i32_75_r0
  let true_76_r0 : BitVec 1 := 1#1
  let v85_r0 : BitVec 1 := Scalar.xori v84_r0 true_76_r0
  let v86_r0 : BitVec 1 := Scalar.andi v83_r0 v85_r0
  let true_77_r0 : BitVec 1 := 1#1
  let v87_r0 : BitVec 1 := Scalar.andi v86_r0 true_77_r0
  let v88_r0 : BitVec 32 := Scalar.extui v87_r0
  let c0_i32_78_r0 : BitVec 32 := 0#32
  let v89_r0 : BitVec 1 := Scalar.cmpi .ne v88_r0 c0_i32_78_r0
  v89_r0

def k0_off7 (i : grid0.Coords) (arg10_r0 : BitVec 32) : Fin 3 → Nat :=
  let c128_i32_112_r0 : BitVec 32 := 128#32
  let true_68_r0 : BitVec 1 := 1#1
  let c1_i32_67_r0 : BitVec 32 := 1#32
  let v73_r0 : BitVec 32 := Scalar.addi arg10_r0 c1_i32_67_r0
  let v74_r0 : BitVec 32 := Scalar.select true_68_r0 v73_r0 arg10_r0
  let c16_i32_69_r0 : BitVec 32 := 16#32
  let v75_r0 : BitVec 1 := Scalar.cmpi .eq v74_r0 c16_i32_69_r0
  let c0_i32_70_r0 : BitVec 32 := 0#32
  let v76_r0 : BitVec 32 := Scalar.select v75_r0 c0_i32_70_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi v76_r0 v4
  let v152_r0 : BitVec 32 := Scalar.muli c128_i32_112_r0 v77_r0
  let c0_i32_116_r0 : BitVec 32 := 0#32
  let c0_i32_117_r0 : BitVec 32 := 0#32
  ![v152_r0.toNat, 0, 0]
def k0_off8 (arg6_r0 : BitVec 32) : Fin 1 → Nat :=
  let c2_i32_111_r0 : BitVec 32 := 2#32
  let v151_r0 : BitVec 32 := Scalar.remui arg6_r0 c2_i32_111_r0
  ![v151_r0.toNat]
def k0_off9 (arg8_r0 : BitVec 32) : Fin 3 → Nat :=
  let c2_i32_111_r0 : BitVec 32 := 2#32
  let v151_r0 : BitVec 32 := Scalar.remui arg8_r0 c2_i32_111_r0
  let c0_i32_113_r0 : BitVec 32 := 0#32
  let c0_i32_114_r0 : BitVec 32 := 0#32
  ![v151_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi arg10_r0 v4
  let true_68_r0 : BitVec 1 := 1#1
  let c1_i32_67_r0 : BitVec 32 := 1#32
  let v73_r0 : BitVec 32 := Scalar.addi arg10_r0 c1_i32_67_r0
  let v74_r0 : BitVec 32 := Scalar.select true_68_r0 v73_r0 arg10_r0
  let c16_i32_69_r0 : BitVec 32 := 16#32
  let v75_r0 : BitVec 1 := Scalar.cmpi .eq v74_r0 c16_i32_69_r0
  let c0_i32_70_r0 : BitVec 32 := 0#32
  let v76_r0 : BitVec 32 := Scalar.select v75_r0 c0_i32_70_r0 v74_r0
  let v77_r0 : BitVec 32 := Scalar.addi v76_r0 v4
  let v93_r0 : BitVec 1 := Scalar.cmpi .ne v67_r0 v77_r0
  let c0_i32_41_r0 : BitVec 32 := 0#32
  let c1_i32_43_r0 : BitVec 32 := 1#32
  let arg5_r0 : BitVec 32 := Scf.iv c0_i32_41_r0 c1_i32_43_r0 k0_t1
  let c15_i32_81_r0 : BitVec 32 := 15#32
  let v94_r0 : BitVec 1 := Scalar.cmpi .sge arg5_r0 c15_i32_81_r0
  let true_82_r0 : BitVec 1 := 1#1
  let v95_r0 : BitVec 1 := Scalar.xori v94_r0 true_82_r0
  let v96_r0 : BitVec 1 := Scalar.andi v93_r0 v95_r0
  let true_83_r0 : BitVec 1 := 1#1
  let v97_r0 : BitVec 1 := Scalar.andi v96_r0 true_83_r0
  let v98_r0 : BitVec 32 := Scalar.extui v97_r0
  let c0_i32_84_r0 : BitVec 32 := 0#32
  let v99_r0 : BitVec 1 := Scalar.cmpi .ne v98_r0 c0_i32_84_r0
  v99_r0

def k0_off10 (i : grid0.Coords) (arg10_r0 : BitVec 32) : Fin 2 → Nat :=
  let c0_i32_115_r0 : BitVec 32 := 0#32
  let c128_i32_112_r0 : BitVec 32 := 128#32
  let true_68_r0 : BitVec 1 := 1#1
  let c1_i32_67_r0 : BitVec 32 := 1#32
  let v73_r0 : BitVec 32 := Scalar.addi arg10_r0 c1_i32_67_r0
  let v74_r0 : BitVec 32 := Scalar.select true_68_r0 v73_r0 arg10_r0
  let c16_i32_69_r0 : BitVec 32 := 16#32
  let v75_r0 : BitVec 1 := Scalar.cmpi .eq v74_r0 c16_i32_69_r0
  let c0_i32_70_r0 : BitVec 32 := 0#32
  let v76_r0 : BitVec 32 := Scalar.select v75_r0 c0_i32_70_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v77_r0 : BitVec 32 := Scalar.addi v76_r0 v4
  let v152_r0 : BitVec 32 := Scalar.muli c128_i32_112_r0 v77_r0
  ![0, v152_r0.toNat]
def k0_off11 (arg8_r0 : BitVec 32) : Fin 1 → Nat :=
  let c2_i32_111_r0 : BitVec 32 := 2#32
  let v151_r0 : BitVec 32 := Scalar.remui arg8_r0 c2_i32_111_r0
  ![v151_r0.toNat]
def k0_off12 (arg7_r0 : BitVec 32) : Fin 4 → Nat :=
  let c2_i32_112_r0 : BitVec 32 := 2#32
  let v152_r0 : BitVec 32 := Scalar.remui arg7_r0 c2_i32_112_r0
  let c0_i32_113_r0 : BitVec 32 := 0#32
  let c0_i32_114_r0 : BitVec 32 := 0#32
  let c0_i32_115_r0 : BitVec 32 := 0#32
  ![v152_r0.toNat, 0, 0, 0]
def k0_cond3 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi arg10_r0 v4
  let true_64_r0 : BitVec 1 := 1#1
  let c1_i32_63_r0 : BitVec 32 := 1#32
  let v68_r0 : BitVec 32 := Scalar.subi arg10_r0 c1_i32_63_r0
  let v69_r0 : BitVec 32 := Scalar.select true_64_r0 v68_r0 arg10_r0
  let c_m1_i32_65_r0 : BitVec 32 := 4294967295#32
  let v70_r0 : BitVec 1 := Scalar.cmpi .eq v69_r0 c_m1_i32_65_r0
  let c15_i32_66_r0 : BitVec 32 := 15#32
  let v71_r0 : BitVec 32 := Scalar.select v70_r0 c15_i32_66_r0 v69_r0
  let v72_r0 : BitVec 32 := Scalar.addi v71_r0 v4
  let v103_r0 : BitVec 1 := Scalar.cmpi .ne v67_r0 v72_r0
  let c0_i32_41_r0 : BitVec 32 := 0#32
  let c1_i32_43_r0 : BitVec 32 := 1#32
  let arg5_r0 : BitVec 32 := Scf.iv c0_i32_41_r0 c1_i32_43_r0 k0_t1
  let c0_i32_61_r0 : BitVec 32 := 0#32
  let v65_r0 : BitVec 1 := Scalar.cmpi .eq arg5_r0 c0_i32_61_r0
  let v104_r0 : BitVec 1 := Scalar.ori v103_r0 v65_r0
  let c0_i32_87_r0 : BitVec 32 := 0#32
  let v105_r0 : BitVec 1 := Scalar.cmpi .sge arg5_r0 c0_i32_87_r0
  let v106_r0 : BitVec 1 := Scalar.andi v104_r0 v105_r0
  let v107_r0 : BitVec 32 := Scalar.extui v106_r0
  let c0_i32_88_r0 : BitVec 32 := 0#32
  let v108_r0 : BitVec 1 := Scalar.cmpi .ne v107_r0 c0_i32_88_r0
  v108_r0

def k0_off13 (i : grid0.Coords) (arg10_r0 : BitVec 32) : Fin 3 → Nat :=
  let c128_i32_111_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi arg10_r0 v4
  let v151_r0 : BitVec 32 := Scalar.muli c128_i32_111_r0 v67_r0
  let c0_i32_116_r0 : BitVec 32 := 0#32
  let c0_i32_117_r0 : BitVec 32 := 0#32
  ![v151_r0.toNat, 0, 0]
def k0_off14 (arg7_r0 : BitVec 32) : Fin 1 → Nat :=
  let c2_i32_112_r0 : BitVec 32 := 2#32
  let v152_r0 : BitVec 32 := Scalar.remui arg7_r0 c2_i32_112_r0
  ![v152_r0.toNat]
def k0_off15 (arg9_r0 : BitVec 32) : Fin 3 → Nat :=
  let c2_i32_112_r0 : BitVec 32 := 2#32
  let v152_r0 : BitVec 32 := Scalar.remui arg9_r0 c2_i32_112_r0
  let c0_i32_113_r0 : BitVec 32 := 0#32
  let c0_i32_114_r0 : BitVec 32 := 0#32
  ![v152_r0.toNat, 0, 0]
def k0_cond4 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi arg10_r0 v4
  let true_64_r0 : BitVec 1 := 1#1
  let c1_i32_63_r0 : BitVec 32 := 1#32
  let v68_r0 : BitVec 32 := Scalar.subi arg10_r0 c1_i32_63_r0
  let v69_r0 : BitVec 32 := Scalar.select true_64_r0 v68_r0 arg10_r0
  let c_m1_i32_65_r0 : BitVec 32 := 4294967295#32
  let v70_r0 : BitVec 1 := Scalar.cmpi .eq v69_r0 c_m1_i32_65_r0
  let c15_i32_66_r0 : BitVec 32 := 15#32
  let v71_r0 : BitVec 32 := Scalar.select v70_r0 c15_i32_66_r0 v69_r0
  let v72_r0 : BitVec 32 := Scalar.addi v71_r0 v4
  let v109_r0 : BitVec 1 := Scalar.cmpi .ne v67_r0 v72_r0
  let c0_i32_41_r0 : BitVec 32 := 0#32
  let c1_i32_43_r0 : BitVec 32 := 1#32
  let arg5_r0 : BitVec 32 := Scf.iv c0_i32_41_r0 c1_i32_43_r0 k0_t1
  let c0_i32_61_r0 : BitVec 32 := 0#32
  let v65_r0 : BitVec 1 := Scalar.cmpi .eq arg5_r0 c0_i32_61_r0
  let v110_r0 : BitVec 1 := Scalar.ori v109_r0 v65_r0
  let c0_i32_89_r0 : BitVec 32 := 0#32
  let v111_r0 : BitVec 1 := Scalar.cmpi .sge arg5_r0 c0_i32_89_r0
  let v112_r0 : BitVec 1 := Scalar.andi v110_r0 v111_r0
  let v113_r0 : BitVec 32 := Scalar.extui v112_r0
  let c0_i32_90_r0 : BitVec 32 := 0#32
  let v114_r0 : BitVec 1 := Scalar.cmpi .ne v113_r0 c0_i32_90_r0
  v114_r0

def k0_off16 (i : grid0.Coords) (arg10_r0 : BitVec 32) : Fin 2 → Nat :=
  let c0_i32_115_r0 : BitVec 32 := 0#32
  let c128_i32_111_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v67_r0 : BitVec 32 := Scalar.addi arg10_r0 v4
  let v151_r0 : BitVec 32 := Scalar.muli c128_i32_111_r0 v67_r0
  ![0, v151_r0.toNat]
def k0_off17 (arg9_r0 : BitVec 32) : Fin 1 → Nat :=
  let c2_i32_112_r0 : BitVec 32 := 2#32
  let v152_r0 : BitVec 32 := Scalar.remui arg9_r0 c2_i32_112_r0
  ![v152_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off6 arg6_r0) a + S1x128x2x128.size a ≤ S2x128x2x128.size a) ∧
  (∀ (k0_h1 : k0_cond1 i k0_t1 arg10_r0 = 1#1), ∀ a, (k0_off7 i arg10_r0) a + S128x2x128.size a ≤ S65536x2x128.size a) ∧
  (∀ (k0_h1 : k0_cond1 i k0_t1 arg10_r0 = 1#1), ∀ a, (k0_off8 arg6_r0) a + S1.size a ≤ S2.size a) ∧
  (∀ (k0_h2 : k0_cond2 i k0_t1 arg10_r0 = 1#1), ∀ a, (k0_off9 arg8_r0) a + S1x8x128.size a ≤ S2x8x128.size a) ∧
  (∀ (k0_h2 : k0_cond2 i k0_t1 arg10_r0 = 1#1), ∀ a, (k0_off10 i arg10_r0) a + S8x128.size a ≤ S8x65536.size a) ∧
  (∀ (k0_h2 : k0_cond2 i k0_t1 arg10_r0 = 1#1), ∀ a, (k0_off11 arg8_r0) a + S1.size a ≤ S2.size a) ∧
  (∀ (k0_h3 : k0_cond3 i k0_t1 arg10_r0 = 1#1), ∀ a, (k0_off12 arg7_r0) a + S1x128x2x128.size a ≤ S2x128x2x128.size a) ∧
  (∀ (k0_h3 : k0_cond3 i k0_t1 arg10_r0 = 1#1), ∀ a, (k0_off13 i arg10_r0) a + S128x2x128.size a ≤ S65536x2x128.size a) ∧
  (∀ (k0_h3 : k0_cond3 i k0_t1 arg10_r0 = 1#1), ∀ a, (k0_off14 arg7_r0) a + S1.size a ≤ S2.size a) ∧
  (∀ (k0_h4 : k0_cond4 i k0_t1 arg10_r0 = 1#1), ∀ a, (k0_off15 arg9_r0) a + S1x8x128.size a ≤ S2x8x128.size a) ∧
  (∀ (k0_h4 : k0_cond4 i k0_t1 arg10_r0 = 1#1), ∀ a, (k0_off16 i arg10_r0) a + S8x128.size a ≤ S8x65536.size a) ∧
  (∀ (k0_h4 : k0_cond4 i k0_t1 arg10_r0 = 1#1), ∀ a, (k0_off17 arg9_r0) a + S1.size a ≤ S2.size a)
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1x128x2x128.size a ≤ S2x128x2x128.size a := fun i k0_t1 arg6_r0 arg7_r0 arg8_r0 arg9_r0 arg10_r0 k0_hw1 k0_h1 => k0_hw1.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off7 i arg10_r0) a + S128x2x128.size a ≤ S65536x2x128.size a := fun i k0_t1 arg6_r0 arg7_r0 arg8_r0 arg9_r0 arg10_r0 k0_hw1 k0_h1 => k0_hw1.2.1 k0_h1
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off8 arg6_r0) a + S1.size a ≤ S2.size a := fun i k0_t1 arg6_r0 arg7_r0 arg8_r0 arg9_r0 arg10_r0 k0_hw1 k0_h1 => k0_hw1.2.2.1 k0_h1
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg8_r0) a + S1x8x128.size a ≤ S2x8x128.size a := fun i k0_t1 arg6_r0 arg7_r0 arg8_r0 arg9_r0 arg10_r0 k0_hw1 k0_h2 => k0_hw1.2.2.2.1 k0_h2
theorem k0_off10_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off10 i arg10_r0) a + S8x128.size a ≤ S8x65536.size a := fun i k0_t1 arg6_r0 arg7_r0 arg8_r0 arg9_r0 arg10_r0 k0_hw1 k0_h2 => k0_hw1.2.2.2.2.1 k0_h2
theorem k0_off11_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off11 arg8_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off12 arg7_r0) a + S1x128x2x128.size a ≤ S2x128x2x128.size a := fun i k0_t1 arg6_r0 arg7_r0 arg8_r0 arg9_r0 arg10_r0 k0_hw1 k0_h3 => k0_hw1.2.2.2.2.2.2.1 k0_h3
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off13 i arg10_r0) a + S128x2x128.size a ≤ S65536x2x128.size a := fun i k0_t1 arg6_r0 arg7_r0 arg8_r0 arg9_r0 arg10_r0 k0_hw1 k0_h3 => k0_hw1.2.2.2.2.2.2.2.1 k0_h3
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off14 arg7_r0) a + S1.size a ≤ S2.size a := fun i k0_t1 arg6_r0 arg7_r0 arg8_r0 arg9_r0 arg10_r0 k0_hw1 k0_h3 => k0_hw1.2.2.2.2.2.2.2.2.1 k0_h3
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off15 arg9_r0) a + S1x8x128.size a ≤ S2x8x128.size a := fun i k0_t1 arg6_r0 arg7_r0 arg8_r0 arg9_r0 arg10_r0 k0_hw1 k0_h4 => k0_hw1.2.2.2.2.2.2.2.2.2.1 k0_h4
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off16 i arg10_r0) a + S8x128.size a ≤ S8x65536.size a := fun i k0_t1 arg6_r0 arg7_r0 arg8_r0 arg9_r0 arg10_r0 k0_hw1 k0_h4 => k0_hw1.2.2.2.2.2.2.2.2.2.2.1 k0_h4
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off17 arg9_r0) a + S1.size a ≤ S2.size a := fun i k0_t1 arg6_r0 arg7_r0 arg8_r0 arg9_r0 arg10_r0 k0_hw1 k0_h4 => k0_hw1.2.2.2.2.2.2.2.2.2.2.2 k0_h4

def k0_off18 (arg7_r0 : BitVec 32) : Fin 4 → Nat :=
  let c2_i32_91_r0 : BitVec 32 := 2#32
  let v115_r0 : BitVec 32 := Scalar.remui arg7_r0 c2_i32_91_r0
  let c0_i32_111_r1 : BitVec 32 := 0#32
  let c0_i32_112_r1 : BitVec 32 := 0#32
  let c0_i32_113_r1 : BitVec 32 := 0#32
  ![v115_r0.toNat, 0, 0, 0]

def k0_chk2 (arg7_r0 : BitVec 32) : Prop :=
  (∀ a, (k0_off18 arg7_r0) a + S1x128x2x128.size a ≤ S2x128x2x128.size a)
theorem k0_off18_inb : ∀ (arg7_r0 : BitVec 32) (k0_hw2 : k0_chk2 arg7_r0), ∀ a, (k0_off18 arg7_r0) a + S1x128x2x128.size a ≤ S2x128x2x128.size a := fun arg7_r0 k0_hw2 => k0_hw2

def k0_off19 (arg9_r0 : BitVec 32) : Fin 3 → Nat :=
  let c2_i32_92_r0 : BitVec 32 := 2#32
  let v116_r0 : BitVec 32 := Scalar.remui arg9_r0 c2_i32_92_r0
  let c0_i32_114_r1 : BitVec 32 := 0#32
  let c0_i32_115_r1 : BitVec 32 := 0#32
  ![v116_r0.toNat, 0, 0]

def k0_chk3 (arg9_r0 : BitVec 32) : Prop :=
  (∀ a, (k0_off19 arg9_r0) a + S1x8x128.size a ≤ S2x8x128.size a)
theorem k0_off19_inb : ∀ (arg9_r0 : BitVec 32) (k0_hw3 : k0_chk3 arg9_r0), ∀ a, (k0_off19 arg9_r0) a + S1x8x128.size a ≤ S2x8x128.size a := fun arg9_r0 k0_hw3 => k0_hw3

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterReference.lean ====
abbrev S65536x256 : Shape := ⟨2, ![65536, 256]⟩
abbrev S8x65536 : Shape := ⟨2, ![8, 65536]⟩
abbrev S65536x2x128 : Shape := ⟨3, ![65536, 2, 128]⟩
abbrev S1x65536x2x128 : Shape := ⟨4, ![1, 65536, 2, 128]⟩
abbrev S8x65536x2x128 : Shape := ⟨4, ![8, 65536, 2, 128]⟩

abbrev nBuf : Space → Nat
  | .hbm => 5
  | .vmem => 0
  | .smem => 0
  | _ => 0

abbrev bufTy : (tb : Table) → Fin (tcTables nBuf tb) → BufTy
  | .hbm, ⟨0, _⟩ => ⟨S65536x256, .i32⟩
  | .hbm, ⟨1, _⟩ => ⟨S8x65536, .i32⟩
  | .hbm, ⟨2, _⟩ => ⟨S65536x2x128, .i32⟩
  | .hbm, ⟨3, _⟩ => ⟨S1x65536x2x128, .i32⟩
  | .hbm, ⟨4, _⟩ => ⟨S8x65536x2x128, .i32⟩
  | _, _ => ⟨S65536x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Arith.lean ====
/-
  The pipeline's counters, trip by trip: what the loop carries at the start of trip `t` (the two input cursors, the two
  output cursors, the block number), and at those values every offset the body slices by, every condition it branches
  on and every side condition it assumes. Thirty-two tiles, thirty-two trips: decided.
-/
module

public import proofs.«01_k».proof.Defs
public import proofs.«01_k».proof.Proof.Gen.KernelIdeal.Skeleton

@[expose] public section

noncomputable section

namespace Cert.Proof.Gather

open Cert.KernelIdeal Cert.KernelIdeal.Gen
open Idealize.ShloMosaic

/-- The first word of tile `L`'s own part of the index list (and its first output row). -/
def base (L : grid0.Coords) : ℕ := 4096 * (L 1).val + 65536 * (L 0).val

/-- What the loop carries at the start of trip `t`. -/
@[reducible] def c6 (t : ℕ) : BitVec 32 := BitVec.ofNat 32 (min (t + 1) 32)
@[reducible] def c7 (t : ℕ) : BitVec 32 := BitVec.ofNat 32 t
@[reducible] def c9 (t : ℕ) : BitVec 32 := BitVec.ofNat 32 (t - 1)
@[reducible] def c10 (t : ℕ) : BitVec 32 := BitVec.ofNat 32 (t % 32)
abbrev Carry : Type := BitVec 32 × BitVec 32 × BitVec 32 × BitVec 32 × BitVec 32
@[reducible] def carry (t : ℕ) : Carry := (c6 t, c7 t, c7 t, c9 t, c10 t)

theorem trips_eq : k0_t1_loop.trips = 32 := by decide +kernel

/-! ## The conditions -/

theorem cond1_iff : ∀ (L : grid0.Coords) (t : Fin k0_t1_loop.trips), k0_cond1 L t (c10 t) = 1#1 ↔ t.val < 31 := by decide +kernel
theorem cond2_one : ∀ (L : grid0.Coords) (t : Fin k0_t1_loop.trips), k0_cond2 L t (c10 t) = 1#1 := by decide +kernel
theorem cond5_one : ∀ (L : grid0.Coords) (t : Fin k0_t1_loop.trips), k0_cond5 L t (c10 t) = 1#1 := by decide +kernel
theorem cond7_iff : ∀ (L : grid0.Coords) (t : Fin k0_t1_loop.trips), k0_cond7 L t (c10 t) = 1#1 ↔ 0 < t.val := by decide +kernel

/-! ## The offsets -/

theorem off4_eq : ∀ t : Fin k0_t1_loop.trips, k0_off4 (c6 t) = ![(t.val + 1) % 2, 0, 0] := by decide +kernel
theorem off5_eq : ∀ (L : grid0.Coords) (t : Fin k0_t1_loop.trips), t.val < 31 →
    k0_off5 L (c10 t) = ![0, 4096 * (L 1).val + 65536 * (L 0).val + 128 * (t.val + 1)] := by decide +kernel
theorem off6_eq : ∀ t : Fin k0_t1_loop.trips, k0_off6 (c6 t) = ![(t.val + 1) % 2] := by decide +kernel
theorem off7_eq : ∀ t : Fin k0_t1_loop.trips, k0_off7 (c7 t) = ![t.val % 2, 0, 0] := by decide +kernel
theorem off8_eq : ∀ (L : grid0.Coords) (t : Fin k0_t1_loop.trips),
    k0_off8 L (c10 t) = ![0, 4096 * (L 1).val + 65536 * (L 0).val + 128 * t.val] := by decide +kernel
theorem off9_eq : ∀ t : Fin k0_t1_loop.trips, k0_off9 (c7 t) = ![t.val % 2] := by decide +kernel
theorem off10_eq : ∀ t : Fin k0_t1_loop.trips, k0_off10 (c7 t) = ![t.val % 2, 0, 0, 0] := by decide +kernel
theorem off11_eq : ∀ t : Fin k0_t1_loop.trips, k0_off11 (c7 t) = ![t.val % 2, 0, 0] := by decide +kernel
theorem off12_eq : ∀ t : Fin k0_t1_loop.trips, k0_off12 (c7 t) = ![t.val % 2, 0, 0, 0] := by decide +kernel
theorem off13_eq : ∀ (L : grid0.Coords) (t : Fin k0_t1_loop.trips),
    k0_off13 L (c10 t) = ![4096 * (L 1).val + 65536 * (L 0).val + 128 * t.val, 0, 0] := by decide +kernel
theorem off14_eq : ∀ t : Fin k0_t1_loop.trips, k0_off14 (c7 t) = ![t.val % 2] := by decide +kernel
theorem off15_eq : ∀ t : Fin k0_t1_loop.trips, k0_off15 (c9 t) = ![(t.val - 1) % 2, 0, 0, 0] := by decide +kernel
theorem off16_eq : ∀ (L : grid0.Coords) (t : Fin k0_t1_loop.trips), 0 < t.val →
    k0_off16 L (c10 t) = ![4096 * (L 1).val + 65536 * (L 0).val + 128 * (t.val - 1), 0, 0] := by decide +kernel
theorem off17_eq : ∀ t : Fin k0_t1_loop.trips, k0_off17 (c9 t) = ![(t.val - 1) % 2] := by decide +kernel
theorem off19_eq : ∀ L : grid0.Coords, k0_off19 L (c10 32) = ![4096 * (L 1).val + 65536 * (L 0).val + 128 * 31, 0, 0] := by decide +kernel
theorem off20_eq : k0_off20 (c9 32) = ![31 % 2] := by decide +kernel
theorem off21_eq : k0_off21 (c9 32) = ![31 % 2, 0, 0, 0] := by decide +kernel

/-! ## The side conditions the body assumes -/

theorem chk1_ok : ∀ (L : grid0.Coords) (t : Fin k0_t1_loop.trips), k0_chk1 L t (c6 t) (c7 t) (c7 t) (c9 t) (c10 t) := by decide +kernel
theorem chk2_ok : ∀ t : Fin k0_t1_loop.trips, k0_chk2 (c7 t) := by decide +kernel
theorem chk3_ok : ∀ t : Fin k0_t1_loop.trips, k0_chk3 (c7 t) := by decide +kernel
theorem chk4_ok : k0_chk4 (c9 32) := by decide +kernel
theorem chk5_ok : ∀ L : grid0.Coords, k0_chk5 L (c10 32) := by decide +kernel

end Cert.Proof.Gather

end
-- ==== Proof.Setup.lean ====
/-
  What the proof of the gather speaks of: the program as the launch theorem sees it, the windows of the index list and of
  the output, the two slots of each of the pipeline's buffers with their semaphores, and the value each output window is
  to hold. `KernelIdeal` over any float `F` (the program moves 32-bit words only).
-/
module

public import proofs.«01_k».proof.Defs
public import proofs.«01_k».proof.Proof.Arith
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "xV" => (Memref.whole Cert.KernelIdeal.main_v0_scv : Memref Cert.KernelIdeal.sig Kind.scVector Space.hbm Cert.KernelIdeal.S786432x2x128 EltTy.i32)
local notation "iV" => (Memref.whole Cert.KernelIdeal.main_v1_scv : Memref Cert.KernelIdeal.sig Kind.scVector Space.hbm Cert.KernelIdeal.S1x131072 EltTy.i32)
local notation "oV" => (Memref.whole Cert.KernelIdeal.main_v2_scv : Memref Cert.KernelIdeal.sig Kind.scVector Space.hbm Cert.KernelIdeal.S131072x2x128 EltTy.i32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.i32)

/-! ### Slices at any offset -/

/-- 128 words of the index list. -/
abbrev iAt (o : Fin 2 → ℕ) (h : ∀ a, o a + S1x128.size a ≤ S1x131072.size a) : Memref sig .scVector .hbm S1x128 .i32 :=
  (iV).slice (Rect.unit (s := S1x131072) o S1x128.size h) (fun _ => rfl)
/-- 128 rows of the output. -/
abbrev oAt (o : Fin 3 → ℕ) (h : ∀ a, o a + S128x2x128.size a ≤ S131072x2x128.size a) : Memref sig .scVector .hbm S128x2x128 .i32 :=
  (oV).slice (Rect.unit (s := S131072x2x128) o S128x2x128.size h) (fun _ => rfl)
/-- A slot of the index buffer, -/
abbrev sAt (o : Fin 3 → ℕ) (h : ∀ a, o a + S1x1x128.size a ≤ S2x1x128.size a) : Memref sig .scVector .vmem S1x128 .i32 :=
  ((sV).slice (Rect.unit (s := S2x1x128) o S1x1x128.size h) (fun _ => rfl)).squeeze S1x128 squeezes_S1x1x128_S1x128
/-- the same as a list of 128 words; -/
abbrev lAt (o : Fin 3 → ℕ) (h : ∀ a, o a + S1x1x128.size a ≤ S2x1x128.size a) : Memref sig .scVector .vmem S128 .i32 :=
  ((sAt o h).slice (Rect.unit (s := S1x128) ![0, 0] S1x128.size inb_S1x128_S1x128_0_0) (fun _ => rfl)).squeeze S128 squeezes_S1x128_S128
/-- a slot of the row buffer. -/
abbrev rAt (o : Fin 4 → ℕ) (h : ∀ a, o a + S1x128x2x128.size a ≤ S2x128x2x128.size a) : Memref sig .scVector .vmem S128x2x128 .i32 :=
  ((rV).slice (Rect.unit (s := S2x128x2x128) o S1x128x2x128.size h) (fun _ => rfl)).squeeze S128x2x128 squeezes_S1x128x2x128_S128x2x128
/-- A semaphore of a pair. -/
abbrev semAt (a : DmaSems sig S2) (o : Fin 1 → ℕ) (h : ∀ i, o i + S1.size i ≤ S2.size i) : DmaSem sig :=
  ((a.slice (Rect.unit (s := S2) o S1.size h)).squeeze S_ squeezes_S1_S_).sem
/-- The whole table, as the body slices it. -/
abbrev xAll : Memref sig .scVector .hbm S786432x2x128 .i32 :=
  (xV).slice (Rect.unit (s := S786432x2x128) ![0, 0, 0] S786432x2x128.size inb_S786432x2x128_S786432x2x128_0_0_0) (fun _ => rfl)

/-! ### The windows and the slots -/

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem l0_lt (L : grid0.Coords) : (L 0).val < 2 := (L 0).isLt
theorem l1_lt (L : grid0.Coords) : (L 1).val < 16 := (L 1).isLt
theorem base_le (L : grid0.Coords) : base L + 4096 ≤ 131072 := by
  have := l0_lt L; have := l1_lt L; unfold base; omega

/-- The first row of window `w` of tile `L` (windows counted modulo 32). -/
def row0 (w : ℕ) : ℕ := base L + 128 * (w % 32)
theorem row0_le (w : ℕ) : row0 L w + 128 ≤ 131072 := by
  have := base_le L; unfold row0; omega

abbrev iOff (w : ℕ) : Fin 2 → ℕ := ![0, row0 L w]
abbrev oOff (w : ℕ) : Fin 3 → ℕ := ![row0 L w, 0, 0]
abbrev sOff (t : ℕ) : Fin 3 → ℕ := ![t % 2, 0, 0]
abbrev rOff (t : ℕ) : Fin 4 → ℕ := ![t % 2, 0, 0, 0]
abbrev mOff (t : ℕ) : Fin 1 → ℕ := ![t % 2]

theorem iOff_inb (w : ℕ) : ∀ a, iOff L w a + S1x128.size a ≤ S1x131072.size a := by
  intro a; have := row0_le L w
  match a with
  | ⟨0, _⟩ => show 0 + 1 ≤ 1; omega
  | ⟨1, _⟩ => show row0 L w + 128 ≤ 131072; omega
theorem oOff_inb (w : ℕ) : ∀ a, oOff L w a + S128x2x128.size a ≤ S131072x2x128.size a := by
  intro a; have := row0_le L w
  match a with
  | ⟨0, _⟩ => show row0 L w + 128 ≤ 131072; omega
  | ⟨1, _⟩ => show 0 + 2 ≤ 2; omega
  | ⟨2, _⟩ => show 0 + 128 ≤ 128; omega
theorem sOff_inb (t : ℕ) : ∀ a, sOff t a + S1x1x128.size a ≤ S2x1x128.size a := by
  intro a
  match a with
  | ⟨0, _⟩ => show t % 2 + 1 ≤ 2; omega
  | ⟨1, _⟩ => show 0 + 1 ≤ 1; omega
  | ⟨2, _⟩ => show 0 + 128 ≤ 128; omega
theorem rOff_inb (t : ℕ) : ∀ a, rOff t a + S1x128x2x128.size a ≤ S2x128x2x128.size a := by
  intro a
  match a with
  | ⟨0, _⟩ => show t % 2 + 1 ≤ 2; omega
  | ⟨1, _⟩ => show 0 + 128 ≤ 128; omega
  | ⟨2, _⟩ => show 0 + 2 ≤ 2; omega
  | ⟨3, _⟩ => show 0 + 128 ≤ 128; omega
theorem mOff_inb (t : ℕ) : ∀ a, mOff t a + S1.size a ≤ S2.size a := by
  intro a
  match a with
  | ⟨0, _⟩ => show t % 2 + 1 ≤ 2; omega

abbrev iWin (w : ℕ) : Memref sig .scVector .hbm S1x128 .i32 := iAt (iOff L w) (iOff_inb L w)
abbrev oWin (w : ℕ) : Memref sig .scVector .hbm S128x2x128 .i32 := oAt (oOff L w) (oOff_inb L w)
abbrev sSlot (t : ℕ) : Memref sig .scVector .vmem S1x128 .i32 := sAt (sOff t) (sOff_inb t)
abbrev lSlot (t : ℕ) : Memref sig .scVector .vmem S128 .i32 := lAt (sOff t) (sOff_inb t)
abbrev rSlot (t : ℕ) : Memref sig .scVector .vmem S128x2x128 .i32 := rAt (rOff t) (rOff_inb t)
abbrev semI (t : ℕ) : DmaSem sig := semAt cc0_scoped1 (mOff t) (mOff_inb t)
abbrev semO (t : ℕ) : DmaSem sig := semAt cc0_scoped3 (mOff t) (mOff_inb t)
abbrev semG : DmaSem sig := cc0_scoped4.sem

/-! ### What the output is to hold -/

/-- The table's row the list names for output row `r`. -/
def rowAt (I : S1x131072.Idx → BitVec 32) (r : Fin 131072) : Fin 786432 :=
  ⟨(I (ix2 (0 : Fin 1) r)).toNat % 786432, Nat.mod_lt _ (by decide)⟩
/-- The gathered rows. -/
def gath {α : Type} (X : S786432x2x128.Idx → α) (I : S1x131072.Idx → BitVec 32) : S131072x2x128.Idx → α :=
  fun j => X (ix3 (rowAt I (j 0)) (j 1) (j 2))
/-- Row `x` of window `w`. -/
def wrow (w : ℕ) (x : Fin 128) : Fin 131072 := ⟨row0 L w + x.val, by have := row0_le L w; omega⟩

/-- Every word of the index list names a row. -/
def InRows (I : S1x131072.Idx → BitVec 32) : Prop := ∀ j, (I j).toNat < 786432

theorem emb_iWin (w : ℕ) (x : S1x128.Idx) : (iWin L w).view.emb x = ix2 (0 : Fin 1) (wrow L w (x 1)) := by
  funext a
  match a with
  | ⟨0, _⟩ => apply Fin.ext; show 0 + 1 * (x 0).val = 0; have : (x 0).val < 1 := (x 0).isLt; omega
  | ⟨1, _⟩ => apply Fin.ext; show row0 L w + 1 * (x 1).val = row0 L w + (x 1).val; omega
theorem emb_oWin (w : ℕ) (y : S128x2x128.Idx) : (oWin L w).view.emb y = ix3 (wrow L w (y 0)) (y 1) (y 2) := by
  funext a
  match a with
  | ⟨0, _⟩ => apply Fin.ext; show row0 L w + 1 * (y 0).val = row0 L w + (y 0).val; omega
  | ⟨1, _⟩ => apply Fin.ext; show 0 + 1 * (y 1).val = (y 1).val; omega
  | ⟨2, _⟩ => apply Fin.ext; show 0 + 1 * (y 2).val = (y 2).val; omega
theorem emb_xAll (y : S786432x2x128.Idx) : xAll.view.emb y = y := by
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 0 + 1 * (y 2).val = (y 2).val; omega
/-- Word `x` of the slot read as a list is word `(0, x)` of the slot. -/
theorem emb_lSlot (t : ℕ) (x : S128.Idx) : (lSlot t).view.emb x = (sSlot t).view.emb (ix2 (0 : Fin 1) (x 0)) := by
  show (sSlot t).view.emb ((Rect.unit (s := S1x128) ![0, 0] S1x128.size inb_S1x128_S1x128_0_0).emb
    (Shape.reshapeEquiv squeezes_S1x128_S128.numel_eq x)) = _
  congr 1
  have h : Shape.reshapeEquiv squeezes_S1x128_S128.numel_eq x = (ix2 (0 : Fin 1) (x 0) : S1x128.Idx) :=
    Shape.reshapeEquiv_eq_of_rowMajor _ (by
      rw [Shape.rowMajor_val_two, Shape.rowMajor_val_one]
      show 0 * 128 + (x 0).val = (x 0).val; omega)
  rw [h]
  funext a
  match a with
  | ⟨0, _⟩ => rfl
  | ⟨1, _⟩ => apply Fin.ext; show 0 + 1 * (x 0).val = (x 0).val; omega

theorem set_lSlot (t : ℕ) : (lSlot t).view.set = (sSlot t).view.set := by
  ext i
  simp only [View.set, Finset.mem_map, Finset.mem_univ, true_and]
  constructor
  · rintro ⟨x, rfl⟩; exact ⟨_, (emb_lSlot t x).symm⟩
  · rintro ⟨y, rfl⟩
    refine ⟨(fun a => match a with | ⟨0, _⟩ => (y 1 : Fin 128)), ?_⟩
    rw [emb_lSlot]
    congr 1
    funext a
    match a with
    | ⟨0, _⟩ => apply Fin.ext; show 0 = (y 0).val; have : (y 0).val < 1 := (y 0).isLt; omega
    | ⟨1, _⟩ => rfl

theorem set_xAll : xAll.view.set = Finset.univ := by
  ext i
  simp only [View.set, Finset.mem_map, Finset.mem_univ, true_and, iff_true]
  exact ⟨i, emb_xAll i⟩

/-! ### Slots and windows come back round -/

theorem sSlot_congr {t u : ℕ} (h : t % 2 = u % 2) : sSlot t = sSlot u := by
  simp only [sSlot, sOff, h]
theorem rSlot_congr {t u : ℕ} (h : t % 2 = u % 2) : rSlot t = rSlot u := by
  simp only [rSlot, rOff, h]
theorem semI_congr {t u : ℕ} (h : t % 2 = u % 2) : semI t = semI u := by
  simp only [semI, mOff, h]
theorem semO_congr {t u : ℕ} (h : t % 2 = u % 2) : semO t = semO u := by
  simp only [semO, mOff, h]

end Cert.Proof.Gather

end
-- ==== Proof.Steps.lean ====
/-
  The pipeline's transfers, one at a time: the fetch of a window of the index list into a slot, its wait, the indirect
  gather of the rows a slot names into a row slot, its wait, the write-out of a row slot into its window, its wait. Each
  is stated at any offsets equal to the slot's and the window's, so that the printed slices meet it as they stand.
-/
module

public import proofs.«01_k».proof.Proof.Setup

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S786432x2x128 EltTy.i32)

variable (d : Dev nD) (L : grid0.Coords)
variable (X : Buf (Elt F) (xLoc d)) (I : Buf (Elt F) (iLoc d))

/-! ## What is held -/

/-- Window `w` of the index list. -/
abbrev IWin (w : ℕ) : sProp 𝕄 := iprop((iWin L w).view.loc (thr d L) ↦[(iWin L w).view.set]{fullShare} I)
/-- Window `w` of the output, at contents `f`. -/
abbrev OWin (f : Buf (Elt F) (oLoc d)) (w : ℕ) : sProp 𝕄 := iprop((oWin L w).view.loc (thr d L) ↦[(oWin L w).view.set]{fullShare} f)
/-- A slot of the index buffer, at some contents. -/
abbrev SSl (t : ℕ) : sProp 𝕄 := iprop(∃ f, (sSlot t).view.loc (thr d L) ↦[(sSlot t).view.set]{fullShare} f)
/-- A slot of the row buffer, at some contents. -/
abbrev RSl (t : ℕ) : sProp 𝕄 := iprop(∃ f, (rSlot t).view.loc (thr d L) ↦[(rSlot t).view.set]{fullShare} f)
/-- The slot holding window `w` of the index list. -/
abbrev SFull (w t : ℕ) : sProp 𝕄 :=
  iprop(∃ f, ⌜∀ x : S1x128.Idx, (sSlot t).view.read (Elt F) f x = I (ix2 (0 : Fin 1) (wrow L w (x 1)))⌝
    ∗ (sSlot t).view.loc (thr d L) ↦[(sSlot t).view.set]{fullShare} f)
/-- The row slot holding the rows of window `w`. -/
abbrev RFull (w t : ℕ) : sProp 𝕄 :=
  iprop(∃ f, ⌜∀ y : S128x2x128.Idx, (rSlot t).view.read (Elt F) f y = gath X I (ix3 (wrow L w (y 0)) (y 1) (y 2))⌝
    ∗ (rSlot t).view.loc (thr d L) ↦[(rSlot t).view.set]{fullShare} f)
/-- A semaphore at zero. -/
abbrev Zero (s : DmaSem sig) : sProp 𝕄 := iprop(semVal (thr d L, SemLoc.dma s) 0)
/-- The tile's share of the table. -/
abbrev XSh (q : PosShare TreeShare) : sProp 𝕄 := iprop((xV).view.loc (thr d L) ↦{q} X)

/-! ## What is in flight -/

abbrev NI : ℕ := (sSlot 0).view.dmaCredit
abbrev NR : ℕ := (rSlot 0).view.dmaCredit

abbrev FlI (w t : ℕ) : sProp 𝕄 :=
  Transfers.Flight countersEmb (thr d L) (.dma (semI t)) (default : HIx 1) NI iprop(SFull d L I w t ∗ IWin d L I w)
abbrev FlG (q : PosShare TreeShare) (w t : ℕ) : sProp 𝕄 :=
  Transfers.Flight countersEmb (thr d L) (.dma semG) (default : HIx 1) NR iprop(RFull d L X I w t ∗ XSh d L X q ∗ SSl (F := F) d L t)
abbrev FlO (w t : ℕ) : sProp 𝕄 :=
  Transfers.Flight countersEmb (thr d L) (.dma (semO t)) (default : HIx 1) NR
    iprop(OWin d L (gath X I) w ∗ RSl (F := F) d L t)

local notation "WP" => wp frame (wpE (defs₀ (F := F)) 𝒱₀ (thr d L) none) Set.univ

/-! ## The fetch of a window -/

theorem fetch {w t : ℕ} {o o' m} (ho : o = iOff L w) (ho' : o' = sOff t) (hm : m = mOff t) {h h' h''}
    {hsrc : (iAt o h).view.WordExact} {hdst : (sAt o' h').view.WordExact}
    {Q : PUnit → sProp 𝕄} :
    iprop(IWin d L I w ∗ SSl (F := F) d L t ∗ Zero (F := F) d L (semI t))
      ⊢ iprop((FlI d L I w t -∗ Q ⟨⟩)
          -∗ WP (Prog.lift (.enqueueDma (iAt o h) (.here (sAt o' h')) (.dma (semAt cc0_scoped1 m h'')) hsrc hdst ⟨Or.inl rfl, trivial⟩)) Q) := by
  subst ho ho' hm
  iintro ⟨Hi, ⟨%f, Hs⟩, Hz⟩ Hk
  iapply (Transfers.wp_dmaLocal countersEmb 𝒱₀ (thr d L) none (default : HIx 1) NI rfl (by decide) (Finset.Subset.refl _)) $$ [Hi Hs Hz]
  · isplitl [Hi]; · iexact Hi
    isplitl [Hs]; · iexact Hs
    iexact Hz
  iintro Hfl
  rw [wp_ret]; imodintro
  iapply Hk
  iapply (Transfers.Flight_mono countersEmb (thr d L) ?_) $$ Hfl
  iintro ⟨Hs, Hi⟩
  isplitl [Hs]
  · iexists _
    isplitr
    swap; · iexact Hs
    ipureintro
    intro x
    rw [View.read_write_univ]
    show (iWin L w).view.read (Elt F) I x = _
    rw [← emb_iWin]
    exact (View.read_apply _ _).trans (cast_eq _ _)
  · iexact Hi

theorem fetchWait {w t : ℕ} {o o' m} (ho : o = iOff L w) (ho' : o' = sOff t) (hm : m = mOff t) {h h' h''}
    {hsrc : (iAt o h).view.WordExact} {hdst : (sAt o' h').view.WordExact}
    {O : CellTallies nD τ sig (HIx 1)} {W : Waits sig (HIx 1)} {Q : PUnit → sProp 𝕄} :
    iprop(FlI d L I w t ∗ owes (thr d L) O W ∗ MayWait (thr d L) (.dma (semI t)) (default : HIx 1) O)
      ⊢ iprop((iprop((SFull d L I w t ∗ IWin d L I w) ∗ Zero (F := F) d L (semI t)
                ∗ owes (thr d L) O (insert (SemLoc.dma (semI t), (default : HIx 1)) W)) -∗ Q ⟨⟩)
          -∗ WP (Prog.lift (.waitDma2 (semAt cc0_scoped1 m h'') (iAt o h) (sAt o' h') hsrc hdst)) Q) := by
  subst ho ho' hm
  iintro H Hk
  iapply (Transfers.wp_waitLocalO countersEmb 𝒱₀ (thr d L) none (default : HIx 1) (rfl : (sSlot t).view.dmaCredit = NI)) $$ H
  iintro H
  rw [wp_ret]; imodintro
  iapply Hk; iexact H

/-! ## The gather of a window's rows -/

theorem gath_idx (hg : S786432x2x128.Gathers 0 S128x2x128) (r : Fin (S128x2x128.size hg.axis') → Fin (S786432x2x128.size hg.axis)) (y : S128x2x128.Idx) :
    hg.idx r y = (ix3 (r (y hg.axis')) (y 1) (y 2) : S786432x2x128.Idx) := by
  funext a
  match a with
  | ⟨0, _⟩ => exact hg.idx_axis r y
  | ⟨1, _⟩ => apply Fin.ext; exact hg.idx_of_ne r y ⟨1, by decide⟩ (by decide)
  | ⟨2, _⟩ => apply Fin.ext; exact hg.idx_of_ne r y ⟨2, by decide⟩ (by decide)

theorem read_lSlot (t : ℕ) (f : Buf (Elt F) ((sSlot t).view.loc (thr d L))) (x : S128.Idx) :
    (lSlot t).view.read (Elt F) f x = (sSlot t).view.read (Elt F) f (ix2 (0 : Fin 1) (x 0)) := by
  refine ((View.read_apply _ _).trans (cast_eq _ _)).trans (Eq.trans ?_ ((View.read_apply _ _).trans (cast_eq _ _)).symm)
  exact congrArg f (emb_lSlot t x)

theorem inRows_lSlot (hI : InRows I) {w t : ℕ} {f : Buf (Elt F) ((sSlot t).view.loc (thr d L))}
    (hf : ∀ x : S1x128.Idx, (sSlot t).view.read (Elt F) f x = I (ix2 (0 : Fin 1) (wrow L w (x 1)))) (x : S128.Idx) :
    ((lSlot t).view.read (Elt F) f x).toNat < 786432 := by
  rw [read_lSlot, hf]; exact hI _

/-- The rows the stream lands, at row `y 0` of the slot: the table's row that word `y 0` of the window names. -/
theorem gath_payload (hI : InRows I) (hg : S786432x2x128.Gathers 0 S128x2x128) (hn : S128.numel = S128x2x128.size hg.axis') {w t : ℕ}
    {f : Buf (Elt F) ((sSlot t).view.loc (thr d L))}
    (hf : ∀ x : S1x128.Idx, (sSlot t).view.read (Elt F) f x = I (ix2 (0 : Fin 1) (wrow L w (x 1))))
    (hin : ∀ x, ((lSlot t).view.read (Elt F) f x).toNat < S786432x2x128.size hg.axis) (y : S128x2x128.Idx) :
    SparseCore.gatherPayload hg (xAll.view.read (Elt F) X) (SparseCore.rows ((lSlot t).view.read (Elt F) f) hn hin) y
      = gath X I (ix3 (wrow L w (y 0)) (y 1) (y 2)) := by
  have hx : ∀ j, xAll.view.read (Elt F) X j = X j := fun j =>
    ((View.read_apply _ _).trans (cast_eq _ _)).trans (congrArg X (emb_xAll j))
  show xAll.view.read (Elt F) X (hg.idx _ y) = _
  rw [hx, gath_idx]
  show X _ = X _
  congr 1
  have hr : (SparseCore.rows ((lSlot t).view.read (Elt F) f) hn hin (y hg.axis') : Fin 786432) = rowAt I (wrow L w (y 0)) := by
    apply Fin.ext
    show ((lSlot t).view.read (Elt F) f _).toNat = (I (ix2 (0 : Fin 1) (wrow L w (y 0)))).toNat % 786432
    rw [Nat.mod_eq_of_lt (hI _), read_lSlot, hf]
    congr 3
    show wrow L w _ = wrow L w _
    congr 1
    apply Fin.ext
    have := Shape.rowMajor_val_one (S128.rowMajor.symm ((y hg.axis').cast hn.symm))
    rw [Equiv.apply_symm_apply] at this
    exact this.symm
  exact congrArg (fun r : Fin 786432 => (ix3 r (y 1) (y 2) : S786432x2x128.Idx)) hr

theorem gather {q : PosShare TreeShare} {w t : ℕ} (hI : InRows I) {o o'} (ho : o = sOff t) (ho' : o' = rOff t) {h h'} {hn hp he hs hr}
    {hsrc : xAll.view.WordExact} {Q : PUnit → sProp 𝕄} :
    iprop(XSh d L X q ∗ RSl (F := F) d L t ∗ SFull d L I w t ∗ Zero (F := F) d L semG)
      ⊢ iprop((FlG d L X I q w t -∗ Q ⟨⟩)
          -∗ WP (SparseCore.enqueueIndirectGather hp xAll (rAt o' h') gathers_S786432x2x128_S128x2x128 (lAt o h) hn semG hsrc he hs hr) Q) := by
  subst ho ho'
  iintro ⟨Hx, ⟨%fr, Hr⟩, ⟨%f, %hf, Hs⟩, Hz⟩ Hk
  have hin := inRows_lSlot d L I hI hf
  have hN : ∀ hg : S786432x2x128.Gathers 0 S128x2x128, ∑ j, ((rSlot t).slice (S128x2x128.rowRect hg.axis' j) (S128x2x128.stride_rowRect hg.axis' j)).view.dmaCredit
      = NR := fun hg => (show _ = ∑ j, ((rSlot 0).slice (S128x2x128.rowRect hg.axis' j) (S128x2x128.stride_rowRect hg.axis' j)).view.dmaCredit from rfl).trans
        (by decide +kernel +revert)
  have hR := SparseCore.wp_indirectGatherLocal (EC := countersEmb) (U := UU) (Name := ℕ) 𝒱₀ (thr d L) none (src := xAll) (dst := rSlot t) (offs := lSlot t) (defs := defs₀ (F := F))
      (hg := gathers_S786432x2x128_S128x2x128) (hn := hn) (sem := semG) (hp := hp) (hsrc := hsrc) (he := he) (hsp := hs) (hr := hr)
      (k := fun _ => .ret ⟨⟩) (Q := Q) (q := q) (qo := fullShare) (fs := X) (fd := fr) (fo := f)
      (default : HIx 1) NR (hN _) (by decide) hin
  rw [set_xAll, set_lSlot] at hR
  iapply hR $$ [Hx Hr Hs Hz]
  · isplitl [Hx]; · iexact Hx
    isplitl [Hr]; · iexact Hr
    isplitl [Hs]; · iexact Hs
    iexact Hz
  iintro Hfl
  rw [wp_ret]; imodintro
  iapply Hk
  iapply (Transfers.Flight_mono countersEmb (thr d L) ?_) $$ Hfl
  iintro ⟨Hr, Hx, Hs⟩
  isplitl [Hr]
  · iexists _
    isplitr
    swap; · iexact Hr
    ipureintro
    intro y
    rw [View.read_write_univ]
    exact gath_payload d L X I hI gathers_S786432x2x128_S128x2x128 hn hf hin y
  isplitl [Hx]; · iexact Hx
  iexists _; iexact Hs

theorem gatherWait {q : PosShare TreeShare} {w t : ℕ} {o'} (ho' : o' = rOff t) {h'}
    {hsrc : xAll.view.WordExact} {hdst : (rAt o' h').view.WordExact}
    {O : CellTallies nD τ sig (HIx 1)} {W : Waits sig (HIx 1)} {Q : PUnit → sProp 𝕄} :
    iprop(FlG d L X I q w t ∗ owes (thr d L) O W ∗ MayWait (thr d L) (.dma semG) (default : HIx 1) O)
      ⊢ iprop((iprop((RFull d L X I w t ∗ XSh d L X q ∗ SSl (F := F) d L t) ∗ Zero (F := F) d L semG
                ∗ owes (thr d L) O (insert (SemLoc.dma semG, (default : HIx 1)) W)) -∗ Q ⟨⟩)
          -∗ WP (SparseCore.waitIndirectGather semG xAll (rAt o' h') hsrc hdst) Q) := by
  subst ho'
  iintro H Hk
  iapply (Transfers.wp_waitLocalO countersEmb 𝒱₀ (thr d L) none (default : HIx 1) (rfl : (rSlot t).view.dmaCredit = NR)) $$ H
  iintro H
  rw [wp_ret]; imodintro
  iapply Hk; iexact H

/-! ## The write-out -/

theorem putOut {w t : ℕ} {O0 : Buf (Elt F) (oLoc d)} {o o' m} (ho : o = oOff L w) (ho' : o' = rOff t) (hm : m = mOff t) {h h' h''}
    {hsrc : (rAt o' h').view.WordExact} {hdst : (oAt o h).view.WordExact} {Q : PUnit → sProp 𝕄} :
    iprop(RFull d L X I w t ∗ OWin d L O0 w ∗ Zero (F := F) d L (semO t))
      ⊢ iprop((FlO d L X I w t -∗ Q ⟨⟩)
          -∗ WP (Prog.lift (.enqueueDma (rAt o' h') (.here (oAt o h)) (.dma (semAt cc0_scoped3 m h'')) hsrc hdst ⟨Or.inl rfl, trivial⟩)) Q) := by
  subst ho ho' hm
  iintro ⟨⟨%f, %hf, Hr⟩, Ho, Hz⟩ Hk
  iapply (Transfers.wp_dmaLocal countersEmb 𝒱₀ (thr d L) none (default : HIx 1) NR rfl (by decide) (Finset.Subset.refl _)) $$ [Hr Ho Hz]
  · isplitl [Hr]; · iexact Hr
    isplitl [Ho]; · iexact Ho
    iexact Hz
  iintro Hfl
  rw [wp_ret]; imodintro
  iapply Hk
  iapply (Transfers.Flight_mono countersEmb (thr d L) ?_) $$ Hfl
  iintro ⟨Ho, Hr⟩
  isplitl [Ho]
  · iapply (Entails.of_eq (pointsTo_congr ?_)) $$ Ho
    intro i hi
    obtain ⟨y, -, rfl⟩ := Finset.mem_map.mp hi
    refine (View.write_emb_of_mem _ _ (Finset.mem_univ _)).trans ?_
    refine (cast_eq _ _).trans ?_
    refine (hf y).trans ?_
    rw [emb_oWin]; rfl
  iexists _; iexact Hr

theorem putWait {w t : ℕ} {o o' m} (ho : o = oOff L w) (ho' : o' = rOff t) (hm : m = mOff t) {h h' h''}
    {hsrc : (rAt o' h').view.WordExact} {hdst : (oAt o h).view.WordExact}
    {O : CellTallies nD τ sig (HIx 1)} {W : Waits sig (HIx 1)} {Q : PUnit → sProp 𝕄} :
    iprop(FlO d L X I w t ∗ owes (thr d L) O W ∗ MayWait (thr d L) (.dma (semO t)) (default : HIx 1) O)
      ⊢ iprop((iprop((OWin d L (gath X I) w ∗ RSl (F := F) d L t) ∗ Zero (F := F) d L (semO t)
                ∗ owes (thr d L) O (insert (SemLoc.dma (semO t), (default : HIx 1)) W)) -∗ Q ⟨⟩)
          -∗ WP (Prog.lift (.waitDma2 (semAt cc0_scoped3 m h'') (rAt o' h') (oAt o h) hsrc hdst)) Q) := by
  subst ho ho' hm
  iintro H Hk
  iapply (Transfers.wp_waitLocalO countersEmb 𝒱₀ (thr d L) none (default : HIx 1) (rfl : (oWin L w).view.dmaCredit = NR)) $$ H
  iintro H
  rw [wp_ret]; imodintro
  iapply Hk; iexact H

end Cert.Proof.Gather

end
-- ==== Proof.Trip.lean ====
/-
  One trip of the pipeline's loop. At the start of trip `t` the fetch of window `t` is in flight into its slot, the
  write-out of window `t - 1` is in flight out of its slot, the other slot of each buffer is free; the trip issues the
  next fetch, waits for its own, gathers, issues its write-out and waits for the one before.
-/
module

public import proofs.«01_k».proof.Proof.Steps

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S786432x2x128 EltTy.i32)
local notation "iV" => (Memref.whole Cert.KernelIdeal.main_v1_scv : Memref Cert.KernelIdeal.sig Kind.scVector Space.hbm Cert.KernelIdeal.S1x131072 EltTy.i32)
local notation "oV" => (Memref.whole Cert.KernelIdeal.main_v2_scv : Memref Cert.KernelIdeal.sig Kind.scVector Space.hbm Cert.KernelIdeal.S131072x2x128 EltTy.i32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.i32)

variable (d : Dev nD) (L : grid0.Coords)
variable (X : Buf (Elt F) (xLoc d)) (I : Buf (Elt F) (iLoc d)) (O0 : Buf (Elt F) (oLoc d))

def win (t : ℕ) : Fin 32 := ⟨t % 32, Nat.mod_lt _ (by decide)⟩
theorem win_val {t : ℕ} (h : t < 32) : (win t).val = t := Nat.mod_eq_of_lt h
theorem win_ne {t u : ℕ} (ht : t < 32) (hu : u < 32) (h : t ≠ u) : win t ≠ win u := fun e => h (by
  rw [← win_val ht, ← win_val hu, e])

/-! ## The index side -/

/-- What is held of the index list and its two slots at the start of trip `t`, -/
def InS (t : ℕ) : sProp 𝕄 :=
  if t < 32 then
    iprop(FlI d L I t t ∗ SSl (F := F) d L (t + 1) ∗ Zero (F := F) d L (semI (t + 1))
      ∗ bigSep (Finset.univ.erase (win t)) fun w => IWin d L I w.val)
  else
    iprop(SSl (F := F) d L t ∗ SSl (F := F) d L (t + 1) ∗ Zero (F := F) d L (semI t) ∗ Zero (F := F) d L (semI (t + 1))
      ∗ bigSep Finset.univ fun w : Fin 32 => IWin d L I w.val)
/-- and what is held beside its own fetch once the next fetch is issued. -/
def InNext (t : ℕ) : sProp 𝕄 :=
  if t + 1 < 32 then
    iprop(FlI d L I (t + 1) (t + 1) ∗ bigSep ((Finset.univ.erase (win t)).erase (win (t + 1))) fun w => IWin d L I w.val)
  else
    iprop(SSl (F := F) d L (t + 1) ∗ Zero (F := F) d L (semI (t + 1)) ∗ bigSep (Finset.univ.erase (win t)) fun w => IWin d L I w.val)

theorem SSl_congr {t u : ℕ} (h : t % 2 = u % 2) : SSl (F := F) d L t = SSl (F := F) d L u :=
  congrArg (fun M : Memref sig .scVector .vmem S1x128 .i32 =>
    (iprop(∃ f, M.view.loc (thr d L) ↦[M.view.set]{fullShare} f) : sProp 𝕄)) (sSlot_congr h)
theorem RSl_congr {t u : ℕ} (h : t % 2 = u % 2) : RSl (F := F) d L t = RSl (F := F) d L u :=
  congrArg (fun M : Memref sig .scVector .vmem S128x2x128 .i32 =>
    (iprop(∃ f, M.view.loc (thr d L) ↦[M.view.set]{fullShare} f) : sProp 𝕄)) (rSlot_congr h)

theorem in_step {t : ℕ} (ht : t < 32) :
    iprop(InNext d L I t ∗ SSl (F := F) d L t ∗ Zero (F := F) d L (semI t) ∗ IWin d L I t) ⊢ InS d L I (t + 1) := by
  unfold InNext InS
  by_cases h : t + 1 < 32
  · rw [if_pos h, if_pos h, SSl_congr d L (t := t + 1 + 1) (u := t) (by omega), semI_congr (t := t + 1 + 1) (u := t) (by omega),
      SparseCore.bigSep_erase' (s := Finset.univ.erase (win (t + 1))) (i := win t)
        (Finset.mem_erase.mpr ⟨win_ne ht h (by omega), Finset.mem_univ _⟩), Finset.erase_right_comm, win_val ht]
    iintro ⟨⟨Hf, Hr⟩, Hs, Hz, Hi⟩
    isplitl [Hf]; · iexact Hf
    isplitl [Hs]; · iexact Hs
    isplitl [Hz]; · iexact Hz
    isplitl [Hi]; · iexact Hi
    iexact Hr
  · rw [if_neg h, if_neg h, SSl_congr d L (t := t + 1 + 1) (u := t) (by omega), semI_congr (t := t + 1 + 1) (u := t) (by omega),
      SparseCore.bigSep_erase' (s := Finset.univ) (i := win t) (Finset.mem_univ _), win_val ht]
    iintro ⟨⟨Hf, Hf', Hr⟩, Hs, Hz, Hi⟩
    isplitl [Hf]; · iexact Hf
    isplitl [Hs]; · iexact Hs
    isplitl [Hf']; · iexact Hf'
    isplitl [Hz]; · iexact Hz
    isplitl [Hi]; · iexact Hi
    iexact Hr

theorem in_take {t : ℕ} (ht : t + 1 < 32) :
    (bigSep (Finset.univ.erase (win t)) fun w => IWin d L I w.val : sProp 𝕄)
      ⊢ iprop(IWin d L I (t + 1) ∗ bigSep ((Finset.univ.erase (win t)).erase (win (t + 1))) fun w => IWin d L I w.val) := by
  rw [SparseCore.bigSep_erase' (s := Finset.univ.erase (win t)) (i := win (t + 1))
    (Finset.mem_erase.mpr ⟨win_ne (by omega) (by omega) (by omega), Finset.mem_univ _⟩), win_val ht]

/-! ## The row side -/

/-- Window `w` of the output once the windows below `k` are written. -/
abbrev OPiece (k : ℕ) (w : Fin 32) : sProp 𝕄 := OWin d L (if w.val < k then gath X I else O0) w.val

/-- What is held of the output and its two slots at the start of trip `t`, beside its own slot; -/
def OutRest (t : ℕ) : sProp 𝕄 :=
  match t with
  | 0 => iprop(RSl (F := F) d L 1 ∗ Zero (F := F) d L (semO 1) ∗ bigSep Finset.univ fun w : Fin 32 => OWin d L O0 w.val)
  | k + 1 => iprop(FlO d L X I k k ∗ bigSep (Finset.univ.erase (win k)) fun w => OPiece d L X I O0 k w)
/-- and with its own window taken out. -/
def OutMid (t : ℕ) : sProp 𝕄 :=
  match t with
  | 0 => iprop(RSl (F := F) d L 1 ∗ Zero (F := F) d L (semO 1) ∗ bigSep (Finset.univ.erase (win 0)) fun w : Fin 32 => OWin d L O0 w.val)
  | k + 1 => iprop(FlO d L X I k k ∗ bigSep ((Finset.univ.erase (win k)).erase (win (k + 1))) fun w => OPiece d L X I O0 k w)
def OutS (t : ℕ) : sProp 𝕄 := iprop(RSl (F := F) d L t ∗ Zero (F := F) d L (semO t) ∗ OutRest d L X I O0 t)

theorem out_take {t : ℕ} (ht : t < 32) :
    OutRest d L X I O0 t ⊢ iprop(OWin d L O0 t ∗ OutMid d L X I O0 t) := by
  match t, ht with
  | 0, _ =>
    unfold OutRest OutMid
    rw [SparseCore.bigSep_erase' (s := Finset.univ) (i := win 0) (Finset.mem_univ _), win_val (by omega)]
    iintro ⟨Hr, Hz, Ho, Hrest⟩
    isplitl [Ho]; · iexact Ho
    isplitl [Hr]; · iexact Hr
    isplitl [Hz]; · iexact Hz
    iexact Hrest
  | k + 1, ht =>
    unfold OutRest OutMid
    simp only []
    rw [SparseCore.bigSep_erase' (s := Finset.univ.erase (win k)) (i := win (k + 1))
      (Finset.mem_erase.mpr ⟨win_ne ht (by omega) (by omega), Finset.mem_univ _⟩), OPiece, win_val ht, if_neg (by omega)]
    iintro ⟨Hf, Ho, Hrest⟩
    isplitl [Ho]; · iexact Ho
    isplitl [Hf]; · iexact Hf
    iexact Hrest

theorem out_step_zero : iprop(OutMid d L X I O0 0 ∗ FlO d L X I 0 0) ⊢ OutS d L X I O0 1 := by
  unfold OutS OutRest OutMid
  simp only [OPiece, Nat.not_lt_zero, if_false]
  iintro ⟨⟨Hr, Hz, Ho⟩, Hf⟩
  isplitl [Hr]; · iexact Hr
  isplitl [Hz]; · iexact Hz
  isplitl [Hf]; · iexact Hf
  iexact Ho

theorem out_step_succ {k : ℕ} (hk : k + 1 < 32) :
    iprop((OWin d L (gath X I) k ∗ RSl (F := F) d L k) ∗ Zero (F := F) d L (semO k)
        ∗ (bigSep ((Finset.univ.erase (win k)).erase (win (k + 1))) fun w => OPiece d L X I O0 k w) ∗ FlO d L X I (k + 1) (k + 1))
      ⊢ OutS d L X I O0 (k + 1 + 1) := by
  unfold OutS OutRest
  simp only []
  rw [RSl_congr d L (t := k + 1 + 1) (u := k) (by omega), semO_congr (t := k + 1 + 1) (u := k) (by omega),
    SparseCore.bigSep_erase' (s := Finset.univ.erase (win (k + 1))) (i := win k)
      (Finset.mem_erase.mpr ⟨win_ne (by omega) hk (by omega), Finset.mem_univ _⟩), Finset.erase_right_comm,
    show OPiece d L X I O0 (k + 1) (win k) = OWin d L (gath X I) k by rw [OPiece, win_val (by omega), if_pos (by omega)],
    bigSep_congr (s := (Finset.univ.erase (win (k + 1))).erase (win k)) (Φ := fun w => OPiece d L X I O0 k w)
      (Ψ := fun w => OPiece d L X I O0 (k + 1) w) fun w hw => by
        have h1 : w ≠ win k := (Finset.mem_erase.mp hw).1
        have h2 : w.val ≠ k := fun e => h1 (Fin.ext (e.trans (win_val (by omega)).symm))
        have h3 : (w.val < k) = (w.val < k + 1) := propext ⟨fun h => by omega, fun h => by omega⟩
        simp only [OPiece, h3]]
  iintro ⟨⟨Ho, Hr⟩, Hz, Hrest, Hf⟩
  isplitl [Hr]; · iexact Hr
  isplitl [Hz]; · iexact Hz
  isplitl [Hf]; · iexact Hf
  isplitl [Ho]; · iexact Ho
  iexact Hrest

/-! ## The trip -/

/-- What the core owes, with the waits recorded so far. -/
def Ow (O : CellTallies nD τ sig (HIx 1)) (W : Waits sig (HIx 1)) : sProp 𝕄 :=
  iprop(∃ W', ⌜∀ p ∈ W', p ∈ W ∨ p.2 = none⌝ ∗ owes (thr d L) O W')

theorem Ow_open {O : CellTallies nD τ sig (HIx 1)} {W : Waits sig (HIx 1)} :
    Ow (F := F) d L O W ⊢ iprop(∃ W', ⌜∀ p ∈ W', p ∈ W ∨ p.2 = none⌝ ∗ owes (thr d L) O W') := .rfl

theorem Ow_insert {O : CellTallies nD τ sig (HIx 1)} {W W' : Waits sig (HIx 1)} (h : ∀ p ∈ W', p ∈ W ∨ p.2 = none) (s : SemLoc sig) :
    (owes (thr d L) O (insert (s, (default : HIx 1)) W') : sProp 𝕄) ⊢ Ow d L O W := by
  unfold Ow
  iintro H
  iexists _
  isplitr
  swap; · iexact H
  ipureintro
  intro p hp
  rcases Finset.mem_insert.mp hp with hp | hp
  · exact .inr (hp ▸ rfl)
  · exact h p hp

def Inv (q : PosShare TreeShare) (O : CellTallies nD τ sig (HIx 1)) (W : Waits sig (HIx 1)) (t : ℕ) (acc : Carry) : sProp 𝕄 :=
  iprop(⌜acc = carry t⌝ ∗ Transfers.MayWaits (thr d L) (default : HIx 1) O ∗ XSh d L X q ∗ Zero (F := F) d L semG ∗ Ow (F := F) d L O W ∗ InS d L I t ∗ OutS d L X I O0 t)

local notation "WP" => wp frame (wpE (defs₀ (F := F)) 𝒱₀ (thr d L) none) Set.univ

/-- A side condition that holds. -/
theorem assumed {p : Prop} {dc : Decidable p} (h : p) {Q : PLift p → sProp 𝕄} : Q ⟨h⟩ ⊢ WP (Prog.lift (.assume p dc)) Q := by
  have h1 := wp_assume_of (Ix := HIx 1) (Name := ℕ) (U := UU) (Lvl := ℕ) (defs := defs₀ (F := F)) 𝒱₀ (thr d L) none Set.univ (P := p) (d := dc) (k := fun x => .ret x) (Q := Q) h
  rw [wp_ret] at h1
  iintro H
  iapply (Entails.of_eq h1.symm)
  imodintro; iexact H

/-- The next fetch, issued while a window is left. -/
theorem ifFetch {α : Type} {t : ℕ} (ht : t < 32) {c : Prop} [Decidable c] (hc : c ↔ t < 31) {o o' m} (ho : t < 31 → o = iOff L (t + 1))
    (ho' : o' = sOff (t + 1)) (hm : m = mOff (t + 1))
    {h : c → ∀ a, o a + S1x128.size a ≤ S1x131072.size a} {h' : c → ∀ a, o' a + S1x1x128.size a ≤ S2x1x128.size a} {h'' : c → ∀ a, m a + S1.size a ≤ S2.size a}
    {hsrc : ∀ x : c, (iAt o (h x)).view.WordExact} {hdst : ∀ x : c, (sAt o' (h' x)).view.WordExact} {r : α} {Q : α → sProp 𝕄} :
    InS d L I t ⊢ iprop((iprop(FlI d L I t t ∗ InNext d L I t) -∗ Q r)
      -∗ WP (if x : c then (do
          Prog.lift (.enqueueDma (iAt o (h x)) (.here (sAt o' (h' x))) (.dma (semAt cc0_scoped1 m (h'' x))) (hsrc x) (hdst x) ⟨Or.inl rfl, trivial⟩)
          pure r) else pure r) Q) := by
  unfold InS InNext
  rw [if_pos ht]
  iintro ⟨Hf, Hs, Hz, Hr⟩ Hk
  by_cases hx : t < 31
  · rw [dif_pos (hc.mpr hx), if_pos (show t + 1 < 32 by omega), wp_bind]
    ihave Hr := (in_take d L I (t := t) (by omega)) $$ Hr
    icases Hr with ⟨Hi, Hr⟩
    iapply (fetch d L I (ho hx) ho' hm) $$ [Hi Hs Hz]
    · isplitl [Hi]; · iexact Hi
      isplitl [Hs]; · iexact Hs
      iexact Hz
    iintro Hf'
    rw [wp_pure]; imodintro
    iapply Hk
    isplitl [Hf]; · iexact Hf
    isplitl [Hf']; · iexact Hf'
    iexact Hr
  · rw [dif_neg (fun h => hx (hc.mp h)), if_neg (show ¬ t + 1 < 32 by omega), wp_pure]
    imodintro
    iapply Hk
    isplitl [Hf]; · iexact Hf
    isplitl [Hs]; · iexact Hs
    isplitl [Hz]; · iexact Hz
    iexact Hr

/-- The write-out before, waited for when there is one. -/
theorem ifWait {α : Type} {t : ℕ} (ht : t < 32) {c : Prop} [Decidable c] (hc : c ↔ 0 < t) {o o' m} (ho : 0 < t → o = oOff L (t - 1))
    (ho' : o' = rOff (t - 1)) (hm : m = mOff (t - 1))
    {h : c → ∀ a, o a + S128x2x128.size a ≤ S131072x2x128.size a} {h' : c → ∀ a, o' a + S1x128x2x128.size a ≤ S2x128x2x128.size a} {h'' : c → ∀ a, m a + S1.size a ≤ S2.size a}
    {hsrc : ∀ x : c, (rAt o' (h' x)).view.WordExact} {hdst : ∀ x : c, (oAt o (h x)).view.WordExact} {r : α}
    {O : CellTallies nD τ sig (HIx 1)} {W : Waits sig (HIx 1)} {Q : α → sProp 𝕄} :
    iprop(Transfers.MayWaits (thr d L) (default : HIx 1) O ∗ Ow (F := F) d L O W ∗ OutMid d L X I O0 t ∗ FlO d L X I t t)
      ⊢ iprop((iprop(Ow (F := F) d L O W ∗ OutS d L X I O0 (t + 1)) -∗ Q r)
        -∗ WP (if x : c then (do
          Prog.lift (.waitDma2 (semAt cc0_scoped3 m (h'' x)) (rAt o' (h' x)) (oAt o (h x)) (hsrc x) (hdst x))
          pure r) else pure r) Q) := by
  iintro ⟨Hmw, HO, Hm, Hf⟩ Hk
  match t, ht with
  | 0, _ =>
    rw [dif_neg (fun h => absurd (hc.mp h) (lt_irrefl _)), wp_pure]
    imodintro
    iapply Hk
    isplitl [HO]; · iexact HO
    iapply (out_step_zero d L X I O0)
    isplitl [Hm]; · iexact Hm
    iexact Hf
  | k + 1, ht =>
    have hx : 0 < k + 1 := by omega
    rw [dif_pos (hc.mpr hx), wp_bind]
    ihave Hm := (show OutMid d L X I O0 (k + 1) ⊢ iprop(FlO d L X I k k ∗ bigSep ((Finset.univ.erase (win k)).erase (win (k + 1))) fun w => OPiece d L X I O0 k w) from .rfl) $$ Hm
    icases Hm with ⟨Hp, Hr⟩
    ihave HO := (Ow_open (F := F) d L) $$ HO
    icases HO with ⟨%W', %hW, HO⟩
    iapply (putWait d L X I (w := k) (t := k) (ho hx) ho' hm) $$ [Hp HO Hmw]
    · isplitl [Hp]; · iexact Hp
      isplitl [HO]; · iexact HO
      iapply (Transfers.MayWaits.elim (SemLoc.dma (semO k))) $$ Hmw
    iintro ⟨Hor, Hz, HO⟩
    rw [wp_pure]; imodintro
    iapply Hk
    isplitl [HO]
    · iapply (Ow_insert (F := F) d L hW) $$ HO
    iapply (out_step_succ d L X I O0 ht)
    isplitl [Hor]; · iexact Hor
    isplitl [Hz]; · iexact Hz
    isplitl [Hr]; · iexact Hr
    iexact Hf

/-- The tile's number times the windows of a tile, as the kernel counts them. -/
abbrev tileNo (L : grid0.Coords) : BitVec 32 :=
  Scalar.muli (Scalar.addi (Scalar.addi 0#32 (Scalar.muli (BitVec.ofNat 32 (L 1).val) 1#32)) (Scalar.muli (BitVec.ofNat 32 (L 0).val) 16#32)) 32#32

/-- The body's own arithmetic takes the carried values of trip `t` to those of trip `t + 1`. -/
theorem carry_next : ∀ (L : grid0.Coords) (t : Fin k0_t1_loop.trips),
    (Scalar.select
      (Scalar.andi
        (Scalar.andi
          (Scalar.cmpi CmpIPredicate.ne (Scalar.addi (c10 ↑t) (tileNo L))
            (Scalar.addi
              (Scalar.select
                (Scalar.cmpi CmpIPredicate.eq (Scalar.select (1#1) (Scalar.addi (c10 ↑t) 1#32) (c10 ↑t)) 32#32)
                (0#32) (Scalar.select (1#1) (Scalar.addi (c10 ↑t) 1#32) (c10 ↑t)))
              (tileNo L)))
          (Scalar.xori (Scalar.cmpi CmpIPredicate.sge (Scf.iv 0#32 1#32 ↑t) 31#32) 1#1))
        1#1)
      (Scalar.addi (c6 ↑t) 1#32) (c6 ↑t),
    Scalar.select
      (Scalar.ori
        (Scalar.cmpi CmpIPredicate.ne (Scalar.addi (c10 ↑t) (tileNo L))
          (Scalar.addi
            (Scalar.select
              (Scalar.cmpi CmpIPredicate.eq (Scalar.select (1#1) (Scalar.addi (c10 ↑t) 1#32) (c10 ↑t)) 32#32)
              (0#32) (Scalar.select (1#1) (Scalar.addi (c10 ↑t) 1#32) (c10 ↑t)))
            (tileNo L)))
        (Scalar.cmpi CmpIPredicate.eq (Scf.iv 0#32 1#32 ↑t) 31#32))
      (Scalar.addi (c7 ↑t) 1#32) (c7 ↑t),
    Scalar.select
      (Scalar.andi
        (Scalar.ori
          (Scalar.cmpi CmpIPredicate.ne (Scalar.addi (c10 ↑t) (tileNo L))
            (Scalar.addi
              (Scalar.select
                (Scalar.cmpi CmpIPredicate.eq (Scalar.select (1#1) (Scalar.addi (c10 ↑t) 1#32) (c10 ↑t)) 32#32)
                (0#32) (Scalar.select (1#1) (Scalar.addi (c10 ↑t) 1#32) (c10 ↑t)))
              (tileNo L)))
          (Scalar.cmpi CmpIPredicate.eq (Scf.iv 0#32 1#32 ↑t) 31#32))
        1#1)
      (Scalar.addi (c7 ↑t) 1#32) (c7 ↑t),
    Scalar.select
      (Scalar.andi
        (Scalar.andi
          (Scalar.cmpi CmpIPredicate.ne (Scalar.addi (c10 ↑t) (tileNo L))
            (Scalar.addi
              (Scalar.select
                (Scalar.cmpi CmpIPredicate.eq (Scalar.select (1#1) (Scalar.subi (c10 ↑t) 1#32) (c10 ↑t))
                  4294967295#32)
                (31#32) (Scalar.select (1#1) (Scalar.subi (c10 ↑t) 1#32) (c10 ↑t)))
              (tileNo L)))
          (Scalar.xori (Scalar.cmpi CmpIPredicate.eq (Scf.iv 0#32 1#32 ↑t) 0#32) 1#1))
        1#1)
      (Scalar.addi (c9 ↑t) 1#32) (c9 ↑t),
    Scalar.select (Scalar.cmpi CmpIPredicate.eq (Scalar.select (1#1) (Scalar.addi (c10 ↑t) 1#32) (c10 ↑t)) 32#32)
      (0#32) (Scalar.select (1#1) (Scalar.addi (c10 ↑t) 1#32) (c10 ↑t))) = carry (↑t + 1) := by
  decide +kernel

set_option maxHeartbeats 4000000 in
theorem trip (hI : InRows I) (q : PosShare TreeShare) (O : CellTallies nD τ sig (HIx 1)) (W : Waits sig (HIx 1))
    (t : Fin k0_t1_loop.trips) (acc : Carry) :
    Inv d L X I O0 q O W t acc
      ⊢ WP (k0_t1_body L xV (Memref.isWhole_whole _) iV (Memref.isWhole_whole _) oV (Memref.isWhole_whole _) sV (Memref.isWhole_whole _)
          cc0_scoped1 rV (Memref.isWhole_whole _) cc0_scoped3 cc0_scoped4 (tileNo L) t acc) (Inv d L X I O0 q O W (t.val + 1)) := by
  have ht : t.val < 32 := lt_of_lt_of_eq t.isLt trips_eq
  have hrow : ∀ k, k < 32 → row0 L k = 4096 * (L 1).val + 65536 * (L 0).val + 128 * k := fun k hk => by
    rw [row0, base, Nat.mod_eq_of_lt hk]
  unfold Inv
  iintro ⟨%hacc, #Hmw, Hx, HzG, HO, Hin, Hout⟩
  subst hacc
  unfold k0_t1_body
  simp only [k0_part1_eq_skeleton]
  unfold k0_part1_skel
  simp only [wp_bind]
  iapply (assumed (F := F) d L (chk3_ok t))
  iapply (assumed (F := F) d L (chk2_ok t))
  iapply (assumed (F := F) d L (chk1_ok L t))
  iapply (ifFetch d L I ht (cond1_iff L t) (fun h => by rw [off5_eq L t h, iOff, hrow _ (by omega)]) (off4_eq t) (off6_eq t)) $$ Hin
  iintro ⟨Hf, Hnext⟩
  simp only [k0_part2_eq_skeleton]
  unfold k0_part2_skel
  simp only [dif_pos (cond2_one L t), dif_pos (cond5_one L t), ite_self, wp_bind]
  ihave HO := (Ow_open (F := F) d L) $$ HO
  icases HO with ⟨%W', %hW, HO⟩
  iapply (fetchWait d L I (w := t) (t := t) (by rw [off8_eq L t, iOff, hrow _ ht]) (off7_eq t) (off9_eq t)) $$ [Hf HO]
  · isplitl [Hf]; · iexact Hf
    isplitl [HO]; · iexact HO
    iapply (Transfers.MayWaits.elim (SemLoc.dma (semI t))) $$ Hmw
  iintro ⟨⟨Hs, Hi⟩, Hz, HO⟩
  ihave HO := (Ow_insert (F := F) d L hW _) $$ HO
  ihave Hout := (show OutS d L X I O0 t ⊢ iprop(RSl (F := F) d L t ∗ Zero (F := F) d L (semO t) ∗ OutRest d L X I O0 t) from .rfl) $$ Hout
  icases Hout with ⟨Hr, HzO, Hout⟩
  iapply (gather d L X I (w := t) (t := t) hI (off11_eq t) (off10_eq t)) $$ [Hx Hr Hs HzG]
  · isplitl [Hx]; · iexact Hx
    isplitl [Hr]; · iexact Hr
    isplitl [Hs]; · iexact Hs
    iexact HzG
  iintro Hf
  ihave HO := (Ow_open (F := F) d L) $$ HO
  icases HO with ⟨%W'', %hW', HO⟩
  iapply (gatherWait d L X I (w := t) (t := t) (off10_eq t)) $$ [Hf HO]
  · isplitl [Hf]; · iexact Hf
    isplitl [HO]; · iexact HO
    iapply (Transfers.MayWaits.elim (SemLoc.dma semG)) $$ Hmw
  iintro ⟨⟨Hr, Hx, Hs⟩, HzG, HO⟩
  ihave HO := (Ow_insert (F := F) d L hW' _) $$ HO
  rw [wp_pure]; imodintro
  ihave Hout := (out_take d L X I O0 ht) $$ Hout
  icases Hout with ⟨Ho, Hmid⟩
  iapply (putOut d L X I (w := t) (t := t) (by rw [off13_eq L t, oOff, hrow _ ht]) (off12_eq t) (off14_eq t)) $$ [Hr Ho HzO]
  · isplitl [Hr]; · iexact Hr
    isplitl [Ho]; · iexact Ho
    iexact HzO
  iintro Hf
  iapply (ifWait d L X I O0 ht (cond7_iff L t) (fun h => by rw [off16_eq L t h, oOff, hrow _ (by omega)]) (off15_eq t) (off17_eq t)) $$ [HO Hmid Hf]
  · isplitr; · iexact Hmw
    isplitl [HO]; · iexact HO
    isplitl [Hmid]; · iexact Hmid
    iexact Hf
  iintro ⟨HO, Hout⟩
  isplitr
  · ipureintro
    exact carry_next L t
  isplitr; · iexact Hmw
  isplitl [Hx]; · iexact Hx
  isplitl [HzG]; · iexact HzG
  isplitl [HO]; · iexact HO
  isplitl [Hnext Hs Hz Hi]
  · iapply (in_step d L I ht)
    isplitl [Hnext]; · iexact Hnext
    isplitl [Hs]; · iexact Hs
    isplitl [Hz]; · iexact Hz
    iexact Hi
  iexact Hout

end Cert.Proof.Gather

end
-- ==== Proof.Tile.lean ====
/-
  The task of one vector subcore, whole: the first fetch, the loop, the last wait, from the subcore's windows of the
  index list and of the output, its share of the table, its two buffers and five semaphores.
-/
module

public import proofs.«01_k».proof.Proof.Trip

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S786432x2x128 EltTy.i32)
local notation "iV" => (Memref.whole Cert.KernelIdeal.main_v1_scv : Memref Cert.KernelIdeal.sig Kind.scVector Space.hbm Cert.KernelIdeal.S1x131072 EltTy.i32)
local notation "oV" => (Memref.whole Cert.KernelIdeal.main_v2_scv : Memref Cert.KernelIdeal.sig Kind.scVector Space.hbm Cert.KernelIdeal.S131072x2x128 EltTy.i32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.i32)

variable (d : Dev nD) (L : grid0.Coords)
variable (X : Buf (Elt F) (xLoc d)) (I : Buf (Elt F) (iLoc d)) (O0 : Buf (Elt F) (oLoc d))

/-! ## A buffer is its two slots -/

theorem mem_sSlot {t : ℕ} (i : S2x1x128.Idx) : i ∈ (sSlot t).view.set ↔ (i 0).val = t % 2 := by
  show i ∈ (((View.whole (cc0_scoped0 : Ref sig .scVector)).slice (Rect.unit (s := S2x1x128) (sOff t) S1x1x128.size (sOff_inb t))).reshape S1x128 squeezes_S1x1x128_S1x128.numel_eq).set ↔ _
  rw [View.set_reshape, View.set_slice_whole, Rect.mem_set_unit]
  constructor
  · intro h; have : t % 2 ≤ (i 0).val ∧ (i 0).val < t % 2 + 1 := h 0; omega
  · intro h a
    match a with
    | ⟨0, _⟩ => show t % 2 ≤ (i 0).val ∧ (i 0).val < t % 2 + 1; omega
    | ⟨1, _⟩ => exact ⟨Nat.zero_le _, lt_of_lt_of_eq (i 1).isLt rfl⟩
    | ⟨2, _⟩ => exact ⟨Nat.zero_le _, lt_of_lt_of_eq (i 2).isLt rfl⟩
theorem mem_rSlot {t : ℕ} (i : S2x128x2x128.Idx) : i ∈ (rSlot t).view.set ↔ (i 0).val = t % 2 := by
  show i ∈ (((View.whole (cc0_scoped2 : Ref sig .scVector)).slice (Rect.unit (s := S2x128x2x128) (rOff t) S1x128x2x128.size (rOff_inb t))).reshape S128x2x128 squeezes_S1x128x2x128_S128x2x128.numel_eq).set ↔ _
  rw [View.set_reshape, View.set_slice_whole, Rect.mem_set_unit]
  constructor
  · intro h; have : t % 2 ≤ (i 0).val ∧ (i 0).val < t % 2 + 1 := h 0; omega
  · intro h a
    match a with
    | ⟨0, _⟩ => show t % 2 ≤ (i 0).val ∧ (i 0).val < t % 2 + 1; omega
    | ⟨1, _⟩ => exact ⟨Nat.zero_le _, lt_of_lt_of_eq (i 1).isLt rfl⟩
    | ⟨2, _⟩ => exact ⟨Nat.zero_le _, lt_of_lt_of_eq (i 2).isLt rfl⟩
    | ⟨3, _⟩ => exact ⟨Nat.zero_le _, lt_of_lt_of_eq (i 3).isLt rfl⟩

/-- The elements of slot `i`. -/
abbrev sSet (i : Fin 2) : Finset S2x1x128.Idx := (sSlot i.val).view.set

theorem sSlots_disjoint : ∀ i ∈ (Finset.univ : Finset (Fin 2)), ∀ j ∈ (Finset.univ : Finset (Fin 2)), i ≠ j →
    Disjoint (sSet i) (sSet j) := fun i _ j _ h =>
  Finset.disjoint_left.mpr fun x hx hy => h (Fin.ext (by
    have h1 := (mem_sSlot x).mp hx; have h2 := (mem_sSlot x).mp hy; omega))
/-- The elements of slot `i`. -/
abbrev rSet (i : Fin 2) : Finset S2x128x2x128.Idx := (rSlot i.val).view.set

theorem rSlots_disjoint : ∀ i ∈ (Finset.univ : Finset (Fin 2)), ∀ j ∈ (Finset.univ : Finset (Fin 2)), i ≠ j →
    Disjoint (rSet i) (rSet j) := fun i _ j _ h =>
  Finset.disjoint_left.mpr fun x hx hy => h (Fin.ext (by
    have h1 := (mem_rSlot x).mp hx; have h2 := (mem_rSlot x).mp hy; omega))
theorem sSlots_cover : (Finset.univ : Finset (Fin 2)).biUnion sSet = Finset.univ := by
  refine Finset.eq_univ_iff_forall.mpr fun x => Finset.mem_biUnion.mpr ⟨⟨(x 0).val, (x 0).isLt⟩, Finset.mem_univ _, (mem_sSlot x).mpr ?_⟩
  have : (x 0).val < 2 := (x 0).isLt
  exact (Nat.mod_eq_of_lt this).symm
theorem rSlots_cover : (Finset.univ : Finset (Fin 2)).biUnion rSet = Finset.univ := by
  refine Finset.eq_univ_iff_forall.mpr fun x => Finset.mem_biUnion.mpr ⟨⟨(x 0).val, (x 0).isLt⟩, Finset.mem_univ _, (mem_rSlot x).mpr ?_⟩
  have : (x 0).val < 2 := (x 0).isLt
  exact (Nat.mod_eq_of_lt this).symm

theorem sBuf_split : (iprop(∃ f, (thr d L).loc cc0_scoped0 ↦{fullShare} f) : sProp 𝕄) ⊢ iprop(SSl (F := F) d L 0 ∗ SSl (F := F) d L 1) := by
  iintro ⟨%f, H⟩
  ihave H := (Entails.of_eq (show ((thr d L).loc cc0_scoped0 ↦{fullShare} f : sProp 𝕄)
      = iprop(((sSlot 0).view.loc (thr d L) ↦[(sSlot 0).view.set]{fullShare} f) ∗ (sSlot 1).view.loc (thr d L) ↦[(sSlot 1).view.set]{fullShare} f) by
    rw [← sSlots_cover, pointsTo_biUnion Finset.univ (ℓ := (thr d L).loc cc0_scoped0) _ sSlots_disjoint, BI.bigSep_fin_two]; rfl)) $$ H
  icases H with ⟨H0, H1⟩
  isplitl [H0]; · iexists _; iexact H0
  iexists _; iexact H1
theorem rBuf_split : (iprop(∃ f, (thr d L).loc cc0_scoped2 ↦{fullShare} f) : sProp 𝕄) ⊢ iprop(RSl (F := F) d L 0 ∗ RSl (F := F) d L 1) := by
  iintro ⟨%f, H⟩
  ihave H := (Entails.of_eq (show ((thr d L).loc cc0_scoped2 ↦{fullShare} f : sProp 𝕄)
      = iprop(((rSlot 0).view.loc (thr d L) ↦[(rSlot 0).view.set]{fullShare} f) ∗ (rSlot 1).view.loc (thr d L) ↦[(rSlot 1).view.set]{fullShare} f) by
    rw [← rSlots_cover, pointsTo_biUnion Finset.univ (ℓ := (thr d L).loc cc0_scoped2) _ rSlots_disjoint, BI.bigSep_fin_two]; rfl)) $$ H
  icases H with ⟨H0, H1⟩
  isplitl [H0]; · iexists _; iexact H0
  iexists _; iexact H1

theorem sBuf_join : iprop(SSl (F := F) d L 0 ∗ SSl (F := F) d L 1) ⊢ (iprop(∃ f, (thr d L).loc cc0_scoped0 ↦{fullShare} f) : sProp 𝕄) := by
  iintro ⟨⟨%f, H0⟩, ⟨%g, H1⟩⟩
  ihave H := (pointsTo_biUnion_join (ℓ := (thr d L).loc cc0_scoped0) (q := fullShare) (Val := Elt F) Finset.univ sSet
    (fun i => if i = 0 then f else g) f sSlots_disjoint) $$ [H0 H1]
  · iapply (Entails.of_eq (show (bigSep Finset.univ fun i : Fin 2 => (thr d L).loc cc0_scoped0 ↦[sSet i]{fullShare} (if i = 0 then f else g) : sProp 𝕄)
      = iprop(((sSlot 0).view.loc (thr d L) ↦[(sSlot 0).view.set]{fullShare} f) ∗ (sSlot 1).view.loc (thr d L) ↦[(sSlot 1).view.set]{fullShare} g) from
        BI.bigSep_fin_two _).symm)
    isplitl [H0]; · iexact H0
    iexact H1
  icases H with ⟨%w, -, H⟩
  rw [sSlots_cover]
  iexists w; iexact H
theorem rBuf_join : iprop(RSl (F := F) d L 0 ∗ RSl (F := F) d L 1) ⊢ (iprop(∃ f, (thr d L).loc cc0_scoped2 ↦{fullShare} f) : sProp 𝕄) := by
  iintro ⟨⟨%f, H0⟩, ⟨%g, H1⟩⟩
  ihave H := (pointsTo_biUnion_join (ℓ := (thr d L).loc cc0_scoped2) (q := fullShare) (Val := Elt F) Finset.univ rSet
    (fun i => if i = 0 then f else g) f rSlots_disjoint) $$ [H0 H1]
  · iapply (Entails.of_eq (show (bigSep Finset.univ fun i : Fin 2 => (thr d L).loc cc0_scoped2 ↦[rSet i]{fullShare} (if i = 0 then f else g) : sProp 𝕄)
      = iprop(((rSlot 0).view.loc (thr d L) ↦[(rSlot 0).view.set]{fullShare} f) ∗ (rSlot 1).view.loc (thr d L) ↦[(rSlot 1).view.set]{fullShare} g) from
        BI.bigSep_fin_two _).symm)
    isplitl [H0]; · iexact H0
    iexact H1
  icases H with ⟨%w, -, H⟩
  rw [rSlots_cover]
  iexists w; iexact H

/-! ## The subcore's semaphores and buffers, those of the kernel named -/

abbrev cell (s : DmaSem sig) : GSem nD τ sig := (thr d L, .dma s)

theorem ownSems0_V : ∃ R : sProp 𝕄,
    (ownSems0 (thr d L) : sProp 𝕄)
      = iprop(Zero (F := F) d L (semI 0) ∗ Zero (F := F) d L (semI 1) ∗ Zero (F := F) d L (semO 0) ∗ Zero (F := F) d L (semO 1) ∗ Zero (F := F) d L semG ∗ R) := by
  have hm : ∀ s : DmaSem sig, (SemLoc.dma s : SemLoc sig).isScoped .scVector = true → cell d L s ∈ ownCells (thr d L) :=
    fun s h => (mem_ownCells (g := cell d L s)).mpr ⟨rfl, h⟩
  have hne : ∀ s s' : DmaSem sig, s ≠ s' → cell d L s ≠ cell d L s' := fun s s' h e => h (by
    have := (Prod.mk.inj e).2; injection this)
  unfold SparseCore.Cfg.ownSems0
  refine ⟨bigSep (((((ownCells (thr d L)).erase (cell d L (semI 0))).erase (cell d L (semI 1))).erase (cell d L (semO 0))).erase (cell d L (semO 1))
    |>.erase (cell d L semG)) (fun g => semVal g 0), ?_⟩
  rw [SparseCore.bigSep_erase' (hm (semI 0) (by decide)),
    SparseCore.bigSep_erase' (Finset.mem_erase.mpr ⟨hne (semI 1) (semI 0) (by decide), hm (semI 1) (by decide)⟩),
    SparseCore.bigSep_erase' (Finset.mem_erase.mpr ⟨hne (semO 0) (semI 1) (by decide), Finset.mem_erase.mpr ⟨hne (semO 0) (semI 0) (by decide), hm (semO 0) (by decide)⟩⟩),
    SparseCore.bigSep_erase' (Finset.mem_erase.mpr ⟨hne (semO 1) (semO 0) (by decide), Finset.mem_erase.mpr ⟨hne (semO 1) (semI 1) (by decide),
      Finset.mem_erase.mpr ⟨hne (semO 1) (semI 0) (by decide), hm (semO 1) (by decide)⟩⟩⟩),
    SparseCore.bigSep_erase' (Finset.mem_erase.mpr ⟨hne semG (semO 1) (by decide), Finset.mem_erase.mpr ⟨hne semG (semO 0) (by decide),
      Finset.mem_erase.mpr ⟨hne semG (semI 1) (by decide), Finset.mem_erase.mpr ⟨hne semG (semI 0) (by decide), hm semG (by decide)⟩⟩⟩⟩)]

theorem ownBufs_V : ∃ R : sProp 𝕄,
    (ownBufs (thr d L) : sProp 𝕄)
      = iprop((∃ f, (thr d L).loc cc0_scoped0 ↦{fullShare} f) ∗ (∃ f, (thr d L).loc cc0_scoped2 ↦{fullShare} f) ∗ R) := by
  unfold SparseCore.Cfg.ownBufs
  refine ⟨bigSep (((ownRefs (τ := τ) (.scVector (cV L) (jV L))).erase ((Proc.scVector (cV L) (jV L)).devRef cc0_scoped0)).erase
      ((Proc.scVector (cV L) (jV L)).devRef cc0_scoped2)) (fun b => iprop(∃ f, ((d, b) : Loc nD τ sig) ↦{fullShare} f)), (SparseCore.bigSep_erase' (SparseCore.Cfg.mem_ownRefs_of_owner (p := Proc.scVector (cV L) (jV L))
    (b := (Proc.scVector (cV L) (jV L)).devRef cc0_scoped0) rfl)).trans ?_⟩
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

/-- What a task takes and brings back: its windows of the index list, its share of the table, its windows of the output
    at contents `f`. -/
abbrev TileRes (q : PosShare TreeShare) (f : Buf (Elt F) (oLoc d)) : sProp 𝕄 :=
  iprop((bigSep Finset.univ fun w : Fin 32 => IWin d L I w.val) ∗ XSh d L X q ∗ bigSep Finset.univ fun w : Fin 32 => OWin d L f w.val)

theorem out_done : iprop(OWin d L (gath X I) 31 ∗ bigSep (Finset.univ.erase (win 31)) fun w => OPiece d L X I O0 31 w)
    ⊢ (bigSep Finset.univ fun w : Fin 32 => OWin d L (gath X I) w.val : sProp 𝕄) := by
  rw [SparseCore.bigSep_erase' (s := Finset.univ) (i := win 31) (Finset.mem_univ _), win_val (by omega),
    bigSep_congr (s := Finset.univ.erase (win 31)) (Φ := fun w => OPiece d L X I O0 31 w) (Ψ := fun w => OWin d L (gath X I) w.val) fun w hw => by
      have h1 : w ≠ win 31 := (Finset.mem_erase.mp hw).1
      have h2 : w.val ≠ 31 := fun e => h1 (Fin.ext (e.trans (win_val (by omega)).symm))
      have h3 : w.val < 31 := by have := w.isLt; omega
      simp only [OPiece, if_pos h3]]

theorem in_open : (bigSep Finset.univ fun w : Fin 32 => IWin d L I w.val : sProp 𝕄)
    ⊢ iprop(IWin d L I 0 ∗ bigSep (Finset.univ.erase (win 0)) fun w => IWin d L I w.val) := by
  rw [SparseCore.bigSep_erase' (s := Finset.univ) (i := win 0) (Finset.mem_univ _), win_val (by omega)]

theorem in_close : InS d L I 32 ⊢ iprop((SSl (F := F) d L 0 ∗ SSl (F := F) d L 1) ∗ Zero (F := F) d L (semI 0) ∗ Zero (F := F) d L (semI 1)
      ∗ bigSep Finset.univ fun w : Fin 32 => IWin d L I w.val) := by
  unfold InS
  rw [if_neg (by omega)]
  iintro ⟨H0, H1, Hz, Hz', Hi⟩
  isplitl [H0 H1]
  · isplitl [H0]; · iexact H0
    iexact H1
  isplitl [Hz]; · iexact Hz
  isplitl [Hz']; · iexact Hz'
  iexact Hi

local notation "WP" => wp frame (wpE (defs₀ (F := F)) 𝒱₀ (thr d L) none) Set.univ

set_option maxHeartbeats 4000000 in
theorem task (hI : InRows I) (q : PosShare TreeShare) (O : CellTallies nD τ sig (HIx 1)) (W : Waits sig (HIx 1)) :
    iprop(Transfers.MayWaits (thr d L) (default : HIx 1) O ∗ TileRes d L X I q O0
        ∗ (SSl (F := F) d L 0 ∗ SSl (F := F) d L 1) ∗ (RSl (F := F) d L 0 ∗ RSl (F := F) d L 1)
        ∗ Zero (F := F) d L (semI 0) ∗ Zero (F := F) d L (semI 1) ∗ Zero (F := F) d L (semO 0) ∗ Zero (F := F) d L (semO 1) ∗ Zero (F := F) d L semG
        ∗ owes (thr d L) O W)
      ⊢ WP (cc0_sc_gather L xV (Memref.isWhole_whole _) iV (Memref.isWhole_whole _) oV (Memref.isWhole_whole _) sV (Memref.isWhole_whole _)
          cc0_scoped1 rV (Memref.isWhole_whole _) cc0_scoped3 cc0_scoped4)
        fun _ => iprop(TileRes d L X I q (gath X I)
          ∗ (SSl (F := F) d L 0 ∗ SSl (F := F) d L 1) ∗ (RSl (F := F) d L 0 ∗ RSl (F := F) d L 1)
          ∗ Zero (F := F) d L (semI 0) ∗ Zero (F := F) d L (semI 1) ∗ Zero (F := F) d L (semO 0) ∗ Zero (F := F) d L (semO 1) ∗ Zero (F := F) d L semG
          ∗ Ow (F := F) d L O W) := by
  have hrow : ∀ k, k < 32 → row0 L k = 4096 * (L 1).val + 65536 * (L 0).val + 128 * k := fun k hk => by
    rw [row0, base, Nat.mod_eq_of_lt hk]
  iintro ⟨#Hmw, ⟨Hi, Hx, Ho⟩, ⟨Hs0, Hs1⟩, ⟨Hr0, Hr1⟩, HzI0, HzI1, HzO0, HzO1, HzG, HO⟩
  simp only [cc0_sc_gather_eq_skeleton]
  unfold cc0_sc_gather_skel
  simp only [k0_part3_eq_skeleton]
  unfold k0_part3_skel
  simp only [wp_bind]
  ihave Hi := (in_open (F := F) d L I) $$ Hi
  icases Hi with ⟨Hi, Hir⟩
  iapply (fetch d L I (w := 0) (t := 0) (by rw [k0_off2_eq L, iOff, hrow _ (by omega)]; rfl) k0_off1_eq k0_off3_eq) $$ [Hi Hs0 HzI0]
  · isplitl [Hi]; · iexact Hi
    isplitl [Hs0]; · iexact Hs0
    iexact HzI0
  iintro Hf
  rw [wp_pure]; imodintro
  simp only [k0_part4_eq_skeleton]
  unfold k0_part4_skel
  simp only [wp_bind]
  iapply (Scf.wp_for frame (wpE (defs₀ (F := F)) 𝒱₀ (thr d L) none) Set.univ k0_t1_loop.lb k0_t1_loop.ub k0_t1_loop.st k0_t1_ok _ _
    (Inv d L X I O0 q O W) (fun t acc => trip d L X I O0 hI q O W t acc))
  isplitl [Hf Hx HzG HO Hir Hs1 HzI1 Ho Hr0 Hr1 HzO0 HzO1]
  · unfold Inv InS OutS OutRest Ow
    isplitr; · ipureintro; rfl
    isplitr; · iexact Hmw
    isplitl [Hx]; · iexact Hx
    isplitl [HzG]; · iexact HzG
    isplitl [HO]
    · iexists W
      isplitr; · ipureintro; exact fun p hp => .inl hp
      iexact HO
    isplitl [Hf Hir Hs1 HzI1]
    · rw [if_pos (by omega)]
      isplitl [Hf]; · iexact Hf
      isplitl [Hs1]; · iexact Hs1
      isplitl [HzI1]; · iexact HzI1
      iexact Hir
    isplitl [Hr0]; · iexact Hr0
    isplitl [HzO0]; · iexact HzO0
    isplitl [Hr1]; · iexact Hr1
    isplitl [HzO1]; · iexact HzO1
    iexact Ho
  iintro %acc HInv
  ihave HInv := (show Inv d L X I O0 q O W k0_t1_loop.trips acc ⊢ iprop(⌜acc = carry 32⌝ ∗ Transfers.MayWaits (thr d L) (default : HIx 1) O ∗ XSh d L X q
      ∗ Zero (F := F) d L semG ∗ Ow (F := F) d L O W ∗ InS d L I 32 ∗ OutS d L X I O0 32) from by rw [trips_eq]; exact .rfl) $$ HInv
  icases HInv with ⟨%hacc, -, Hx, HzG, HO, Hin, Hout⟩
  subst hacc
  iapply (assumed (F := F) d L (chk5_ok L))
  iapply (assumed (F := F) d L chk4_ok)
  rw [wp_pure]; imodintro
  ihave Hin := (in_close (F := F) d L I) $$ Hin
  icases Hin with ⟨Hs, HzI0, HzI1, Hi⟩
  ihave Hout := (show OutS d L X I O0 32 ⊢ iprop(RSl (F := F) d L 0 ∗ Zero (F := F) d L (semO 0) ∗ FlO d L X I 31 31
    ∗ bigSep (Finset.univ.erase (win 31)) fun w => OPiece d L X I O0 31 w) from .rfl) $$ Hout
  icases Hout with ⟨Hr0, HzO0, Hf, Ho⟩
  ihave HO := (Ow_open (F := F) d L) $$ HO
  icases HO with ⟨%W', %hW, HO⟩
  iapply (putWait d L X I (w := 31) (t := 31) (by rw [off19_eq L, oOff, hrow _ (by omega)]) off21_eq off20_eq) $$ [Hf HO]
  · isplitl [Hf]; · iexact Hf
    isplitl [HO]; · iexact HO
    iapply (Transfers.MayWaits.elim (SemLoc.dma (semO 31))) $$ Hmw
  iintro ⟨⟨Hw, Hr1⟩, HzO1, HO⟩
  ihave HO := (Ow_insert (F := F) d L hW _) $$ HO
  rw [wp_pure]; imodintro
  isplitl [Hi Hx Ho Hw]
  · isplitl [Hi]; · iexact Hi
    isplitl [Hx]; · iexact Hx
    iapply (out_done d L X I O0)
    isplitl [Hw]; · iexact Hw
    iexact Ho
  isplitl [Hs]; · iexact Hs
  isplitl [Hr0 Hr1]
  · isplitl [Hr0]; · iexact Hr0
    iexact Hr1
  isplitl [HzI0]; · iexact HzI0
  isplitl [HzI1]; · iexact HzI1
  isplitl [HzO0]; · iexact HzO0
  isplitl [HzO1]; · iexact HzO1
  isplitl [HzG]; · iexact HzG
  iexact HO

end Cert.Proof.Gather

end
-- ==== Proof.Launch.lean ====
/-
  The gather's launch: each subcore's task from what the call hands it, the windows of all 32 subcores making up the
  arrays, the two reshapes of the host code before the call, and the run: the arguments unchanged, the output holding the
  table's rows the index list names, every semaphore back at zero.
-/
module

public import proofs.«01_k».proof.Proof.Tile

@[expose] public section

noncomputable section

namespace Cert.Proof.Gather

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S786432x2x128 EltTy.i32)
local notation "iV" => (Memref.whole Cert.KernelIdeal.main_v1_scv : Memref Cert.KernelIdeal.sig Kind.scVector Space.hbm Cert.KernelIdeal.S1x131072 EltTy.i32)
local notation "oV" => (Memref.whole Cert.KernelIdeal.main_v2_scv : Memref Cert.KernelIdeal.sig Kind.scVector Space.hbm Cert.KernelIdeal.S131072x2x128 EltTy.i32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.i32)

/-! ## The subcore's task from what the call hands it -/

section Task

variable (d : Dev nD) (L : grid0.Coords)
variable (X : Buf (Elt F) (xLoc d)) (I : Buf (Elt F) (iLoc d)) (O0 : Buf (Elt F) (oLoc d))

theorem tile_body (hF : (K (F := F)).Facts) (hI : InRows I) (q : PosShare TreeShare) (O : CellTallies nD τ sig (HIx 1)) (W : Waits sig (HIx 1))
    (hO : ∀ g, O g none = 0) :
    iprop(levAts (K (F := F)).L (K (F := F)).lev ∗ emp ∗ TileRes d L X I q O0
        ∗ scopedBufs (thr d L) ∗ scopedSems0 (thr d L) ∗ owes (thr d L) O W)
      ⊢ wp frame (wpE (defs₀ (F := F)) 𝒱₀ (thr d L) none) Set.univ
          (cc0_sc_gather L xV (Memref.isWhole_whole _) iV (Memref.isWhole_whole _) oV (Memref.isWhole_whole _) sV (Memref.isWhole_whole _)
            cc0_scoped1 rV (Memref.isWhole_whole _) cc0_scoped3 cc0_scoped4)
          fun _ => iprop(TileRes d L X I q (gath X I) ∗ scopedBufs (thr d L) ∗ scopedSems0 (thr d L)
            ∗ ∃ W', ⌜∀ p ∈ W', p ∈ W ∨ p.2 = none⌝ ∗ owes (thr d L) O W') := by
  obtain ⟨RB, hB⟩ := ownBufs_V (F := F) d L
  obtain ⟨RS, hS⟩ := ownSems0_V (F := F) d L
  rw [(K (F := F)).scopedBufs_V hF d (cV L) (jV L), SparseCore.Cfg.scopedSems0_V (Val := Elt F) d (cV L) (jV L), hB, hS]
  have hpost : ∀ _ : PUnit, iprop((RB ∗ RS) ∗ (TileRes d L X I q (gath X I)
          ∗ (SSl (F := F) d L 0 ∗ SSl (F := F) d L 1) ∗ (RSl (F := F) d L 0 ∗ RSl (F := F) d L 1)
          ∗ Zero (F := F) d L (semI 0) ∗ Zero (F := F) d L (semI 1) ∗ Zero (F := F) d L (semO 0) ∗ Zero (F := F) d L (semO 1) ∗ Zero (F := F) d L semG
          ∗ Ow (F := F) d L O W))
      ⊢ iprop(TileRes d L X I q (gath X I)
          ∗ ((∃ f, (thr d L).loc cc0_scoped0 ↦{fullShare} f) ∗ (∃ f, (thr d L).loc cc0_scoped2 ↦{fullShare} f) ∗ RB)
          ∗ (Zero (F := F) d L (semI 0) ∗ Zero (F := F) d L (semI 1) ∗ Zero (F := F) d L (semO 0) ∗ Zero (F := F) d L (semO 1) ∗ Zero (F := F) d L semG ∗ RS)
          ∗ ∃ W', ⌜∀ p ∈ W', p ∈ W ∨ p.2 = none⌝ ∗ owes (thr d L) O W') := fun _ => by
    iintro ⟨⟨HB, HS⟩, HT, Hs, Hr, H1, H2, H3, H4, H5, HO⟩
    isplitl [HT]; · iexact HT
    isplitl [Hs Hr HB]
    · isplitl [Hs]; · iapply (sBuf_join (F := F) d L); iexact Hs
      isplitl [Hr]; · iapply (rBuf_join (F := F) d L); iexact Hr
      iexact HB
    isplitr [HO]
    · isplitl [H1]; · iexact H1
      isplitl [H2]; · iexact H2
      isplitl [H3]; · iexact H3
      isplitl [H4]; · iexact H4
      isplitl [H5]; · iexact H5
      iexact HS
    iapply (Ow_open (F := F) d L); iexact HO
  refine BI.Entails.trans ?_ (wp_mono frame _ _ hpost)
  refine BI.Entails.trans ?_ (wp_frame_l frame _ _)
  show iprop(_ ∗ _) ⊢ iprop((RB ∗ RS) ∗ _)
  iintro ⟨#Hlv, -, HT, ⟨Hs, Hr, HB⟩, ⟨H1, H2, H3, H4, H5, HS⟩, HO⟩
  ihave Hmw := (show levAts (K (F := F)).L (K (F := F)).lev ⊢ Transfers.MayWaits (thr d L) (default : HIx 1) O from
    (K (F := F)).mayWaits_none (thr := thr d L) hO) $$ Hlv
  isplitl [HB HS]
  · isplitl [HB]; · iexact HB
    iexact HS
  iapply (task (F := F) d L X I O0 hI q O W)
  isplitl [Hmw]; · iexact Hmw
  isplitl [HT]; · iexact HT
  isplitl [Hs]; · iapply (sBuf_split (F := F) d L); iexact Hs
  isplitl [Hr]; · iapply (rBuf_split (F := F) d L); iexact Hr
  isplitl [H1]; · iexact H1
  isplitl [H2]; · iexact H2
  isplitl [H3]; · iexact H3
  isplitl [H4]; · iexact H4
  isplitl [H5]; · iexact H5
  iexact HO

end Task

/-! ## The arrays over all subcores -/

/-- The grid position of subcore `s` of SparseCore `c`. -/
def at2 (c : Fin 2) (s : Fin 16) : grid0.Coords :=
  fun | 0 => c | 1 => s | ⟨_ + 2, h⟩ => absurd h (Nat.not_lt.2 (Nat.le_add_left _ _))

/-- All windows: SparseCore, subcore, window of the subcore. -/
abbrev Tri : Type := Fin 2 × Fin 16 × Fin 32

abbrev iSet (t : Tri) : Finset S1x131072.Idx := (iWin (at2 t.1 t.2.1) t.2.2.val).view.set
abbrev oSet (t : Tri) : Finset S131072x2x128.Idx := (oWin (at2 t.1 t.2.1) t.2.2.val).view.set

/-- The window row `r` lies in. -/
def tri (r : ℕ) (h : r < 131072) : Tri :=
  (⟨r / 65536, by omega⟩, ⟨r % 65536 / 4096, by omega⟩, ⟨r % 4096 / 128, by omega⟩)

theorem row0_tri (t : Tri) : row0 (at2 t.1 t.2.1) t.2.2.val = 4096 * t.2.1.val + 65536 * t.1.val + 128 * t.2.2.val := by
  have := t.2.2.isLt
  rw [row0, Nat.mod_eq_of_lt this]; rfl
theorem row_iff {r : ℕ} (h : r < 131072) (t : Tri) :
    (row0 (at2 t.1 t.2.1) t.2.2.val ≤ r ∧ r < row0 (at2 t.1 t.2.1) t.2.2.val + 128) ↔ t = tri r h := by
  obtain ⟨⟨c, hc⟩, ⟨s, hs⟩, ⟨w, hw⟩⟩ := t
  rw [row0_tri]
  simp only [tri, Prod.mk.injEq, Fin.mk.injEq]
  omega

theorem mem_iSet (t : Tri) (i : S1x131072.Idx) : i ∈ iSet t ↔ t = tri (i 1).val (i 1).isLt := by
  show i ∈ ((View.whole (main_v1_scv : Ref sig .scVector)).slice (Rect.unit (s := S1x131072) (iOff (at2 t.1 t.2.1) t.2.2.val) S1x128.size (iOff_inb _ _))).set ↔ _
  rw [View.set_slice_whole, Rect.mem_set_unit]
  refine Iff.trans ?_ (row_iff (i 1).isLt t)
  constructor
  · intro h; exact h 1
  · intro h a
    match a with
    | ⟨0, _⟩ => exact ⟨Nat.zero_le _, lt_of_lt_of_eq (i 0).isLt rfl⟩
    | ⟨1, _⟩ => exact h
theorem mem_oSet (t : Tri) (i : S131072x2x128.Idx) : i ∈ oSet t ↔ t = tri (i 0).val (i 0).isLt := by
  show i ∈ ((View.whole (main_v2_scv : Ref sig .scVector)).slice (Rect.unit (s := S131072x2x128) (oOff (at2 t.1 t.2.1) t.2.2.val) S128x2x128.size (oOff_inb _ _))).set ↔ _
  rw [View.set_slice_whole, Rect.mem_set_unit]
  refine Iff.trans ?_ (row_iff (i 0).isLt t)
  constructor
  · intro h; exact h 0
  · intro h a
    match a with
    | ⟨0, _⟩ => exact h
    | ⟨1, _⟩ => exact ⟨Nat.zero_le _, lt_of_lt_of_eq (i 1).isLt rfl⟩
    | ⟨2, _⟩ => exact ⟨Nat.zero_le _, lt_of_lt_of_eq (i 2).isLt rfl⟩

theorem iSet_disjoint : ∀ t ∈ (Finset.univ : Finset Tri), ∀ u ∈ (Finset.univ : Finset Tri), t ≠ u → Disjoint (iSet t) (iSet u) :=
  fun t _ u _ h => Finset.disjoint_left.mpr fun i hi hj => h (((mem_iSet t i).mp hi).trans ((mem_iSet u i).mp hj).symm)
theorem oSet_disjoint : ∀ t ∈ (Finset.univ : Finset Tri), ∀ u ∈ (Finset.univ : Finset Tri), t ≠ u → Disjoint (oSet t) (oSet u) :=
  fun t _ u _ h => Finset.disjoint_left.mpr fun i hi hj => h (((mem_oSet t i).mp hi).trans ((mem_oSet u i).mp hj).symm)
theorem iSet_cover : (Finset.univ : Finset Tri).biUnion iSet = Finset.univ := by
  ext i; simp only [Finset.mem_biUnion, Finset.mem_univ, true_and, iff_true]
  exact ⟨_, (mem_iSet _ i).mpr rfl⟩
theorem oSet_cover : (Finset.univ : Finset Tri).biUnion oSet = Finset.univ := by
  ext i; simp only [Finset.mem_biUnion, Finset.mem_univ, true_and, iff_true]
  exact ⟨_, (mem_oSet _ i).mpr rfl⟩

/-- The share of the table subcore `s` of SparseCore `c` reads through. -/
abbrev qAt (c : Fin 2) (s : Fin 16) : PosShare TreeShare :=
  pieceOf (pieceOf fullShare 2 (by decide) c) 16 (by decide) s

section Arrays

variable (d : Dev nD)

theorem iPts_windows (f : Buf (Elt F) (iLoc d)) : (iLoc d ↦{fullShare} f : sProp 𝕄)
    = bigSep Finset.univ fun c => bigSep Finset.univ fun s => bigSep Finset.univ fun w : Fin 32 => IWin d (at2 c s) f w.val := by
  have h : (iLoc d ↦{fullShare} f : sProp 𝕄) = bigSep Finset.univ fun t : Tri => iLoc d ↦[iSet t]{fullShare} f := by
    rw [← pointsTo_biUnion Finset.univ (ℓ := iLoc d) iSet iSet_disjoint, iSet_cover]; try rfl
  rw [h, bigSep_univ_prod]
  exact bigSep_congr fun c _ => bigSep_univ_prod _
theorem oPts_windows (f : Buf (Elt F) (oLoc d)) : (oLoc d ↦{fullShare} f : sProp 𝕄)
    = bigSep Finset.univ fun c => bigSep Finset.univ fun s => bigSep Finset.univ fun w : Fin 32 => OWin d (at2 c s) f w.val := by
  have h : (oLoc d ↦{fullShare} f : sProp 𝕄) = bigSep Finset.univ fun t : Tri => oLoc d ↦[oSet t]{fullShare} f := by
    rw [← pointsTo_biUnion Finset.univ (ℓ := oLoc d) oSet oSet_disjoint, oSet_cover]; try rfl
  rw [h, bigSep_univ_prod]
  exact bigSep_congr fun c _ => bigSep_univ_prod _
theorem xPts_parts (f : Buf (Elt F) (xLoc d)) : (xLoc d ↦{fullShare} f : sProp 𝕄)
    = bigSep Finset.univ fun c => bigSep Finset.univ fun s => XSh d (at2 c s) f (qAt c s) := by
  rw [pointsTo_piecesOf Finset.univ f (o := 2) (by decide) fullShare]
  exact bigSep_congr fun c _ => pointsTo_piecesOf Finset.univ f (o := 16) (by decide) _

/-- The three arrays are what all subcores are handed. -/
theorem arrays_eq (X : Buf (Elt F) (xLoc d)) (I : Buf (Elt F) (iLoc d)) (f : Buf (Elt F) (oLoc d)) :
    (bigSep Finset.univ fun c => bigSep Finset.univ fun s => TileRes d (at2 c s) X I (qAt c s) f : sProp 𝕄)
      = iprop((iLoc d ↦{fullShare} I) ∗ (xLoc d ↦{fullShare} X) ∗ oLoc d ↦{fullShare} f) := by
  rw [iPts_windows, xPts_parts, oPts_windows]
  simp only [bigSep_sep']

end Arrays

/-! ## The launch's contents -/

variable (m : (ℓ : Loc nD τ sig) → Buf (Elt F) ℓ) (ρ : Dev nD → PrngReg)

/-- The table as rows of two times 128 words, -/
abbrev X1 (d : Dev nD) : Buf (Elt F) (xLoc d) := fun i => shapeCast S786432x2x128 (m (aLoc d)) shapeCasts_S786432x256_S786432x2x128 i
/-- the index list as one row. -/
abbrev I1 (d : Dev nD) : Buf (Elt F) (iLoc d) := fun i => shapeCast S1x131072 (m (bLoc d)) shapeCasts_S131072_S1x131072 i
/-- What the output ends at. -/
abbrev G1 (d : Dev nD) : Buf (Elt F) (oLoc d) := gath (X1 m d) (I1 m d)

def PreOK : Prop := ∀ d, InRows (I1 m d)

abbrev cc (c : Fin ((K (F := F)).nCore 0)) : Fin 2 := Fin.cast nCore_zero c
abbrev si (i : Fin ((K (F := F)).nSub 0)) : Fin 16 := Fin.cast nSub_zero i

theorem bigSep_cc (Φ : Fin 2 → sProp 𝕄) : (bigSep Finset.univ fun c : Fin ((K (F := F)).nCore 0) => Φ (cc (F := F) c)) = bigSep Finset.univ Φ :=
  bigSep_congr fun _ _ => congrArg Φ (Fin.ext rfl)
theorem bigSep_si (Φ : Fin 16 → sProp 𝕄) : (bigSep Finset.univ fun i : Fin ((K (F := F)).nSub 0) => Φ (si (F := F) i)) = bigSep Finset.univ Φ :=
  bigSep_congr fun _ _ => congrArg Φ (Fin.ext rfl)

/-- What the call hands subcore `s` of SparseCore `c`, and what it brings back. -/
abbrev Go (d : Dev nD) (c : Fin 2) (s : Fin 16) : sProp 𝕄 := TileRes d (at2 c s) (X1 m d) (I1 m d) (qAt c s) (m (oLoc d))
abbrev Td (d : Dev nD) (c : Fin 2) (s : Fin 16) : sProp 𝕄 := TileRes d (at2 c s) (X1 m d) (I1 m d) (qAt c s) (G1 m d)

/-- What the call's signals carry. -/
def P : (K (F := F)).Pay (nD := nD) (Val := Elt F) (Name := ℕ) (U := UU) where
  st := fun q d c => match q with
    | 0 => bigSep Finset.univ fun s => Go m d (cc c) s
  dn := fun q d c => match q with
    | 0 => bigSep Finset.univ fun s => Td m d (cc c) s
  go := fun q d c i => match q with
    | 0 => Go m d (cc c) (si i)
  td := fun q d c i => match q with
    | 0 => Td m d (cc c) (si i)
  x := fun _ _ => iprop(emp)

instance P_storable : (P m).IsStorable where
  st := fun q d c => match q with
    | 0 => (inferInstance : BI.Storable (upEmb : UEmb _ 𝕄) (bigSep Finset.univ fun s => Go m d (cc c) s))
  dn := fun q d c => match q with
    | 0 => (inferInstance : BI.Storable (upEmb : UEmb _ 𝕄) (bigSep Finset.univ fun s => Td m d (cc c) s))
  go := fun q d c i => match q with
    | 0 => (inferInstance : BI.Storable (upEmb : UEmb _ 𝕄) (Go m d (cc c) (si i)))
  td := fun q d c i => match q with
    | 0 => (inferInstance : BI.Storable (upEmb : UEmb _ 𝕄) (Td m d (cc c) (si i)))

theorem vecSplit : (K (F := F)).VecSplit' (P m) 0 := by
  intro d c
  show (bigSep Finset.univ fun s => Go m d (cc c) s : sProp 𝕄) ⊢ |={Set.univ}=> iprop(
      (bigSep Finset.univ fun i : Fin ((K (F := F)).nSub 0) => Go m d (cc c) (si i))
      ∗ ((bigSep Finset.univ fun i : Fin ((K (F := F)).nSub 0) => Td m d (cc c) (si i)) -∗ bigSep Finset.univ fun s => Td m d (cc c) s))
  rw [bigSep_si (F := F) (fun s => Go m d (cc c) s), bigSep_si (F := F) (fun s => Td m d (cc c) s)]
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0_sc_gather (at2 c s) xV (Memref.isWhole_whole _) iV (Memref.isWhole_whole _) oV (Memref.isWhole_whole _)
          sV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; intro p hp; rcases h p hp with h | h
    · exact .inl h
    · exact .inr (.inl h)
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at2 ⟨_, hci.1⟩ ⟨_, hci.2⟩) (X1 m d) (I1 m d) (m (oLoc d)) hF (hpre d) (qAt (cc c) (si i)) O W hO).trans (wp_mono frame _ _ fun _ => obl_post)

/-! ## The launch element of the ghost state -/

def u₀ : UU := (initOf (K (F := F)).hsCells (K (F := F)).hsToks, 1)

theorem emps {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host code: two reshapes, then the call -/

abbrev ra : DevRef τ sig := Proc.devRef .tc (main_arg0 : Ref sig .tc)
abbrev rb : DevRef τ sig := Proc.devRef .tc (main_arg1 : Ref sig .tc)
abbrev rx : DevRef τ sig := Proc.devRef .tc (main_v0 : Ref sig .tc)
abbrev ri : DevRef τ sig := Proc.devRef .tc (main_v1 : Ref sig .tc)
abbrev ro : DevRef τ sig := Proc.devRef .tc (main_v2 : Ref sig .tc)
abbrev opX : HloOp τ sig (Elt F) := StableHlo.reshape main_arg0 main_v0 (rfl : (.i32 : EltTy) = .i32) shapeCasts_S786432x256_S786432x2x128
abbrev opI : HloOp τ sig (Elt F) := StableHlo.reshape main_arg1 main_v1 (rfl : (.i32 : EltTy) = .i32) shapeCasts_S131072_S1x131072
abbrev Arr : Finset (DevRef τ sig) := {ra, rb, rx, ri, ro}

theorem held_Arr (d : Dev nD) (W : Valuation τ sig (Elt F)) :
    (held (T d) Arr W : sProp 𝕄)
      = iprop((aLoc d ↦{fullShare} W ra) ∗ (bLoc d ↦{fullShare} W rb) ∗ (xLoc d ↦{fullShare} W rx) ∗ (iLoc d ↦{fullShare} W ri) ∗ oLoc d ↦{fullShare} W ro) := by
  unfold held Arr
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (xLoc d ↦{fullShare} W main_v0)
          ∗ (iLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)
def V2 (d : Dev nD) : Valuation τ sig (Elt F) := (opI (F := F)).result ((opX (F := F)).result (V0 m d))

theorem unscoped_held (d : Dev nD) : (unscopedBufs d (fun b => m ((SparseCore.T d).loc b)) : sProp 𝕄) = held (T d) Arr (V0 m d) := by
  rw [unscopedBufs_eq, held_Arr]; rfl

theorem V2_of (d : Dev nD) (b : DevRef τ sig) (h : b ≠ rx) (h' : b ≠ ri) : V2 m d b = m (d, b) := by
  unfold V2
  rw [(opI (F := F)).result_of_not_mem _ (show b ∉ ({ri} : Finset (DevRef τ sig)) from fun hb => h' (Finset.mem_singleton.mp hb)),
    (opX (F := F)).result_of_not_mem _ (show b ∉ ({rx} : Finset (DevRef τ sig)) from fun hb => h (Finset.mem_singleton.mp hb))]
  rfl
theorem V2_x (d : Dev nD) : V2 m d rx = X1 m d := by
  unfold V2
  rw [(opI (F := F)).result_of_not_mem _ (show rx ∉ ({ri} : Finset (DevRef τ sig)) by decide)]
  exact StableHlo.reshape_result _ _ _ _ _ _ _
theorem V2_i (d : Dev nD) : V2 m d ri = I1 m d := by
  unfold V2
  refine (StableHlo.reshape_result _ _ _ _ _ _ _).trans ?_
  rw [(opX (F := F)).result_of_not_mem _ (show rb ∉ ({rx} : Finset (DevRef τ sig)) by decide)]
  rfl

theorem held_V2 (d : Dev nD) :
    (held (T d) Arr ((opI (F := F)).result ((opX (F := F)).result (V0 m d))) : sProp 𝕄)
      = iprop((aLoc d ↦{fullShare} m (aLoc d)) ∗ (bLoc d ↦{fullShare} m (bLoc d)) ∗ (xLoc d ↦{fullShare} X1 m d) ∗ (iLoc d ↦{fullShare} I1 m d)
          ∗ oLoc d ↦{fullShare} m (oLoc d)) := by
  show held (SparseCore.T d) Arr (V2 m d) = _
  rw [held_Arr, V2_x, V2_i, V2_of m d ra (by decide) (by decide), V2_of m d rb (by decide) (by decide), V2_of m d ro (by decide) (by decide)]

theorem hX : (opX (F := F)).bufs ⊆ Arr := show ({ra, rx} : Finset (DevRef τ sig)) ⊆ Arr by decide
theorem hI : (opI (F := F)).bufs ⊆ Arr := show ({rb, ri} : Finset (DevRef τ sig)) ⊆ Arr by decide

theorem st0_eq (d : Dev nD) : (bigSep Finset.univ fun c : Fin ((K (F := F)).nCore 0) => (P m).st 0 d c)
    = iprop((iLoc d ↦{fullShare} I1 m d) ∗ (xLoc d ↦{fullShare} X1 m d) ∗ oLoc d ↦{fullShare} m (oLoc d)) :=
  (bigSep_cc (F := F) fun c => bigSep Finset.univ fun s => Go m d c s).trans (arrays_eq d (X1 m d) (I1 m d) (m (oLoc d)))
theorem dn0_eq (d : Dev nD) : (bigSep Finset.univ fun c : Fin ((K (F := F)).nCore 0) => (P m).dn 0 d c)
    = iprop((iLoc d ↦{fullShare} I1 m d) ∗ (xLoc d ↦{fullShare} X1 m d) ∗ oLoc d ↦{fullShare} G1 m d) :=
  (bigSep_cc (F := F) fun c => bigSep Finset.univ fun s => Td m d c s).trans (arrays_eq d (X1 m d) (I1 m d) (G1 m d))

/-- What the host code leaves: both arguments as they were, the output at the gathered rows. -/
abbrev FIN (d : Dev nD) : sProp 𝕄 := iprop((aLoc d ↦{fullShare} m (aLoc d)) ∗ (bLoc d ↦{fullShare} m (bLoc d)) ∗ oLoc d ↦{fullShare} G1 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := Arr) hX (V := V0 m d)) $$ [Hb Hheld]
  · isplitl [Hb] <;> iassumption
  iintro ⟨Hb, Hheld⟩
  rw [wp_ret]; imodintro
  iapply (wp_hlo_within 𝒱 (SparseCore.T d) none Set.univ (op := opI) (S := Arr) hI (V := (opX (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hl, Hx, Hi, Ho⟩
  iapply ((K (F := F)).wp_run (D (F := F)) 𝒱 (EH := EH) (P := P m) κ d 0) $$ [Hst Hx Hi Ho Hb Ha Hl Hts]
  isplitr; · iexact Hctx
  isplitl [Hst]; · iexact Hst
  isplitl [Hx Hi Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [Ha]; · iexact Ha
    isplitl [Hl]; · iexact Hl
    iexact Ho
  isplitl [Hb] <;> iassumption

def fq (d : Dev nD) (s' : Phys nD τ sig (Elt F)) : Prop :=
  s'.mem.mem (aLoc d) = m (aLoc d) ∧ s'.mem.mem (bLoc d) = m (bLoc d) ∧ s'.mem.mem (oLoc d) = G1 m d

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := G1 m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (aLoc c) = m (aLoc c) ∧ r.2.mem (bLoc c) = m (bLoc c) ∧ r.2.mem (oLoc c) = G1 m c) ∧ r.2.sem = fun _ => 0

/-- The gather runs: the arguments unchanged, the output the table's rows the list names, the semaphores at zero. -/
theorem run_gather [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Reference.lean ====
/-
  What the reference computes: `table[idx]` with every word of `idx` in range is the table's rows the list names, word for
  word what the gather leaves.
-/
module

public import proofs.«01_k».proof.Proof.Launch
public import proofs.«01_k».proof.Proof.Gen.Reference
public import proofs.«01_k».proof.Proof.Gen.ReferenceIdeal
public import proofs.«01_k».proof.Proof.Gen.ReferenceIdeal.Run
public import proofs.«01_k».proof.Proof.Gen.Pre_idx_in_rows

@[expose] public section

noncomputable section

namespace Cert.Proof.Gather

open Idealize.ShloMosaic Idealize.ShloMosaic.ValueIdx Idealize.SL.Sem
open Cert.ReferenceIdeal Cert.ReferenceIdeal.Gen
open Cert.KernelIdeal (S786432x2x128 S1x131072)

/-- The gather along the first axis at one row number per output row, the number in range: the row itself. -/
theorem rows_at {α : Type} (x : S786432x256.Idx → α) (idx : IVec S131072x1 32) (r : Fin 131072) (q : Fin 256)
    (h : (idx (ix2 r (0 : Fin 1))).toNat < 786432) :
    Host.gather gather_S786432x256_S131072x1_S131072x256_1_0_n_n_0_1_1256 x idx (ix2 r q)
      = x (ix2 (⟨(idx (ix2 r (0 : Fin 1))).toNat, h⟩ : Fin 786432) q) := by
  unfold Host.gather
  congr 1
  have h0 : (gather_S786432x256_S131072x1_S131072x256_1_0_n_n_0_1_1256).start (ix2 r q) idx (0 : Fin 2) = (idx (ix2 r (0 : Fin 1))).toNat := by
    unfold GatherDims.start
    rw [dif_pos (show (0 : Fin 2) ∈ (gather_S786432x256_S131072x1_S131072x256_1_0_n_n_0_1_1256).startIndexMap from List.mem_singleton.mpr rfl)]
    have hsi : (gather_S786432x256_S131072x1_S131072x256_1_0_n_n_0_1_1256).siIdx (ix2 r q) ⟨List.idxOf (0 : Fin 2) (gather_S786432x256_S131072x1_S131072x256_1_0_n_n_0_1_1256).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, BitVec.toInt_eq_toNat_of_lt (by omega), Int.toNat_natCast]
    show min (idx (ix2 r (0 : Fin 1))).toNat (786432 - 1) = _
    omega
  funext a
  refine Fin.ext ?_
  show (gather_S786432x256_S131072x1_S131072x256_1_0_n_n_0_1_1256).start (ix2 r q) idx a
      + (gather_S786432x256_S131072x1_S131072x256_1_0_n_n_0_1_1256).batchCoord (ix2 r q) a
      + (gather_S786432x256_S131072x1_S131072x256_1_0_n_n_0_1_1256).offCoord (ix2 r q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    exact h0
  | ⟨1, _⟩ =>
    show 0 + 0 + q.val = q.val
    omega

/-- The reference's value at in-range row numbers. -/
theorem value_eq {α : Type} (x : S786432x256.Idx → α) (b : IVec S131072 32) (hb : ∀ j, (b j).toNat < 786432) (h1 h2 h3) :
    shapeCast S131072x2x128 (Host.gather gather_S786432x256_S131072x1_S131072x256_1_0_n_n_0_1_1256 x
        (broadcastInDim S131072x1 ![0] bcast_S131072_S131072x1_0
          (select (cmpi .slt b (broadcastInDim S131072 ![] bcast_S_S131072 (constantI S_ 32 0#32)))
            (addi b (broadcastInDim S131072 ![] bcast_S_S131072 (constantI S_ 32 786432#32))) b))) h1
      = gath (fun i => shapeCast S786432x2x128 x h2 i) (fun i => shapeCast S1x131072 b h3 i) := by
  have hsel : select (cmpi .slt b (broadcastInDim S131072 ![] bcast_S_S131072 (constantI S_ 32 0#32)))
      (addi b (broadcastInDim S131072 ![] bcast_S_S131072 (constantI S_ 32 786432#32))) b = b := by
    funext j
    have h := hb j
    have hc : IntOp.cmpi .slt (b j) 0#32 = 0#1 := by
      have : (b j).slt 0#32 = false := by
        rw [BitVec.slt_eq_decide, BitVec.toInt_eq_toNat_of_lt (by omega)]; simp
      show BitVec.ofBool ((b j).slt 0#32) = 0#1
      rw [this]; rfl
    show Scalar.select (IntOp.cmpi .slt (b j) 0#32) _ (b j) = b j
    rw [hc, select_zero]
  rw [hsel]
  funext y
  obtain ⟨r, p, l, rfl⟩ : ∃ (r : Fin 131072) (p : Fin 2) (l : Fin 128), y = ix3 r p l := ⟨y 0, y 1, y 2, by
    funext a
    match a with
    | ⟨0, _⟩ => rfl
    | ⟨1, _⟩ => rfl
    | ⟨2, _⟩ => rfl⟩
  have hk : 128 * p.val + l.val < 256 := by omega
  rw [shapeCast_apply _ h1 _ (ix2 r (⟨128 * p.val + l.val, hk⟩ : Fin 256)) (by
    rw [Shape.rowMajor_val_three, Shape.rowMajor_val_two]
    show r.val * 256 + (128 * p.val + l.val) = (r.val * 2 + p.val) * 128 + l.val; omega)]
  have hrow : (shapeCast S1x131072 b h3 (ix2 (0 : Fin 1) r)) = b (ix1 r) :=
    shapeCast_a_1a_apply b h3 (0 : Fin 1) r
  have hbr : broadcastInDim S131072x1 ![0] bcast_S131072_S131072x1_0 b (ix2 r (0 : Fin 1)) = b (ix1 r) := by
    unfold broadcastInDim
    congr 1
    funext a
    match a with
    | ⟨0, _⟩ => rfl
  rw [rows_at x _ r (⟨128 * p.val + l.val, hk⟩ : Fin 256) (by
    show (broadcastInDim S131072x1 ![0] bcast_S131072_S131072x1_0 b (ix2 r (0 : Fin 1))).toNat < _
    rw [hbr]; exact hb _)]
  show _ = shapeCast S786432x2x128 x h2 (ix3 (rowAt (fun i => shapeCast S1x131072 b h3 i) r) p l)
  refine Eq.symm ((shapeCast_apply x h2 _ (ix2 (rowAt (fun i => shapeCast S1x131072 b h3 i) r) (⟨128 * p.val + l.val, hk⟩ : Fin 256)) (by
    rw [Shape.rowMajor_val_three, Shape.rowMajor_val_two]
    show (rowAt (fun i => shapeCast S1x131072 b h3 i) r).val * 256 + (128 * p.val + l.val)
      = ((rowAt (fun i => shapeCast S1x131072 b h3 i) r).val * 2 + p.val) * 128 + l.val; omega)).trans ?_)
  congr 1
  have hrv : rowAt (fun i => shapeCast S1x131072 b h3 i) r
      = ⟨(broadcastInDim S131072x1 ![0] bcast_S131072_S131072x1_0 b (ix2 r (0 : Fin 1))).toNat, by rw [hbr]; exact hb _⟩ := by
    apply Fin.ext
    show (shapeCast S1x131072 b h3 (ix2 (0 : Fin 1) r)).toNat % 786432 = (broadcastInDim S131072x1 ![0] bcast_S131072_S131072x1_0 b (ix2 r (0 : Fin 1))).toNat
    rw [hrow, hbr, Nat.mod_eq_of_lt (hb _)]
  rw [hrv]

/-- The precondition, as the claims print it, says every word names a row. -/
theorem words_of_pre {F : FTy → Type} [FloatOps F] (a : IVec S786432x256 32) (b : IVec S131072 32)
    (h : Cert.Pre_idx_in_rows.fn (F := F) a b = fun _ => 1#1) : ∀ j, (b j).toNat < 786432 := by
  have both (p q : Bool) : IntOp.andi (BitVec.ofBool p) (BitVec.ofBool q) = 1#1 → p = true ∧ q = true := by
    cases p <;> cases q <;> decide
  intro j
  have e : IntOp.andi (BitVec.ofBool ((0#32).sle (b j))) (BitVec.ofBool ((b j).slt 786432#32)) = 1#1 := congrFun h j
  obtain ⟨h0, h1⟩ := both _ _ e
  rw [BitVec.sle_eq_decide, decide_eq_true_eq] at h0
  rw [BitVec.slt_eq_decide, decide_eq_true_eq] at h1
  have z : (0#32).toInt = 0 := by decide
  have n : (786432#32).toInt = 786432 := by decide
  rw [z] at h0; rw [n] at h1
  rw [BitVec.toInt_eq_toNat_cond] at h0 h1
  split at h0 <;> omega

/-- What the launch theorem asks, from it. -/
theorem inRows_of {F : FTy → Type} [FloatOps F] (b : IVec S131072 32) (hb : ∀ j, (b j).toNat < 786432) (h3) :
    InRows (fun i => shapeCast Cert.KernelIdeal.S1x131072 b h3 i) := by
  intro j
  exact hb _

end Cert.Proof.Gather

end
-- ==== Proof.Proj.lean ====
/-
  The combined input projection.  A grid point multiplies its 512 rows by the weight in column slabs and stores every slab;
  read back together the slabs are one product, and the blocks of all points are the whole of it.
-/
module

public import proofs.«01_k».proof.Proof.Gen.ProjIdeal.Frame
public import proofs.«01_k».proof.Proof.Gen.ProjIdeal.Value
public import proofs.«01_k».proof.Proof.Gen.Proj
public import proofs.«01_k».proof.Proof.Gen.ProjReference
public import proofs.«01_k».proof.Proof.Gen.ProjReferenceIdeal.Run
public import proofs.«01_k».proof.Defs
public import Idealize.ShloMosaic.Lib.Pipeline.ValueKit
public import Idealize.ShloMosaic.Lib.Claim

@[expose] public section

set_option maxRecDepth 16384

noncomputable section

namespace Cert.Proof.Projection

open Idealize.ShloMosaic Idealize.ShloMosaic.TcCoe Idealize.SL.Sem
open Idealize.ShloMosaic.Pipeline (Dat)
open Cert.ProjIdeal Cert.ProjIdeal.Gen

/-- A block of rows times the packed weight, at one row and one column. -/
def rowDot (x : FVec Ideal S512x1024 .f32) (w : FVec Ideal S1024x7296 .bf16) (y : S512x7296.Idx) : EReal :=
  ∑ k : Fin 1024, x (ix2 (y 0) k) * w (ix2 k (y 1))

/-- What a point leaves in its output block is the product of its rows with the weight. -/
theorem slabs (c : Dev nD) (i : grid0.Coords) (a1 : Memref sig .tc .vmem S512x1024 .f32) (h1 : a1.IsWhole) (a2 : Memref sig .tc .vmem S1024x7296 .bf16) (h2 : a2.IsWhole)
    (a3 : Memref sig .tc .vmem S512x7296 .bf16) (h3 : a3.IsWhole) (x : FVec Ideal S512x1024 .f32) (w : FVec Ideal S1024x7296 .bf16) (y : S512x7296.Idx) :
    out0_A_2 (F := Ideal) c i a1 h1 a2 h2 a3 h3 x w y = rowDot x w y := by
  frame_out
  canon_tiles z h using (View.cover_of_tiledBy _ ![512, 128] (by sl_kernel_rfl) y)
  all_goals (open_payloads; pointwise [rowDot]; blk_point [])

/-- The product of the rows and the packed weight, as an array. -/
def product (X : FVec Ideal S65536x1024 .f32) (W : FVec Ideal S1024x7296 .bf16) : FVec Ideal S65536x7296 .bf16 := fun j =>
  ∑ k : Fin 1024, X (ix2 (j 0) k) * W (ix2 k (j 1))

variable (m : (ℓ : Loc nD τ sig) → Buf (Elt Ideal) ℓ)

theorem places : ∀ t : Fin cfg0.N, win0_0.index t = ![t.val, 0] ∧ win0_1.index t = ![0, 0] ∧ win0_2.index t = ![t.val, 0] :=
  (by decide +kernel : ∀ t : Fin grid0.N, _)

theorem block_product (c : Dev nD) (t : Fin cfg0.N) (y : S512x7296.Idx) :
    rowDot (iblk m c 0 t) (iblk m c 1 t) y = product (V m c main_v0) (V m c main_v6) ((win0_2.blk t).view.emb y) := by
  unfold rowDot product
  blk_point [iblk, places t]

/-- The result array after the run. -/
theorem final (c : Dev nD) : (dats m 0 c).arrAt 2 (cfgs 0).N = product (V m c main_v0) (V m c main_v6) := by
  refine (dats m 0 c).arrAt_eq_of_covers 2 _ (by decide +kernel) fun t _ y => ?_
  blk_simp
  rw [after0_2]
  unfold outsAt0
  rw [slabs]
  exact block_product m c t y

/-- The weight's columns in the kernel's order. -/
def packed (W : FVec Ideal S1024x7184 .f32) : FVec Ideal S1024x7296 .bf16 :=
  truncf .bf16 (concatenate S1024x7296 1 [⟨S1024x5120, extractStridedSlice S1024x5120 ![0, 0] W slices_S1024x7184_S1024x5120_0_0⟩,
      ⟨S1024x2048, extractStridedSlice S1024x2048 ![0, 5136] W slices_S1024x7184_S1024x2048_0_5136⟩,
      ⟨S1024x16, extractStridedSlice S1024x16 ![0, 5120] W slices_S1024x7184_S1024x16_0_5120⟩,
      ⟨S1024x112, broadcastInDim S1024x112 ![] bcast_S_S1024x112 (constant S_ .f32 0x00000000#32)⟩] concatenates_S1024x5120_S1024x2048_S1024x16_S1024x112_S1024x7296_d1) bitsLt_bf16_f32

theorem entry_rows (c : Dev nD) : V m c main_v0 = shapeCast S65536x1024 (m ((c.tc : Thread nD τ).loc main_arg0)) shapeCasts_S32x2048x1024_S65536x1024 := by
  entry_read
  rfl

set_option maxHeartbeats 900000 in
theorem entry_weight (c : Dev nD) : V m c main_v6 = packed (m ((c.tc : Thread nD τ).loc main_arg1)) := by
  unfold V
  after_results
  rfl

/-- The reference's result: every row times the weight, the columns then put in the kernel's order. -/
def ordered (X : FVec Ideal S32x2048x1024 .f32) (W : FVec Ideal S1024x7184 .f32) : FVec Ideal S65536x7296 .bf16 :=
  let p : FVec Ideal Cert.ProjReferenceIdeal.S65536x7184 .f32 := shapeCast _ (Host.dotGeneral Cert.ProjReferenceIdeal.dot_S32x2048x1024_S1024x7184_S32x2048x7184_2_0_01_1_n_n none X W) Cert.ProjReferenceIdeal.Gen.facts₀.shapeCasts_S32x2048x7184_S65536x7184
  truncf .bf16 (concatenate S65536x7296 1 [⟨Cert.ProjReferenceIdeal.S65536x5120, extractStridedSlice _ ![0, 0] p Cert.ProjReferenceIdeal.Gen.facts₀.slices_S65536x7184_S65536x5120_0_0⟩,
      ⟨Cert.ProjReferenceIdeal.S65536x2048, extractStridedSlice _ ![0, 5136] p Cert.ProjReferenceIdeal.Gen.facts₀.slices_S65536x7184_S65536x2048_0_5136⟩,
      ⟨Cert.ProjReferenceIdeal.S65536x16, extractStridedSlice _ ![0, 5120] p Cert.ProjReferenceIdeal.Gen.facts₀.slices_S65536x7184_S65536x16_0_5120⟩,
      ⟨Cert.ProjReferenceIdeal.S65536x112, broadcastInDim _ ![] Cert.ProjReferenceIdeal.Gen.facts₀.bcast_S_S65536x112 (constant S_ .f32 0x00000000#32)⟩] Cert.ProjReferenceIdeal.Gen.facts₀.concatenates_S65536x5120_S65536x2048_S65536x16_S65536x112_S65536x7296_d1) bitsLt_bf16_f32

theorem same (X : FVec Ideal S32x2048x1024 .f32) (W : FVec Ideal S1024x7184 .f32) :
    ordered X W = product (shapeCast S65536x1024 X shapeCasts_S32x2048x1024_S65536x1024) (packed W) := by
  funext j
  pointwise [product, packed, ordered]
  split_ifs <;> first | rfl | simp only [mul_zero, Finset.sum_const_zero]

/-- The two prints have one body table: label by label the same text. -/
theorem table_eq : Cert.Proj.defs₀ (F := Bits) = Cert.ProjIdeal.defs₀ (F := Bits) := by
  unfold Cert.Proj.defs₀ Cert.ProjIdeal.defs₀
  congr 1
  funext l a
  match l, a with
  | 0, (t, s) => rfl

theorem defs_eq : Cert.Proj.defs (F := Bits) = Cert.ProjIdeal.defs (F := Bits) :=
  congrArg (fun d => Pipeline.defs (Cert.ProjIdeal.pcfgs (F := Bits)) d) table_eq

theorem frame_bits : Cert.quiescent_Proj := fun m ρ _ => by
  rw [defs_eq]
  exact Cert.ProjIdeal.Gen.frame (F := Bits) m ρ
theorem frame_ideal : Cert.quiescent_ProjIdeal := fun m ρ _ => Cert.ProjIdeal.Gen.frame (F := Ideal) m ρ
theorem ref_frame_bits : Cert.quiescent_ProjReference := fun m ρ _ =>
  (θ_run Cert.ProjReferenceIdeal.defs _ _).mono (fun r h => ⟨fun c => (h c).2, sem_eq_zero_of_no_sems (by decide) r.2⟩)
    (Cert.ProjReferenceIdeal.Value.run (F := Bits) m ρ)
theorem ref_frame_ideal : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The projection's result is the plain product, its columns in the kernel's order. -/
theorem claim_proj : Cert.algebraic_ProjIdeal_ProjReferenceIdeal := by
  pair_intro
  · run_from Cert.ProjIdeal.Value.run_blocks m g
  · run_from Cert.ProjReferenceIdeal.Value.run m' g'
    rw [final m c, entry_rows, entry_weight]
    exact same _ _

end Cert.Proof.Projection
-- ==== Proof.Merge.lean ====
/-
  The merge of the two branches, the mixing product and the first layer norm.  A grid point takes 512 rows of every
  array; its three blocks are rows of three whole arrays of the arguments.
-/
module

public import proofs.«01_k».proof.Proof.Gen.MergeIdeal.Frame
public import proofs.«01_k».proof.Proof.Gen.MergeIdeal.Value
public import Idealize.ShloMosaic.Lib.Pipeline.ValueKit
public import Idealize.ShloMosaic.Lib.Claim

@[expose] public section

set_option maxRecDepth 16384

noncomputable section

namespace Cert.Proof.Merged

open Idealize.ShloMosaic Idealize.ShloMosaic.TcCoe Idealize.SL.Sem
open Idealize.ShloMosaic.Pipeline (Dat)
open Cert.MergeIdeal Cert.MergeIdeal.Gen

/-- A row times a weight, at one column. -/
def along (x : Fin 1024 → EReal) (w : FVec Ideal S1024x1024 .bf16) (k : Fin 1024) : EReal := ∑ i : Fin 1024, x i * w (ix2 i k)

/-- The two branches, each under its gate. -/
def merged (a b p q : Fin 1024 → EReal) (wa wb : FVec Ideal S1024x1024 .bf16) (k : Fin 1024) : EReal :=
  Ideal.logistic (p k) * along a wa k + Ideal.logistic (q k) * along b wb k

/-- The row the layer norm is taken of. -/
def mixed (a b p q x : Fin 1024 → EReal) (wa wb wo : FVec Ideal S1024x1024 .bf16) (k : Fin 1024) : EReal :=
  Ideal.ofBits .f32 0x3F9837F0#32 * x k + along (merged a b p q wa wb) wo k

/-- A row's mean. -/
def mean (z : Fin 1024 → EReal) : EReal := Ideal.div (∑ i : Fin 1024, z i) (Ideal.ofBits .f32 0x44800000#32)

/-- The layer norm of a row. -/
def normed (z g s : Fin 1024 → EReal) (k : Fin 1024) : EReal :=
  (z k - mean z) * Ideal.rsqrt (mean (fun i => (z i - mean z) * (z i - mean z)) + Ideal.ofBits .f32 0x3727C5AC#32) * g k + s k

/-- A column of the results of half the width: of its first 256 the column itself, of the others 256 further on. -/
def spread (k : Fin 512) : Fin 1024 := if h : k.val < 256 then ⟨k.val, by omega⟩ else ⟨k.val + 256, by omega⟩
/-- The same from column 256 on. -/
def spread' (k : Fin 512) : Fin 1024 := if h : k.val < 256 then ⟨k.val + 256, by omega⟩ else ⟨k.val + 512, by omega⟩

section block

variable (a b p q : FVec Ideal S512x1024 .bf16) (x : FVec Ideal S512x1024 .f32) (wa wb wo : FVec Ideal S1024x1024 .bf16) (g s : FVec Ideal S1x1024 .f32)

/-- A block's row of the result, from the blocks. -/
def blockRow (r : Fin 512) (k : Fin 1024) : EReal :=
  normed (mixed (fun i => a (ix2 r i)) (fun i => b (ix2 r i)) (fun i => p (ix2 r i)) (fun i => q (ix2 r i)) (fun i => x (ix2 r i)) wa wb wo)
    (fun i => g (ix2 0 i)) (fun i => s (ix2 0 i)) k

theorem mix_row (y : S512x1024.Idx) : k0_pay6 (F := Ideal) a wa b wb p q wo x y =
    mixed (fun i => a (ix2 (y 0) i)) (fun i => b (ix2 (y 0) i)) (fun i => p (ix2 (y 0) i)) (fun i => q (ix2 (y 0) i)) (fun i => x (ix2 (y 0) i)) wa wb wo (y 1) := by
  open_payloads
  pointwise [mixed, merged, along]

theorem norm_row (v : FVec Ideal S512x1024 .f32) (d : FVec Ideal S512x1 .f32) (y : S512x1024.Idx) (hd : d (ix2 (y 0) 0) = ∑ i : Fin 1024, v (ix2 (y 0) i)) :
    k0_pay1 (F := Ideal) v g s d k0_pay10 y = normed (fun i => v (ix2 (y 0) i)) (fun i => g (ix2 0 i)) (fun i => s (ix2 0 i)) (y 1) := by
  unfold k0_pay1 k0_pay10
  pointwise [normed, mean, hd]

theorem result_row (y : S512x1024.Idx) :
    k0_pay1 (F := Ideal) (k0_pay6 a wa b wb p q wo x) (k0_pay7 g) (k0_pay8 s) (k0_pay9 a wa b wb p q wo x) k0_pay10 y = blockRow a b p q x wa wb wo g s (y 0) (y 1) := by
  have hd : k0_pay9 (F := Ideal) a wa b wb p q wo x (ix2 (y 0) 0) = ∑ i : Fin 1024, k0_pay6 (F := Ideal) a wa b wb p q wo x (ix2 (y 0) i) := by
    unfold k0_pay9
    pointwise []
  rw [norm_row _ _ _ _ y hd]
  unfold blockRow
  simp only [mix_row]
  congr 1
  · unfold k0_pay7
    pointwise []
  · unfold k0_pay8
    pointwise []

end block

variable (m : (ℓ : Loc nD τ sig) → Buf (Elt Ideal) ℓ)

set_option maxHeartbeats 900000 in
theorem places : ∀ t : Fin cfg0.N, win0_0.index t = ![t.val, 0] ∧ win0_1.index t = ![t.val, 0] ∧ win0_2.index t = ![t.val, 5] ∧ win0_3.index t = ![t.val, 6]
    ∧ win0_4.index t = ![t.val, 0] ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N, _)

/-- The gates' blocks are columns of the projection. -/
theorem gate_a (c : Dev nD) (t : Fin cfg0.N) (r : Fin 512) (k : Fin 1024) :
    X0_2 m c t (ix2 r k) = V m c main_arg2 (ix2 ((win0_10.blk t).view.emb (ix2 r k) 0) ⟨5120 + k.val, by omega⟩) := by
  unfold X0_2 Pipeline.Window.fill
  rw [dif_pos (moved0_2 t _)]
  blk_point [iblk, places t]
theorem gate_b (c : Dev nD) (t : Fin cfg0.N) (r : Fin 512) (k : Fin 1024) :
    X0_3 m c t (ix2 r k) = V m c main_arg2 (ix2 ((win0_10.blk t).view.emb (ix2 r k) 0) ⟨6144 + k.val, by omega⟩) := by
  unfold X0_3 Pipeline.Window.fill
  rw [dif_pos (moved0_3 t _)]
  blk_point [iblk, places t]

/-- A row of the result from the whole arrays: the branches' results, the projection (its last 2048 full columns the gates), the
    input, the weights, the layer norm's gain and shift. -/
def row (A B : FVec Ideal S65536x1024 .bf16) (P : FVec Ideal S65536x7296 .bf16) (X : FVec Ideal S65536x1024 .f32) (wa wb wo : FVec Ideal S1024x1024 .bf16)
    (g s : Fin 1024 → EReal) (r : Fin 65536) (k : Fin 1024) : EReal :=
  normed (mixed (fun i => A (ix2 r i)) (fun i => B (ix2 r i)) (fun i => P (ix2 r ⟨5120 + i.val, by omega⟩)) (fun i => P (ix2 r ⟨6144 + i.val, by omega⟩))
    (fun i => X (ix2 r i)) wa wb wo) g s k

/-- A row of the result, of the run's arrays. -/
def rowAt (c : Dev nD) (r : Fin 65536) (k : Fin 1024) : EReal :=
  row (V m c main_arg0) (V m c main_arg1) (V m c main_arg2) (V m c main_v0) (V m c main_v1) (V m c main_v2) (V m c main_v3)
    (fun i => V m c main_v4 (ix2 0 i)) (fun i => V m c main_v5 (ix2 0 i)) r k

theorem block_row (c : Dev nD) (t : Fin cfg0.N) (r : Fin 512) (k : Fin 1024) (i : Fin 65536) (hi : i.val = t.val * 512 + r.val) :
    blockRow (iblk m c 0 t) (iblk m c 1 t) (X0_2 m c t) (X0_3 m c t) (iblk m c 4 t) (iblk m c 5 t) (iblk m c 6 t) (iblk m c 7 t) (iblk m c 8 t) (iblk m c 9 t) r k
      = rowAt m c i k := by
  unfold blockRow rowAt row
  have e0 : (fun j => iblk m c 0 t (ix2 r j)) = fun j : Fin 1024 => V m c main_arg0 (ix2 i j) := by
    funext j; blk_point [iblk, places t, hi]
  have e1 : (fun j => iblk m c 1 t (ix2 r j)) = fun j : Fin 1024 => V m c main_arg1 (ix2 i j) := by
    funext j; blk_point [iblk, places t, hi]
  have e4 : (fun j => iblk m c 4 t (ix2 r j)) = fun j : Fin 1024 => V m c main_v0 (ix2 i j) := by
    funext j; blk_point [iblk, places t, hi]
  have e5 : iblk m c 5 t = V m c main_v1 := by
    funext y; blk_point [iblk, places t]
  have e6 : iblk m c 6 t = V m c main_v2 := by
    funext y; blk_point [iblk, places t]
  have e7 : iblk m c 7 t = V m c main_v3 := by
    funext y; blk_point [iblk, places t]
  have e8 : (fun j => iblk m c 8 t (ix2 0 j)) = fun j : Fin 1024 => V m c main_v4 (ix2 0 j) := by
    funext j; blk_point [iblk, places t]
  have e9 : (fun j => iblk m c 9 t (ix2 0 j)) = fun j : Fin 1024 => V m c main_v5 (ix2 0 j) := by
    funext j; blk_point [iblk, places t]
  have e2 : (fun j => X0_2 m c t (ix2 r j)) = fun j : Fin 1024 => V m c main_arg2 (ix2 i ⟨5120 + j.val, by omega⟩) := by
    funext j; rw [gate_a]; blk_point [places t, hi]
  have e3 : (fun j => X0_3 m c t (ix2 r j)) = fun j : Fin 1024 => V m c main_arg2 (ix2 i ⟨6144 + j.val, by omega⟩) := by
    funext j; rw [gate_b]; blk_point [places t, hi]
  exact congrFun (congr (congr (congrArg normed (congr (congr (congr (congr (congr (congr (congr (congrArg mixed e0) e1) e2) e3) e4) e5) e6) e7)) e8) e9) k

section outs

variable (c : Dev nD) (i : grid0.Coords)
  (a1 : Memref sig .tc .vmem S512x1024 .bf16) (h1 : a1.IsWhole) (a2 : Memref sig .tc .vmem S512x1024 .bf16) (h2 : a2.IsWhole)
  (a3 : Memref sig .tc .vmem S512x1024 .bf16) (h3 : a3.IsWhole) (a4 : Memref sig .tc .vmem S512x1024 .bf16) (h4 : a4.IsWhole)
  (a5 : Memref sig .tc .vmem S512x1024 .f32) (h5 : a5.IsWhole) (a6 : Memref sig .tc .vmem S1024x1024 .bf16) (h6 : a6.IsWhole)
  (a7 : Memref sig .tc .vmem S1024x1024 .bf16) (h7 : a7.IsWhole) (a8 : Memref sig .tc .vmem S1024x1024 .bf16) (h8 : a8.IsWhole)
  (a9 : Memref sig .tc .vmem S1x1024 .f32) (h9 : a9.IsWhole) (a10 : Memref sig .tc .vmem S1x1024 .f32) (h10 : a10.IsWhole)
  (a11 : Memref sig .tc .vmem S512x1024 .f32) (h11 : a11.IsWhole) (a12 : Memref sig .tc .vmem S512x512 .bf16) (h12 : a12.IsWhole)
  (a13 : Memref sig .tc .vmem S512x512 .bf16) (h13 : a13.IsWhole)
  (a b p q : FVec Ideal S512x1024 .bf16) (x : FVec Ideal S512x1024 .f32) (wa wb wo : FVec Ideal S1024x1024 .bf16) (g s : FVec Ideal S1x1024 .f32)

theorem out_h (y : S512x1024.Idx) :
    out0_A_10 (F := Ideal) c i a1 h1 a2 h2 a3 h3 a4 h4 a5 h5 a6 h6 a7 h7 a8 h8 a9 h9 a10 h10 a11 h11 a12 h12 a13 h13 a b p q x wa wb wo g s y
      = blockRow a b p q x wa wb wo g s (y 0) (y 1) := by
  frame_out
  exact result_row a b p q x wa wb wo g s _

theorem quarter2 (z : S512x256.Idx) (r : Fin 512) (k : Fin 1024) (hr : r.val = (z 0).val) (hk : k.val = 0 + (z 1).val) :
    k0_pay2 (k0_pay6 (F := Ideal) a wa b wb p q wo x) (k0_pay7 g) (k0_pay8 s) (k0_pay9 a wa b wb p q wo x) k0_pay10 z = blockRow a b p q x wa wb wo g s r k := by
  have h : k0_pay2 (k0_pay6 (F := Ideal) a wa b wb p q wo x) (k0_pay7 g) (k0_pay8 s) (k0_pay9 a wa b wb p q wo x) k0_pay10 z = k0_pay1 (k0_pay6 (F := Ideal) a wa b wb p q wo x) (k0_pay7 g) (k0_pay8 s) (k0_pay9 a wa b wb p q wo x) k0_pay10 (ix2 r k) := by
    unfold k0_pay2
    simp only [pointwise, Ideal.truncf_def]
    refine congrArg _ (funext fun d => Fin.ext ?_)
    match d with
    | 0 => simp [hr]
    | 1 => simp [hk]
  rw [h, result_row]
  rfl

theorem quarter3 (z : S512x256.Idx) (r : Fin 512) (k : Fin 1024) (hr : r.val = (z 0).val) (hk : k.val = 512 + (z 1).val) :
    k0_pay3 (k0_pay6 (F := Ideal) a wa b wb p q wo x) (k0_pay7 g) (k0_pay8 s) (k0_pay9 a wa b wb p q wo x) k0_pay10 z = blockRow a b p q x wa wb wo g s r k := by
  have h : k0_pay3 (k0_pay6 (F := Ideal) a wa b wb p q wo x) (k0_pay7 g) (k0_pay8 s) (k0_pay9 a wa b wb p q wo x) k0_pay10 z = k0_pay1 (k0_pay6 (F := Ideal) a wa b wb p q wo x) (k0_pay7 g) (k0_pay8 s) (k0_pay9 a wa b wb p q wo x) k0_pay10 (ix2 r k) := by
    unfold k0_pay3
    simp only [pointwise, Ideal.truncf_def]
    refine congrArg _ (funext fun d => Fin.ext ?_)
    match d with
    | 0 => simp [hr]
    | 1 => simp [hk]
  rw [h, result_row]
  rfl

theorem quarter4 (z : S512x256.Idx) (r : Fin 512) (k : Fin 1024) (hr : r.val = (z 0).val) (hk : k.val = 256 + (z 1).val) :
    k0_pay4 (k0_pay6 (F := Ideal) a wa b wb p q wo x) (k0_pay7 g) (k0_pay8 s) (k0_pay9 a wa b wb p q wo x) k0_pay10 z = blockRow a b p q x wa wb wo g s r k := by
  have h : k0_pay4 (k0_pay6 (F := Ideal) a wa b wb p q wo x) (k0_pay7 g) (k0_pay8 s) (k0_pay9 a wa b wb p q wo x) k0_pay10 z = k0_pay1 (k0_pay6 (F := Ideal) a wa b wb p q wo x) (k0_pay7 g) (k0_pay8 s) (k0_pay9 a wa b wb p q wo x) k0_pay10 (ix2 r k) := by
    unfold k0_pay4
    simp only [pointwise, Ideal.truncf_def]
    refine congrArg _ (funext fun d => Fin.ext ?_)
    match d with
    | 0 => simp [hr]
    | 1 => simp [hk]
  rw [h, result_row]
  rfl

theorem quarter5 (z : S512x256.Idx) (r : Fin 512) (k : Fin 1024) (hr : r.val = (z 0).val) (hk : k.val = 768 + (z 1).val) :
    k0_pay5 (k0_pay6 (F := Ideal) a wa b wb p q wo x) (k0_pay7 g) (k0_pay8 s) (k0_pay9 a wa b wb p q wo x) k0_pay10 z = blockRow a b p q x wa wb wo g s r k := by
  have h : k0_pay5 (k0_pay6 (F := Ideal) a wa b wb p q wo x) (k0_pay7 g) (k0_pay8 s) (k0_pay9 a wa b wb p q wo x) k0_pay10 z = k0_pay1 (k0_pay6 (F := Ideal) a wa b wb p q wo x) (k0_pay7 g) (k0_pay8 s) (k0_pay9 a wa b wb p q wo x) k0_pay10 (ix2 r k) := by
    unfold k0_pay5
    simp only [pointwise, Ideal.truncf_def]
    refine congrArg _ (funext fun d => Fin.ext ?_)
    match d with
    | 0 => simp [hr]
    | 1 => simp [hk]
  rw [h, result_row]
  rfl

theorem out_a (y : S512x512.Idx) :
    out0_A_11 (F := Ideal) c i a1 h1 a2 h2 a3 h3 a4 h4 a5 h5 a6 h6 a7 h7 a8 h8 a9 h9 a10 h10 a11 h11 a12 h12 a13 h13 a b p q x wa wb wo g s y
      = blockRow a b p q x wa wb wo g s (y 0) (spread (y 1)) := by
  frame_out
  canon_tiles z h using (View.cover_of_tiledBy _ ![512, 256] (by sl_kernel_rfl) y)
  · refine quarter3 a b p q x wa wb wo g s _ _ _ h0 ?_
    unfold spread
    rw [dif_neg (by omega)]
    simp only []
    omega
  · refine quarter2 a b p q x wa wb wo g s _ _ _ h0 ?_
    unfold spread
    rw [dif_pos (by omega)]
    simp only []
    omega

theorem out_b (y : S512x512.Idx) :
    out0_A_12 (F := Ideal) c i a1 h1 a2 h2 a3 h3 a4 h4 a5 h5 a6 h6 a7 h7 a8 h8 a9 h9 a10 h10 a11 h11 a12 h12 a13 h13 a b p q x wa wb wo g s y
      = blockRow a b p q x wa wb wo g s (y 0) (spread' (y 1)) := by
  frame_out
  canon_tiles z h using (View.cover_of_tiledBy _ ![512, 256] (by sl_kernel_rfl) y)
  · refine quarter5 a b p q x wa wb wo g s _ _ _ h0 ?_
    unfold spread'
    rw [dif_neg (by omega)]
    simp only []
    omega
  · refine quarter4 a b p q x wa wb wo g s _ _ _ h0 ?_
    unfold spread'
    rw [dif_pos (by omega)]
    simp only []
    omega

end outs

/-- The three result arrays after the run. -/
theorem final_h (c : Dev nD) : (dats m 0 c).arrAt 10 (cfgs 0).N = fun j : S65536x1024.Idx => rowAt m c (j 0) (j 1) := by
  refine (dats m 0 c).arrAt_eq_of_covers 10 _ (by decide +kernel) fun t _ y => ?_
  blk_simp
  rw [after0_10]
  unfold outsAt0
  dsimp only []
  rw [out_h]
  refine (block_row m c t _ _ ((win0_10.blk t).view.emb y 0) ?_).trans (congrArg (rowAt m c _) ?_)
  · blk_simp [places t]
  · refine Fin.ext ?_
    blk_simp [places t]

theorem final_a (c : Dev nD) : (dats m 0 c).arrAt 11 (cfgs 0).N = fun j : S65536x512.Idx => rowAt m c (j 0) (spread (j 1)) := by
  refine (dats m 0 c).arrAt_eq_of_covers 11 _ (by decide +kernel) fun t _ y => ?_
  blk_simp
  rw [after0_11]
  unfold outsAt0
  dsimp only []
  rw [out_a]
  refine (block_row m c t _ _ ((win0_11.blk t).view.emb y 0) ?_).trans (congrArg (fun k => rowAt m c _ (spread k)) ?_)
  · blk_simp [places t]
  · refine Fin.ext ?_
    blk_simp [places t]

theorem final_b (c : Dev nD) : (dats m 0 c).arrAt 12 (cfgs 0).N = fun j : S65536x512.Idx => rowAt m c (j 0) (spread' (j 1)) := by
  refine (dats m 0 c).arrAt_eq_of_covers 12 _ (by decide +kernel) fun t _ y => ?_
  blk_simp
  rw [after0_12]
  unfold outsAt0
  dsimp only []
  rw [out_b]
  refine (block_row m c t _ _ ((win0_12.blk t).view.emb y 0) ?_).trans (congrArg (fun k => rowAt m c _ (spread' k)) ?_)
  · blk_simp [places t]
  · refine Fin.ext ?_
    blk_simp [places t]

/-- A row of the result from the arguments. -/
def rowOf (A B : FVec Ideal S65536x1024 .bf16) (P : FVec Ideal S65536x7296 .bf16) (X : FVec Ideal S32x2048x1024 .f32) (Wa Wb Wo : FVec Ideal S1024x1024 .f32)
    (g s : FVec Ideal S1024 .f32) (r : Fin 65536) (k : Fin 1024) : EReal :=
  row A B P (shapeCast S65536x1024 X shapeCasts_S32x2048x1024_S65536x1024) Wa Wb Wo (fun i => g (ix1 i)) (fun i => s (ix1 i)) r k

theorem rowAt_eq (c : Dev nD) (r : Fin 65536) (k : Fin 1024) : rowAt m c r k =
    rowOf (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) r k := by
  have e0 : V m c main_arg0 = m ((c.tc : Thread nD τ).loc main_arg0) := by entry_read; try rfl
  have e1 : V m c main_arg1 = m ((c.tc : Thread nD τ).loc main_arg1) := by entry_read; try rfl
  have e2 : V m c main_arg2 = m ((c.tc : Thread nD τ).loc main_arg2) := by entry_read; try rfl
  have e3 : V m c main_v0 = shapeCast S65536x1024 (m ((c.tc : Thread nD τ).loc main_arg3)) shapeCasts_S32x2048x1024_S65536x1024 := by entry_read; rfl
  have e4 : V m c main_v1 = m ((c.tc : Thread nD τ).loc main_arg4) := by entry_read; rfl
  have e5 : V m c main_v2 = m ((c.tc : Thread nD τ).loc main_arg5) := by entry_read; rfl
  have e6 : V m c main_v3 = m ((c.tc : Thread nD τ).loc main_arg6) := by entry_read; rfl
  have e7 : V m c main_v4 = shapeCast S1x1024 (m ((c.tc : Thread nD τ).loc main_arg7)) shapeCasts_S1024_S1x1024 := by entry_read; rfl
  have e8 : V m c main_v5 = shapeCast S1x1024 (m ((c.tc : Thread nD τ).loc main_arg8)) shapeCasts_S1024_S1x1024 := by entry_read; rfl
  unfold rowAt rowOf
  rw [e0, e1, e2, e3, e4, e5, e6, e7, e8]
  have c1 : ∀ v : FVec Ideal S1024 .f32, (fun i : Fin 1024 => shapeCast S1x1024 v shapeCasts_S1024_S1x1024 (ix2 0 i)) = fun i => v (ix1 i) := by
    intro v; funext i; pointwise []
  rw [c1, c1]

end Cert.Proof.Merged
-- ==== Proof.MergeClaim.lean ====
/-
  The merge against its reference: the reference's arrays, row by row, are the kernel's.
-/
module

public import proofs.«01_k».proof.Proof.Merge
public import proofs.«01_k».proof.Proof.Gen.Merge
public import proofs.«01_k».proof.Proof.Gen.MergeReference
public import proofs.«01_k».proof.Proof.Gen.MergeReferenceIdeal.Run
public import proofs.«01_k».proof.Defs
public import Idealize.ShloMosaic.Lib.Pipeline.ValueKit
public import Idealize.ShloMosaic.Lib.IdealHost
public import Idealize.ShloMosaic.Lib.Claim

@[expose] public section

set_option maxRecDepth 16384

noncomputable section

namespace Cert.Proof.Merged

open Idealize.ShloMosaic Idealize.ShloMosaic.TcCoe Idealize.SL.Sem
open Idealize.ShloMosaic.Pipeline (Dat)
open Cert.MergeReferenceIdeal Cert.MergeReferenceIdeal.Gen

section reference

variable (A B : FVec Ideal S65536x1024 .bf16) (P : FVec Ideal S65536x7296 .bf16) (X : FVec Ideal S32x2048x1024 .f32) (Wa Wb Wo : FVec Ideal S1024x1024 .f32)
    (g s : FVec Ideal S1024 .f32)

/-- A gate of the reference, of a projection's columns. -/
def sig (v : FVec Ideal S65536x1024 .bf16) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf (extf .f32 v bitsLt_bf16_f32))))

/-- The reference's merged branches. -/
def both : FVec Ideal S65536x1024 .f32 :=
  addf (mulf (sig (extractStridedSlice S65536x1024 ![0, 5120] P slices_S65536x7296_S65536x1024_0_5120))
      (Host.dotGeneral dot_S65536x1024_S1024x1024_S65536x1024_1_0_0_1_n_n none (extf .f32 A bitsLt_bf16_f32) Wa))
    (mulf (sig (extractStridedSlice S65536x1024 ![0, 6144] P slices_S65536x7296_S65536x1024_0_6144))
      (Host.dotGeneral dot_S65536x1024_S1024x1024_S65536x1024_1_0_0_1_n_n none (extf .f32 B bitsLt_bf16_f32) Wb))

/-- What the reference takes the layer norm of. -/
def rows : FVec Ideal S65536x1024 .f32 :=
  addf (mulf (broadcastInDim S65536x1024 ![] bcast_S_S65536x1024 (constant S_ .f32 0x3F9837F0#32)) (shapeCast _ X shapeCasts_S32x2048x1024_S65536x1024))
    (Host.dotGeneral dot_S65536x1024_S1024x1024_S65536x1024_1_0_0_1_n_n none (both A B P Wa Wb) Wo)

/-- The reference's mean of every row, along the row. -/
def means (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_))
    (broadcastInDim S65536x1 ![] bcast_S_S65536x1 (constant S_ .f32 0x44800000#32))

/-- Every row less its mean. -/
def centred (z : FVec Ideal S65536x1024 .f32) : FVec Ideal S65536x1024 .f32 :=
  subf z (broadcastInDim S65536x1024 ![0, 1] bcast_S65536x1_S65536x1024_0_1 (means z))

/-- The reference's layer norm. -/
def lnorm (z : FVec Ideal S65536x1024 .f32) : FVec Ideal S65536x1024 .f32 :=
  addf (mulf (mulf (centred z) (broadcastInDim S65536x1024 ![0, 1] bcast_S65536x1_S65536x1024_0_1
      (Host.rsqrt (addf (means (mulf (centred z) (centred z))) (broadcastInDim S65536x1 ![] bcast_S_S65536x1 (constant S_ .f32 0x3727C5AC#32))))))
      (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 s))

theorem sig_at (v : FVec Ideal S65536x1024 .bf16) (j : S65536x1024.Idx) : sig v j = Ideal.logistic (v j) := by
  pointwise [sig, Ideal.logistic, Ideal.ofBits_one_f32]

theorem both_at (j : S65536x1024.Idx) : both A B P Wa Wb j =
    merged (fun i => A (ix2 (j 0) i)) (fun i => B (ix2 (j 0) i)) (fun i => P (ix2 (j 0) ⟨5120 + i.val, by omega⟩)) (fun i => P (ix2 (j 0) ⟨6144 + i.val, by omega⟩)) Wa Wb (j 1) := by
  unfold both merged along
  pointwise [sig_at]

theorem rows_at (j : S65536x1024.Idx) : rows A B P X Wa Wb Wo j =
    mixed (fun i => A (ix2 (j 0) i)) (fun i => B (ix2 (j 0) i)) (fun i => P (ix2 (j 0) ⟨5120 + i.val, by omega⟩)) (fun i => P (ix2 (j 0) ⟨6144 + i.val, by omega⟩))
      (fun i => shapeCast S65536x1024 X shapeCasts_S32x2048x1024_S65536x1024 (ix2 (j 0) i)) Wa Wb Wo (j 1) := by
  unfold rows mixed
  pointwise [both_at, along]

theorem means_at (z : FVec Ideal S65536x1024 .f32) (j : S65536x1.Idx) : means z j = mean (fun i => z (ix2 (j 0) i)) := by
  pointwise [means, mean]

theorem lnorm_at (z : FVec Ideal S65536x1024 .f32) (j : S65536x1024.Idx) :
    lnorm g s z j = normed (fun i => z (ix2 (j 0) i)) (fun i => g (ix1 i)) (fun i => s (ix1 i)) (j 1) := by
  unfold lnorm normed
  pointwise [means_at, centred]

theorem whole_at (j : S65536x1024.Idx) : lnorm g s (rows A B P X Wa Wb Wo) j = rowOf A B P X Wa Wb Wo g s (j 0) (j 1) := by
  rw [lnorm_at]
  unfold rowOf row
  simp only [rows_at]
  rfl

/-- Two quarters of the reference's result side by side. -/
def halfA (h : FVec Ideal S65536x1024 .f32) : FVec Ideal S65536x512 .bf16 :=
  concatenate S65536x512 1 [⟨S65536x256, (extractStridedSlice S65536x256 ![0, 0] (truncf .bf16 h bitsLt_bf16_f32) slices_S65536x1024_S65536x256_0_0)⟩,
    ⟨S65536x256, (extractStridedSlice S65536x256 ![0, 512] (truncf .bf16 h bitsLt_bf16_f32) slices_S65536x1024_S65536x256_0_512)⟩] concatenates_S65536x256_S65536x256_S65536x512_d1
def halfB (h : FVec Ideal S65536x1024 .f32) : FVec Ideal S65536x512 .bf16 :=
  concatenate S65536x512 1 [⟨S65536x256, (extractStridedSlice S65536x256 ![0, 256] (truncf .bf16 h bitsLt_bf16_f32) slices_S65536x1024_S65536x256_0_256)⟩,
    ⟨S65536x256, (extractStridedSlice S65536x256 ![0, 768] (truncf .bf16 h bitsLt_bf16_f32) slices_S65536x1024_S65536x256_0_768)⟩] concatenates_S65536x256_S65536x256_S65536x512_d1

theorem halfA_at (h : FVec Ideal S65536x1024 .f32) (j : S65536x512.Idx) : halfA h j = h (ix2 (j 0) (spread (j 1))) := by
  by_cases hk : (j 1).val < 256
  · rw [show spread (j 1) = ⟨(j 1).val, by omega⟩ from (dif_pos hk).trans (Fin.ext (by first | rfl | (simp only []; omega)))]
    pointwise [halfA]
    rw [dif_pos hk]
  · rw [show spread (j 1) = ⟨512 + ((j 1).val - 256), by have := (j 1).isLt; change (j 1).val < 512 at this; omega⟩ from (dif_neg hk).trans (Fin.ext (by simp only []; omega))]
    pointwise [halfA]
    rw [dif_neg hk]
theorem halfB_at (h : FVec Ideal S65536x1024 .f32) (j : S65536x512.Idx) : halfB h j = h (ix2 (j 0) (spread' (j 1))) := by
  by_cases hk : (j 1).val < 256
  · rw [show spread' (j 1) = ⟨256 + (j 1).val, by omega⟩ from (dif_pos hk).trans (Fin.ext (by first | rfl | (simp only []; omega)))]
    pointwise [halfB]
    rw [dif_pos hk]
  · rw [show spread' (j 1) = ⟨768 + ((j 1).val - 256), by have := (j 1).isLt; change (j 1).val < 512 at this; omega⟩ from (dif_neg hk).trans (Fin.ext (by simp only []; omega))]
    pointwise [halfB]
    rw [dif_neg hk]

end reference

section results

variable (m : (ℓ : Loc nD τ Cert.MergeReferenceIdeal.sig) → Buf (Elt Ideal) ℓ) (c : Dev nD)

/-- The reference's first result, of its arguments. -/
def hOf : FVec Ideal S65536x1024 .f32 :=
  lnorm (m ((c.tc : Thread nD τ).loc main_arg7)) (m ((c.tc : Thread nD τ).loc main_arg8))
    (rows (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)))

theorem res_h : Cert.MergeReferenceIdeal.Value.res_out0 (F := Ideal) m c = hOf m c := rfl
theorem res_a : Cert.MergeReferenceIdeal.Value.res_out1 (F := Ideal) m c = halfA (hOf m c) := rfl
theorem res_b : Cert.MergeReferenceIdeal.Value.res_out2 (F := Ideal) m c = halfB (hOf m c) := rfl

end results

/-- The two prints have one body table: label by label the same text. -/
theorem table_eq : Cert.Merge.defs₀ (F := Bits) = Cert.MergeIdeal.defs₀ (F := Bits) := by
  unfold Cert.Merge.defs₀ Cert.MergeIdeal.defs₀
  congr 1
  funext l a
  match l, a with
  | 0, (t, s) => rfl

theorem defs_eq : Cert.Merge.defs (F := Bits) = Cert.MergeIdeal.defs (F := Bits) :=
  congrArg (fun d => Pipeline.defs (Cert.MergeIdeal.pcfgs (F := Bits)) d) table_eq

theorem frame_bits : Cert.quiescent_Merge := fun m ρ _ => by
  rw [defs_eq]
  exact Cert.MergeIdeal.Gen.frame (F := Bits) m ρ
theorem frame_ideal : Cert.quiescent_MergeIdeal := fun m ρ _ => Cert.MergeIdeal.Gen.frame (F := Ideal) m ρ
theorem ref_frame_bits : Cert.quiescent_MergeReference := fun m ρ _ =>
  (θ_run Cert.MergeReferenceIdeal.defs _ _).mono (fun r h => ⟨fun c => (h c).2.2.2, sem_eq_zero_of_no_sems (by decide) r.2⟩)
    (Cert.MergeReferenceIdeal.Value.run (F := Bits) m ρ)
theorem ref_frame_ideal : Cert.quiescent_MergeReferenceIdeal := fun m ρ _ =>
  (θ_run Cert.MergeReferenceIdeal.defs _ _).mono (fun r h => ⟨fun c => (h c).2.2.2, sem_eq_zero_of_no_sems (by decide) r.2⟩)
    (Cert.MergeReferenceIdeal.Value.run (F := Ideal) m ρ)

/-- On equal arguments the reference's first result is the kernel's, row by row. -/
theorem agree (m : (ℓ : Loc Cert.MergeIdeal.nD Cert.MergeIdeal.τ Cert.MergeIdeal.sig) → Buf (Elt Ideal) ℓ) (m' : (ℓ : Loc nD τ Cert.MergeReferenceIdeal.sig) → Buf (Elt Ideal) ℓ)
    (c : Dev nD)
    (e : m' (c.tc.loc main_arg0) = m (c.tc.loc Cert.MergeIdeal.main_arg0) ∧ m' (c.tc.loc main_arg1) = m (c.tc.loc Cert.MergeIdeal.main_arg1)
      ∧ m' (c.tc.loc main_arg2) = m (c.tc.loc Cert.MergeIdeal.main_arg2) ∧ m' (c.tc.loc main_arg3) = m (c.tc.loc Cert.MergeIdeal.main_arg3)
      ∧ m' (c.tc.loc main_arg4) = m (c.tc.loc Cert.MergeIdeal.main_arg4) ∧ m' (c.tc.loc main_arg5) = m (c.tc.loc Cert.MergeIdeal.main_arg5)
      ∧ m' (c.tc.loc main_arg6) = m (c.tc.loc Cert.MergeIdeal.main_arg6) ∧ m' (c.tc.loc main_arg7) = m (c.tc.loc Cert.MergeIdeal.main_arg7)
      ∧ m' (c.tc.loc main_arg8) = m (c.tc.loc Cert.MergeIdeal.main_arg8))
    (j : S65536x1024.Idx) : hOf m' c j = rowAt m c (j 0) (j 1) := by
  obtain ⟨e0, e1, e2, e3, e4, e5, e6, e7, e8⟩ := e
  unfold hOf
  rw [e0, e1, e2, e3, e4, e5, e6, e7, e8, whole_at]
  exact (rowAt_eq m c (j 0) (j 1)).symm

/-- The merge's three results are the reference's. -/
theorem claim_merge : Cert.algebraic_MergeIdeal_MergeReferenceIdeal := by
  pair_intro
  · run_from Cert.MergeIdeal.Value.run_blocks m g
  · run_from Cert.MergeReferenceIdeal.Value.run m' g'
    · exact (res_h m' c).trans ((funext fun j => agree m m' c (hagree c) j).trans (final_h m c).symm)
    · exact (res_a m' c).trans ((funext fun j => (halfA_at _ j).trans (agree m m' c (hagree c) _)).trans (final_a m c).symm)
    · exact (res_b m' c).trans ((funext fun j => (halfB_at _ j).trans (agree m m' c (hagree c) _)).trans (final_b m c).symm)

end Cert.Proof.Merged
-- ==== Proof.ExpertsRun.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic
public import Idealize.ShloMosaic.Lib.Ring
public import Idealize.ShloMosaic.Lib.VecWindow
public import Idealize.ShloMosaic.Lib.Pipeline.ValueKit
public import Idealize.ShloMosaic.Lib.WordCmp

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev TableOf (c : Dev nD) (M : Memref sig .tc .smem S768 .i32) : Type := Buf (Elt F) (M.view.loc (c : Thread nD τ))
abbrev tablePt (c : Dev nD) (M : Memref sig .tc .smem S768 .i32) (f : TableOf (F := F) c M) : sProp 𝕄 :=
  M.view.loc (c : Thread nD τ) ↦{fullShare.right} f

/-- The offsets of the pieces, each in its buffer. -/
abbrev rTop : Rect S1024x512 := Rect.unit ![0, 0] S512x512.size inb_S1024x512_S512x512_0_0
abbrev rBot : Rect S1024x512 := Rect.unit ![512, 0] S512x512.size inb_S1024x512_S512x512_512_0

/-- The two gate matrices of one expert, rounded to bf16 and set side by side. -/
def gates (x7 x8 : Vec F S1x1024x256 .f32) : Vec F S1024x512 .bf16 :=
  View.canon (Val := Elt F) (s := S1024x512) (e := .bf16)
    [⟨Rect.unit ![0, 256] S1024x256.size inb_S1024x512_S1024x256_0_256, k0_pay2 x8⟩,
     ⟨Rect.unit ![0, 0] S1024x256.size inb_S1024x512_S1024x256_0_0, k0_pay1 x7⟩]
/-- The down matrix of one expert, rounded to bf16. -/
def down (x9 : Vec F S1x256x1024 .f32) : Vec F S256x1024 .bf16 := k0_pay3 x9

/-- What the first 512 rows of a block get in the first half of the columns, and the last 512 rows; the same for the
    second half: the products where the block has rows to serve there, zero where it has none. -/
def topA (nr : BitVec 32) (x y : Vec F S1024x512 .bf16) (g : Vec F S1024x512 .bf16) (d : Vec F S256x1024 .bf16) : List (View.Piece (Elt F) S1024x512 .bf16) :=
  if k0_cond2 nr = 1#1 then
    [⟨Rect.unit ![0, 256] S512x256.size inb_S1024x512_S512x256_0_256, k0_pay10 (F := F) nr (View.ld x rTop) (View.ld y rTop) g d⟩,
     ⟨Rect.unit ![0, 0] S512x256.size inb_S1024x512_S512x256_0_0, k0_pay9 (F := F) nr (View.ld x rTop) (View.ld y rTop) g d⟩]
  else [⟨rTop, k0_pay4 (F := F)⟩]
def botA (nr : BitVec 32) (x y : Vec F S1024x512 .bf16) (g : Vec F S1024x512 .bf16) (d : Vec F S256x1024 .bf16) : List (View.Piece (Elt F) S1024x512 .bf16) :=
  if k0_cond4 nr = 1#1 then
    [⟨Rect.unit ![512, 256] S512x256.size inb_S1024x512_S512x256_512_256, k0_pay15 (F := F) nr (View.ld x rBot) (View.ld y rBot) g d⟩,
     ⟨Rect.unit ![512, 0] S512x256.size inb_S1024x512_S512x256_512_0, k0_pay14 (F := F) nr (View.ld x rBot) (View.ld y rBot) g d⟩]
  else [⟨rBot, k0_pay6 (F := F)⟩]
def topB (nr : BitVec 32) (x y : Vec F S1024x512 .bf16) (g : Vec F S1024x512 .bf16) (d : Vec F S256x1024 .bf16) : List (View.Piece (Elt F) S1024x512 .bf16) :=
  if k0_cond2 nr = 1#1 then
    [⟨Rect.unit ![0, 256] S512x256.size inb_S1024x512_S512x256_0_256, k0_pay12 (F := F) nr (View.ld x rTop) (View.ld y rTop) g d⟩,
     ⟨Rect.unit ![0, 0] S512x256.size inb_S1024x512_S512x256_0_0, k0_pay11 (F := F) nr (View.ld x rTop) (View.ld y rTop) g d⟩]
  else [⟨rTop, k0_pay5 (F := F)⟩]
def botB (nr : BitVec 32) (x y : Vec F S1024x512 .bf16) (g : Vec F S1024x512 .bf16) (d : Vec F S256x1024 .bf16) : List (View.Piece (Elt F) S1024x512 .bf16) :=
  if k0_cond4 nr = 1#1 then
    [⟨Rect.unit ![512, 256] S512x256.size inb_S1024x512_S512x256_512_256, k0_pay17 (F := F) nr (View.ld x rBot) (View.ld y rBot) g d⟩,
     ⟨Rect.unit ![512, 0] S512x256.size inb_S1024x512_S512x256_512_0, k0_pay16 (F := F) nr (View.ld x rBot) (View.ld y rBot) g d⟩]
  else [⟨rBot, k0_pay7 (F := F)⟩]

/-- The block's results: the first half of the columns of each half, and the second. -/
def outA (nr : BitVec 32) (x y : Vec F S1024x512 .bf16) (g : Vec F S1024x512 .bf16) (d : Vec F S256x1024 .bf16) : Vec F S1024x512 .bf16 :=
  View.canon (botA nr x y g d ++ topA nr x y g d)
def outB (nr : BitVec 32) (x y : Vec F S1024x512 .bf16) (g : Vec F S1024x512 .bf16) (d : Vec F S256x1024 .bf16) : Vec F S1024x512 .bf16 :=
  View.canon (botB nr x y g d ++ topB nr x y g d)

/-- The pieces cover the block. -/
theorem covA (nr : BitVec 32) (x y : Vec F S1024x512 .bf16) (g : Vec F S1024x512 .bf16) (d : Vec F S256x1024 .bf16) (z : S1024x512.Idx) :
    ∃ p ∈ botA nr x y g d ++ topA nr x y g d, z ∈ p.1.set := by
  unfold botA topA
  by_cases h2 : k0_cond2 nr = 1#1 <;> by_cases h4 : k0_cond4 nr = 1#1 <;> simp only [h2, h4, if_true, if_false]
  all_goals exact View.cover_of_tiledBy _ ![512, 256] (by sl_kernel_rfl) z
theorem covB (nr : BitVec 32) (x y : Vec F S1024x512 .bf16) (g : Vec F S1024x512 .bf16) (d : Vec F S256x1024 .bf16) (z : S1024x512.Idx) :
    ∃ p ∈ botB nr x y g d ++ topB nr x y g d, z ∈ p.1.set := by
  unfold botB topB
  by_cases h2 : k0_cond2 nr = 1#1 <;> by_cases h4 : k0_cond4 nr = 1#1 <;> simp only [h2, h4, if_true, if_false]
  all_goals exact View.cover_of_tiledBy _ ![512, 256] (by sl_kernel_rfl) z

/-- A comparison's bit, widened and compared with zero, is the comparison. -/
theorem flag_bit (p : Bool) : BitVec.ofBool (BitVec.setWidth 32 (BitVec.ofBool p) != 0#32) = 1#1 ↔ p = true := by
  cases p <;> decide
/-- The body's four conditions, as inequalities of signed words. -/
theorem cond2_iff (nr : BitVec 32) : k0_cond2 nr = 1#1 ↔ 0 < nr.toInt := by
  unfold k0_cond2
  simp only [Scalar.cmpi, Scalar.extui, IntOp.cmpi]
  rw [flag_bit, BitVec.slt]; simp
theorem cond3_iff (nr : BitVec 32) : k0_cond3 nr = 1#1 ↔ ¬ 0 < nr.toInt := by
  unfold k0_cond3
  simp only [Scalar.cmpi, Scalar.extui, IntOp.cmpi]
  rw [flag_bit, BitVec.sle]; simp
theorem cond4_iff (nr : BitVec 32) : k0_cond4 nr = 1#1 ↔ 512 < nr.toInt := by
  unfold k0_cond4
  simp only [Scalar.cmpi, Scalar.extui, IntOp.cmpi]
  rw [flag_bit, BitVec.slt]; simp
theorem cond5_iff (nr : BitVec 32) : k0_cond5 nr = 1#1 ↔ ¬ 512 < nr.toInt := by
  unfold k0_cond5
  simp only [Scalar.cmpi, Scalar.extui, IntOp.cmpi]
  rw [flag_bit, BitVec.sle]; simp

/-- Four writes in a row, each under its condition, the second under the negation of the first's and the fourth under
    the negation of the third's, leave two writes. -/
theorem four_writes {sg : RefSig} {κ : Kind} {sp : Space} {S : Shape} {e : EltTy} (v : View sg κ sp S e) (f : v.ty.Contents (Elt F))
    {c2 c3 c4 c5 : Prop} [Decidable c2] [Decidable c3] [Decidable c4] [Decidable c5] (h3 : c3 ↔ ¬ c2) (h5 : c5 ↔ ¬ c4)
    (L2 L3 L4 L5 : List (View.Piece (Elt F) S e)) :
    (if _h : c5 then v.writes (Elt F) (if _h : c4 then v.writes (Elt F) (if _h : c3 then v.writes (Elt F) (if _h : c2 then v.writes (Elt F) f L2 else f) L3
          else if _h : c2 then v.writes (Elt F) f L2 else f) L4
        else if _h : c3 then v.writes (Elt F) (if _h : c2 then v.writes (Elt F) f L2 else f) L3 else if _h : c2 then v.writes (Elt F) f L2 else f) L5
      else if _h : c4 then v.writes (Elt F) (if _h : c3 then v.writes (Elt F) (if _h : c2 then v.writes (Elt F) f L2 else f) L3
          else if _h : c2 then v.writes (Elt F) f L2 else f) L4
        else if _h : c3 then v.writes (Elt F) (if _h : c2 then v.writes (Elt F) f L2 else f) L3 else if _h : c2 then v.writes (Elt F) f L2 else f)
      = v.writes (Elt F) f ((if c4 then L4 else L5) ++ (if c2 then L2 else L3)) := by
  rw [View.writes_append]
  by_cases h2 : c2 <;> by_cases h4 : c4 <;> simp [h2, h3, h4, h5]

/-- The flag that has the expert's matrices rounded anew. -/
abbrev fresh (fl : BitVec 32) : Prop := Scalar.cmpi .ne (Scalar.extui (Scalar.cmpi .sge fl 2#32) : BitVec 32) 0#32 = 1#1

set_option maxHeartbeats 1000000 in
theorem run_block (c : Dev nD) (b : grid0.Bounds) (i : grid0.Static) (w : BitVec 32)
    (t1 : Memref sig .tc .smem S768 .i32) (h1 : t1.IsWhole) (t2 : Memref sig .tc .smem S768 .i32) (h2 : t2.IsWhole)
    (t3 : Memref sig .tc .smem S768 .i32) (h3 : t3.IsWhole) (t4 : Memref sig .tc .smem S768 .i32) (h4 : t4.IsWhole)
    (a5 : Memref sig .tc .vmem S1024x512 .bf16) (h5 : a5.IsWhole) (a6 : Memref sig .tc .vmem S1024x512 .bf16) (h6 : a6.IsWhole)
    (a7 : Memref sig .tc .vmem S1x1024x256 .f32) (h7 : a7.IsWhole) (a8 : Memref sig .tc .vmem S1x1024x256 .f32) (h8 : a8.IsWhole)
    (a9 : Memref sig .tc .vmem S1x256x1024 .f32) (h9 : a9.IsWhole)
    (a10 : Memref sig .tc .vmem S1024x512 .bf16) (h10 : a10.IsWhole) (a11 : Memref sig .tc .vmem S1024x512 .bf16) (h11 : a11.IsWhole)
    (a12 : Memref sig .tc .vmem S1024x512 .bf16) (h12 : a12.IsWhole) (a13 : Memref sig .tc .vmem S256x1024 .bf16) (h13 : a13.IsWhole)
    (T3 : TableOf (F := F) c t3) (T4 : TableOf (F := F) c t4)
    (x5 : Vec F S1024x512 .bf16) (x6 : Vec F S1024x512 .bf16) (x7 : Vec F S1x1024x256 .f32) (x8 : Vec F S1x1024x256 .f32) (x9 : Vec F S1x256x1024 .f32)
    (s12 : Vec F S1024x512 .bf16) (s13 : Vec F S256x1024 .bf16)
    (hw : k0_chk1 w) (fl nr : BitVec 32)
    (hfl : ∀ h, t3.view.readAt (Elt F) (Rect.unit (s := S768) (k0_off2 w) S1.size (k0_off2_inb w hw)).toLoadRect T3 (Shape.Idx.first h) = fl)
    (hnr : ∀ h, t4.view.readAt (Elt F) (Rect.unit (s := S768) (k0_off3 w) S1.size (k0_off3_inb w hw)).toLoadRect T4 (Shape.Idx.first h) = nr)
    (hold : ¬ fresh fl → s12 = gates x7 x8 ∧ s13 = down x9)
    (E : Set ℕ) (K : PUnit → sProp 𝕄) :
    iprop(tablePt c t3 T3 ∗ tablePt c t4 T4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ (∃ d, owns (c : Thread nD τ) a10 fullShare d) ∗ (∃ d, owns (c : Thread nD τ) a11 fullShare d)
        ∗ owns (c : Thread nD τ) a12 fullShare s12 ∗ owns (c : Thread nD τ) a13 fullShare s13
        ∗ (iprop(tablePt c t3 T3 ∗ tablePt c t4 T4 ∗ owns (c : Thread nD τ) a5 fullShare x5 ∗ owns (c : Thread nD τ) a6 fullShare x6
            ∗ owns (c : Thread nD τ) a7 fullShare x7 ∗ owns (c : Thread nD τ) a8 fullShare x8 ∗ owns (c : Thread nD τ) a9 fullShare x9
            ∗ owns (c : Thread nD τ) a10 fullShare (outA nr x5 x6 (gates x7 x8) (down x9)) ∗ owns (c : Thread nD τ) a11 fullShare (outB nr x5 x6 (gates x7 x8) (down x9))
            ∗ owns (c : Thread nD τ) a12 fullShare (gates x7 x8) ∗ owns (c : Thread nD τ) a13 fullShare (down x9)) -∗ K ⟨⟩))
      ⊢ wp frame (wpE (defs₀ (F := F)) Variants.none c none) E (cc0_experts b i w t1 h1 t2 h2 t3 h3 t4 h4 a5 h5 a6 h6 a7 h7 a8 h8 a9 h9 a10 h10 a11 h11 a12 h12 a13 h13) K := by
  simp only [cc0_experts_eq_skeleton]; unfold cc0_experts_skel
  simp only [k0_part1_eq_skeleton, k0_part2_eq_skeleton]
  unfold owns
  iintro ⟨T3, T4, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, Hk⟩
  subst hf5; subst hf6; subst hf7; subst hf8; subst hf9; subst hf12; subst hf13
  sl_exec (disch := sl_exact hw)
  sl_step
  have e3 : run_block.sl.r c w t3 T3 hw = fl := hfl _
  have e4 : run_block.sl.r_1 c w t4 T4 hw = nr := hnr _
  have e12 : a12.view.read (Elt F) (if hc : fresh fl then a12.view.writes (Elt F) f12
        [⟨Rect.unit ![0, 256] S1024x256.size inb_S1024x512_S1024x256_0_256, k0_pay2 (a8.view.read (Elt F) f8)⟩,
         ⟨Rect.unit ![0, 0] S1024x256.size inb_S1024x512_S1024x256_0_0, k0_pay1 (a7.view.read (Elt F) f7)⟩] else f12)
      = gates (a7.view.read (Elt F) f7) (a8.view.read (Elt F) f8) := by
    by_cases hf : fresh fl
    · rw [dif_pos hf]
      exact View.read_writes_eq_canon _ _ _ fun z => View.cover_of_tiledBy _ ![1024, 256] (by sl_kernel_rfl) z
    · rw [dif_neg hf]; exact (hold hf).1
  have e13 : a13.view.read (Elt F) (if hc : fresh fl then a13.view.writes (Elt F) f13
        [⟨Rect.unit ![0, 0] S256x1024.size inb_S256x1024_S256x1024_0_0, k0_pay3 (a9.view.read (Elt F) f9)⟩] else f13)
      = down (a9.view.read (Elt F) f9) := by
    by_cases hf : fresh fl
    · rw [dif_pos hf]
      refine (View.read_writes_eq_canon _ _ _ fun z => View.cover_of_tiledBy _ ![256, 1024] (by sl_kernel_rfl) z).trans ?_
      exact View.canon_cons_unit_lit _ _ _ (by decide)
    · rw [dif_neg hf]; exact (hold hf).2
  have p7 : View.readAt (Elt F) a7.view (Rect.unit (s := S1x1024x256) ![0, 0, 0] ![1, 1024, 256] inb_S1x1024x256_S1x1024x256_0_0_0).toLoadRect f7 = a7.view.read (Elt F) f7 :=
    View.readAt_full _ _ _
  have p8 : View.readAt (Elt F) a8.view (Rect.unit (s := S1x1024x256) ![0, 0, 0] ![1, 1024, 256] inb_S1x1024x256_S1x1024x256_0_0_0).toLoadRect f8 = a8.view.read (Elt F) f8 :=
    View.readAt_full _ _ _
  have p9 : View.readAt (Elt F) a9.view (Rect.unit (s := S1x256x1024) ![0, 0, 0] ![1, 256, 1024] inb_S1x256x1024_S1x256x1024_0_0_0).toLoadRect f9 = a9.view.read (Elt F) f9 :=
    View.readAt_full _ _ _
  have v35 : run_block.sl.v35 c w t3 a7 a8 a12 T3 hw f7 f8 f12 = gates (a7.view.read (Elt F) f7) (a8.view.read (Elt F) f8) := by
    unfold run_block.sl.v35
    rw [e3, p7, p8]
    refine (View.readAt_full _ _ _).trans e12
  have v43 : run_block.sl.v43 c w t3 a9 a13 T3 hw f9 f13 = down (a9.view.read (Elt F) f9) := by
    unfold run_block.sl.v43
    rw [e3, p9]
    refine (View.readAt_full _ _ _).trans e13
  rw [e3, e4, p7, p8, p9, v35, v43]
  iapply Hk
  isplitl [T3]; · iexact T3
  isplitl [T4]; · iexact T4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    refine (congrArg (a10.view.read (Elt F)) (four_writes a10.view f10 (c2 := k0_cond2 nr = 1#1) (c4 := k0_cond4 nr = 1#1) ((cond3_iff nr).trans (not_congr (cond2_iff nr).symm)) ((cond5_iff nr).trans (not_congr (cond4_iff nr).symm)) _ _ _ _)).trans ?_
    exact View.read_writes_eq_canon a10.view f10 _ (covA nr (a5.view.read (Elt F) f5) (a6.view.read (Elt F) f6) (gates (a7.view.read (Elt F) f7) (a8.view.read (Elt F) f8)) (down (a9.view.read (Elt F) f9)))
  isplitl [H11]
  · iexists _; isplitr
    swap; · iexact H11
    ipureintro
    refine (congrArg (a11.view.read (Elt F)) (four_writes a11.view f11 (c2 := k0_cond2 nr = 1#1) (c4 := k0_cond4 nr = 1#1) ((cond3_iff nr).trans (not_congr (cond2_iff nr).symm)) ((cond5_iff nr).trans (not_congr (cond4_iff nr).symm)) _ _ _ _)).trans ?_
    exact View.read_writes_eq_canon a11.view f11 _ (covB nr (a5.view.read (Elt F) f5) (a6.view.read (Elt F) f6) (gates (a7.view.read (Elt F) f7) (a8.view.read (Elt F) f8)) (down (a9.view.read (Elt F) f9)))
  isplitl [H12]
  · iexists _; isplitr
    swap; · iexact H12
    ipureintro; exact e12
  · iexists _; isplitr
    swap; · iexact H13
    ipureintro; exact e13

end Cert.ExpertsIdeal.Blocks

end
-- ==== Proof.ExpertsTable.lean ====
module

public import proofs.«01_k».proof.Proof.ExpertsRun
public import Idealize.ShloMosaic.Lib.Affine

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The tables' words -/

/-- The number of blocks in use; a block's source; its expert; its flag; its number of rows. -/
def used (pf : pre0.Contents (Elt F)) : ℕ := (pf 0 fun a => a.elim0).toNat
def source (pf : pre0.Contents (Elt F)) (j : ℕ) : BitVec 32 := pf.atD 1 ![j]
def expert (pf : pre0.Contents (Elt F)) (j : ℕ) : BitVec 32 := pf.atD 2 ![j]
def flag (pf : pre0.Contents (Elt F)) (j : ℕ) : BitVec 32 := pf.atD 3 ![j]
def rows (pf : pre0.Contents (Elt F)) (j : ℕ) : BitVec 32 := pf.atD 4 ![j]

/-- The tables name blocks and experts there are, and a block whose flag does not ask for the expert's matrices anew has
    the expert of the block before it. -/
structure InOrder (pf : pre0.Contents (Elt F)) : Prop where
  used_le : used pf ≤ 768
  source_lt : ∀ j < 768, (source pf j).toNat < 768
  expert_lt : ∀ j < 768, (expert pf j).toNat < 256
  same : ∀ j < 768, ¬ fresh (flag pf j) → 0 < j ∧ expert pf j = expert pf (j - 1)

/-- A grid coordinate as a word and back. -/
theorem word_back {n : ℕ} (h : n < 768) : (Scalar.indexCast (BitVec.ofNat 32 n)).toNat = n := by
  show (BitVec.ofNat 32 n).toNat = n
  rw [BitVec.toNat_ofNat]; exact Nat.mod_eq_of_lt (by omega)

theorem bound_eq (pf : pre0.Contents (Elt F)) : (grid0.at (dynb0 pf)).bound 0 = used pf := rfl
theorem coord_lt {pf : pre0.Contents (Elt F)} (h : InOrder pf) (i : (grid0.at (dynb0 pf)).Coords) : (i 0).val < 768 :=
  lt_of_lt_of_le (i 0).isLt ((bound_eq pf).le.trans h.used_le)
theorem points_eq (pf : pre0.Contents (Elt F)) : (grid0.at (dynb0 pf)).N = used pf := by
  unfold Pipeline.Grid.N
  show (List.ofFn fun a : Fin 1 => _).prod = _
  simp [List.ofFn_succ]
  rfl

/-- Where each array's block sits. -/
theorem place0 {pf : pre0.Contents (Elt F)} (h : InOrder pf) (i : (grid0.at (dynb0 pf)).Coords) :
    cc0_transform_0 pf (dynb0 pf) i = ![(source pf (i 0).val).toNat, 0] := by
  show ![(source pf (Scalar.indexCast (BitVec.ofNat 32 (i 0).val)).toNat).toNat, 0] = _
  rw [word_back (coord_lt h i)]
theorem place2 {pf : pre0.Contents (Elt F)} (h : InOrder pf) (i : (grid0.at (dynb0 pf)).Coords) :
    cc0_transform_2 pf (dynb0 pf) i = ![(expert pf (i 0).val).toNat, 0, 0] := by
  show ![(expert pf (Scalar.indexCast (BitVec.ofNat 32 (i 0).val)).toNat).toNat, 0, 0] = _
  rw [word_back (coord_lt h i)]
theorem place5 {pf : pre0.Contents (Elt F)} (h : InOrder pf) (i : (grid0.at (dynb0 pf)).Coords) :
    cc0_transform_5 (dynb0 pf) i = ![(i 0).val, 0] := by
  show ![(BitVec.ofNat 32 (i 0).val).toNat, 0] = _
  rw [BitVec.toNat_ofNat, Nat.mod_eq_of_lt (by have := coord_lt h i; omega)]

theorem inb_x {n : ℕ} (h : n < 768) (a : Fin 2) : ((![n, 0] : Fin 2 → ℕ) a + 1) * S1024x512.size a ≤ S786432x512.size a := by
  fin_cases a
  · show (n + 1) * 1024 ≤ 786432; omega
  · show (0 + 1) * 512 ≤ 512; omega
theorem inb_w {n : ℕ} (h : n < 256) (a : Fin 3) : ((![n, 0, 0] : Fin 3 → ℕ) a + 1) * S1x1024x256.size a ≤ S256x1024x256.size a := by
  fin_cases a
  · show (n + 1) * 1 ≤ 256; omega
  · show (0 + 1) * 1024 ≤ 1024; omega
  · show (0 + 1) * 256 ≤ 256; omega
theorem inb_d {n : ℕ} (h : n < 256) (a : Fin 3) : ((![n, 0, 0] : Fin 3 → ℕ) a + 1) * S1x256x1024.size a ≤ S256x256x1024.size a := by
  fin_cases a
  · show (n + 1) * 1 ≤ 256; omega
  · show (0 + 1) * 256 ≤ 256; omega
  · show (0 + 1) * 1024 ≤ 1024; omega

/-- The region's side condition. -/
theorem admits {pf : pre0.Contents (Elt F)} (h : InOrder pf) : ok0 pf := by
  unfold ok0
  refine ⟨?_, ?_, fun i => ⟨?_, .inr (Affine.block_words_dvd (of_decide_eq_true rfl) (by decide))⟩,
    fun i => ⟨?_, .inr (Affine.block_words_dvd (of_decide_eq_true rfl) (by decide))⟩, fun i => ⟨?_, .inl rfl⟩, fun i => ⟨?_, .inl rfl⟩,
    fun i => ⟨?_, .inl rfl⟩, fun i => ⟨?_, .inr (Affine.block_words_dvd (of_decide_eq_true rfl) (by decide))⟩,
    fun i => ⟨?_, .inr (Affine.block_words_dvd (of_decide_eq_true rfl) (by decide))⟩⟩
  · have := h.used_le
    have e := points_eq pf
    show (grid0.at (dynb0 pf)).N + 2 < 2 ^ 31
    omega
  · intro i a
    fin_cases a
    show (Scalar.indexCast (BitVec.ofNat 32 (i 0).val)).toNat + 1 ≤ 768
    rw [word_back (coord_lt h i)]
    exact coord_lt h i
  · rw [place0 h]; exact inb_x (h.source_lt _ (coord_lt h i))
  · show ∀ a, (cc0_transform_0 pf (dynb0 pf) i a + 1) * _ ≤ _
    rw [place0 h]; exact inb_x (h.source_lt _ (coord_lt h i))
  · rw [place2 h]; exact inb_w (h.expert_lt _ (coord_lt h i))
  · show ∀ a, (cc0_transform_2 pf (dynb0 pf) i a + 1) * _ ≤ _
    rw [place2 h]; exact inb_w (h.expert_lt _ (coord_lt h i))
  · show ∀ a, (cc0_transform_2 pf (dynb0 pf) i a + 1) * _ ≤ _
    rw [place2 h]; exact inb_d (h.expert_lt _ (coord_lt h i))
  · rw [place5 h]; exact inb_x (coord_lt h i)
  · show ∀ a, (cc0_transform_5 (dynb0 pf) i a + 1) * _ ≤ _
    rw [place5 h]; exact inb_x (coord_lt h i)

/-- The tables, admitted. -/
abbrev admitted {pf : pre0.Contents (Elt F)} (h : InOrder pf) : (pcfg0 (F := F)).Adm := ⟨pf, admits h⟩

/-- The check the body makes of its block's number. -/
theorem chk {n : ℕ} (h : n < 768) : k0_chk1 (BitVec.ofNat 32 n) := by
  constructor <;>
  · intro a
    fin_cases a
    show (Scalar.indexCast (BitVec.ofNat 32 n)).toNat + 1 ≤ 768
    rw [word_back h]; exact h

/-- The words the body loads. -/
theorem load_flag {pf : pre0.Contents (Elt F)} {n : ℕ} (hn : n < 768) (hw : k0_chk1 (BitVec.ofNat 32 n)) (h : 0 < S1.numel) :
    (Memref.whole main_arg3 : Memref sig .tc .smem S768 .i32).view.readAt (Elt F)
      (Rect.unit (s := S768) (k0_off2 (BitVec.ofNat 32 n)) S1.size (k0_off2_inb (BitVec.ofNat 32 n) hw)).toLoadRect (pf 3) (Shape.Idx.first h) = flag pf n := by
  unfold flag Pipeline.Prefetch.Contents.atD
  have hb : ∀ a, (![n] : Fin 1 → ℕ) a + 1 ≤ S768.size a := fun a => by fin_cases a; exact hn
  refine Eq.trans ?_ (dif_pos hb).symm
  refine congrArg (pf 3) (funext fun a => Fin.ext ?_)
  fin_cases a
  show (Scalar.indexCast (BitVec.ofNat 32 n)).toNat + 1 * 0 = n
  rw [word_back hn]; rfl
theorem load_rows {pf : pre0.Contents (Elt F)} {n : ℕ} (hn : n < 768) (hw : k0_chk1 (BitVec.ofNat 32 n)) (h : 0 < S1.numel) :
    (Memref.whole main_arg4 : Memref sig .tc .smem S768 .i32).view.readAt (Elt F)
      (Rect.unit (s := S768) (k0_off3 (BitVec.ofNat 32 n)) S1.size (k0_off3_inb (BitVec.ofNat 32 n) hw)).toLoadRect (pf 4) (Shape.Idx.first h) = rows pf n := by
  unfold rows Pipeline.Prefetch.Contents.atD
  have hb : ∀ a, (![n] : Fin 1 → ℕ) a + 1 ≤ S768.size a := fun a => by fin_cases a; exact hn
  refine Eq.trans ?_ (dif_pos hb).symm
  refine congrArg (pf 4) (funext fun a => Fin.ext ?_)
  fin_cases a
  show (Scalar.indexCast (BitVec.ofNat 32 n)).toNat + 1 * 0 = n
  rw [word_back hn]; rfl

/-- Every block in use is written: the outputs are idle nowhere. -/
theorem busy (pf : pre0.Contents (Elt F)) (i : (grid0.at (dynb0 pf)).Coords) : idle0 pf (dynb0 pf) 5 i = false ∧ idle0 pf (dynb0 pf) 6 i = false := by
  have key : ∀ v : BitVec 32, (!(k0_cond2 v == 1#1) && !(k0_cond3 v == 1#1) && !(k0_cond4 v == 1#1) && !(k0_cond5 v == 1#1)) = false := by
    intro v
    by_cases h : k0_cond2 v = 1#1
    · simp [h]
    · have h3 : k0_cond3 v = 1#1 := (cond3_iff v).mpr fun hp => h ((cond2_iff v).mpr hp)
      simp [h3]
  exact ⟨key _, key _⟩

end Cert.ExpertsIdeal.Blocks

end
-- ==== Proof.ExpertsFrame.lean ====
module

public import proofs.«01_k».proof.Proof.ExpertsTable
public import Idealize.ShloMosaic.Lib.Pipeline.FrameSuffix
public import Idealize.ShloMosaic.Lib.Claim

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- The device's buffers when the region is entered. -/
abbrev entry (c : Dev nD) : Valuation τ sig (Elt F) := StableHlo.after hostOps0 (fun b => m (c, b))
/-- The tables the region reads. -/
def tables : pre0.Contents (Elt F) := fun k => entry m 0 (Proc.devRef .tc (pre0.ref k))

variable (h : InOrder (tables m))

/-- An operand's block at a point. -/
def iblk (c : Dev nD) (w : Fin 7) (t : Fin (cfg0 (admitted h)).N) :
    (((cfg0 (admitted h)).win w).xblock ((cfg0 (admitted h)).grid.coords t)).Idx → Elt F ((cfg0 (admitted h)).win w).elt :=
  (((cfg0 (admitted h)).win w).blk t).view.read (Elt F) (entry m c (Proc.devRef .tc (Pipeline.arrRef spec0 w)))

/-- The expert's matrices at a point, as the body keeps them. -/
def gatesAt (c : Dev nD) (t : Fin (cfg0 (admitted h)).N) : Vec F S1024x512 .bf16 := gates (iblk m h c 2 t) (iblk m h c 3 t)
def downAt (c : Dev nD) (t : Fin (cfg0 (admitted h)).N) : Vec F S256x1024 .bf16 := down (iblk m h c 4 t)

/-- Between points: at the start anything in the scratch buffers; after a point its expert's matrices. -/
def Kept (c : Dev nD) : (n : ℕ) → n ≤ (cfg0 (admitted h)).N → sProp 𝕄
  | 0, _ => iprop(Pipeline.ΦA spec0 c ∗ Pipeline.ΦT pre0 (tables m) c)
  | n + 1, hn => iprop(owns (c : Thread nD τ) (Memref.whole cc0_scratch0) fullShare (gatesAt m h c ⟨n, hn⟩)
      ∗ owns (c : Thread nD τ) (Memref.whole cc0_scratch1) fullShare (downAt m h c ⟨n, hn⟩)
      ∗ (∃ r, prngReg c r) ∗ Pipeline.ΦT pre0 (tables m) c)

/-- The program's one region. -/
abbrev region : (p : Fin 1) → (pcfgs (F := F) p).Adm := fun _ => admitted h

def dats (_ : Fin 1) (c : Dev nD) : Dat τ (Elt F) Unit ℕ (UR sig nD τ) ℕ (cfg0 (admitted h)) c where
  A w := entry m c (Proc.devRef .tc (Pipeline.arrRef spec0 w))
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => outA (rows (tables m) t.val) (iblk m h c 0 t) (iblk m h c 1 t) (gatesAt m h c t) (downAt m h c t)
    | ⟨6, _⟩ => outB (rows (tables m) t.val) (iblk m h c 0 t) (iblk m h c 1 t) (gatesAt m h c t) (downAt m h c t)
  Φ t := Kept m h c t.val (Nat.le_of_lt_succ t.isLt)
  q w := Pipeline.shareOf spec0 w
  owed _ := 0

theorem A_eq (c : Dev nD) (w : Fin 7) : (dats m h 0 c).A w = entry m c (Proc.devRef .tc (Pipeline.arrRef spec0 w)) := by
  dsimp only [dats]
theorem after0 (c : Dev nD) (t : Fin (cfg0 (admitted h)).N) : (dats m h 0 c).after 0 t = iblk m h c 0 t := by dsimp only [dats]; rfl
theorem after1 (c : Dev nD) (t : Fin (cfg0 (admitted h)).N) : (dats m h 0 c).after 1 t = iblk m h c 1 t := by dsimp only [dats]; rfl
theorem after2 (c : Dev nD) (t : Fin (cfg0 (admitted h)).N) : (dats m h 0 c).after 2 t = iblk m h c 2 t := by dsimp only [dats]; rfl
theorem after3 (c : Dev nD) (t : Fin (cfg0 (admitted h)).N) : (dats m h 0 c).after 3 t = iblk m h c 3 t := by dsimp only [dats]; rfl
theorem after4 (c : Dev nD) (t : Fin (cfg0 (admitted h)).N) : (dats m h 0 c).after 4 t = iblk m h c 4 t := by dsimp only [dats]; rfl
theorem after5 (c : Dev nD) (t : Fin (cfg0 (admitted h)).N) : (dats m h 0 c).after 5 t
    = outA (rows (tables m) t.val) (iblk m h c 0 t) (iblk m h c 1 t) (gatesAt m h c t) (downAt m h c t) := by dsimp only [dats]; rfl
theorem after6 (c : Dev nD) (t : Fin (cfg0 (admitted h)).N) : (dats m h 0 c).after 6 t
    = outB (rows (tables m) t.val) (iblk m h c 0 t) (iblk m h c 1 t) (gatesAt m h c t) (downAt m h c t) := by dsimp only [dats]; rfl

/-- Each operand's buffer holds its block at every point. -/
theorem before0 (c : Dev nD) (t : Fin (cfg0 (admitted h)).N) (d) : (dats m h 0 c).before 0 t d = iblk m h c 0 t :=
  ((dats m h 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (admitted h)).N) (d) : (dats m h 0 c).before 1 t d = iblk m h c 1 t :=
  ((dats m h 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (admitted h)).N) (d) : (dats m h 0 c).before 2 t d = iblk m h c 2 t :=
  ((dats m h 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (admitted h)).N) (d) : (dats m h 0 c).before 3 t d = iblk m h c 3 t :=
  ((dats m h 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfg0 (admitted h)).N) (d) : (dats m h 0 c).before 4 t d = iblk m h c 4 t :=
  ((dats m h 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- The grid has one axis: a point's coordinate is its number. -/
theorem coord (t : Fin (cfg0 (admitted h)).N) : ((cfg0 (admitted h)).grid.coords t 0).val = t.val := by
  have e : (cfg0 (admitted h)).N = used (tables m) := points_eq (tables m)
  have := t.isLt
  rw [Pipeline.Grid.coords_val (S := 1) (B := used (tables m)) t 0 rfl rfl, Nat.div_one, Nat.mod_eq_of_lt (by omega)]
theorem point_lt (t : Fin (cfg0 (admitted h)).N) : t.val < 768 := by
  have e : (cfg0 (admitted h)).N = used (tables m) := points_eq (tables m)
  have := t.isLt; have := h.used_le; omega

/-- Two points with one expert read the same matrices. -/
theorem same2 (c : Dev nD) (t t' : Fin (cfg0 (admitted h)).N)
    (e : ((cfg0 (admitted h)).win 2).index t = ((cfg0 (admitted h)).win 2).index t') : iblk m h c 2 t = iblk m h c 2 t' :=
  ((before2 m h c t (fun _ => Classical.choice inferInstance)).symm.trans
    ((dats m h 0 c).before_in_eq_fetched 2 rfl (fun _ => rfl) (fun _ _ _ => rfl) (fun t => by rw [after2]; unfold Dat.blockOf iblk; rw [A_eq]; try rfl) t _)).trans
  (((dats m h 0 c).fetched_congr 2 e rfl _).trans
    (((dats m h 0 c).before_in_eq_fetched 2 rfl (fun _ => rfl) (fun _ _ _ => rfl) (fun t => by rw [after2]; unfold Dat.blockOf iblk; rw [A_eq]; try rfl) t' _).symm.trans
      (before2 m h c t' _)))
theorem same3 (c : Dev nD) (t t' : Fin (cfg0 (admitted h)).N)
    (e : ((cfg0 (admitted h)).win 3).index t = ((cfg0 (admitted h)).win 3).index t') : iblk m h c 3 t = iblk m h c 3 t' :=
  ((before3 m h c t (fun _ => Classical.choice inferInstance)).symm.trans
    ((dats m h 0 c).before_in_eq_fetched 3 rfl (fun _ => rfl) (fun _ _ _ => rfl) (fun t => by rw [after3]; unfold Dat.blockOf iblk; rw [A_eq]; try rfl) t _)).trans
  (((dats m h 0 c).fetched_congr 3 e rfl _).trans
    (((dats m h 0 c).before_in_eq_fetched 3 rfl (fun _ => rfl) (fun _ _ _ => rfl) (fun t => by rw [after3]; unfold Dat.blockOf iblk; rw [A_eq]; try rfl) t' _).symm.trans
      (before3 m h c t' _)))
theorem same4 (c : Dev nD) (t t' : Fin (cfg0 (admitted h)).N)
    (e : ((cfg0 (admitted h)).win 4).index t = ((cfg0 (admitted h)).win 4).index t') : iblk m h c 4 t = iblk m h c 4 t' :=
  ((before4 m h c t (fun _ => Classical.choice inferInstance)).symm.trans
    ((dats m h 0 c).before_in_eq_fetched 4 rfl (fun _ => rfl) (fun _ _ _ => rfl) (fun t => by rw [after4]; unfold Dat.blockOf iblk; rw [A_eq]; try rfl) t _)).trans
  (((dats m h 0 c).fetched_congr 4 e rfl _).trans
    (((dats m h 0 c).before_in_eq_fetched 4 rfl (fun _ => rfl) (fun _ _ _ => rfl) (fun t => by rw [after4]; unfold Dat.blockOf iblk; rw [A_eq]; try rfl) t' _).symm.trans
      (before4 m h c t' _)))

theorem kept_matrices (c : Dev nD) (n : ℕ) (hn : n + 1 < (cfg0 (admitted h)).N)
    (e : expert (tables m) (n + 1) = expert (tables m) n) :
    gatesAt m h c ⟨n, by omega⟩ = gatesAt m h c ⟨n + 1, hn⟩ ∧ downAt m h c ⟨n, by omega⟩ = downAt m h c ⟨n + 1, hn⟩ := by
  have ix : ∀ t : Fin (cfg0 (admitted h)).N, cc0_transform_2 (tables m) (dynb0 (tables m)) ((cfg0 (admitted h)).grid.coords t)
      = ![(expert (tables m) t.val).toNat, 0, 0] := fun t => by rw [place2 h]; rw [coord]
  have e2 : cc0_transform_2 (tables m) (dynb0 (tables m)) ((cfg0 (admitted h)).grid.coords ⟨n, Nat.lt_of_succ_lt hn⟩)
      = cc0_transform_2 (tables m) (dynb0 (tables m)) ((cfg0 (admitted h)).grid.coords ⟨n + 1, hn⟩) := by rw [ix, ix, e]
  constructor
  · unfold gatesAt
    rw [same2 m h c ⟨n, by omega⟩ ⟨n + 1, hn⟩ e2, same3 m h c ⟨n, by omega⟩ ⟨n + 1, hn⟩ e2]
  · unfold downAt
    rw [same4 m h c ⟨n, by omega⟩ ⟨n + 1, hn⟩ e2]

/-- The tables, one by one. -/
theorem tables_held (c : Dev nD) : (Pipeline.ΦT pre0 (tables m) c : sProp 𝕄)
    = iprop((((c : Thread nD τ).loc (pre0.ref 0)) ↦{fullShare.right} tables m 0) ∗ (((c : Thread nD τ).loc (pre0.ref 1)) ↦{fullShare.right} tables m 1)
      ∗ (((c : Thread nD τ).loc (pre0.ref 2)) ↦{fullShare.right} tables m 2) ∗ (((c : Thread nD τ).loc (pre0.ref 3)) ↦{fullShare.right} tables m 3)
      ∗ (((c : Thread nD τ).loc (pre0.ref 4)) ↦{fullShare.right} tables m 4)) := by
  unfold Pipeline.ΦT Pipeline.prefHeld
  rw [show (Finset.univ : Finset (Fin 5)) = insert 0 (insert 1 (insert 2 (insert 3 {4}))) from by decide,
    BI.bigSep_insert (by decide), BI.bigSep_insert (by decide), BI.bigSep_insert (by decide), BI.bigSep_insert (by decide), BI.bigSep_singleton]
  rfl

end Cert.ExpertsIdeal.Blocks

end
-- ==== Proof.ExpertsLaunch.lean ====
module

public import proofs.«01_k».proof.Proof.ExpertsFrame

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (h : InOrder (tables m))

/-! ## The body at a point -/

abbrev at0 (t : Fin (cfg0 (admitted h)).N) : Memref sig .tc .vmem S1024x512 .bf16 := spec0_0.stage ((cfg0 (admitted h)).slots t 0)
abbrev at1 (t : Fin (cfg0 (admitted h)).N) : Memref sig .tc .vmem S1024x512 .bf16 := spec0_1.stage ((cfg0 (admitted h)).slots t 1)
abbrev at2 (t : Fin (cfg0 (admitted h)).N) : Memref sig .tc .vmem S1x1024x256 .f32 := spec0_2.stage ((cfg0 (admitted h)).slots t 2)
abbrev at3 (t : Fin (cfg0 (admitted h)).N) : Memref sig .tc .vmem S1x1024x256 .f32 := spec0_3.stage ((cfg0 (admitted h)).slots t 3)
abbrev at4 (t : Fin (cfg0 (admitted h)).N) : Memref sig .tc .vmem S1x256x1024 .f32 := spec0_4.stage ((cfg0 (admitted h)).slots t 4)
abbrev at5 (t : Fin (cfg0 (admitted h)).N) : Memref sig .tc .vmem S1024x512 .bf16 := spec0_5.stage ((cfg0 (admitted h)).slots t 5)
abbrev at6 (t : Fin (cfg0 (admitted h)).N) : Memref sig .tc .vmem S1024x512 .bf16 := spec0_6.stage ((cfg0 (admitted h)).slots t 6)

/-- The body at a point's buffers. -/
def bodyAt (t : Fin (cfg0 (admitted h)).N) :=
  cc0_experts (F := F) (dynb0 (tables m)) (Pipeline.Grid.Coords.static grid0 ((cfg0 (admitted h)).grid.coords t)) (BitVec.ofNat 32 ((cfg0 (admitted h)).grid.coords t 0).val)
    (Memref.whole main_arg1) (Memref.isWhole_whole _) (Memref.whole main_arg2) (Memref.isWhole_whole _) (Memref.whole main_arg3) (Memref.isWhole_whole _) (Memref.whole main_arg4) (Memref.isWhole_whole _)
    (at0 m h t) (hstage0_0 (((cfg0 (admitted h)).slots t 0).cast nbuf0_0)) (at1 m h t) (hstage0_1 (((cfg0 (admitted h)).slots t 1).cast nbuf0_1))
    (at2 m h t) (hstage0_2 (((cfg0 (admitted h)).slots t 2).cast nbuf0_2)) (at3 m h t) (hstage0_3 (((cfg0 (admitted h)).slots t 3).cast nbuf0_3))
    (at4 m h t) (hstage0_4 (((cfg0 (admitted h)).slots t 4).cast nbuf0_4)) (at5 m h t) (hstage0_5 (((cfg0 (admitted h)).slots t 5).cast nbuf0_5))
    (at6 m h t) (hstage0_6 (((cfg0 (admitted h)).slots t 6).cast nbuf0_6))
    (Memref.whole cc0_scratch0) (Memref.isWhole_whole _) (Memref.whole cc0_scratch1) (Memref.isWhole_whole _)

theorem row_at (t : Fin (cfg0 (admitted h)).N) :
    defs₀ (F := F) .tc (cfg0 (admitted h)).body ((cfg0 (admitted h)).bodyArgs t ((cfg0 (admitted h)).slots t)) = bodyAt m h t := by
  unfold defs₀; rw [Defs.onTc_tc]; rfl

/-- What the body leaves between points, at any point. -/
def Left (c : Dev nD) (t : Fin (cfg0 (admitted h)).N) : sProp 𝕄 :=
  iprop(owns (c : Thread nD τ) (Memref.whole cc0_scratch0) fullShare (gatesAt m h c t)
      ∗ owns (c : Thread nD τ) (Memref.whole cc0_scratch1) fullShare (downAt m h c t)
      ∗ (∃ r, prngReg c r) ∗ Pipeline.ΦT pre0 (tables m) c)

/-- The buffers as a point finds them, and as it leaves them. -/
def Before (c : Dev nD) (t : Fin (cfg0 (admitted h)).N) : sProp 𝕄 :=
  iprop((∃ d, owns (c : Thread nD τ) (at0 m h t) fullShare ((dats m h 0 c).before 0 t d)) ∗ (∃ d, owns (c : Thread nD τ) (at1 m h t) fullShare ((dats m h 0 c).before 1 t d))
    ∗ (∃ d, owns (c : Thread nD τ) (at2 m h t) fullShare ((dats m h 0 c).before 2 t d)) ∗ (∃ d, owns (c : Thread nD τ) (at3 m h t) fullShare ((dats m h 0 c).before 3 t d))
    ∗ (∃ d, owns (c : Thread nD τ) (at4 m h t) fullShare ((dats m h 0 c).before 4 t d)) ∗ (∃ d, owns (c : Thread nD τ) (at5 m h t) fullShare ((dats m h 0 c).before 5 t d))
    ∗ (∃ d, owns (c : Thread nD τ) (at6 m h t) fullShare ((dats m h 0 c).before 6 t d)))
def After (c : Dev nD) (t : Fin (cfg0 (admitted h)).N) : sProp 𝕄 :=
  iprop(owns (c : Thread nD τ) (at0 m h t) fullShare ((dats m h 0 c).after 0 t) ∗ owns (c : Thread nD τ) (at1 m h t) fullShare ((dats m h 0 c).after 1 t)
    ∗ owns (c : Thread nD τ) (at2 m h t) fullShare ((dats m h 0 c).after 2 t) ∗ owns (c : Thread nD τ) (at3 m h t) fullShare ((dats m h 0 c).after 3 t)
    ∗ owns (c : Thread nD τ) (at4 m h t) fullShare ((dats m h 0 c).after 4 t) ∗ owns (c : Thread nD τ) (at5 m h t) fullShare ((dats m h 0 c).after 5 t)
    ∗ owns (c : Thread nD τ) (at6 m h t) fullShare ((dats m h 0 c).after 6 t))

theorem run_point (c : Dev nD) (t : Fin (cfg0 (admitted h)).N) (s12 : Vec F S1024x512 .bf16) (s13 : Vec F S256x1024 .bf16)
    (hold : ¬ fresh (flag (tables m) t.val) → s12 = gatesAt m h c t ∧ s13 = downAt m h c t) (R : sProp 𝕄) :
    iprop((owns (c : Thread nD τ) (Memref.whole cc0_scratch0) fullShare s12 ∗ owns (c : Thread nD τ) (Memref.whole cc0_scratch1) fullShare s13
        ∗ (∃ r, prngReg c r) ∗ Pipeline.ΦT pre0 (tables m) c) ∗ R ∗ Before m h c t)
      ⊢ wp frame (wpE (defs₀ (F := F)) Variants.none c none) Set.univ (bodyAt m h t) fun _ => iprop(Left m h c t ∗ R ∗ After m h c t) := by
  have hw : k0_chk1 (BitVec.ofNat 32 t.val) := chk (point_lt m h t)
  unfold Left Before After bodyAt
  rw [tables_held, coord, after0, after1, after2, after3, after4, after5, after6]
  iintro ⟨⟨H12, H13, Hp, T0, T1, T2, T3, T4⟩, HR, ⟨%d0, H0⟩, ⟨%d1, H1⟩, ⟨%d2, H2⟩, ⟨%d3, H3⟩, ⟨%d4, H4⟩, ⟨%d5, H5⟩, ⟨%d6, H6⟩⟩
  rw [before0, before1, before2, before3, before4]
  iapply (run_block c _ _ (BitVec.ofNat 32 t.val) _ _ _ _ (Memref.whole main_arg3) _ (Memref.whole main_arg4) _ _ _ _ _ _ _ _ _ _ _ _ _ _ _ _ _ _ _
    (tables m 3) (tables m 4) (iblk m h c 0 t) (iblk m h c 1 t) (iblk m h c 2 t) (iblk m h c 3 t) (iblk m h c 4 t) s12 s13 hw
    (flag (tables m) t.val) (rows (tables m) t.val) (fun e => load_flag (point_lt m h t) hw e) (fun e => load_rows (point_lt m h t) hw e) hold)
  isplitl [T3]; · iexact T3
  isplitl [T4]; · iexact T4
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H12]; · iexact H12
  isplitl [H13]; · iexact H13
  iintro ⟨T3, T4, H0, H1, H2, H3, H4, H5, H6, H12, H13⟩
  isplitl [H12 H13 Hp T0 T1 T2 T3 T4]
  · isplitl [H12]; · iexact H12
    isplitl [H13]; · iexact H13
    isplitl [Hp]; · iexact Hp
    isplitl [T0]; · iexact T0
    isplitl [T1]; · iexact T1
    isplitl [T2]; · iexact T2
    isplitl [T3]; · iexact T3
    iexact T4
  isplitl [HR]; · iexact HR
  isplitl [H0]; · iexact H0
  isplitl [H1]; · iexact H1
  isplitl [H2]; · iexact H2
  isplitl [H3]; · iexact H3
  isplitl [H4]; · iexact H4
  isplitl [H5]; · iexact H5
  iexact H6

theorem start (c : Dev nD) : (Pipeline.ΦA spec0 c : sProp 𝕄) ⊢ iprop(∃ (s12 : Vec F S1024x512 .bf16) (s13 : Vec F S256x1024 .bf16),
    owns (c : Thread nD τ) (Memref.whole cc0_scratch0) fullShare s12 ∗ owns (c : Thread nD τ) (Memref.whole cc0_scratch1) fullShare s13 ∗ (∃ r, prngReg c r)) := by
  unfold Pipeline.ΦA
  rw [scopedRest0_eq]
  iintro ⟨⟨⟨%f, Hf⟩, ⟨%g, Hg⟩⟩, Hp⟩
  iexists f; iexists g
  rw [owns_whole, owns_whole]
  isplitl [Hf]; · iexact Hf
  isplitl [Hg]; · iexact Hg
  iexact Hp

theorem finish (c : Dev nD) (n : ℕ) (hn : n ≤ (cfg0 (admitted h)).N) : Kept m h c n hn ⊢ (Pipeline.ΦA spec0 c : sProp 𝕄) := by
  cases n with
  | zero =>
    unfold Kept
    iintro ⟨H, -⟩; iexact H
  | succ n =>
    show iprop(_ ∗ _ ∗ _ ∗ _) ⊢ _
    unfold Pipeline.ΦA
    rw [scopedRest0_eq, owns_whole, owns_whole]
    iintro ⟨Hf, Hg, Hp, -⟩
    isplitr [Hp]
    · isplitl [Hf]
      · iexists _; iexact Hf
      iexists _; iexact Hg
    iexact Hp

theorem enter (c : Dev nD) (t : Fin (cfg0 (admitted h)).N) : (dats m h 0 c).Φ t.castSucc
    ⊢ iprop(∃ (s12 : Vec F S1024x512 .bf16) (s13 : Vec F S256x1024 .bf16),
      ⌜¬ fresh (flag (tables m) t.val) → s12 = gatesAt m h c t ∧ s13 = downAt m h c t⌝
      ∗ (owns (c : Thread nD τ) (Memref.whole cc0_scratch0) fullShare s12 ∗ owns (c : Thread nD τ) (Memref.whole cc0_scratch1) fullShare s13
        ∗ (∃ r, prngReg c r) ∗ Pipeline.ΦT pre0 (tables m) c)) := by
  obtain ⟨n, hn⟩ := t
  cases n with
  | zero =>
    show iprop(Pipeline.ΦA spec0 c ∗ Pipeline.ΦT pre0 (tables m) c) ⊢ _
    iintro ⟨HA, HT⟩
    ihave HA := (start (F := F) c) $$ HA
    icases HA with ⟨%s12, %s13, H12, H13, Hp⟩
    iexists s12; iexists s13
    isplitr
    · ipureintro; exact fun hf => absurd (h.same 0 (by omega) hf).1 (by omega)
    isplitl [H12]; · iexact H12
    isplitl [H13]; · iexact H13
    isplitl [Hp]; · iexact Hp
    iexact HT
  | succ n =>
    show Left m h c ⟨n, Nat.lt_of_succ_lt hn⟩ ⊢ _
    unfold Left
    iintro H
    iexists (gatesAt m h c ⟨n, Nat.lt_of_succ_lt hn⟩); iexists (downAt m h c ⟨n, Nat.lt_of_succ_lt hn⟩)
    isplitr
    · ipureintro; exact fun hf => kept_matrices m h c n hn (h.same (n + 1) (point_lt m h ⟨n + 1, hn⟩) hf).2
    iexact H

theorem at_point (c : Dev nD) (t : Fin (cfg0 (admitted h)).N) :
    iprop((dats m h 0 c).Φ t.castSucc ∗ (dats m h 0 c).owesAt () t.castSucc ∗ Before m h c t)
      ⊢ wp frame (wpE (defs₀ (F := F)) Variants.none c none) Set.univ (bodyAt m h t)
        fun _ => iprop(Left m h c t ∗ (dats m h 0 c).owesAt () t.castSucc ∗ After m h c t) := by
  iintro ⟨HΦ, HO, HB⟩
  ihave HΦ := (enter m h c t) $$ HΦ
  icases HΦ with ⟨%s12, %s13, %hold, HΦ⟩
  iapply (run_point m h c t s12 s13 hold ((dats m h 0 c).owesAt () t.castSucc))
  isplitl [HΦ]; · iexact HΦ
  isplitl [HO]; · iexact HO
  iexact HB

theorem body_obligation (c : Dev nD) : BodyObligation (dats m h 0 c) (defs₀ (F := F)) Variants.none () Set.univ := fun t => by
  rw [bigSep_W0, bigSep_W0, row_at]
  have b5 : idle0 (tables m) (dynb0 (tables m)) 5 (((pcfg0 (F := F)).gridAt (tables m)).coords t) = false := (busy (tables m) _).1
  have b6 : idle0 (tables m) (dynb0 (tables m)) 6 (((pcfg0 (F := F)).gridAt (tables m)).coords t) = false := (busy (tables m) _).2
  simp only [b5, b6]
  exact triple_restated (at_point m h c t) rfl .rfl fun _ => .rfl

/-! ## The run -/

variable (ρ : Dev nD → PrngReg)

theorem tail_sub : ∀ ops ∈ ([hostOps1, hostOps1_1, hostOps1_2, hostOps1_3] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_3_sub) op hop) ?_
    simp only [hostOps1_3, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)

theorem tail_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · simp only [hostOps1, List.mem_cons, List.mem_nil_iff, or_false] at hop
    rcases hop with rfl | rfl | rfl | rfl | rfl | rfl | rfl <;> rfl
  · simp only [hostOps1_1, List.mem_cons, List.mem_nil_iff, or_false] at hop
    rcases hop with rfl | rfl <;> rfl
  · simp only [hostOps1_2, List.mem_cons, List.mem_nil_iff, or_false] at hop
    rcases hop with rfl; rfl
  · simp only [hostOps1_3, List.mem_cons, List.mem_nil_iff, or_false] at hop
    rcases hop with rfl | rfl <;> rfl

theorem tail_keeps : ∀ ops ∈ ([hostOps1, hostOps1_1, hostOps1_2, hostOps1_3] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_3, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem around : Pipeline.HMainPK (Ix := Unit) (Name := ℕ) (U := UR sig nD τ) (Lvl := ℕ) pcfgs 0 defs₀ Variants.none m (main (F := F))
    (fun c b => entry m c (Proc.devRef .tc b)) (fun _ => Pipeline.chain ([hostOps1, hostOps1_1, hostOps1_2, hostOps1_3].map StableHlo.seq)) :=
  Pipeline.hmainP_around pcfgs 0 defs₀ Variants.none m main [hostOps0] [hostOps1, hostOps1_1, hostOps1_2, hostOps1_3]
    (by simp only [List.Forall]; exact hostOps0_sub) (by simp only [List.Forall]; rfl) main_chain

/-- What the program leaves in a buffer that is neither an operand nor a result of the region. -/
abbrev leaves (c : Dev nD) (b : Ref sig .tc) : Buf (Elt F) ((c : Thread nD τ).loc b) :=
  Pipeline.afterTail pcfgs (region m h) (dats m h) 0 (entry m) [hostOps1, hostOps1_1, hostOps1_2, hostOps1_3] c b

set_option backward.isDefEq.respectTransparency.types false in
theorem run : θ_run defs (onTc (τ := τ) (main (F := F))) (s₀ m ρ)
    (fun r => Pipeline.FramePost (Pipeline.pin pcfgs (region m h)) (dats m h) 0 (leaves m h) r ∧ r.2.sem = fun _ => 0) :=
  Pipeline.θ_run_frameP_around_track (Q' := _) pcfgs (region m h) (dats m h) (0 : Fin 1) launch0 defs₀ Variants.none m ρ main
    (hbody := fun c => (body_obligation m h c).loose) (hshare := fun c w => by fin_cases w <;> rfl)
    (howed := fun _ _ => rfl) (V₀ := entry m) (opss := [hostOps1, hostOps1_1, hostOps1_2, hostOps1_3])
    (hsub := tail_sub) (hfresh := tail_fresh) (hkeep := tail_keeps) (hmain := around m) (hA := A_eq m h)
    (hpf := fun c k => by obtain rfl : c = 0 := Subsingleton.elim _ _; rfl)
    (hin := fun c => .rfl) (hout := fun c => finish m h c _ _)

end Cert.ExpertsIdeal.Blocks

end
-- ==== Proof.ExpertsEnd.lean ====
module

public import proofs.«01_k».proof.Proof.ExpertsLaunch

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (h : InOrder (tables m)) (ρ : Dev nD → PrngReg)

/-! ## What the program leaves -/

theorem entry_keep (c : Dev nD) (b : Ref sig .tc) (hb : b ≠ main_v0) : entry m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem leaves_keep (c : Dev nD) (b : Ref sig .tc) (ha : ∀ w, Pipeline.arrRef spec0 w ≠ b)
    (hb : ∀ x ∈ [main_v2, main_v3, main_c, main_v4, main_v5, main_v6, main_cst, main_call0_v0, main_v7, main_cst_0, main_call1_v0, main_v8], b ≠ x) :
    leaves m h c b = entry m c (Proc.devRef .tc b) := by
  have hk : ∀ x ∈ [main_v2, main_v3, main_c, main_v4, main_v5, main_v6, main_cst, main_call0_v0, main_v7, main_cst_0, main_call1_v0, main_v8],
      Proc.devRef (τ := τ) .tc b ≠ Proc.devRef .tc x := fun x hx => StableHlo.devRef_ne_of_ne (hb x hx)
  simp only [List.forall_mem_cons] at hk
  obtain ⟨k1, k2, k3, k4, k5, k6, k7, k8, k9, k10, k11, k12, -⟩ := hk
  unfold leaves Pipeline.afterTail
  rw [StableHlo.after_of_forall_not_mem (b := Proc.devRef .tc b) _ _ (List.forall_iff_forall_mem.mp (by
    simp only [hostOps1, hostOps1_1, hostOps1_2, hostOps1_3, List.flatten_cons, List.flatten_nil, List.append_nil, List.cons_append, List.nil_append, List.Forall,
      StableHlo.nullary_writes, StableHlo.unary_writes, StableHlo.binary_writes, StableHlo.ternary_writes, StableHlo.reshape_writes, Finset.mem_singleton]
    exact ⟨k1, k2, k3, k4, k5, k6, k7, k8, k9, k10, k11, k12⟩))]
  exact Pipeline.withArrays_of_ne _ c _ _ _ ha

/-- The region's results. -/
abbrev resA (c : Dev nD) := (dats m h 0 c).arrAt 5 (cfg0 (admitted h)).N
abbrev resB (c : Dev nD) := (dats m h 0 c).arrAt 6 (cfg0 (admitted h)).N

/-- Every row of a block in use. -/
def inUse : IVec S786432x512 1 :=
  cmpi .slt (iotaInDim S786432x512 32 0) (broadcastInDim S786432x512 ![] bcast_S_S786432x512 (muli (shapeCast S_ (m (((0 : Dev nD) : Thread nD τ).loc main_arg0)) shapeCasts_S1_S_) (constantI S_ 32 1024#32)))

theorem arg_kept (c : Dev nD) : Pipeline.withArrays spec0 c (entry m c) (fun w => (dats m h 0 c).arrAt w (cfg0 (admitted h)).N) (Proc.devRef .tc main_arg0)
    = m ((c : Thread nD τ).loc main_arg0) :=
  (Pipeline.withArrays_of_ne _ c _ _ _ (by decide)).trans (entry_keep m c _ (by decide))
theorem resA_kept (c : Dev nD) : Pipeline.withArrays spec0 c (entry m c) (fun w => (dats m h 0 c).arrAt w (cfg0 (admitted h)).N) (Proc.devRef .tc main_v1_0)
    = resA m h c :=
  Pipeline.withArrays_arr spec0 winFacts0.arr_inj c (entry m c) _ 5
theorem resB_kept (c : Dev nD) : Pipeline.withArrays spec0 c (entry m c) (fun w => (dats m h 0 c).arrAt w (cfg0 (admitted h)).N) (Proc.devRef .tc main_v1_1)
    = resB m h c :=
  Pipeline.withArrays_arr spec0 winFacts0.arr_inj c (entry m c) _ 6

theorem leaves_v7 (c : Dev nD) : leaves m h c main_v7
    = select (inUse m) (resA m h c) (broadcastInDim S786432x512 ![] bcast_S_S786432x512 (constant S_ .bf16 0x0000#16)) := by
  obtain rfl : c = 0 := Subsingleton.elim _ _
  unfold leaves Pipeline.afterTail
  simp only [hostOps1, hostOps1_1, hostOps1_2, hostOps1_3, List.flatten_cons, List.flatten_nil, List.append_nil, List.cons_append, List.nil_append]
  generalize hV : Pipeline.withArrays _ _ _ _ = V
  have e0 : V (Proc.devRef .tc main_arg0) = m (((0 : Dev nD) : Thread nD τ).loc main_arg0) := by rw [← hV]; exact arg_kept m h 0
  have e1 : V (Proc.devRef .tc main_v1_0) = resA m h 0 := by rw [← hV]; exact resA_kept m h 0
  entry_read
  rw [e0, e1]
  rfl
theorem leaves_v8 (c : Dev nD) : leaves m h c main_v8
    = select (inUse m) (resB m h c) (broadcastInDim S786432x512 ![] bcast_S_S786432x512 (constant S_ .bf16 0x0000#16)) := by
  obtain rfl : c = 0 := Subsingleton.elim _ _
  unfold leaves Pipeline.afterTail
  simp only [hostOps1, hostOps1_1, hostOps1_2, hostOps1_3, List.flatten_cons, List.flatten_nil, List.append_nil, List.cons_append, List.nil_append]
  generalize hV : Pipeline.withArrays _ _ _ _ = V
  have e0 : V (Proc.devRef .tc main_arg0) = m (((0 : Dev nD) : Thread nD τ).loc main_arg0) := by rw [← hV]; exact arg_kept m h 0
  have e1 : V (Proc.devRef .tc main_v1_1) = resB m h 0 := by rw [← hV]; exact resB_kept m h 0
  entry_read
  rw [e0, e1]
  rfl

/-- Every buffer the claims read, at the end. -/
theorem run_all : θ_run defs (onTc (τ := τ) (main (F := F))) ⟨m, fun _ => 0, ρ⟩ (fun r => (∀ c : Dev nD,
      r.2.mem ((c.tc : Thread nD τ).loc main_v7) = select (inUse m) (resA m h c) (broadcastInDim S786432x512 ![] bcast_S_S786432x512 (constant S_ .bf16 0x0000#16))
      ∧ r.2.mem ((c.tc : Thread nD τ).loc main_v8) = select (inUse m) (resB m h c) (broadcastInDim S786432x512 ![] bcast_S_S786432x512 (constant S_ .bf16 0x0000#16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r hr => ⟨fun c => ?_, hr.2⟩) (run m h ρ)
  obtain ⟨harr, hrest⟩ := hr.1 c
  have keep : ∀ b ∈ [main_arg0, main_arg1, main_arg2, main_arg3, main_arg4], r.2.mem ((c.tc : Thread nD τ).loc b) = m ((c.tc : Thread nD τ).loc b) := by
    intro b hb
    refine (hrest b (by show b ∈ Pipeline.restRefs sig spec0; revert b; decide)).trans ((leaves_keep m h c b (by revert b; decide) (by revert b; decide)).trans (entry_keep m c b (by revert b; decide)))
  have arg : ∀ w : Fin 7, (spec0 w).isOut = false → (dats m h 0 c).arrAt w (cfg0 (admitted h)).N = entry m c (Proc.devRef .tc (Pipeline.arrRef spec0 w)) :=
    fun w hw => ((dats m h 0 c).arrAt_in w hw _).trans (A_eq m h c w)
  refine ⟨(hrest main_v7 (by show main_v7 ∈ Pipeline.restRefs sig spec0; decide)).trans (leaves_v7 m h c), (hrest main_v8 (by show main_v8 ∈ Pipeline.restRefs sig spec0; decide)).trans (leaves_v8 m h c),
    keep _ (by decide), keep _ (by decide), keep _ (by decide), keep _ (by decide), keep _ (by decide), ?_, ?_, ?_, ?_, ?_⟩
  · exact (harr 0).trans ((arg 0 rfl).trans (entry_keep m c main_arg5 (by decide)))
  · exact (harr 1).trans ((arg 1 rfl).trans (entry_keep m c main_arg6 (by decide)))
  · exact (harr 2).trans ((arg 2 rfl).trans (entry_keep m c main_arg7 (by decide)))
  · exact (harr 3).trans ((arg 3 rfl).trans (entry_keep m c main_arg8 (by decide)))
  · exact (harr 4).trans ((arg 4 rfl).trans (entry_keep m c main_arg9 (by decide)))

/-- The tables are the arguments. -/
theorem table0 : tables m 0 = shapeCast S_ (m (((0 : Dev nD) : Thread nD τ).loc main_arg0)) shapeCasts_S1_S_ := by
  show StableHlo.after hostOps0 (fun b => m ((0 : Dev nD), b)) (Proc.devRef .tc main_v0) = _
  entry_read
  rfl
theorem table1 : tables m 1 = m (((0 : Dev nD) : Thread nD τ).loc main_arg1) := entry_keep m 0 main_arg1 (by decide)
theorem table2 : tables m 2 = m (((0 : Dev nD) : Thread nD τ).loc main_arg2) := entry_keep m 0 main_arg2 (by decide)
theorem table3 : tables m 3 = m (((0 : Dev nD) : Thread nD τ).loc main_arg3) := entry_keep m 0 main_arg3 (by decide)
theorem table4 : tables m 4 = m (((0 : Dev nD) : Thread nD τ).loc main_arg4) := entry_keep m 0 main_arg4 (by decide)

end Cert.ExpertsIdeal.Blocks

end
-- ==== Proof.ExpertsOrder.lean ====
module

public import proofs.«01_k».proof.Proof.ExpertsEnd
public import proofs.«01_k».proof.Proof.Gen.Pre_blocks_in_order
public import proofs.«01_k».proof.Defs
public import Idealize.ShloMosaic.Lib.Pipeline.ValueKit

@[expose] public section

set_option maxRecDepth 16384

noncomputable section

namespace Cert.ExpertsIdeal.Blocks

open Cert.ExpertsIdeal Cert.ExpertsIdeal.Gen
open Idealize.ShloMosaic Idealize.ShloMosaic.TcCoe

theorem ofBool_one (p : Bool) : BitVec.ofBool p = 1#1 ↔ p = true := by cases p <;> decide
theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide

variable {F : FTy → Type} [FloatOps F]

/-- A word between zero and a small number, signed, is below it as a natural number. -/
theorem below (x : BitVec 32) (N : ℕ) (hN : N < 2147483648) (h0 : (0#32).sle x = true) (h1 : x.slt (BitVec.ofNat 32 N) = true) : x.toNat < N := by
  have hb : (BitVec.ofNat 32 N).toNat = N := by rw [BitVec.toNat_ofNat]; omega
  have hx := x.isLt
  simp only [BitVec.sle, BitVec.slt, decide_eq_true_eq] at h0 h1
  rw [BitVec.toInt_eq_toNat_cond, BitVec.toInt_eq_toNat_cond] at h0 h1
  rw [hb] at h1
  simp only [BitVec.toNat_ofNat] at h0
  split_ifs at h0 h1 <;> omega
theorem upto (x : BitVec 32) (N : ℕ) (hN : N < 2147483648) (h0 : (1#32).sle x = true) (h1 : x.sle (BitVec.ofNat 32 N) = true) : x.toNat ≤ N := by
  have hb : (BitVec.ofNat 32 N).toNat = N := by rw [BitVec.toNat_ofNat]; omega
  have hx := x.isLt
  simp only [BitVec.sle, decide_eq_true_eq] at h0 h1
  rw [BitVec.toInt_eq_toNat_cond, BitVec.toInt_eq_toNat_cond] at h0 h1
  rw [hb] at h1
  simp only [BitVec.toNat_ofNat] at h0
  split_ifs at h0 h1 <;> omega
theorem fresh_iff (fl : BitVec 32) : fresh fl ↔ (2#32).sle fl = true := by
  unfold fresh
  simp only [Scalar.cmpi, Scalar.extui, IntOp.cmpi]
  rw [flag_bit]

theorem one_index (y z : Pre_blocks_in_order.S1.Idx) : y = z := by
  funext a
  apply Fin.ext
  have := (y a).isLt; have := (z a).isLt
  fin_cases a
  change (y 0).val < 1 at *
  change (z 0).val < 1 at *
  show (y 0).val = (z 0).val
  omega

/-- The precondition's one word per block, read. -/
theorem decode (a0 : IVec Pre_blocks_in_order.S1 32) (a1 a2 a3 a4 : IVec Pre_blocks_in_order.S768 32)
    (a5 a6 : FVec F Pre_blocks_in_order.S786432x512 .bf16) (a7 a8 : FVec F Pre_blocks_in_order.S256x1024x256 .f32) (a9 : FVec F Pre_blocks_in_order.S256x256x1024 .f32)
    (hp : Pre_blocks_in_order.fn (F := F) a0 a1 a2 a3 a4 a5 a6 a7 a8 a9 = fun _ => 1#1) (y : Pre_blocks_in_order.S768.Idx) :
    (∀ z, (a0 z).toNat ≤ 768) ∧ (a1 y).toNat < 768 ∧ (a2 y).toNat < 256
      ∧ (fresh (a3 y) ∨ 0 < (y 0).val ∧ ∀ z : Pre_blocks_in_order.S768.Idx, (z 0).val + 1 = (y 0).val → a2 y = a2 z) := by
  have e := congrFun hp y
  simp only [Pre_blocks_in_order.fn, Pre_blocks_in_order.fn_part1, andi, ori, cmpi, constantI, broadcastInDim, iotaInDim, IntOp.cmpi, and_one, or_one, ofBool_one] at e
  obtain ⟨⟨⟨⟨⟨⟨e0, e0'⟩, e1⟩, e1'⟩, e2⟩, e2'⟩, e3⟩ := e
  refine ⟨fun z => ?_, below _ 768 (by decide) e1 e1', below _ 256 (by decide) e2 e2', e3.imp (fresh_iff _).2 fun ⟨p, q⟩ => ?_⟩
  · have hz := upto _ 768 (by decide) e0 e0'
    exact (congrArg (fun i => (a0 i).toNat) (one_index z _)).le.trans hz
  · have hy : (y 0).val < 768 := (y 0).isLt
    have hpos : 0 < (y 0).val := by
      rcases Nat.eq_zero_or_pos (y 0).val with h0 | h0
      · rw [h0] at p; exact absurd p (by decide)
      · exact h0
    refine ⟨hpos, fun z hz => (beq_iff_eq.1 q).trans ?_⟩
    have hz' : (z 0).val < 767 := by omega
    refine (concatenate_pair_apply_right (t := Pre_blocks_in_order.S768) (s₁ := Pre_blocks_in_order.S1) (s₂ := Pre_blocks_in_order.S767) (0 : Fin 1) _ _ _ y rfl rfl
      (ix1 ⟨(z 0).val, hz'⟩) (fun b hb => absurd (Subsingleton.elim _ _) hb) hz).trans ?_
    unfold extractStridedSlice
    refine congrArg a2 (funext fun a => Fin.ext ?_)
    fin_cases a
    show 0 + (z 0).val = (z 0).val
    omega

variable (m : (ℓ : Loc nD τ sig) → Buf (Elt F) ℓ)

/-- A table's word is the argument's. -/
theorem word1 (j : ℕ) (hj : j < 768) : source (tables m) j = (m (((0 : Dev nD) : Thread nD τ).loc main_arg1)) (ix1 ⟨j, hj⟩) := by
  unfold source Pipeline.Prefetch.Contents.atD
  have hb : ∀ a, (![j] : Fin 1 → ℕ) a + 1 ≤ S768.size a := fun a => by fin_cases a; exact hj
  refine (dif_pos hb).trans ?_
  rw [table1]
  refine congrArg (m (((0 : Dev nD) : Thread nD τ).loc main_arg1)) (funext fun a => Fin.ext ?_)
  fin_cases a; rfl
theorem word2 (j : ℕ) (hj : j < 768) : expert (tables m) j = (m (((0 : Dev nD) : Thread nD τ).loc main_arg2)) (ix1 ⟨j, hj⟩) := by
  unfold expert Pipeline.Prefetch.Contents.atD
  have hb : ∀ a, (![j] : Fin 1 → ℕ) a + 1 ≤ S768.size a := fun a => by fin_cases a; exact hj
  refine (dif_pos hb).trans ?_
  rw [table2]
  refine congrArg (m (((0 : Dev nD) : Thread nD τ).loc main_arg2)) (funext fun a => Fin.ext ?_)
  fin_cases a; rfl
theorem word3 (j : ℕ) (hj : j < 768) : flag (tables m) j = (m (((0 : Dev nD) : Thread nD τ).loc main_arg3)) (ix1 ⟨j, hj⟩) := by
  unfold flag Pipeline.Prefetch.Contents.atD
  have hb : ∀ a, (![j] : Fin 1 → ℕ) a + 1 ≤ S768.size a := fun a => by fin_cases a; exact hj
  refine (dif_pos hb).trans ?_
  rw [table3]
  refine congrArg (m (((0 : Dev nD) : Thread nD τ).loc main_arg3)) (funext fun a => Fin.ext ?_)
  fin_cases a; rfl
theorem word4 (j : ℕ) (hj : j < 768) : rows (tables m) j = (m (((0 : Dev nD) : Thread nD τ).loc main_arg4)) (ix1 ⟨j, hj⟩) := by
  unfold rows Pipeline.Prefetch.Contents.atD
  have hb : ∀ a, (![j] : Fin 1 → ℕ) a + 1 ≤ S768.size a := fun a => by fin_cases a; exact hj
  refine (dif_pos hb).trans ?_
  rw [table4]
  refine congrArg (m (((0 : Dev nD) : Thread nD τ).loc main_arg4)) (funext fun a => Fin.ext ?_)
  fin_cases a; rfl
theorem used_at : ∃ z, used (tables m) = ((m (((0 : Dev nD) : Thread nD τ).loc main_arg0) : IVec S1 32) z).toNat := by
  unfold used
  rw [table0]
  exact ⟨_, rfl⟩

/-- The precondition orders the tables. -/
theorem in_order (hp : Pre_blocks_in_order.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) (m (((0 : Dev nD) : Thread nD τ).loc main_arg7))
      (m (((0 : Dev nD) : Thread nD τ).loc main_arg8)) (m (((0 : Dev nD) : Thread nD τ).loc main_arg9)) = fun _ => 1#1) : InOrder (tables m) where
  used_le := by
    obtain ⟨z, hz⟩ := used_at m
    rw [hz]
    exact (decode _ _ _ _ _ _ _ _ _ _ hp (ix1 ⟨0, by decide⟩)).1 z
  source_lt j hj := by
    rw [word1 m j hj]
    exact (decode _ _ _ _ _ _ _ _ _ _ hp (ix1 ⟨j, hj⟩)).2.1
  expert_lt j hj := by
    rw [word2 m j hj]
    exact (decode _ _ _ _ _ _ _ _ _ _ hp (ix1 ⟨j, hj⟩)).2.2.1
  same j hj hf := by
    rw [word3 m j hj] at hf
    rcases (decode _ _ _ _ _ _ _ _ _ _ hp (ix1 ⟨j, hj⟩)).2.2.2 with hn | ⟨hpos, hs⟩
    · exact absurd hn hf
    · change 0 < j at hpos
      refine ⟨hpos, ?_⟩
      rw [word2 m j hj, word2 m (j - 1) (by omega)]
      exact hs (ix1 ⟨j - 1, by omega⟩) (Nat.sub_add_cancel hpos)

end Cert.ExpertsIdeal.Blocks

end
-- ==== Proof.ExpertsBlock.lean ====
/-
  What the body leaves of one block, row by row: the expert's gated product of the rows it serves, zero in the others.
-/
module

public import proofs.«01_k».proof.Proof.ExpertsRun
public import Idealize.ShloMosaic.Lib.Pipeline.ValueKit
public import Idealize.ShloMosaic.Lib.IdealHost
public import Idealize.ShloMosaic.Lib.Claim

@[expose] public section

set_option maxRecDepth 16384

noncomputable section

namespace Cert.ExpertsIdeal.Blocks

open Cert.ExpertsIdeal Cert.ExpertsIdeal.Gen
open Idealize.ShloMosaic Idealize.ShloMosaic.TcCoe

/-- A row of the two halves as one of 1024: the quarters in the order first, first, second, second. -/
def wide (x y : Fin 512 → EReal) (k : Fin 1024) : EReal :=
  if h : k.val < 256 then x ⟨k.val, by omega⟩
  else if h : k.val - 256 < 256 then y ⟨k.val - 256, by omega⟩
  else if h : k.val - 256 - 256 < 256 then x ⟨256 + (k.val - 256 - 256), by omega⟩
  else y ⟨256 + (k.val - 256 - 256 - 256), by omega⟩

/-- A row times a column of weights. -/
def along (row : Fin 1024 → EReal) (w : Fin 1024 → Fin 256 → EReal) (k : Fin 256) : EReal := ∑ i : Fin 1024, row i * w i k
/-- One expert's gated product of a row. -/
def swiglu (row : Fin 1024 → EReal) (wg wu : Fin 1024 → Fin 256 → EReal) (wd : Fin 256 → Fin 1024 → EReal) (k : Fin 1024) : EReal :=
  ∑ i : Fin 256, along row wg i * Ideal.logistic (along row wg i) * along row wu i * wd i k

/-- Whether a block with so many rows has this one. -/
def served (nr : BitVec 32) (r : ℕ) : BitVec 1 := IntOp.cmpi .slt (BitVec.ofNat 32 r) nr
/-- A row that is there, zero otherwise. -/
def masked (nr : BitVec 32) (r : ℕ) (row : Fin 1024 → EReal) (k : Fin 1024) : EReal := Scalar.select (served nr r) (row k) 0

theorem wide_masked (b : BitVec 1) (x y : Fin 512 → EReal) (k : Fin 1024) :
    wide (fun i => Scalar.select b (x i) 0) (fun i => Scalar.select b (y i) 0) k = Scalar.select b (wide x y k) 0 := by
  unfold wide
  split_ifs <;> rfl

theorem swiglu_none (nr : BitVec 32) (r : ℕ) (h : served nr r ≠ 1#1) (row : Fin 1024 → EReal) (wg wu wd) (k : Fin 1024) :
    swiglu (masked nr r row) wg wu wd k = 0 := by
  have hm : ∀ i, masked nr r row i = 0 := fun i => if_neg h
  unfold swiglu along
  simp only [hm, zero_mul, Finset.sum_const_zero]

section block

variable (nr : BitVec 32) (x y : FVec Ideal S1024x512 .bf16) (g : FVec Ideal S1024x512 .bf16) (d : FVec Ideal S256x1024 .bf16)

/-- A block's row of the result. -/
def rowOut (r : Fin 1024) (k : Fin 1024) : EReal :=
  swiglu (masked nr r.val (wide (fun i => x (ix2 r i)) (fun i => y (ix2 r i)))) (fun i k => g (ix2 i ⟨k.val, by omega⟩)) (fun i k => g (ix2 i ⟨256 + k.val, by omega⟩))
    (fun i k => d (ix2 i k)) k

theorem word_zero (w : BitVec 32) : IntOp.addi w 0#32 = w := by unfold IntOp.addi; simp
theorem word_bot (r : ℕ) : IntOp.addi (BitVec.ofNat 32 r) 512#32 = BitVec.ofNat 32 (512 + r) := by
  unfold IntOp.addi; rw [Nat.add_comm, BitVec.ofNat_add]

theorem top_row (u v : FVec Ideal S512x512 .bf16) (j : S512x1024.Idx) :
    k0_pay8 (F := Ideal) nr u v g d j
      = swiglu (wide (fun i => Scalar.select (served nr (j 0).val) (u (ix2 (j 0) i)) 0) (fun i => Scalar.select (served nr (j 0).val) (v (ix2 (j 0) i)) 0))
          (fun i k => g (ix2 i ⟨k.val, by omega⟩)) (fun i k => g (ix2 i ⟨256 + k.val, by omega⟩)) (fun i k => d (ix2 i k)) (j 1) := by
  unfold k0_pay8
  pointwise [swiglu, along, wide, served, word_zero]
theorem bot_row (u v : FVec Ideal S512x512 .bf16) (j : S512x1024.Idx) :
    k0_pay13 (F := Ideal) nr u v g d j
      = swiglu (wide (fun i => Scalar.select (served nr (512 + (j 0).val)) (u (ix2 (j 0) i)) 0) (fun i => Scalar.select (served nr (512 + (j 0).val)) (v (ix2 (j 0) i)) 0))
          (fun i k => g (ix2 i ⟨k.val, by omega⟩)) (fun i k => g (ix2 i ⟨256 + k.val, by omega⟩)) (fun i k => d (ix2 i k)) (j 1) := by
  unfold k0_pay13
  pointwise [swiglu, along, wide, served, word_bot]

theorem ld_top (j : S512x512.Idx) : View.ld (Val := Elt Ideal) (e' := .bf16) x rTop j = x (ix2 ⟨(j 0).val, lt_trans (j 0).isLt (by decide)⟩ (j 1)) := by
  unfold View.ld
  refine congrArg x (funext fun a => Fin.ext ?_)
  match a with
  | 0 => show 0 + 1 * (j 0).val = (j 0).val; omega
  | 1 => show 0 + 1 * (j 1).val = (j 1).val; omega
theorem ld_bot (j : S512x512.Idx) : View.ld (Val := Elt Ideal) (e' := .bf16) x rBot j = x (ix2 ⟨512 + (j 0).val, Nat.add_lt_add_left (j 0).isLt 512⟩ (j 1)) := by
  unfold View.ld
  refine congrArg x (funext fun a => Fin.ext ?_)
  match a with
  | 0 => show 512 + 1 * (j 0).val = 512 + (j 0).val; omega
  | 1 => show 0 + 1 * (j 1).val = (j 1).val; omega

theorem top_at (j : S512x1024.Idx) (r k : Fin 1024) (hr : r.val = (j 0).val) (hk : k.val = (j 1).val) :
    k0_pay8 (F := Ideal) nr (View.ld x rTop) (View.ld y rTop) g d j = rowOut nr x y g d r k := by
  rw [top_row, show j 1 = k from (Fin.ext hk).symm, ← hr]
  unfold rowOut
  refine congrArg (fun row => swiglu row _ _ _ k) (funext fun i => ?_)
  unfold masked
  rw [← wide_masked]
  refine congrArg₂ (fun u v => wide u v i) (funext fun q => ?_) (funext fun q => ?_)
  · rw [ld_top]
    exact congrArg (fun w => Scalar.select (served nr r.val) (x (ix2 w q)) 0) (Fin.ext hr.symm)
  · rw [ld_top]
    exact congrArg (fun w => Scalar.select (served nr r.val) (y (ix2 w q)) 0) (Fin.ext hr.symm)
theorem bot_at (j : S512x1024.Idx) (r k : Fin 1024) (hr : r.val = 512 + (j 0).val) (hk : k.val = (j 1).val) :
    k0_pay13 (F := Ideal) nr (View.ld x rBot) (View.ld y rBot) g d j = rowOut nr x y g d r k := by
  rw [bot_row, show j 1 = k from (Fin.ext hk).symm, ← hr]
  unfold rowOut
  refine congrArg (fun row => swiglu row _ _ _ k) (funext fun i => ?_)
  unfold masked
  rw [← wide_masked]
  refine congrArg₂ (fun u v => wide u v i) (funext fun q => ?_) (funext fun q => ?_)
  · rw [ld_bot]
    exact congrArg (fun w => Scalar.select (served nr r.val) (x (ix2 w q)) 0) (Fin.ext hr.symm)
  · rw [ld_bot]
    exact congrArg (fun w => Scalar.select (served nr r.val) (y (ix2 w q)) 0) (Fin.ext hr.symm)

/-- The quarters a store takes. -/
theorem cut_at (q : ℕ) (hs) (p : FVec Ideal S512x1024 .bf16) (z : S512x256.Idx) (hq : q + 256 ≤ 1024) :
    extractStridedSlice S512x256 ![0, q] p hs z = p (ix2 (z 0) ⟨q + (z 1).val, by have := (z 1).isLt; change (z 1).val < 256 at this; omega⟩) := by
  unfold extractStridedSlice
  refine congrArg p (funext fun a => Fin.ext ?_)
  match a with
  | 0 => exact Nat.zero_add _
  | 1 => rfl

/-- A row no smaller than the number of rows is not there. -/
theorem not_served (r : ℕ) (B : ℤ) (hr : r < 1024) (hB : B ≤ r) (h : ¬ B < nr.toInt) : served nr r ≠ 1#1 := by
  intro e
  have hb : (BitVec.ofNat 32 r).toNat = r := by rw [BitVec.toNat_ofNat]; omega
  have hi : (BitVec.ofNat 32 r).toInt = r := by
    rw [BitVec.toInt_eq_toNat_cond, hb, if_pos (by omega)]
  have hs : (BitVec.ofNat 32 r).slt nr = true := by
    revert e; unfold served IntOp.cmpi; simp only []; cases (BitVec.ofNat 32 r).slt nr <;> decide
  simp only [BitVec.slt, decide_eq_true_eq, hi] at hs
  omega

/-- A column of the results of half the width: of its first 256 the column itself, of the others 256 further on. -/
def spread (k : Fin 512) : Fin 1024 := if h : k.val < 256 then ⟨k.val, by omega⟩ else ⟨k.val + 256, by omega⟩
/-- The same from column 256 on. -/
def spread' (k : Fin 512) : Fin 1024 := if h : k.val < 256 then ⟨k.val + 256, by omega⟩ else ⟨k.val + 512, by omega⟩

theorem top_cut (q : ℕ) (hs) (hq : q + 256 ≤ 1024) (z : S512x256.Idx) (r k : Fin 1024) (hr : r.val = (z 0).val) (hk : k.val = q + (z 1).val) :
    extractStridedSlice S512x256 ![0, q] (k0_pay8 (F := Ideal) nr (View.ld x rTop) (View.ld y rTop) g d) hs z = rowOut nr x y g d r k :=
  (cut_at q hs _ z hq).trans (top_at nr x y g d _ r k hr hk)
theorem bot_cut (q : ℕ) (hs) (hq : q + 256 ≤ 1024) (z : S512x256.Idx) (r k : Fin 1024) (hr : r.val = 512 + (z 0).val) (hk : k.val = q + (z 1).val) :
    extractStridedSlice S512x256 ![0, q] (k0_pay13 (F := Ideal) nr (View.ld x rBot) (View.ld y rBot) g d) hs z = rowOut nr x y g d r k :=
  (cut_at q hs _ z hq).trans (bot_at nr x y g d _ r k hr hk)

theorem zero_top (h : ¬ k0_cond2 nr = 1#1) (r k : Fin 1024) : rowOut nr x y g d r k = 0 := by
  unfold rowOut
  exact swiglu_none nr r.val (not_served nr r.val 0 r.isLt (by omega) fun q => h ((cond2_iff nr).2 q)) _ _ _ _ k
theorem zero_bot (h : ¬ k0_cond4 nr = 1#1) (r k : Fin 1024) (hr : 512 ≤ r.val) : rowOut nr x y g d r k = 0 := by
  unfold rowOut
  exact swiglu_none nr r.val (not_served nr r.val 512 r.isLt (by omega) fun q => h ((cond4_iff nr).2 q)) _ _ _ _ k

theorem spread_lo (k : Fin 512) (z : ℕ) (h : k.val = z) (hz : z < 256) : (spread k).val = 0 + z := by
  unfold spread; rw [dif_pos (by omega)]; simp only []; omega
theorem spread_hi (k : Fin 512) (z : ℕ) (h : k.val = 256 + z) (hz : z < 256) : (spread k).val = 512 + z := by
  unfold spread; rw [dif_neg (by omega)]; simp only []; omega
theorem spread'_lo (k : Fin 512) (z : ℕ) (h : k.val = z) (hz : z < 256) : (spread' k).val = 256 + z := by
  unfold spread'; rw [dif_pos (by omega)]; simp only []; omega
theorem spread'_hi (k : Fin 512) (z : ℕ) (h : k.val = 256 + z) (hz : z < 256) : (spread' k).val = 768 + z := by
  unfold spread'; rw [dif_neg (by omega)]; simp only []; omega

theorem zeros4 (z : S512x512.Idx) : k0_pay4 (F := Ideal) z = 0 := by unfold k0_pay4; pointwise []
theorem zeros5 (z : S512x512.Idx) : k0_pay5 (F := Ideal) z = 0 := by unfold k0_pay5; pointwise []
theorem zeros6 (z : S512x512.Idx) : k0_pay6 (F := Ideal) z = 0 := by unfold k0_pay6; pointwise []
theorem zeros7 (z : S512x512.Idx) : k0_pay7 (F := Ideal) z = 0 := by unfold k0_pay7; pointwise []

theorem outA_at (j : S1024x512.Idx) : outA (F := Ideal) nr x y g d j = rowOut nr x y g d (j 0) (spread (j 1)) := by
  unfold outA botA topA
  by_cases h2 : k0_cond2 nr = 1#1 <;> by_cases h4 : k0_cond4 nr = 1#1 <;> simp only [h2, h4, if_true, if_false, List.cons_append, List.nil_append]
  · canon_tiles z h using (View.cover_of_tiledBy _ ![512, 256] (by sl_kernel_rfl) j)
    · exact bot_cut nr x y g d 512 slices_S512x1024_o0_512_S512x256 (by decide) z _ _ h0 (spread_hi _ _ h1 z1_lt)
    · exact bot_cut nr x y g d 0 slices_S512x1024_o0_0_S512x256 (by decide) z _ _ h0 (spread_lo _ _ h1 z1_lt)
    · exact top_cut nr x y g d 512 slices_S512x1024_o0_512_S512x256 (by decide) z _ _ h0 (spread_hi _ _ h1 z1_lt)
    · exact top_cut nr x y g d 0 slices_S512x1024_o0_0_S512x256 (by decide) z _ _ h0 (spread_lo _ _ h1 z1_lt)
  · canon_tiles z h using (View.cover_of_tiledBy _ ![512, 256] (by sl_kernel_rfl) j)
    · rw [zeros6]; exact (zero_bot nr x y g d h4 _ _ (by omega)).symm
    · exact top_cut nr x y g d 512 slices_S512x1024_o0_512_S512x256 (by decide) z _ _ h0 (spread_hi _ _ h1 z1_lt)
    · exact top_cut nr x y g d 0 slices_S512x1024_o0_0_S512x256 (by decide) z _ _ h0 (spread_lo _ _ h1 z1_lt)
  · canon_tiles z h using (View.cover_of_tiledBy _ ![512, 256] (by sl_kernel_rfl) j)
    · exact bot_cut nr x y g d 512 slices_S512x1024_o0_512_S512x256 (by decide) z _ _ h0 (spread_hi _ _ h1 z1_lt)
    · exact bot_cut nr x y g d 0 slices_S512x1024_o0_0_S512x256 (by decide) z _ _ h0 (spread_lo _ _ h1 z1_lt)
    · rw [zeros4]; exact (zero_top nr x y g d h2 _ _).symm
  · canon_tiles z h using (View.cover_of_tiledBy _ ![512, 256] (by sl_kernel_rfl) j)
    · rw [zeros6]; exact (zero_top nr x y g d h2 _ _).symm
    · rw [zeros4]; exact (zero_top nr x y g d h2 _ _).symm

theorem outB_at (j : S1024x512.Idx) : outB (F := Ideal) nr x y g d j = rowOut nr x y g d (j 0) (spread' (j 1)) := by
  unfold outB botB topB
  by_cases h2 : k0_cond2 nr = 1#1 <;> by_cases h4 : k0_cond4 nr = 1#1 <;> simp only [h2, h4, if_true, if_false, List.cons_append, List.nil_append]
  · canon_tiles z h using (View.cover_of_tiledBy _ ![512, 256] (by sl_kernel_rfl) j)
    · exact bot_cut nr x y g d 768 slices_S512x1024_o0_768_S512x256 (by decide) z _ _ h0 (spread'_hi _ _ h1 z1_lt)
    · exact bot_cut nr x y g d 256 slices_S512x1024_o0_256_S512x256 (by decide) z _ _ h0 (spread'_lo _ _ h1 z1_lt)
    · exact top_cut nr x y g d 768 slices_S512x1024_o0_768_S512x256 (by decide) z _ _ h0 (spread'_hi _ _ h1 z1_lt)
    · exact top_cut nr x y g d 256 slices_S512x1024_o0_256_S512x256 (by decide) z _ _ h0 (spread'_lo _ _ h1 z1_lt)
  · canon_tiles z h using (View.cover_of_tiledBy _ ![512, 256] (by sl_kernel_rfl) j)
    · rw [zeros7]; exact (zero_bot nr x y g d h4 _ _ (by omega)).symm
    · exact top_cut nr x y g d 768 slices_S512x1024_o0_768_S512x256 (by decide) z _ _ h0 (spread'_hi _ _ h1 z1_lt)
    · exact top_cut nr x y g d 256 slices_S512x1024_o0_256_S512x256 (by decide) z _ _ h0 (spread'_lo _ _ h1 z1_lt)
  · canon_tiles z h using (View.cover_of_tiledBy _ ![512, 256] (by sl_kernel_rfl) j)
    · exact bot_cut nr x y g d 768 slices_S512x1024_o0_768_S512x256 (by decide) z _ _ h0 (spread'_hi _ _ h1 z1_lt)
    · exact bot_cut nr x y g d 256 slices_S512x1024_o0_256_S512x256 (by decide) z _ _ h0 (spread'_lo _ _ h1 z1_lt)
    · rw [zeros5]; exact (zero_top nr x y g d h2 _ _).symm
  · canon_tiles z h using (View.cover_of_tiledBy _ ![512, 256] (by sl_kernel_rfl) j)
    · rw [zeros7]; exact (zero_top nr x y g d h2 _ _).symm
    · rw [zeros5]; exact (zero_top nr x y g d h2 _ _).symm

theorem half1 (x7 : FVec Ideal S1x1024x256 .f32) (z : S1024x256.Idx) : k0_pay1 (F := Ideal) x7 z = x7 (ix3 0 (z 0) (z 1)) := by
  unfold k0_pay1
  pointwise []
theorem half2 (x8 : FVec Ideal S1x1024x256 .f32) (z : S1024x256.Idx) : k0_pay2 (F := Ideal) x8 z = x8 (ix3 0 (z 0) (z 1)) := by
  unfold k0_pay2
  pointwise []
/-- The weights the body keeps, entry by entry. -/
theorem gates_lo (x7 x8 : FVec Ideal S1x1024x256 .f32) (i : Fin 1024) (k : Fin 256) : gates (F := Ideal) x7 x8 (ix2 i ⟨k.val, by omega⟩) = x7 (ix3 0 i k) := by
  unfold gates
  canon_tiles z h using (View.cover_of_tiledBy _ ![1024, 256] (by sl_kernel_rfl) _)
  · have e : k.val = 256 + (z 1).val := h1
    have := k.isLt
    omega
  · rw [half1, show z 0 = i from (Fin.ext h0).symm, show z 1 = k from (Fin.ext h1).symm]
theorem gates_hi (x7 x8 : FVec Ideal S1x1024x256 .f32) (i : Fin 1024) (k : Fin 256) : gates (F := Ideal) x7 x8 (ix2 i ⟨256 + k.val, by omega⟩) = x8 (ix3 0 i k) := by
  unfold gates
  canon_tiles z h using (View.cover_of_tiledBy _ ![1024, 256] (by sl_kernel_rfl) _)
  · rw [half2, show z 0 = i from (Fin.ext h0).symm, show z 1 = k from (Fin.ext (Nat.add_left_cancel h1)).symm]
  · have e : 256 + k.val = (z 1).val := h1
    omega
theorem down_at (x9 : FVec Ideal S1x256x1024 .f32) (i : Fin 256) (k : Fin 1024) : down (F := Ideal) x9 (ix2 i k) = x9 (ix3 0 i k) := by
  unfold down k0_pay3
  pointwise []

end block

end Cert.ExpertsIdeal.Blocks

end
-- ==== Proof.ExpertsValue.lean ====
/-
  The experts' two result arrays, row by row, of the whole arrays.
-/
module

public import proofs.«01_k».proof.Proof.ExpertsEnd
public import proofs.«01_k».proof.Proof.ExpertsBlock
public import Idealize.ShloMosaic.Lib.Pipeline.ValueKit

@[expose] public section

set_option maxRecDepth 16384

noncomputable section

namespace Cert.ExpertsIdeal.Blocks

open Cert.ExpertsIdeal Cert.ExpertsIdeal.Gen
open Idealize.ShloMosaic Idealize.ShloMosaic.TcCoe
open Idealize.ShloMosaic.Pipeline (Dat)

variable (m : (ℓ : Loc nD τ sig) → Buf (Elt Ideal) ℓ) (h : InOrder (tables m))

/-- A block's source and its expert. -/
def src (b : ℕ) (hb : b < 768) : Fin 768 := ⟨(source (tables m) b).toNat, h.source_lt b hb⟩
def exp (b : ℕ) (hb : b < 768) : Fin 256 := ⟨(expert (tables m) b).toNat, h.expert_lt b hb⟩

theorem place_src (t : Fin (cfg0 (admitted h)).N) : cc0_transform_0 (tables m) (dynb0 (tables m)) ((cfg0 (admitted h)).grid.coords t) = ![(src m h t.val (point_lt m h t)).val, 0] := by
  rw [place0 h, coord]; rfl
theorem place_exp (t : Fin (cfg0 (admitted h)).N) : cc0_transform_2 (tables m) (dynb0 (tables m)) ((cfg0 (admitted h)).grid.coords t) = ![(exp m h t.val (point_lt m h t)).val, 0, 0] := by
  rw [place2 h, coord]; rfl
theorem place_out (t : Fin (cfg0 (admitted h)).N) : cc0_transform_5 (dynb0 (tables m)) ((cfg0 (admitted h)).grid.coords t) = ![t.val, 0] := by
  rw [place5 h, coord]

/-- The arrays at their literal types. -/
abbrev arr5 (c : Dev nD) : FVec Ideal S786432x512 .bf16 := m ((c : Thread nD τ).loc main_arg5)
abbrev arr6 (c : Dev nD) : FVec Ideal S786432x512 .bf16 := m ((c : Thread nD τ).loc main_arg6)
abbrev arr7 (c : Dev nD) : FVec Ideal S256x1024x256 .f32 := m ((c : Thread nD τ).loc main_arg7)
abbrev arr8 (c : Dev nD) : FVec Ideal S256x1024x256 .f32 := m ((c : Thread nD τ).loc main_arg8)
abbrev arr9 (c : Dev nD) : FVec Ideal S256x256x1024 .f32 := m ((c : Thread nD τ).loc main_arg9)

/-- A row of a block, in the whole array. -/
def at_row (b : Fin 768) (r : Fin 1024) : Fin 786432 := ⟨b.val * 1024 + r.val, by omega⟩

theorem blk_x (c : Dev nD) (t : Fin (cfg0 (admitted h)).N) (r : Fin 1024) (i : Fin 512) :
    (iblk m h c 0 t : FVec Ideal S1024x512 .bf16) (ix2 r i) = arr5 m c (ix2 (at_row (src m h t.val (point_lt m h t)) r) i) := by
  have e : (entry m c (Proc.devRef .tc main_arg5) : FVec Ideal S786432x512 .bf16) = arr5 m c := entry_keep m c main_arg5 (by decide)
  rw [← e]
  refine congrArg (entry m c (Proc.devRef .tc main_arg5) : FVec Ideal S786432x512 .bf16) (funext fun a => Fin.ext ?_)
  refine (((cfg0 (admitted h)).win 0).rect_emb_val t (ix2 r i) a).trans ?_
  show cc0_transform_0 (tables m) (dynb0 (tables m)) ((cfg0 (admitted h)).grid.coords t) a * S1024x512.size a + (ix2 r i a).val = _
  rw [place_src]
  match a with
  | 0 => rfl
  | 1 => show 0 * 512 + i.val = i.val; omega

theorem blk_y (c : Dev nD) (t : Fin (cfg0 (admitted h)).N) (r : Fin 1024) (i : Fin 512) :
    (iblk m h c 1 t : FVec Ideal S1024x512 .bf16) (ix2 r i) = arr6 m c (ix2 (at_row (src m h t.val (point_lt m h t)) r) i) := by
  have e : (entry m c (Proc.devRef .tc main_arg6) : FVec Ideal S786432x512 .bf16) = arr6 m c := entry_keep m c main_arg6 (by decide)
  rw [← e]
  refine congrArg (entry m c (Proc.devRef .tc main_arg6) : FVec Ideal S786432x512 .bf16) (funext fun a => Fin.ext ?_)
  refine (((cfg0 (admitted h)).win 1).rect_emb_val t (ix2 r i) a).trans ?_
  show cc0_transform_0 (tables m) (dynb0 (tables m)) ((cfg0 (admitted h)).grid.coords t) a * S1024x512.size a + (ix2 r i a).val = _
  rw [place_src]
  match a with
  | 0 => rfl
  | 1 => show 0 * 512 + i.val = i.val; omega

theorem blk_g (c : Dev nD) (t : Fin (cfg0 (admitted h)).N) (i : Fin 1024) (k : Fin 256) :
    (iblk m h c 2 t : FVec Ideal S1x1024x256 .f32) (ix3 0 i k) = arr7 m c (ix3 (exp m h t.val (point_lt m h t)) i k) := by
  have e : (entry m c (Proc.devRef .tc main_arg7) : FVec Ideal S256x1024x256 .f32) = arr7 m c := entry_keep m c main_arg7 (by decide)
  rw [← e]
  refine congrArg (entry m c (Proc.devRef .tc main_arg7) : FVec Ideal S256x1024x256 .f32) (funext fun a => Fin.ext ?_)
  refine (((cfg0 (admitted h)).win 2).rect_emb_val t (ix3 0 i k) a).trans ?_
  show cc0_transform_2 (tables m) (dynb0 (tables m)) ((cfg0 (admitted h)).grid.coords t) a * S1x1024x256.size a + (ix3 (0 : Fin 1) i k a).val = _
  rw [place_exp]
  match a with
  | 0 => show (exp m h t.val (point_lt m h t)).val * 1 + 0 = (exp m h t.val (point_lt m h t)).val; omega
  | 1 => show 0 * 1024 + i.val = i.val; omega
  | 2 => show 0 * 256 + k.val = k.val; omega

theorem blk_u (c : Dev nD) (t : Fin (cfg0 (admitted h)).N) (i : Fin 1024) (k : Fin 256) :
    (iblk m h c 3 t : FVec Ideal S1x1024x256 .f32) (ix3 0 i k) = arr8 m c (ix3 (exp m h t.val (point_lt m h t)) i k) := by
  have e : (entry m c (Proc.devRef .tc main_arg8) : FVec Ideal S256x1024x256 .f32) = arr8 m c := entry_keep m c main_arg8 (by decide)
  rw [← e]
  refine congrArg (entry m c (Proc.devRef .tc main_arg8) : FVec Ideal S256x1024x256 .f32) (funext fun a => Fin.ext ?_)
  refine (((cfg0 (admitted h)).win 3).rect_emb_val t (ix3 0 i k) a).trans ?_
  show cc0_transform_2 (tables m) (dynb0 (tables m)) ((cfg0 (admitted h)).grid.coords t) a * S1x1024x256.size a + (ix3 (0 : Fin 1) i k a).val = _
  rw [place_exp]
  match a with
  | 0 => show (exp m h t.val (point_lt m h t)).val * 1 + 0 = (exp m h t.val (point_lt m h t)).val; omega
  | 1 => show 0 * 1024 + i.val = i.val; omega
  | 2 => show 0 * 256 + k.val = k.val; omega

theorem blk_d (c : Dev nD) (t : Fin (cfg0 (admitted h)).N) (i : Fin 256) (k : Fin 1024) :
    (iblk m h c 4 t : FVec Ideal S1x256x1024 .f32) (ix3 0 i k) = arr9 m c (ix3 (exp m h t.val (point_lt m h t)) i k) := by
  have e : (entry m c (Proc.devRef .tc main_arg9) : FVec Ideal S256x256x1024 .f32) = arr9 m c := entry_keep m c main_arg9 (by decide)
  rw [← e]
  refine congrArg (entry m c (Proc.devRef .tc main_arg9) : FVec Ideal S256x256x1024 .f32) (funext fun a => Fin.ext ?_)
  refine (((cfg0 (admitted h)).win 4).rect_emb_val t (ix3 0 i k) a).trans ?_
  show cc0_transform_2 (tables m) (dynb0 (tables m)) ((cfg0 (admitted h)).grid.coords t) a * S1x256x1024.size a + (ix3 (0 : Fin 1) i k a).val = _
  rw [place_exp]
  match a with
  | 0 => show (exp m h t.val (point_lt m h t)).val * 1 + 0 = (exp m h t.val (point_lt m h t)).val; omega
  | 1 => show 0 * 256 + i.val = i.val; omega
  | 2 => show 0 * 1024 + k.val = k.val; omega

/-- What the experts answer in a row of a block: the token of the block's source, through the block's expert. -/
def answer (c : Dev nD) (b : Fin 768) (r k : Fin 1024) : EReal :=
  swiglu (masked (rows (tables m) b.val) r.val
      (wide (fun i => arr5 m c (ix2 (at_row (src m h b.val b.isLt) r) i)) (fun i => arr6 m c (ix2 (at_row (src m h b.val b.isLt) r) i))))
    (fun i k => arr7 m c (ix3 (exp m h b.val b.isLt) i k)) (fun i k => arr8 m c (ix3 (exp m h b.val b.isLt) i k))
    (fun i k => arr9 m c (ix3 (exp m h b.val b.isLt) i k)) k

theorem block_answer (c : Dev nD) (t : Fin (cfg0 (admitted h)).N) (r k : Fin 1024) :
    rowOut (rows (tables m) t.val) (iblk m h c 0 t : FVec Ideal S1024x512 .bf16) (iblk m h c 1 t : FVec Ideal S1024x512 .bf16) (gatesAt m h c t) (downAt m h c t) r k
      = answer m h c ⟨t.val, point_lt m h t⟩ r k := by
  unfold rowOut answer
  simp only [blk_x, blk_y]
  congr 1
  · funext i k; exact (gates_lo _ _ i k).trans (blk_g m h c t i k)
  · funext i k; exact (gates_hi _ _ i k).trans (blk_u m h c t i k)
  · funext i k; exact (down_at _ i k).trans (blk_d m h c t i k)

/-- Every point writes its block back: the next one is another. -/
theorem flush5 (t : Fin (cfg0 (admitted h)).N) : ((cfg0 (admitted h)).win 5).flush t = true := by
  refine (((cfg0 (admitted h)).win 5).flush_out rfl t).2 ?_
  by_cases ht : t.val + 1 = (cfg0 (admitted h)).N
  · exact .inl ht
  · refine .inr ⟨Nat.lt_of_le_of_ne t.isLt ht, fun e => ?_⟩
    have e0 := congrFun e (0 : Fin 2)
    have a := congrFun (place_out m h ⟨t.val + 1, Nat.lt_of_le_of_ne t.isLt ht⟩) 0
    have b := congrFun (place_out m h t) 0
    have : t.val + 1 = t.val := (a.symm.trans e0).trans b
    omega

theorem flush6 (t : Fin (cfg0 (admitted h)).N) : ((cfg0 (admitted h)).win 6).flush t = true := by
  refine (((cfg0 (admitted h)).win 6).flush_out rfl t).2 ?_
  by_cases ht : t.val + 1 = (cfg0 (admitted h)).N
  · exact .inl ht
  · refine .inr ⟨Nat.lt_of_le_of_ne t.isLt ht, fun e => ?_⟩
    have e0 := congrFun e (0 : Fin 2)
    have a := congrFun (place_out m h ⟨t.val + 1, Nat.lt_of_le_of_ne t.isLt ht⟩) 0
    have b := congrFun (place_out m h t) 0
    have : t.val + 1 = t.val := (a.symm.trans e0).trans b
    omega

/-- The block of a row of the whole array, and the row within it. -/
def blockOf (i : Fin 786432) : Fin 768 := ⟨i.val / 1024, by omega⟩
def rowOf (i : Fin 786432) : Fin 1024 := ⟨i.val % 1024, Nat.mod_lt _ (by decide)⟩

theorem emb5 (t : Fin (cfg0 (admitted h)).N) (r : Fin 1024) (k : Fin 512) :
    ((((cfg0 (admitted h)).win 5).blk t).view.emb (ix2 r k) : S786432x512.Idx) = ix2 (at_row ⟨t.val, point_lt m h t⟩ r) k := by
  refine funext (α := Fin 2) fun a => Fin.ext ?_
  refine (((cfg0 (admitted h)).win 5).rect_emb_val t (ix2 r k) a).trans ?_
  show cc0_transform_5 (dynb0 (tables m)) ((cfg0 (admitted h)).grid.coords t) a * S1024x512.size a + (ix2 r k a).val = _
  rw [place_out]
  match a with
  | 0 => rfl
  | 1 => show 0 * 512 + k.val = k.val; omega

theorem emb6 (t : Fin (cfg0 (admitted h)).N) (r : Fin 1024) (k : Fin 512) :
    ((((cfg0 (admitted h)).win 6).blk t).view.emb (ix2 r k) : S786432x512.Idx) = ix2 (at_row ⟨t.val, point_lt m h t⟩ r) k := by
  refine funext (α := Fin 2) fun a => Fin.ext ?_
  refine (((cfg0 (admitted h)).win 6).rect_emb_val t (ix2 r k) a).trans ?_
  show cc0_transform_5 (dynb0 (tables m)) ((cfg0 (admitted h)).grid.coords t) a * S1024x512.size a + (ix2 r k a).val = _
  rw [place_out]
  match a with
  | 0 => rfl
  | 1 => show 0 * 512 + k.val = k.val; omega

/-- The whole of result a, were every block in use. -/
def wholeA (c : Dev nD) : FVec Ideal S786432x512 .bf16 := fun j => answer m h c (blockOf (j 0)) (rowOf (j 0)) (spread (j 1))

theorem flushed5 (c : Dev nD) (t : Fin (cfg0 (admitted h)).N) :
    (dats m h 0 c).flushed 5 t = (((cfg0 (admitted h)).win 5).blk t).view.read (Elt Ideal) (wholeA m h c) := by
  have key : ∀ z : S1024x512.Idx, ((dats m h 0 c).flushed 5 t : FVec Ideal S1024x512 .bf16) z
      = wholeA m h c ((((cfg0 (admitted h)).win 5).blk t).view.emb z : S786432x512.Idx) := by
    intro z
    obtain ⟨r, k, rfl⟩ : ∃ (r : Fin 1024) (k : Fin 512), z = ix2 r k := ⟨z 0, z 1, funext fun a => by match a with | 0 => rfl | 1 => rfl⟩
    refine (congrFun (after5 m h c t) (ix2 r k)).trans ?_
    refine (outA_at _ _ _ _ _ (ix2 r k)).trans ?_
    refine (block_answer m h c t r (spread k)).trans ?_
    refine Eq.trans ?_ (congrArg (wholeA m h c) (emb5 m h t r k)).symm
    have e1 : blockOf (at_row ⟨t.val, point_lt m h t⟩ r) = ⟨t.val, point_lt m h t⟩ := Fin.ext (by show (t.val * 1024 + r.val) / 1024 = t.val; omega)
    have e2 : rowOf (at_row ⟨t.val, point_lt m h t⟩ r) = r := Fin.ext (by show (t.val * 1024 + r.val) % 1024 = r.val; omega)
    show _ = answer m h c (blockOf (at_row ⟨t.val, point_lt m h t⟩ r)) (rowOf (at_row ⟨t.val, point_lt m h t⟩ r)) (spread k)
    rw [e1, e2]
  exact funext key

theorem resA_at (c : Dev nD) (j : S786432x512.Idx) (hj : (j 0).val < used (tables m) * 1024) :
    (resA m h c : FVec Ideal S786432x512 .bf16) j = wholeA m h c j := by
  have ht : (j 0).val / 1024 < (cfg0 (admitted h)).N := by
    have e : (cfg0 (admitted h)).N = used (tables m) := points_eq (tables m)
    rw [e]; omega
  have e := emb5 m h ⟨(j 0).val / 1024, ht⟩ (rowOf (j 0)) (j 1)
  have ej : (ix2 (at_row ⟨(j 0).val / 1024, point_lt m h ⟨(j 0).val / 1024, ht⟩⟩ (rowOf (j 0))) (j 1) : S786432x512.Idx) = j :=
    funext fun a => Fin.ext (by
      match a with
      | 0 => show (j 0).val / 1024 * 1024 + (j 0).val % 1024 = (j 0).val; omega
      | 1 => rfl)
  refine (dats m h 0 c).arrAt_apply_of_mem 5 (wholeA m h c) (fun t _ => flushed5 m h c t) _ ⟨(j 0).val / 1024, ht⟩ j ht (flush5 m h _) ?_
  exact Eq.mp (congrArg (fun i => i ∈ (((cfg0 (admitted h)).win 5).blk ⟨(j 0).val / 1024, ht⟩).view.set) (e.trans ej))
    (View.emb_mem_set (((cfg0 (admitted h)).win 5).blk ⟨(j 0).val / 1024, ht⟩).view (ix2 (rowOf (j 0)) (j 1)))

/-- The whole of result b, were every block in use. -/
def wholeB (c : Dev nD) : FVec Ideal S786432x512 .bf16 := fun j => answer m h c (blockOf (j 0)) (rowOf (j 0)) (spread' (j 1))

theorem flushed6 (c : Dev nD) (t : Fin (cfg0 (admitted h)).N) :
    (dats m h 0 c).flushed 6 t = (((cfg0 (admitted h)).win 6).blk t).view.read (Elt Ideal) (wholeB m h c) := by
  have key : ∀ z : S1024x512.Idx, ((dats m h 0 c).flushed 6 t : FVec Ideal S1024x512 .bf16) z
      = wholeB m h c ((((cfg0 (admitted h)).win 6).blk t).view.emb z : S786432x512.Idx) := by
    intro z
    obtain ⟨r, k, rfl⟩ : ∃ (r : Fin 1024) (k : Fin 512), z = ix2 r k := ⟨z 0, z 1, funext fun a => by match a with | 0 => rfl | 1 => rfl⟩
    refine (congrFun (after6 m h c t) (ix2 r k)).trans ?_
    refine (outB_at _ _ _ _ _ (ix2 r k)).trans ?_
    refine (block_answer m h c t r (spread' k)).trans ?_
    refine Eq.trans ?_ (congrArg (wholeB m h c) (emb6 m h t r k)).symm
    have e1 : blockOf (at_row ⟨t.val, point_lt m h t⟩ r) = ⟨t.val, point_lt m h t⟩ := Fin.ext (by show (t.val * 1024 + r.val) / 1024 = t.val; omega)
    have e2 : rowOf (at_row ⟨t.val, point_lt m h t⟩ r) = r := Fin.ext (by show (t.val * 1024 + r.val) % 1024 = r.val; omega)
    show _ = answer m h c (blockOf (at_row ⟨t.val, point_lt m h t⟩ r)) (rowOf (at_row ⟨t.val, point_lt m h t⟩ r)) (spread' k)
    rw [e1, e2]
  exact funext key

theorem resB_at (c : Dev nD) (j : S786432x512.Idx) (hj : (j 0).val < used (tables m) * 1024) :
    (resB m h c : FVec Ideal S786432x512 .bf16) j = wholeB m h c j := by
  have ht : (j 0).val / 1024 < (cfg0 (admitted h)).N := by
    have e : (cfg0 (admitted h)).N = used (tables m) := points_eq (tables m)
    rw [e]; omega
  have e := emb6 m h ⟨(j 0).val / 1024, ht⟩ (rowOf (j 0)) (j 1)
  have ej : (ix2 (at_row ⟨(j 0).val / 1024, point_lt m h ⟨(j 0).val / 1024, ht⟩⟩ (rowOf (j 0))) (j 1) : S786432x512.Idx) = j :=
    funext fun a => Fin.ext (by
      match a with
      | 0 => show (j 0).val / 1024 * 1024 + (j 0).val % 1024 = (j 0).val; omega
      | 1 => rfl)
  refine (dats m h 0 c).arrAt_apply_of_mem 6 (wholeB m h c) (fun t _ => flushed6 m h c t) _ ⟨(j 0).val / 1024, ht⟩ j ht (flush6 m h _) ?_
  exact Eq.mp (congrArg (fun i => i ∈ (((cfg0 (admitted h)).win 6).blk ⟨(j 0).val / 1024, ht⟩).view.set) (e.trans ej))
    (View.emb_mem_set (((cfg0 (admitted h)).win 6).blk ⟨(j 0).val / 1024, ht⟩).view (ix2 (rowOf (j 0)) (j 1)))

end Cert.ExpertsIdeal.Blocks

end
-- ==== Proof.ExpertsGather.lean ====
/-
  The members of a stack picked by a table of their numbers.
-/
module

public import Idealize.ShloMosaic.Lib.Pipeline.ValueKit
public import Idealize.ShloMosaic.Lib.ValueIdxCore

@[expose] public section

noncomputable section

namespace Cert.ExpertsReferenceIdeal.Plain

open Idealize.ShloMosaic

/-- Picking members of a stack of `N` by `R` numbers. -/
abbrev pickDims (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ := ⟨[1, 2], [0], [], [], [0], 1, ![1, A, B], wf⟩

/-- Member `t` of the picked stack is the member the table names, read signed and kept inside the stack. -/
theorem picked {α : Type} {N R A B : ℕ} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (table : IVec ⟨2, ![R, 1]⟩ 32) (t : Fin R) (i : Fin A) (k : Fin B) :
    Host.gather (pickDims N R A B wf) x table (ix3 t i k)
      = x (ix3 ⟨min (table (ix2 t (0 : Fin 1))).toInt.toNat (N - 1), by omega⟩ i k) := by
  unfold Host.gather
  refine congrArg x (funext fun a => Fin.ext ?_)
  match a with
  | ⟨0, _⟩ =>
    show GatherDims.start (pickDims N R A B wf) (ix3 t i k) table (0 : Fin 3) + GatherDims.batchCoord (pickDims N R A B wf) (ix3 t i k) (0 : Fin 3) + GatherDims.offCoord (pickDims N R A B wf) (ix3 t i k) (0 : Fin 3) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (table z).toInt.toNat (N - 1)) (funext fun b => Fin.ext ?_)
    match b with
    | ⟨0, _⟩ => rfl
    | ⟨1, _⟩ => rfl
  | ⟨1, _⟩ =>
    show GatherDims.start (pickDims N R A B wf) (ix3 t i k) table (1 : Fin 3) + GatherDims.batchCoord (pickDims N R A B wf) (ix3 t i k) (1 : Fin 3) + GatherDims.offCoord (pickDims N R A B wf) (ix3 t i k) (1 : Fin 3) = _
    rw [GatherDims.batchCoord_eq_zero _ _ _ List.not_mem_nil]
    unfold GatherDims.start
    rw [dif_neg (show (1 : Fin 3) ∉ ([0] : List (Fin 3)) by decide)]
    unfold GatherDims.offCoord
    rw [dif_pos ((GatherDims.mem_sKept _ _).mpr ⟨(show (1 : Fin 3) ∉ ([0] : List (Fin 3)) by decide), List.not_mem_nil⟩)]
    show 0 + 0 + i.val = i.val
    omega
  | ⟨2, _⟩ =>
    show GatherDims.start (pickDims N R A B wf) (ix3 t i k) table (2 : Fin 3) + GatherDims.batchCoord (pickDims N R A B wf) (ix3 t i k) (2 : Fin 3) + GatherDims.offCoord (pickDims N R A B wf) (ix3 t i k) (2 : Fin 3) = _
    rw [GatherDims.batchCoord_eq_zero _ _ _ List.not_mem_nil]
    unfold GatherDims.start
    rw [dif_neg (show (2 : Fin 3) ∉ ([0] : List (Fin 3)) by decide)]
    unfold GatherDims.offCoord
    rw [dif_pos ((GatherDims.mem_sKept _ _).mpr ⟨(show (2 : Fin 3) ∉ ([0] : List (Fin 3)) by decide), List.not_mem_nil⟩)]
    show 0 + 0 + k.val = k.val
    omega

end Cert.ExpertsReferenceIdeal.Plain

end
-- ==== Proof.ExpertsPlain.lean ====
/-
  The experts' reference, block by block, row by row.
-/
module

public import proofs.«01_k».proof.Proof.ExpertsGather
public import proofs.«01_k».proof.Proof.ExpertsBlock
public import proofs.«01_k».proof.Proof.Gen.ExpertsReferenceIdeal.Run
public import Idealize.ShloMosaic.Lib.Pipeline.ValueKit
public import Idealize.ShloMosaic.Lib.StackMember
public import Idealize.ShloMosaic.Lib.IdealHost

@[expose] public section

set_option maxRecDepth 16384

noncomputable section

namespace Cert.ExpertsReferenceIdeal.Plain

open Idealize.ShloMosaic Idealize.ShloMosaic.TcCoe
open Cert.ExpertsReferenceIdeal Cert.ExpertsReferenceIdeal.Gen
open Cert.ExpertsIdeal.Blocks (wide along swiglu masked served spread spread')

variable (n : IVec S1 32) (a b nr : IVec S768 32) (x y : FVec Ideal S786432x512 .bf16) (wg wu : FVec Ideal S256x1024x256 .f32) (wd : FVec Ideal S256x256x1024 .f32)

/-- A table's numbers, those below zero counted from the end. -/
def numbers (N : BitVec 32) (a : IVec S768 32) : IVec S768x1 32 :=
  broadcastInDim S768x1 ![0] bcast_S768_S768x1_0 (select (cmpi .slt a (broadcastInDim S768 ![] bcast_S_S768 (constantI S_ 32 0#32)))
    (addi a (broadcastInDim S768 ![] bcast_S_S768 (constantI S_ 32 N))) a)
/-- The blocks of one half at their sources. -/
def half : FVec Ideal S768x1024x512 .bf16 :=
  Host.gather gather_S768x1024x512_S768x1_S768x1024x512_12_0_n_n_0_1_11024512 (shapeCast _ x shapeCasts_S786432x512_S768x1024x512) (numbers 768#32 a)
/-- The tokens of the blocks. -/
def tokens : FVec Ideal S768x1024x1024 .bf16 :=
  concatenate S768x1024x1024 2 [⟨S768x1024x256, ((extractStridedSlice S768x1024x256 ![0, 0, 0] (half a x) slices_S768x1024x512_S768x1024x256_0_0_0) : (⟨S768x1024x256, .bf16⟩ : BufTy).Contents (Elt Ideal))⟩,
    ⟨S768x1024x256, ((extractStridedSlice S768x1024x256 ![0, 0, 0] (half a y) slices_S768x1024x512_S768x1024x256_0_0_0) : (⟨S768x1024x256, .bf16⟩ : BufTy).Contents (Elt Ideal))⟩,
    ⟨S768x1024x256, ((extractStridedSlice S768x1024x256 ![0, 0, 256] (half a x) slices_S768x1024x512_S768x1024x256_0_0_256) : (⟨S768x1024x256, .bf16⟩ : BufTy).Contents (Elt Ideal))⟩,
    ⟨S768x1024x256, ((extractStridedSlice S768x1024x256 ![0, 0, 256] (half a y) slices_S768x1024x512_S768x1024x256_0_0_256) : (⟨S768x1024x256, .bf16⟩ : BufTy).Contents (Elt Ideal))⟩]
    concatenates_S768x1024x256_S768x1024x256_S768x1024x256_S768x1024x256_S768x1024x1024_d2
/-- The tokens a block serves, zero in its other rows. -/
def kept : FVec Ideal S768x1024x1024 .f32 :=
  select (cmpi .slt (iotaInDim S768x1024x1024 32 1) (broadcastInDim S768x1024x1024 ![0, 1, 2] bcast_S768x1x1_S768x1024x1024_0_1_2 (broadcastInDim S768x1x1 ![0] bcast_S768_S768x1x1_0 nr)))
    (extf .f32 (tokens a x y) bitsLt_bf16_f32) (broadcastInDim S768x1024x1024 ![] bcast_S_S768x1024x1024 (id (constant S_ .f32 0x00000000#32)))
/-- The tokens through one weight of their experts. -/
def through (w : FVec Ideal S256x1024x256 .f32) : FVec Ideal S768x1024x256 .f32 :=
  Host.dotGeneral dot_S768x1024x1024_S768x1024x256_S768x1024x256_2_1_1_2_0_0 none (kept a nr x y)
    (Host.gather gather_S256x1024x256_S768x1_S768x1024x256_12_0_n_n_0_1_11024256 w (numbers 256#32 b))
/-- The gate's activation. -/
def silu (z : FVec Ideal S768x1024x256 .f32) : FVec Ideal S768x1024x256 .f32 :=
  mulf z (Host.divf (broadcastInDim S768x1024x256 ![] bcast_S_S768x1024x256 (constant S_ .f32 0x3F800000#32))
    (addf (broadcastInDim S768x1024x256 ![] bcast_S_S768x1024x256 (constant S_ .f32 0x3F800000#32)) (Host.exp (Host.negf z))))
/-- The experts' products. -/
def products : FVec Ideal S768x1024x1024 .f32 :=
  Host.dotGeneral dot_S768x1024x256_S768x256x1024_S768x1024x1024_2_1_1_2_0_0 none (mulf (silu (through a b nr x y wg)) (through a b nr x y wu))
    (Host.gather gather_S256x256x1024_S768x1_S768x256x1024_12_0_n_n_0_1_12561024 wd (numbers 256#32 b))
/-- The blocks in use, zero in the others. -/
def inUse : FVec Ideal S768x1024x1024 .f32 :=
  select (cmpi .slt (iotaInDim S768x1024x1024 32 0) (broadcastInDim S768x1024x1024 ![] bcast_S_S768x1024x1024 (shapeCast _ n shapeCasts_S1_S_)))
    (products a b nr x y wg wu wd) (broadcastInDim S768x1024x1024 ![] bcast_S_S768x1024x1024 (id (constant S_ .f32 0x00000000#32)))
/-- The same as rows. -/
def every : FVec Ideal S786432x1024 .bf16 :=
  truncf .bf16 (shapeCast _ (inUse n a b nr x y wg wu wd) shapeCasts_S768x1024x1024_S786432x1024) bitsLt_bf16_f32
/-- The first and the third quarter of every row. -/
def firsts (v : FVec Ideal S786432x1024 .bf16) : FVec Ideal S786432x512 .bf16 :=
  concatenate S786432x512 1 [⟨S786432x256, ((extractStridedSlice S786432x256 ![0, 0] v slices_S786432x1024_S786432x256_0_0) : (⟨S786432x256, .bf16⟩ : BufTy).Contents (Elt Ideal))⟩,
    ⟨S786432x256, ((extractStridedSlice S786432x256 ![0, 512] v slices_S786432x1024_S786432x256_0_512) : (⟨S786432x256, .bf16⟩ : BufTy).Contents (Elt Ideal))⟩]
    concatenates_S786432x256_S786432x256_S786432x512_d1
/-- The second and the fourth. -/
def seconds (v : FVec Ideal S786432x1024 .bf16) : FVec Ideal S786432x512 .bf16 :=
  concatenate S786432x512 1 [⟨S786432x256, ((extractStridedSlice S786432x256 ![0, 256] v slices_S786432x1024_S786432x256_0_256) : (⟨S786432x256, .bf16⟩ : BufTy).Contents (Elt Ideal))⟩,
    ⟨S786432x256, ((extractStridedSlice S786432x256 ![0, 768] v slices_S786432x1024_S786432x256_0_768) : (⟨S786432x256, .bf16⟩ : BufTy).Contents (Elt Ideal))⟩]
    concatenates_S786432x256_S786432x256_S786432x512_d1

section run
variable (m : (ℓ : Loc nD τ sig) → Buf (Elt Ideal) ℓ) (c : Dev nD)

abbrev everyOf : FVec Ideal S786432x1024 .bf16 :=
  every (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9))
theorem res_firsts : (Value.res_out0 (F := Ideal) m c : FVec Ideal S786432x512 .bf16) = firsts (everyOf m c) := rfl
theorem res_seconds : (Value.res_out1 (F := Ideal) m c : FVec Ideal S786432x512 .bf16) = seconds (everyOf m c) := rfl
end run

theorem ofBool_one (p : Bool) : BitVec.ofBool p = 1#1 ↔ p = true := by cases p <;> decide

/-- A table's number in range is the member's. -/
theorem number_at (N : ℕ) (hN : N < 2147483648) (a : IVec S768 32) (t : Fin 768) (ht : (a (ix1 t)).toNat < N) :
    min ((numbers (BitVec.ofNat 32 N) a) (ix2 t (0 : Fin 1))).toInt.toNat (N - 1) = (a (ix1 t)).toNat := by
  have e : (numbers (BitVec.ofNat 32 N) a) (ix2 t (0 : Fin 1)) = Scalar.select (IntOp.cmpi .slt (a (ix1 t)) 0#32) (a (ix1 t) + BitVec.ofNat 32 N) (a (ix1 t)) := by
    pointwise [numbers]
    rfl
  have hi : (a (ix1 t)).toInt = ((a (ix1 t)).toNat : ℤ) := BitVec.toInt_eq_toNat_of_lt (by omega)
  have hs : IntOp.cmpi .slt (a (ix1 t)) 0#32 ≠ 1#1 := by
    intro h
    have h' := (ofBool_one _).1 h
    simp only [BitVec.slt, decide_eq_true_eq] at h'
    rw [hi] at h'
    simp at h'
    omega
  rw [e]
  rw [show Scalar.select (IntOp.cmpi .slt (a (ix1 t)) 0#32) (a (ix1 t) + BitVec.ofNat 32 N) (a (ix1 t)) = a (ix1 t) from if_neg hs, hi]
  omega

theorem half_at (ha : ∀ t : Fin 768, (a (ix1 t)).toNat < 768) (t : Fin 768) (r : Fin 1024) (i : Fin 512) :
    half a x (ix3 t r i) = x (ix2 ⟨(a (ix1 t)).toNat * 1024 + r.val, by have := ha t; omega⟩ i) := by
  unfold half
  refine (picked (by decide) gather_S768x1024x512_S768x1_S768x1024x512_12_0_n_n_0_1_11024512_wf _ _ t r i).trans ?_
  refine (shapeCast_apply _ _ _ (ix2 ⟨(a (ix1 t)).toNat * 1024 + r.val, by have := ha t; omega⟩ i) ?_)
  rw [Shape.rowMajor_val_two, Shape.rowMajor_val_three]
  have := number_at 768 (by decide) a t (ha t)
  show ((a (ix1 t)).toNat * 1024 + r.val) * 512 + i.val = (min ((numbers 768#32 a) (ix2 t (0 : Fin 1))).toInt.toNat (768 - 1) * 1024 + r.val) * 512 + i.val
  rw [this]

theorem tokens_at (ha : ∀ t : Fin 768, (a (ix1 t)).toNat < 768) (t : Fin 768) (r k : Fin 1024) :
    tokens a x y (ix3 t r k) = wide (fun i => x (ix2 ⟨(a (ix1 t)).toNat * 1024 + r.val, by have := ha t; omega⟩ i))
      (fun i => y (ix2 ⟨(a (ix1 t)).toNat * 1024 + r.val, by have := ha t; omega⟩ i)) k := by
  simp only [← half_at a _ ha]
  pointwise [tokens]
  unfold wide
  rfl

/-- A row of a block's source. -/
abbrev sourceRow (ha : ∀ t : Fin 768, (a (ix1 t)).toNat < 768) (t : Fin 768) (r : Fin 1024) : Fin 786432 := ⟨(a (ix1 t)).toNat * 1024 + r.val, by have := ha t; omega⟩
/-- The row a block serves. -/
abbrev rowOfBlock (ha : ∀ t : Fin 768, (a (ix1 t)).toNat < 768) (t : Fin 768) (r : Fin 1024) : Fin 1024 → EReal :=
  masked (nr (ix1 t)) r.val (wide (fun i => x (ix2 (sourceRow a ha t r) i)) (fun i => y (ix2 (sourceRow a ha t r) i)))

theorem kept_at (ha : ∀ t : Fin 768, (a (ix1 t)).toNat < 768) (t : Fin 768) (r k : Fin 1024) :
    kept a nr x y (ix3 t r k) = rowOfBlock a nr x y ha t r k := by
  unfold rowOfBlock masked
  rw [← tokens_at a x y ha t r k]
  pointwise [kept, id_eq]
  rfl

theorem through_at (ha : ∀ t : Fin 768, (a (ix1 t)).toNat < 768) (hb : ∀ t : Fin 768, (b (ix1 t)).toNat < 256) (w : FVec Ideal S256x1024x256 .f32)
    (t : Fin 768) (r : Fin 1024) (k : Fin 256) :
    through a b nr x y w (ix3 t r k) = along (rowOfBlock a nr x y ha t r) (fun i k => w (ix3 ⟨(b (ix1 t)).toNat, hb t⟩ i k)) k := by
  unfold through along
  refine (StackMember.dotGeneral_stack_apply dot_S768x1024x1024_S768x1024x256_S768x1024x256_2_1_1_2_0_0_wf none _ _ t r k).trans ?_
  refine Finset.sum_congr rfl fun i _ => ?_
  refine congrArg₂ (· * ·) (kept_at a nr x y ha t r i) ((picked (by decide) gather_S256x1024x256_S768x1_S768x1024x256_12_0_n_n_0_1_11024256_wf _ _ t i k).trans ?_)
  exact congrArg (fun z => w (ix3 z i k)) (Fin.ext (number_at 256 (by decide) b t (hb t)))

theorem silu_at (z : FVec Ideal S768x1024x256 .f32) (j : S768x1024x256.Idx) : silu z j = z j * Ideal.logistic (z j) := by
  pointwise [silu]
  rfl

theorem products_at (ha : ∀ t : Fin 768, (a (ix1 t)).toNat < 768) (hb : ∀ t : Fin 768, (b (ix1 t)).toNat < 256) (t : Fin 768) (r k : Fin 1024) :
    products a b nr x y wg wu wd (ix3 t r k) = swiglu (rowOfBlock a nr x y ha t r) (fun i k => wg (ix3 ⟨(b (ix1 t)).toNat, hb t⟩ i k))
      (fun i k => wu (ix3 ⟨(b (ix1 t)).toNat, hb t⟩ i k)) (fun i k => wd (ix3 ⟨(b (ix1 t)).toNat, hb t⟩ i k)) k := by
  unfold products swiglu
  refine (StackMember.dotGeneral_stack_apply dot_S768x1024x256_S768x256x1024_S768x1024x1024_2_1_1_2_0_0_wf none _ _ t r k).trans ?_
  refine Finset.sum_congr rfl fun i _ => ?_
  refine congrArg₂ (· * ·) ?_ ((picked (by decide) gather_S256x256x1024_S768x1_S768x256x1024_12_0_n_n_0_1_12561024_wf _ _ t i k).trans ?_)
  · show silu (through a b nr x y wg) (ix3 t r i) * through a b nr x y wu (ix3 t r i) = _
    rw [silu_at, through_at a b nr x y ha hb, through_at a b nr x y ha hb]
  · exact congrArg (fun z => wd (ix3 z i k)) (Fin.ext (number_at 256 (by decide) b t (hb t)))

/-- The reference's row: of a block in use what its expert answers, zero past them. -/
theorem every_at (i : Fin 786432) (k : Fin 1024) : every n a b nr x y wg wu wd (ix2 i k)
    = Scalar.select (IntOp.cmpi .slt (BitVec.ofNat 32 (i.val / 1024)) (n (ix1 (0 : Fin 1))))
        (products a b nr x y wg wu wd (ix3 ⟨i.val / 1024, by omega⟩ ⟨i.val % 1024, Nat.mod_lt _ (by decide)⟩ k)) 0 := by
  show shapeCast S786432x1024 (inUse n a b nr x y wg wu wd) shapeCasts_S768x1024x1024_S786432x1024 (ix2 i k) = _
  refine (shapeCast_apply _ _ _ (ix3 (⟨i.val / 1024, by omega⟩ : Fin 768) (⟨i.val % 1024, Nat.mod_lt _ (by decide)⟩ : Fin 1024) k) ?_).trans ?_
  · rw [Shape.rowMajor_val_two, Shape.rowMajor_val_three]
    show (i.val / 1024 * 1024 + i.val % 1024) * 1024 + k.val = i.val * 1024 + k.val
    omega
  · unfold inUse
    generalize products a b nr x y wg wu wd = P
    pointwise [id_eq]

theorem firsts_at (v : FVec Ideal S786432x1024 .bf16) (j : S786432x512.Idx) : firsts v j = v (ix2 (j 0) (spread (j 1))) := by
  by_cases hk : (j 1).val < 256
  · rw [show spread (j 1) = ⟨(j 1).val, by omega⟩ from dif_pos hk]
    pointwise [firsts]
    rw [dif_pos hk]
  · rw [show spread (j 1) = ⟨512 + ((j 1).val - 256), by have := (j 1).isLt; change (j 1).val < 512 at this; omega⟩ from (dif_neg hk).trans (Fin.ext (by simp only []; omega))]
    pointwise [firsts]
    rw [dif_neg hk]
theorem seconds_at (v : FVec Ideal S786432x1024 .bf16) (j : S786432x512.Idx) : seconds v j = v (ix2 (j 0) (spread' (j 1))) := by
  by_cases hk : (j 1).val < 256
  · rw [show spread' (j 1) = ⟨256 + (j 1).val, by omega⟩ from (dif_pos hk).trans (Fin.ext (by simp only []; omega))]
    pointwise [seconds]
    rw [dif_pos hk]
  · rw [show spread' (j 1) = ⟨768 + ((j 1).val - 256), by have := (j 1).isLt; change (j 1).val < 512 at this; omega⟩ from (dif_neg hk).trans (Fin.ext (by simp only []; omega))]
    pointwise [seconds]
    rw [dif_neg hk]

end Cert.ExpertsReferenceIdeal.Plain

end
-- ==== Proof.ExpertsTwin.lean ====
/-
  The experts' program as printed for the bits and as printed for the ideal instance.
-/
module

public import proofs.«01_k».proof.Proof.Gen.Experts
public import proofs.«01_k».proof.Proof.Gen.ExpertsIdeal.Launch
public import proofs.«01_k».proof.Defs

@[expose] public section

set_option maxRecDepth 16384

noncomputable section

namespace Cert.ExpertsIdeal.Blocks

open Cert.ExpertsIdeal Cert.ExpertsIdeal.Gen
open Idealize.ShloMosaic Idealize.ShloMosaic.TcCoe Idealize.SL.Sem

set_option maxHeartbeats 16000000 in
/-- The two printings of the program are one, at the bits. -/
theorem main_eq : Cert.Experts.main (F := Bits) = Cert.ExpertsIdeal.main (F := Bits) := by
  unfold Cert.Experts.main Cert.ExpertsIdeal.main
  funext c
  rfl

end Cert.ExpertsIdeal.Blocks

end
-- ==== Proof.ExpertsClaim.lean ====
/-
  The experts against their reference.
-/
module

public import proofs.«01_k».proof.Proof.ExpertsOrder
public import proofs.«01_k».proof.Proof.ExpertsValue
public import proofs.«01_k».proof.Proof.ExpertsPlain
public import proofs.«01_k».proof.Proof.ExpertsTwin
public import proofs.«01_k».proof.Proof.Gen.Experts
public import proofs.«01_k».proof.Proof.Gen.ExpertsReference
public import proofs.«01_k».proof.Defs
public import Idealize.ShloMosaic.Lib.Claim

@[expose] public section

set_option maxRecDepth 16384

noncomputable section

namespace Cert.ExpertsIdeal.Blocks

open Cert.ExpertsIdeal Cert.ExpertsIdeal.Gen
open Idealize.ShloMosaic Idealize.ShloMosaic.TcCoe Idealize.SL.Sem
open Idealize.ShloMosaic.Pipeline (Dat)

/-! ## A word below another, counted -/

theorem word_below (i : ℕ) (x : BitVec 32) (hi : i < 2147483648) (hx : x.toNat < 2147483648) : IntOp.cmpi .slt (BitVec.ofNat 32 i) x = 1#1 ↔ i < x.toNat := by
  refine (ofBool_one _).trans ?_
  have e : (BitVec.ofNat 32 i).toNat = i := by rw [BitVec.toNat_ofNat]; omega
  simp only [BitVec.slt, decide_eq_true_eq]
  rw [BitVec.toInt_eq_toNat_of_lt (by omega), BitVec.toInt_eq_toNat_of_lt (by omega), e]
  omega

section values

variable (m : (ℓ : Loc nD τ sig) → Buf (Elt Ideal) ℓ) (h : InOrder (tables m))

/-- The arguments at their literal types. -/
abbrev n0 : IVec S1 32 := m (((0 : Dev nD) : Thread nD τ).loc main_arg0)
abbrev a1 : IVec S768 32 := m (((0 : Dev nD) : Thread nD τ).loc main_arg1)
abbrev a2 : IVec S768 32 := m (((0 : Dev nD) : Thread nD τ).loc main_arg2)
abbrev a4 : IVec S768 32 := m (((0 : Dev nD) : Thread nD τ).loc main_arg4)

theorem used_eq : used (tables m) = (n0 m (ix1 (0 : Fin 1))).toNat := by
  obtain ⟨z, hz⟩ := used_at m
  rw [hz]
  exact congrArg (fun i => (n0 m i).toNat) (one_index _ _)

include h in
theorem sources (t : Fin 768) : (a1 m (ix1 t)).toNat < 768 := by
  have := h.source_lt t.val t.isLt
  rw [word1 m t.val t.isLt] at this
  exact this
include h in
theorem members (t : Fin 768) : (a2 m (ix1 t)).toNat < 256 := by
  have := h.expert_lt t.val t.isLt
  rw [word2 m t.val t.isLt] at this
  exact this

include h in
theorem inUse_at (j : S786432x512.Idx) : inUse m j = 1#1 ↔ (j 0).val < used (tables m) * 1024 := by
  have hj : (j 0).val < 786432 := (j 0).isLt
  have hu := h.used_le
  have e : inUse m j = IntOp.cmpi .slt (BitVec.ofNat 32 (j 0).val) (n0 m (ix1 (0 : Fin 1)) * 1024#32) := by
    unfold inUse
    pointwise []
    rfl
  rw [used_eq] at hu ⊢
  have en : (n0 m (ix1 (0 : Fin 1)) * 1024#32).toNat = (n0 m (ix1 (0 : Fin 1))).toNat * 1024 := by
    rw [BitVec.toNat_mul]
    show (n0 m (ix1 (0 : Fin 1))).toNat * 1024 % 2 ^ 32 = _
    omega
  rw [e, word_below _ _ (by omega) (by omega), en]

/-- The reference's products are the kernel's answers. -/
theorem products_answer (t : Fin 768) (r k : Fin 1024) :
    Cert.ExpertsReferenceIdeal.Plain.products (a1 m) (a2 m) (a4 m) (arr5 m 0) (arr6 m 0) (arr7 m 0) (arr8 m 0) (arr9 m 0) (ix3 t r k) = answer m h 0 t r k := by
  refine (Cert.ExpertsReferenceIdeal.Plain.products_at (a1 m) (a2 m) (a4 m) (arr5 m 0) (arr6 m 0) (arr7 m 0) (arr8 m 0) (arr9 m 0) (sources m h) (members m h) t r k).trans ?_
  have e1 : src m h t.val t.isLt = ⟨(a1 m (ix1 t)).toNat, sources m h t⟩ := Fin.ext (by
    show (source (tables m) t.val).toNat = (a1 m (ix1 t)).toNat
    rw [word1 m t.val t.isLt])
  have e2 : exp m h t.val t.isLt = ⟨(a2 m (ix1 t)).toNat, members m h t⟩ := Fin.ext (by
    show (expert (tables m) t.val).toNat = (a2 m (ix1 t)).toNat
    rw [word2 m t.val t.isLt])
  have e4 : rows (tables m) t.val = a4 m (ix1 t) := word4 m t.val t.isLt
  unfold answer
  rw [e1, e2, e4]
  rfl

/-- A row of the reference, at the kernel's arguments. -/
theorem every_answer (i : Fin 786432) (k : Fin 1024) :
    Cert.ExpertsReferenceIdeal.Plain.every (n0 m) (a1 m) (a2 m) (a4 m) (arr5 m 0) (arr6 m 0) (arr7 m 0) (arr8 m 0) (arr9 m 0) (ix2 i k)
      = if i.val < used (tables m) * 1024 then answer m h 0 (blockOf i) (rowOf i) k else 0 := by
  refine (Cert.ExpertsReferenceIdeal.Plain.every_at (n0 m) (a1 m) (a2 m) (a4 m) (arr5 m 0) (arr6 m 0) (arr7 m 0) (arr8 m 0) (arr9 m 0) i k).trans ?_
  rw [products_answer m h]
  have hu := h.used_le
  have hw : IntOp.cmpi .slt (BitVec.ofNat 32 (i.val / 1024)) (n0 m (ix1 (0 : Fin 1))) = 1#1 ↔ i.val < used (tables m) * 1024 := by
    rw [used_eq] at hu ⊢
    rw [word_below _ _ (by omega) (by omega)]
    omega
  by_cases hi : i.val < used (tables m) * 1024
  · rw [if_pos hi]; exact if_pos (hw.2 hi)
  · rw [if_neg hi]; exact if_neg (fun e => hi (hw.1 e))

theorem final_a (j : S786432x512.Idx) :
    (select (inUse m) (resA m h 0 : FVec Ideal S786432x512 .bf16) (broadcastInDim S786432x512 ![] bcast_S_S786432x512 (constant S_ .bf16 0x0000#16)) : FVec Ideal S786432x512 .bf16) j
      = Cert.ExpertsReferenceIdeal.Plain.firsts (Cert.ExpertsReferenceIdeal.Plain.every (n0 m) (a1 m) (a2 m) (a4 m) (arr5 m 0) (arr6 m 0) (arr7 m 0) (arr8 m 0) (arr9 m 0)) j := by
  refine Eq.trans ?_ ((Cert.ExpertsReferenceIdeal.Plain.firsts_at _ j).trans (every_answer m h _ _)).symm
  by_cases hj : (j 0).val < used (tables m) * 1024
  · rw [if_pos hj]
    exact (if_pos ((inUse_at m h j).2 hj)).trans (resA_at m h 0 j hj)
  · rw [if_neg hj]
    refine (if_neg (fun e => hj ((inUse_at m h j).1 e))).trans ?_
    pointwise []
theorem final_b (j : S786432x512.Idx) :
    (select (inUse m) (resB m h 0 : FVec Ideal S786432x512 .bf16) (broadcastInDim S786432x512 ![] bcast_S_S786432x512 (constant S_ .bf16 0x0000#16)) : FVec Ideal S786432x512 .bf16) j
      = Cert.ExpertsReferenceIdeal.Plain.seconds (Cert.ExpertsReferenceIdeal.Plain.every (n0 m) (a1 m) (a2 m) (a4 m) (arr5 m 0) (arr6 m 0) (arr7 m 0) (arr8 m 0) (arr9 m 0)) j := by
  refine Eq.trans ?_ ((Cert.ExpertsReferenceIdeal.Plain.seconds_at _ j).trans (every_answer m h _ _)).symm
  by_cases hj : (j 0).val < used (tables m) * 1024
  · rw [if_pos hj]
    exact (if_pos ((inUse_at m h j).2 hj)).trans (resB_at m h 0 j hj)
  · rw [if_neg hj]
    refine (if_neg (fun e => hj ((inUse_at m h j).1 e))).trans ?_
    pointwise []

end values

/-! ## The frames -/

theorem frame_ideal : Cert.quiescent_ExpertsIdeal := fun m ρ hp =>
  (θ_run defs _ _).mono (fun r hr => ⟨fun c => (hr.1 c).2.2, hr.2⟩) (run_all m (in_order m (hp 0)) ρ)

theorem table_eq : Cert.Experts.defs₀ (F := Bits) = Cert.ExpertsIdeal.defs₀ (F := Bits) := by
  unfold Cert.Experts.defs₀ Cert.ExpertsIdeal.defs₀
  congr 1
  funext l a
  match l, a with
  | 0, ⟨b, (p, s)⟩ => rfl
theorem defs_eq : Cert.Experts.defs (F := Bits) = Cert.ExpertsIdeal.defs (F := Bits) :=
  congrArg (fun d => Pipeline.defs (Cert.ExpertsIdeal.pcfgs (F := Bits)) d) table_eq

set_option maxHeartbeats 4000000 in
theorem frame_bits : Cert.quiescent_Experts := fun m ρ hp => by
  rw [defs_eq, main_eq]
  exact (θ_run defs _ _).mono (fun r hr => ⟨fun c => (hr.1 c).2.2, hr.2⟩) (run_all (F := Bits) m (in_order (F := Bits) m (hp 0)) ρ)

set_option maxHeartbeats 4000000 in
theorem ref_frame_bits : Cert.quiescent_ExpertsReference := fun m ρ _ =>
  (θ_run Cert.ExpertsReferenceIdeal.defs _ _).mono (fun r h => ⟨fun c => (h c).2.2, sem_eq_zero_of_no_sems (by decide) r.2⟩)
    (Cert.ExpertsReferenceIdeal.Value.run (F := Bits) m ρ)
set_option maxHeartbeats 4000000 in
theorem ref_frame_ideal : Cert.quiescent_ExpertsReferenceIdeal := fun m ρ _ =>
  (θ_run Cert.ExpertsReferenceIdeal.defs _ _).mono (fun r h => ⟨fun c => (h c).2.2, sem_eq_zero_of_no_sems (by decide) r.2⟩)
    (Cert.ExpertsReferenceIdeal.Value.run (F := Ideal) m ρ)

/-! ## The claim -/

theorem claim_experts : Cert.algebraic_ExpertsIdeal_ExpertsReferenceIdeal := by
  intro m g m' g' hpre hagree
  have h : InOrder (tables m) := in_order m (hpre 0)
  refine ⟨fun c => (select (inUse m) (resA m h c : FVec Ideal S786432x512 .bf16) (broadcastInDim S786432x512 ![] bcast_S_S786432x512 (constant S_ .bf16 0x0000#16)) : FVec Ideal S786432x512 .bf16),
    fun c => (select (inUse m) (resB m h c : FVec Ideal S786432x512 .bf16) (broadcastInDim S786432x512 ![] bcast_S_S786432x512 (constant S_ .bf16 0x0000#16)) : FVec Ideal S786432x512 .bf16), ?_, ?_⟩
  · exact (θ_run defs _ _).mono (fun r hr c => hr.1 c) (run_all m h g)
  · refine (θ_run Cert.ExpertsReferenceIdeal.defs _ _).mono (fun r hr c => ?_) (Cert.ExpertsReferenceIdeal.Value.run (F := Ideal) m' g')
    obtain rfl : c = 0 := Subsingleton.elim _ _
    have hev : Cert.ExpertsReferenceIdeal.Plain.everyOf m' 0 = Cert.ExpertsReferenceIdeal.Plain.every (n0 m) (a1 m) (a2 m) (a4 m) (arr5 m 0) (arr6 m 0) (arr7 m 0) (arr8 m 0) (arr9 m 0) := by
      obtain ⟨e0, e1, e2, e3, e4, e5, e6, e7, e8, e9⟩ := hagree 0
      unfold Cert.ExpertsReferenceIdeal.Plain.everyOf
      rw [e0, e1, e2, e4, e5, e6, e7, e8, e9]
    refine ⟨(hr 0).1.trans ?_, (hr 0).2.1.trans ?_, (hr 0).2.2⟩
    · exact (Cert.ExpertsReferenceIdeal.Plain.res_firsts m' 0).trans ((congrArg Cert.ExpertsReferenceIdeal.Plain.firsts hev).trans (funext fun j => (final_a m h j).symm))
    · exact (Cert.ExpertsReferenceIdeal.Plain.res_seconds m' 0).trans ((congrArg Cert.ExpertsReferenceIdeal.Plain.seconds hev).trans (funext fun j => (final_b m h j).symm))

end Cert.ExpertsIdeal.Blocks

end
-- ==== Proof.Halves.lean ====
/-
  The two halves of a word, read as bf16 numbers, are the f32 numbers whose high half they are.
-/
module

public import Idealize.ShloMosaic.PureOps.Ideal
public import Mathlib.Tactic.NormNum
public import Mathlib.Tactic.Ring

@[expose] public section

noncomputable section

namespace Cert.Proof.Combined

open Idealize.ShloMosaic

theorem up (e : ℤ) : (2 : ℝ) ^ (e - 127 - 7) = 2 ^ (e - 127 - 23) * 65536 := by
  rw [show e - 127 - 7 = (e - 127 - 23) + 16 by ring, zpow_add₀ (by norm_num : (2 : ℝ) ≠ 0)]
  norm_num

/-- A number of seven fraction bits, its fraction moved up by sixteen bits. -/
theorem widened (c : BitVec 16) (b : BitVec 32) (hs : b.extractLsb' 31 1 = c.extractLsb' 15 1) (he : b.extractLsb' 23 8 = c.extractLsb' 7 8)
    (hf : (b.extractLsb' 0 23).toNat = (c.extractLsb' 0 7).toNat * 65536) : Ideal.ofBits .f32 b = Ideal.ofBits .bf16 c := by
  change Ideal.ieee 8 23 b = Ideal.ieee 8 7 c
  unfold Ideal.ieee
  simp only [show 8 + 23 = 31 from rfl, show 8 + 7 = 15 from rfl, hs, he, hf]
  have hz : (c.extractLsb' 0 7).toNat * 65536 = 0 ↔ (c.extractLsb' 0 7).toNat = 0 := by omega
  simp only [hz]
  split_ifs
  all_goals first | rfl | skip
  all_goals (congr 1; push_cast; norm_num)
  · ring
  · ring
  · rw [up]; ring
  · rw [up]; ring

/-- A word's low half. -/
def low (w : BitVec 32) : EReal := Ideal.ofBits .f32 (w <<< 16)
/-- A word's high half. -/
def high (w : BitVec 32) : EReal := Ideal.ofBits .f32 (w &&& 0xFFFF0000#32)

theorem low_eq (w : BitVec 32) : low w = Ideal.ofBits .bf16 (w.extractLsb' 0 16) := by
  refine widened _ _ ?_ ?_ ?_
  · apply BitVec.eq_of_toNat_eq; simp [BitVec.toNat_shiftLeft, BitVec.extractLsb'_toNat, Nat.shiftRight_eq_div_pow, Nat.shiftLeft_eq]; omega
  · apply BitVec.eq_of_toNat_eq; simp [BitVec.toNat_shiftLeft, BitVec.extractLsb'_toNat, Nat.shiftRight_eq_div_pow, Nat.shiftLeft_eq]; omega
  · simp [BitVec.toNat_shiftLeft, BitVec.extractLsb'_toNat, Nat.shiftLeft_eq]; omega

theorem high_eq (w : BitVec 32) : high w = Ideal.ofBits .bf16 (w.extractLsb' 16 16) := by
  have hw : w &&& 0xFFFF0000#32 = (w >>> 16) <<< 16 := by
    ext i hi
    interval_cases i <;> simp
  unfold high
  rw [hw]
  refine widened _ _ ?_ ?_ ?_
  · apply BitVec.eq_of_toNat_eq; simp [BitVec.toNat_shiftLeft, BitVec.extractLsb'_toNat, Nat.shiftRight_eq_div_pow, Nat.shiftLeft_eq]; omega
  · apply BitVec.eq_of_toNat_eq; simp [BitVec.toNat_shiftLeft, BitVec.extractLsb'_toNat, Nat.shiftRight_eq_div_pow, Nat.shiftLeft_eq]; omega
  · simp [BitVec.toNat_shiftLeft, BitVec.extractLsb'_toNat, Nat.shiftRight_eq_div_pow, Nat.shiftLeft_eq]; omega

end Cert.Proof.Combined
-- ==== Proof.CombinePlain.lean ====
/-
  The combine's reference, row by row: the routed sum of a token's eight rows, the shared expert, the second layer norm.
-/
module

public import proofs.«01_k».proof.Proof.Merge
public import proofs.«01_k».proof.Proof.ExpertsBlock
public import proofs.«01_k».proof.Proof.Halves
public import proofs.«01_k».proof.Proof.Gen.CombineReferenceIdeal.Run
public import Idealize.ShloMosaic.Lib.Pipeline.ValueKit
public import Idealize.ShloMosaic.Lib.BitcastConvert
public import Idealize.ShloMosaic.Lib.IdealHost

@[expose] public section

set_option maxRecDepth 16384

noncomputable section

namespace Cert.Proof.Combined

open Idealize.ShloMosaic Idealize.ShloMosaic.TcCoe
open Cert.CombineReferenceIdeal Cert.CombineReferenceIdeal.Gen
open Cert.Proof.Merged (mean normed)
open Cert.ExpertsIdeal.Blocks (along swiglu)

/-- A routed row of two rows of words: the low halves of the first and of the second, then the high halves. -/
def quarters (a b : Fin 256 → BitVec 32) (k : Fin 1024) : EReal :=
  if h : k.val < 256 then low (a ⟨k.val, by omega⟩)
  else if h : k.val - 256 < 256 then low (b ⟨k.val - 256, by omega⟩)
  else if h : k.val - 256 - 256 < 256 then high (a ⟨k.val - 256 - 256, by omega⟩)
  else high (b ⟨k.val - 256 - 256 - 256, by omega⟩)

/-- The weighted sum of a token's eight routed rows. -/
def routed (w : Fin 8 → EReal) (a b : Fin 8 → Fin 256 → BitVec 32) (k : Fin 1024) : EReal := ∑ e : Fin 8, quarters (a e) (b e) k * w e

/-- The row the second layer norm is taken of. -/
def combined (x : Fin 1024 → EReal) (w : Fin 8 → EReal) (a b : Fin 8 → Fin 256 → BitVec 32) (wg wu : Fin 1024 → Fin 256 → EReal) (wd : Fin 256 → Fin 1024 → EReal)
    (k : Fin 1024) : EReal :=
  Ideal.ofBits .f32 0x3F9837F0#32 * x k + (swiglu x wg wu wd k + routed w a b k)

/-- The row of the words that holds a token's row of one of its experts. -/
abbrev place (e : Fin 8) (t : Fin 16384) : Fin 131072 := ⟨e.val * 16384 + t.val, by omega⟩
/-- A token of the chunk. -/
abbrev token (t : Fin 16384) : Fin 65536 := ⟨16384 + t.val, by omega⟩

section reference

variable (H : FVec Ideal S65536x1024 .f32) (W : FVec Ideal S8x65536 .f32) (A B : IVec S131072x256 32) (Wg Wu : FVec Ideal S1024x256 .f32) (Wd : FVec Ideal S256x1024 .f32)
    (g s : FVec Ideal S1024 .f32) (P : FVec Ideal S65536x1024 .f32)

/-- A row of the chunk's result from the arrays. -/
def rowOf (t : Fin 16384) (k : Fin 1024) : EReal :=
  normed (combined (fun i => H (ix2 (token t) i)) (fun e => W (ix2 e (token t))) (fun e i => A (ix2 (place e t) i)) (fun e i => B (ix2 (place e t) i))
    (fun i e => Wg (ix2 i e)) (fun i e => Wu (ix2 i e)) (fun e i => Wd (ix2 e i))) (fun i => g (ix1 i)) (fun i => s (ix1 i)) k

/-- The words as pairs of numbers. -/
def pairs : FVec Ideal S8x16384x256x2 .f32 :=
  extf .f32 (bitcastToFloat (F := Ideal) .bf16 (Host.bitcastConvertNarrow S8x16384x256x2 16 (shapeCast _ A shapeCasts_S131072x256_S8x16384x256) splits_S8x16384x256_w32_S8x16384x256x2_w16)) bitsLt_bf16_f32
def lows : FVec Ideal S8x16384x256 .f32 :=
  shapeCast _ (extractStridedSlice S8x16384x256x1 ![0, 0, 0, 0] (pairs A) slices_S8x16384x256x2_S8x16384x256x1_0_0_0_0) shapeCasts_S8x16384x256x1_S8x16384x256
def highs : FVec Ideal S8x16384x256 .f32 :=
  shapeCast _ (extractStridedSlice S8x16384x256x1 ![0, 0, 0, 1] (pairs A) slices_S8x16384x256x2_S8x16384x256x1_0_0_0_1) shapeCasts_S8x16384x256x1_S8x16384x256
/-- The routed rows of every token. -/
def wides : FVec Ideal S8x16384x1024 .f32 :=
  concatenate S8x16384x1024 2 [⟨S8x16384x256, (lows A : (⟨S8x16384x256, .f32⟩ : BufTy).Contents (Elt Ideal))⟩, ⟨S8x16384x256, (lows B : (⟨S8x16384x256, .f32⟩ : BufTy).Contents (Elt Ideal))⟩,
    ⟨S8x16384x256, (highs A : (⟨S8x16384x256, .f32⟩ : BufTy).Contents (Elt Ideal))⟩, ⟨S8x16384x256, (highs B : (⟨S8x16384x256, .f32⟩ : BufTy).Contents (Elt Ideal))⟩]
    concatenates_S8x16384x256_S8x16384x256_S8x16384x256_S8x16384x256_S8x16384x1024_d2
/-- Their weighted sum. -/
def sums : FVec Ideal S16384x1024 .f32 :=
  Host.reduceAdd (mulf (wides A B) (broadcastInDim S8x16384x1024 ![0, 1, 2] bcast_S8x16384x1_S8x16384x1024_0_1_2
    (broadcastInDim S8x16384x1 ![0, 1] bcast_S8x16384_S8x16384x1_0_1 (extractStridedSlice S8x16384 ![0, 16384] W slices_S8x65536_S8x16384_0_16384))))
    (constant S_ .f32 0x00000000#32) reducesTo_S8x16384x1024_S16384x1024_d0 h_S_
/-- The chunk's tokens. -/
def chunk : FVec Ideal S16384x1024 .f32 := extractStridedSlice S16384x1024 ![16384, 0] H slices_S65536x1024_S16384x1024_16384_0
/-- A number times its logistic. -/
def silu (v : FVec Ideal S16384x256 .f32) : FVec Ideal S16384x256 .f32 :=
  mulf v (Host.divf (broadcastInDim S16384x256 ![] bcast_S_S16384x256 (constant S_ .f32 0x3F800000#32))
    (addf (broadcastInDim S16384x256 ![] bcast_S_S16384x256 (constant S_ .f32 0x3F800000#32)) (Host.exp (Host.negf v))))
/-- The shared expert. -/
def shared : FVec Ideal S16384x1024 .f32 :=
  Host.dotGeneral dot_S16384x256_S256x1024_S16384x1024_1_0_0_1_n_n none
    (mulf (silu (Host.dotGeneral dot_S16384x1024_S1024x256_S16384x256_1_0_0_1_n_n none (chunk H) Wg)) (Host.dotGeneral dot_S16384x1024_S1024x256_S16384x256_1_0_0_1_n_n none (chunk H) Wu)) Wd
/-- What the layer norm is taken of. -/
def residual : FVec Ideal S16384x1024 .f32 :=
  addf (mulf (broadcastInDim S16384x1024 ![] bcast_S_S16384x1024 (constant S_ .f32 0x3F9837F0#32)) (chunk H)) (addf (sums W A B) (shared H Wg Wu Wd))
def means (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_))
    (broadcastInDim S16384x1 ![] bcast_S_S16384x1 (constant S_ .f32 0x44800000#32))
def centred (z : FVec Ideal S16384x1024 .f32) : FVec Ideal S16384x1024 .f32 :=
  subf z (broadcastInDim S16384x1024 ![0, 1] bcast_S16384x1_S16384x1024_0_1 (means z))
def lnorm (z : FVec Ideal S16384x1024 .f32) : FVec Ideal S16384x1024 .f32 :=
  addf (mulf (mulf (centred z) (broadcastInDim S16384x1024 ![0, 1] bcast_S16384x1_S16384x1024_0_1
      (Host.rsqrt (addf (means (mulf (centred z) (centred z))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 s))
/-- The whole result: the chunk's rows among the earlier result's. -/
def whole (r : FVec Ideal S16384x1024 .f32) : FVec Ideal S65536x1024 .f32 :=
  concatenate S65536x1024 0 [⟨S16384x1024, ((extractStridedSlice S16384x1024 ![0, 0] P slices_S65536x1024_S16384x1024_0_0) : (⟨S16384x1024, .f32⟩ : BufTy).Contents (Elt Ideal))⟩,
    ⟨S16384x1024, (r : (⟨S16384x1024, .f32⟩ : BufTy).Contents (Elt Ideal))⟩,
    ⟨S32768x1024, ((extractStridedSlice S32768x1024 ![32768, 0] P slices_S65536x1024_S32768x1024_32768_0) : (⟨S32768x1024, .f32⟩ : BufTy).Contents (Elt Ideal))⟩]
    concatenates_S16384x1024_S16384x1024_S32768x1024_S65536x1024_d0

theorem words_at (e : Fin 8) (t : Fin 16384) (i : Fin 256) : (shapeCast S8x16384x256 A shapeCasts_S131072x256_S8x16384x256) (ix3 e t i) = A (ix2 (place e t) i) := by
  refine shapeCast_apply _ _ _ (ix2 (place e t) i) ?_
  rw [Shape.rowMajor_val_two, Shape.rowMajor_val_three]
  rfl

theorem pairs_at (e : Fin 8) (t : Fin 16384) (i : Fin 256) (p : Fin 2) :
    pairs A (ix4 e t i p) = Ideal.ofBits .bf16 ((A (ix2 (place e t) i)).extractLsb' (p.val * 16) 16) := by
  rw [← words_at A]
  rfl

theorem lows_at (e : Fin 8) (t : Fin 16384) (i : Fin 256) : lows A (ix3 e t i) = low (A (ix2 (place e t) i)) := by
  rw [low_eq]
  have h := pairs_at A e t i 0
  unfold lows
  refine (shapeCast_apply _ _ _ (ix4 e t i (0 : Fin 1)) ?_).trans ?_
  · rw [Shape.rowMajor_val_four, Shape.rowMajor_val_three]
    show ((e.val * 16384 + t.val) * 256 + i.val) * 1 + 0 = (e.val * 16384 + t.val) * 256 + i.val
    omega
  · refine Eq.trans ?_ h
    pointwise []
theorem highs_at (e : Fin 8) (t : Fin 16384) (i : Fin 256) : highs A (ix3 e t i) = high (A (ix2 (place e t) i)) := by
  rw [high_eq]
  have h := pairs_at A e t i 1
  unfold highs
  refine (shapeCast_apply _ _ _ (ix4 e t i (0 : Fin 1)) ?_).trans ?_
  · rw [Shape.rowMajor_val_four, Shape.rowMajor_val_three]
    show ((e.val * 16384 + t.val) * 256 + i.val) * 1 + 0 = (e.val * 16384 + t.val) * 256 + i.val
    omega
  · refine Eq.trans ?_ h
    pointwise []

theorem wides_at (e : Fin 8) (t : Fin 16384) (k : Fin 1024) : wides A B (ix3 e t k) = quarters (fun i => A (ix2 (place e t) i)) (fun i => B (ix2 (place e t) i)) k := by
  unfold quarters
  simp only [← lows_at, ← highs_at]
  pointwise [wides]

theorem sums_at (j : S16384x1024.Idx) : sums W A B j =
    routed (fun e => W (ix2 e (token (j 0)))) (fun e i => A (ix2 (place e (j 0)) i)) (fun e i => B (ix2 (place e (j 0)) i)) (j 1) := by
  unfold sums routed
  pointwise [wides_at]

theorem silu_at (v : FVec Ideal S16384x256 .f32) (j : S16384x256.Idx) : silu v j = v j * Ideal.logistic (v j) := by
  pointwise [silu, Ideal.logistic, Ideal.ofBits_one_f32]

theorem shared_at (j : S16384x1024.Idx) : shared H Wg Wu Wd j =
    swiglu (fun i => H (ix2 (token (j 0)) i)) (fun i e => Wg (ix2 i e)) (fun i e => Wu (ix2 i e)) (fun e i => Wd (ix2 e i)) (j 1) := by
  unfold shared swiglu along
  pointwise [silu_at, chunk]

theorem residual_at (j : S16384x1024.Idx) : residual H W A B Wg Wu Wd j =
    combined (fun i => H (ix2 (token (j 0)) i)) (fun e => W (ix2 e (token (j 0)))) (fun e i => A (ix2 (place e (j 0)) i)) (fun e i => B (ix2 (place e (j 0)) i))
      (fun i e => Wg (ix2 i e)) (fun i e => Wu (ix2 i e)) (fun e i => Wd (ix2 e i)) (j 1) := by
  unfold residual combined
  rw [← shared_at, ← sums_at, add_comm (shared H Wg Wu Wd j)]
  pointwise [chunk]

theorem means_at (z : FVec Ideal S16384x1024 .f32) (j : S16384x1.Idx) : means z j = mean (fun i => z (ix2 (j 0) i)) := by
  pointwise [means, mean]

theorem lnorm_at (z : FVec Ideal S16384x1024 .f32) (j : S16384x1024.Idx) :
    lnorm g s z j = normed (fun i => z (ix2 (j 0) i)) (fun i => g (ix1 i)) (fun i => s (ix1 i)) (j 1) := by
  unfold lnorm normed
  pointwise [means_at, centred]

theorem rows_at (j : S16384x1024.Idx) : lnorm g s (residual H W A B Wg Wu Wd) j = rowOf H W A B Wg Wu Wd g s (j 0) (j 1) := by
  rw [lnorm_at]
  unfold rowOf
  simp only [residual_at]
  rfl

theorem whole_in (r : FVec Ideal S16384x1024 .f32) (j : S65536x1024.Idx) (t : Fin 16384) (h : (j 0).val = 16384 + t.val) : whole P r j = r (ix2 t (j 1)) := by
  pointwise [whole]
  rw [dif_neg (by omega), dif_pos (by omega)]
  exact congrArg (fun q : Fin 16384 => r (ix2 q (j 1))) (Fin.ext (by simp only []; omega))

theorem whole_out (r : FVec Ideal S16384x1024 .f32) (j : S65536x1024.Idx) (h : ¬ (16384 ≤ (j 0).val ∧ (j 0).val < 32768)) : whole P r j = P j := by
  pointwise [whole]
  by_cases h0 : (j 0).val < 16384
  · rw [dif_pos h0]
  · rw [dif_neg h0, dif_neg (by omega)]
    refine (congrArg (fun q : Fin 65536 => P (ix2 q (j 1))) (Fin.ext (by simp only []; omega) : _ = j 0)).trans ?_
    exact congrArg P (by pointwise [])

end reference

section results

variable (m : (ℓ : Loc nD τ sig) → Buf (Elt Ideal) ℓ) (c : Dev nD)

/-- The reference's result, of its arguments. -/
theorem res : (Value.res_out0 (F := Ideal) m c : FVec Ideal S65536x1024 .f32) =
    whole (m ((c.tc : Thread nD τ).loc main_arg9)) (lnorm (m ((c.tc : Thread nD τ).loc main_arg7)) (m ((c.tc : Thread nD τ).loc main_arg8))
      (residual (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)))) := rfl

end results

end Cert.Proof.Combined
-- ==== Proof.Combine.lean ====
/-
  The combine of the routed rows with the shared expert, and the second layer norm, over one of the four chunks.
-/
module

public import proofs.«01_k».proof.Proof.Gen.CombineIdeal.Frame
public import proofs.«01_k».proof.Proof.Gen.CombineIdeal.Value
public import proofs.«01_k».proof.Proof.Gen.Combine
public import proofs.«01_k».proof.Proof.Gen.CombineReference
public import proofs.«01_k».proof.Proof.Gen.CombineReferenceIdeal.Run
public import proofs.«01_k».proof.Proof.CombinePlain
public import Idealize.ShloMosaic.Lib.Pipeline.ValueKit
public import Idealize.ShloMosaic.Lib.Claim

@[expose] public section

set_option maxRecDepth 16384

noncomputable section

namespace Cert.Proof.Combined

open Idealize.ShloMosaic Idealize.ShloMosaic.TcCoe Idealize.SL.Sem
open Idealize.ShloMosaic.Pipeline (Dat)
open Cert.CombineIdeal Cert.CombineIdeal.Gen
open Cert.Proof.Merged (mean normed)
open Cert.ExpertsIdeal.Blocks (along swiglu)

theorem low_shli (w : BitVec 32) : Ideal.ofBits .f32 (IntOp.shli .vector w 16#32) = low w := by
  unfold IntOp.shli
  rw [if_pos (by decide)]
  rfl
theorem high_andi (w : BitVec 32) : Ideal.ofBits .f32 (IntOp.andi w 4294901760#32) = high w := rfl

/-- Eight blocks of words, numbered. -/
def words (x0 x1 x2 x3 x4 x5 x6 x7 : Vec Ideal S512x256 .i32) : Fin 8 → Vec Ideal S512x256 .i32 := ![x0, x1, x2, x3, x4, x5, x6, x7]

/-- A block's row of the result, from the blocks. -/
def blockRow (x : Vec Ideal S512x1024 .f32) (w : Vec Ideal S512x8 .f32) (a b : Fin 8 → Vec Ideal S512x256 .i32) (gu : Vec Ideal S1024x512 .bf16) (d : Vec Ideal S256x1024 .bf16)
    (g s : Vec Ideal S1x1024 .f32) (r : Fin 512) (k : Fin 1024) : EReal :=
  normed (combined (fun i => x (ix2 r i)) (fun e => w (ix2 r e)) (fun e i => a e (ix2 r i)) (fun e i => b e (ix2 r i))
    (fun i e => gu (ix2 i ⟨e.val, by omega⟩)) (fun i e => gu (ix2 i ⟨256 + e.val, by omega⟩)) (fun e i => d (ix2 e i))) (fun i => g (ix2 0 i)) (fun i => s (ix2 0 i)) k

section outs

variable (c : Dev nD) (i : grid0.Coords) (arg1 : Memref sig .tc .vmem S512x1024 .f32) (harg1 : arg1.IsWhole) (arg2 : Memref sig .tc .vmem S512x8 .f32) (harg2 : arg2.IsWhole) (arg3 : Memref sig .tc .vmem S512x256 .i32) (harg3 : arg3.IsWhole) (arg4 : Memref sig .tc .vmem S512x256 .i32) (harg4 : arg4.IsWhole) (arg5 : Memref sig .tc .vmem S512x256 .i32) (harg5 : arg5.IsWhole) (arg6 : Memref sig .tc .vmem S512x256 .i32) (harg6 : arg6.IsWhole) (arg7 : Memref sig .tc .vmem S512x256 .i32) (harg7 : arg7.IsWhole) (arg8 : Memref sig .tc .vmem S512x256 .i32) (harg8 : arg8.IsWhole) (arg9 : Memref sig .tc .vmem S512x256 .i32) (harg9 : arg9.IsWhole) (arg10 : Memref sig .tc .vmem S512x256 .i32) (harg10 : arg10.IsWhole) (arg11 : Memref sig .tc .vmem S512x256 .i32) (harg11 : arg11.IsWhole) (arg12 : Memref sig .tc .vmem S512x256 .i32) (harg12 : arg12.IsWhole) (arg13 : Memref sig .tc .vmem S512x256 .i32) (harg13 : arg13.IsWhole) (arg14 : Memref sig .tc .vmem S512x256 .i32) (harg14 : arg14.IsWhole) (arg15 : Memref sig .tc .vmem S512x256 .i32) (harg15 : arg15.IsWhole) (arg16 : Memref sig .tc .vmem S512x256 .i32) (harg16 : arg16.IsWhole) (arg17 : Memref sig .tc .vmem S512x256 .i32) (harg17 : arg17.IsWhole) (arg18 : Memref sig .tc .vmem S512x256 .i32) (harg18 : arg18.IsWhole) (arg19 : Memref sig .tc .vmem S1024x512 .bf16) (harg19 : arg19.IsWhole) (arg20 : Memref sig .tc .vmem S256x1024 .bf16) (harg20 : arg20.IsWhole) (arg21 : Memref sig .tc .vmem S1x1024 .f32) (harg21 : arg21.IsWhole) (arg22 : Memref sig .tc .vmem S1x1024 .f32) (harg22 : arg22.IsWhole) (arg24 : Memref sig .tc .vmem S512x1024 .f32) (harg24 : arg24.IsWhole)    (x0 : Vec Ideal S512x1024 .f32) (x1 : Vec Ideal S512x8 .f32) (x2 : Vec Ideal S512x256 .i32) (x3 : Vec Ideal S512x256 .i32) (x4 : Vec Ideal S512x256 .i32) (x5 : Vec Ideal S512x256 .i32) (x6 : Vec Ideal S512x256 .i32) (x7 : Vec Ideal S512x256 .i32) (x8 : Vec Ideal S512x256 .i32) (x9 : Vec Ideal S512x256 .i32) (x10 : Vec Ideal S512x256 .i32) (x11 : Vec Ideal S512x256 .i32) (x12 : Vec Ideal S512x256 .i32) (x13 : Vec Ideal S512x256 .i32) (x14 : Vec Ideal S512x256 .i32) (x15 : Vec Ideal S512x256 .i32) (x16 : Vec Ideal S512x256 .i32) (x17 : Vec Ideal S512x256 .i32) (x18 : Vec Ideal S1024x512 .bf16) (x19 : Vec Ideal S256x1024 .bf16) (x20 : Vec Ideal S1x1024 .f32) (x21 : Vec Ideal S1x1024 .f32)

/-- Seven of the eight rows of one quarter, weighted and summed. -/
def quarter0 (x1 : Vec Ideal S512x8 .f32) (x2 x3 x4 x5 x6 x7 x8 : Vec Ideal S512x256 .i32) : FVec Ideal S512x256 .f32 :=
  k0_pay34 (k0_pay31 (k0_pay19 (k0_pay9 (k0_pay4 (View.ld x1 (Rect.unit ![0, 0] ![512, 1] inb_S512x8_S512x1_0_0)) x2) (View.ld x1 (Rect.unit ![0, 1] ![512, 1] inb_S512x8_S512x1_0_1)) x3) (k0_pay13 (View.ld x1 (Rect.unit ![0, 2] ![512, 1] inb_S512x8_S512x1_0_2))) (k0_pay14 x4) (View.ld x1 (Rect.unit ![0, 3] ![512, 1] inb_S512x8_S512x1_0_3)) x5) (k0_pay23 (View.ld x1 (Rect.unit ![0, 4] ![512, 1] inb_S512x8_S512x1_0_4))) x6 k0_pay24 (View.ld x1 (Rect.unit ![0, 5] ![512, 1] inb_S512x8_S512x1_0_5)) x7) (View.ld x1 (Rect.unit ![0, 6] ![512, 1] inb_S512x8_S512x1_0_6)) x8
theorem quarter0_at (r : Fin 512) (i : Fin 256) : quarter0 x1 x2 x3 x4 x5 x6 x7 x8 (ix2 r i) = low (x2 (ix2 r i)) * x1 (ix2 r 0) + low (x3 (ix2 r i)) * x1 (ix2 r 1) + low (x4 (ix2 r i)) * x1 (ix2 r 2) + low (x5 (ix2 r i)) * x1 (ix2 r 3) + low (x6 (ix2 r i)) * x1 (ix2 r 4) + low (x7 (ix2 r i)) * x1 (ix2 r 5) + low (x8 (ix2 r i)) * x1 (ix2 r 6) := by
  unfold quarter0 k0_pay4 k0_pay9 k0_pay13 k0_pay14 k0_pay19 k0_pay23 k0_pay24 k0_pay31 k0_pay34
  pointwise [k0_pay3, k0_pay8, k0_pay18, k0_pay28, k0_pay33, low_shli]
/-- Seven of the eight rows of one quarter, weighted and summed. -/
def quarter1 (x1 : Vec Ideal S512x8 .f32) (x2 x3 x4 x5 x6 x7 x8 : Vec Ideal S512x256 .i32) : FVec Ideal S512x256 .f32 :=
  k0_pay35 (k0_pay25 (k0_pay20 (k0_pay10 (k0_pay5 (View.ld x1 (Rect.unit ![0, 0] ![512, 1] inb_S512x8_S512x1_0_0)) x2) (View.ld x1 (Rect.unit ![0, 1] ![512, 1] inb_S512x8_S512x1_0_1)) x3) (k0_pay13 (View.ld x1 (Rect.unit ![0, 2] ![512, 1] inb_S512x8_S512x1_0_2))) (k0_pay15 x4) (View.ld x1 (Rect.unit ![0, 3] ![512, 1] inb_S512x8_S512x1_0_3)) x5) (k0_pay23 (View.ld x1 (Rect.unit ![0, 4] ![512, 1] inb_S512x8_S512x1_0_4))) x6) (k0_pay32 (View.ld x1 (Rect.unit ![0, 5] ![512, 1] inb_S512x8_S512x1_0_5)) x7) (View.ld x1 (Rect.unit ![0, 6] ![512, 1] inb_S512x8_S512x1_0_6)) x8
theorem quarter1_at (r : Fin 512) (i : Fin 256) : quarter1 x1 x2 x3 x4 x5 x6 x7 x8 (ix2 r i) = high (x2 (ix2 r i)) * x1 (ix2 r 0) + high (x3 (ix2 r i)) * x1 (ix2 r 1) + high (x4 (ix2 r i)) * x1 (ix2 r 2) + high (x5 (ix2 r i)) * x1 (ix2 r 3) + high (x6 (ix2 r i)) * x1 (ix2 r 4) + high (x7 (ix2 r i)) * x1 (ix2 r 5) + high (x8 (ix2 r i)) * x1 (ix2 r 6) := by
  unfold quarter1 k0_pay5 k0_pay10 k0_pay13 k0_pay15 k0_pay20 k0_pay23 k0_pay25 k0_pay32 k0_pay35
  pointwise [k0_pay3, k0_pay8, k0_pay18, k0_pay28, k0_pay33, high_andi]
/-- Seven of the eight rows of one quarter, weighted and summed. -/
def quarter2 (x1 : Vec Ideal S512x8 .f32) (x10 x11 x12 x13 x14 x15 x16 : Vec Ideal S512x256 .i32) : FVec Ideal S512x256 .f32 :=
  k0_pay36 (k0_pay26 (k0_pay21 (k0_pay11 (k0_pay6 (View.ld x1 (Rect.unit ![0, 0] ![512, 1] inb_S512x8_S512x1_0_0)) x10) (View.ld x1 (Rect.unit ![0, 1] ![512, 1] inb_S512x8_S512x1_0_1)) x11) (k0_pay13 (View.ld x1 (Rect.unit ![0, 2] ![512, 1] inb_S512x8_S512x1_0_2))) (k0_pay16 x12) (View.ld x1 (Rect.unit ![0, 3] ![512, 1] inb_S512x8_S512x1_0_3)) x13) (k0_pay23 (View.ld x1 (Rect.unit ![0, 4] ![512, 1] inb_S512x8_S512x1_0_4))) x14) (k0_pay28 (View.ld x1 (Rect.unit ![0, 5] ![512, 1] inb_S512x8_S512x1_0_5))) (k0_pay29 x15) (View.ld x1 (Rect.unit ![0, 6] ![512, 1] inb_S512x8_S512x1_0_6)) x16
theorem quarter2_at (r : Fin 512) (i : Fin 256) : quarter2 x1 x10 x11 x12 x13 x14 x15 x16 (ix2 r i) = low (x10 (ix2 r i)) * x1 (ix2 r 0) + low (x11 (ix2 r i)) * x1 (ix2 r 1) + low (x12 (ix2 r i)) * x1 (ix2 r 2) + low (x13 (ix2 r i)) * x1 (ix2 r 3) + low (x14 (ix2 r i)) * x1 (ix2 r 4) + low (x15 (ix2 r i)) * x1 (ix2 r 5) + low (x16 (ix2 r i)) * x1 (ix2 r 6) := by
  unfold quarter2 k0_pay6 k0_pay11 k0_pay13 k0_pay16 k0_pay21 k0_pay23 k0_pay26 k0_pay28 k0_pay29 k0_pay36
  pointwise [k0_pay3, k0_pay8, k0_pay18, k0_pay28, k0_pay33, low_shli]
/-- Seven of the eight rows of one quarter, weighted and summed. -/
def quarter3 (x1 : Vec Ideal S512x8 .f32) (x10 x11 x12 x13 x14 x15 x16 : Vec Ideal S512x256 .i32) : FVec Ideal S512x256 .f32 :=
  k0_pay37 (k0_pay27 (k0_pay22 (k0_pay12 (k0_pay7 (View.ld x1 (Rect.unit ![0, 0] ![512, 1] inb_S512x8_S512x1_0_0)) x10) (View.ld x1 (Rect.unit ![0, 1] ![512, 1] inb_S512x8_S512x1_0_1)) x11) (k0_pay13 (View.ld x1 (Rect.unit ![0, 2] ![512, 1] inb_S512x8_S512x1_0_2))) (k0_pay17 x12) (View.ld x1 (Rect.unit ![0, 3] ![512, 1] inb_S512x8_S512x1_0_3)) x13) (k0_pay23 (View.ld x1 (Rect.unit ![0, 4] ![512, 1] inb_S512x8_S512x1_0_4))) x14) (k0_pay28 (View.ld x1 (Rect.unit ![0, 5] ![512, 1] inb_S512x8_S512x1_0_5))) (k0_pay30 x15) (View.ld x1 (Rect.unit ![0, 6] ![512, 1] inb_S512x8_S512x1_0_6)) x16
theorem quarter3_at (r : Fin 512) (i : Fin 256) : quarter3 x1 x10 x11 x12 x13 x14 x15 x16 (ix2 r i) = high (x10 (ix2 r i)) * x1 (ix2 r 0) + high (x11 (ix2 r i)) * x1 (ix2 r 1) + high (x12 (ix2 r i)) * x1 (ix2 r 2) + high (x13 (ix2 r i)) * x1 (ix2 r 3) + high (x14 (ix2 r i)) * x1 (ix2 r 4) + high (x15 (ix2 r i)) * x1 (ix2 r 5) + high (x16 (ix2 r i)) * x1 (ix2 r 6) := by
  unfold quarter3 k0_pay7 k0_pay12 k0_pay13 k0_pay17 k0_pay22 k0_pay23 k0_pay27 k0_pay28 k0_pay30 k0_pay37
  pointwise [k0_pay3, k0_pay8, k0_pay18, k0_pay28, k0_pay33, high_andi]

/-- The shared expert's rows of a block. -/
theorem shared_row (r : Fin 512) (k : Fin 1024) : k0_pay2 (F := Ideal) x0 x18 x19 (ix2 r k) =
    swiglu (fun i => x0 (ix2 r i)) (fun i e => x18 (ix2 i ⟨e.val, by omega⟩)) (fun i e => x18 (ix2 i ⟨256 + e.val, by omega⟩)) (fun e i => x19 (ix2 e i)) k := by
  unfold k0_pay2 swiglu along
  pointwise []

/-- What the layer norm is taken of, from the quarters. -/
def before (x p : FVec Ideal S512x1024 .f32) (q0 q1 q2 q3 : FVec Ideal S512x256 .f32) (w : FVec Ideal S512x1 .f32) (a b : FVec Ideal S512x256 .f32) (v : IVec S512x256 32) : FVec Ideal S512x1024 .f32 :=
  addf (mulf (broadcast S512x1024 (Scalar.ofBits .f32 0x3F9837F0#32)) x) (addf p (concatenate S512x1024 1
    [⟨S512x256, addf q0 (mulf a (broadcastTo S512x256 w broadcasts_S512x1_S512x256))⟩,
      ⟨S512x256, addf q2 (mulf (bitcastToFloat .f32 (shli v (broadcast S512x256 16#32))) (broadcastTo S512x256 w broadcasts_S512x1_S512x256))⟩,
      ⟨S512x256, addf q1 (mulf b (broadcastTo S512x256 w broadcasts_S512x1_S512x256))⟩,
      ⟨S512x256, addf q3 (mulf (bitcastToFloat .f32 (andi v (broadcast S512x256 4294901760#32))) (broadcastTo S512x256 w broadcasts_S512x1_S512x256))⟩]
    concatenates_S512x256_S512x256_S512x256_S512x256_S512x1024_d1))

/-- A block's rows less their means, scaled. -/
def scaled (z : FVec Ideal S512x1024 .f32) (g : FVec Ideal S1x1024 .f32) : FVec Ideal S512x1024 .f32 :=
  have mu : FVec Ideal S512x1 .f32 := divf (shapeCast S512x1 (multiReduction .add [1] S512 z 0x00000000#32 reduces_S512x1024_S512 (.inl rfl) rfl) shapeCasts_S512_S512x1) (broadcast S512x1 (Scalar.ofBits .f32 0x44800000#32))
  have d : FVec Ideal S512x1024 .f32 := subf z (broadcastTo S512x1024 mu broadcasts_S512x1_S512x1024)
  have va : FVec Ideal S512x1 .f32 := divf (shapeCast S512x1 (multiReduction .add [1] S512 (mulf d d) 0x00000000#32 reduces_S512x1024_S512 (.inl rfl) rfl) shapeCasts_S512_S512x1) (broadcast S512x1 (Scalar.ofBits .f32 0x44800000#32))
  mulf (mulf d (broadcastTo S512x1024 (rsqrt (addf va (broadcast S512x1 (Scalar.ofBits .f32 0x3727C5AC#32)))) broadcasts_S512x1_S512x1024))
    (broadcastTo S512x1024 (shapeCast S1x1024 g shapeCasts_S1x1024_S1x1024) broadcasts_S1x1024_S512x1024)

theorem tail_eq (x p : FVec Ideal S512x1024 .f32) (q0 q1 q2 q3 : FVec Ideal S512x256 .f32) (w : FVec Ideal S512x1 .f32) (a b : FVec Ideal S512x256 .f32) (v : IVec S512x256 32) (g : FVec Ideal S1x1024 .f32) :
    k0_pay42 (F := Ideal) x p q0 q1 q2 q3 w a b v g = scaled (before x p q0 q1 q2 q3 w a b v) g := rfl

theorem scaled_at (z : FVec Ideal S512x1024 .f32) (g s : FVec Ideal S1x1024 .f32) (y : S512x1024.Idx) :
    k0_pay1 (k0_pay41 s) (scaled z g) y = normed (fun i => z (ix2 (y 0) i)) (fun i => g (ix2 0 i)) (fun i => s (ix2 0 i)) (y 1) := by
  unfold k0_pay1 k0_pay41 scaled
  pointwise [normed, mean]

/-- Every quarter's eighth row and the quarters side by side. -/
theorem before_at (r : Fin 512) (k : Fin 1024) :
    before x0 (k0_pay2 x0 x18 x19) (quarter0 x1 x2 x3 x4 x5 x6 x7 x8) (quarter1 x1 x2 x3 x4 x5 x6 x7 x8) (quarter2 x1 x10 x11 x12 x13 x14 x15 x16) (quarter3 x1 x10 x11 x12 x13 x14 x15 x16)
      (k0_pay38 (View.ld x1 (Rect.unit ![0, 7] ![512, 1] inb_S512x8_S512x1_0_7))) (k0_pay39 x9) (k0_pay40 x9) x17 (ix2 r k)
    = combined (fun i => x0 (ix2 r i)) (fun e => x1 (ix2 r e)) (fun e i => words x2 x3 x4 x5 x6 x7 x8 x9 e (ix2 r i)) (fun e i => words x10 x11 x12 x13 x14 x15 x16 x17 e (ix2 r i))
        (fun i e => x18 (ix2 i ⟨e.val, by omega⟩)) (fun i e => x18 (ix2 i ⟨256 + e.val, by omega⟩)) (fun e i => x19 (ix2 e i)) k := by
  unfold combined routed
  rw [Fin.sum_univ_eight, ← shared_row]
  by_cases c0 : k.val < 256
  · simp only [quarters, dif_pos c0]
    pointwise [before, k0_pay38, k0_pay39, k0_pay40, low_shli, high_andi]
    rw [dif_pos c0, quarter0_at]
    rfl
  by_cases c1 : k.val - 256 < 256
  · simp only [quarters, dif_neg c0, dif_pos c1]
    pointwise [before, k0_pay38, k0_pay39, k0_pay40, low_shli, high_andi]
    rw [dif_neg c0, dif_pos c1, quarter2_at]
    rfl
  by_cases c2 : k.val - 256 - 256 < 256
  · simp only [quarters, dif_neg c0, dif_neg c1, dif_pos c2]
    pointwise [before, k0_pay38, k0_pay39, k0_pay40, low_shli, high_andi]
    rw [dif_neg c0, dif_neg c1, dif_pos c2, quarter1_at]
    rfl
  · simp only [quarters, dif_neg c0, dif_neg c1, dif_neg c2]
    pointwise [before, k0_pay38, k0_pay39, k0_pay40, low_shli, high_andi]
    rw [dif_neg c0, dif_neg c1, dif_neg c2, quarter3_at]
    rfl

theorem out_row (y : S512x1024.Idx) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 x0 x1 x2 x3 x4 x5 x6 x7 x8 x9 x10 x11 x12 x13 x14 x15 x16 x17 x18 x19 x20 x21 y = blockRow x0 x1 (words x2 x3 x4 x5 x6 x7 x8 x9) (words x10 x11 x12 x13 x14 x15 x16 x17) x18 x19 x20 x21 (y 0) (y 1) := by
  frame_out
  refine (show _ = k0_pay1 (k0_pay41 x21) (k0_pay42 x0 (k0_pay2 x0 x18 x19) (quarter0 x1 x2 x3 x4 x5 x6 x7 x8) (quarter1 x1 x2 x3 x4 x5 x6 x7 x8) (quarter2 x1 x10 x11 x12 x13 x14 x15 x16) (quarter3 x1 x10 x11 x12 x13 x14 x15 x16) (k0_pay38 (View.ld x1 (Rect.unit ![0, 7] ![512, 1] inb_S512x8_S512x1_0_7))) (k0_pay39 x9) (k0_pay40 x9) x17 x20) y from rfl).trans ?_
  rw [tail_eq, scaled_at]
  refine congrFun (congrFun (congrFun (congrArg normed (funext fun k => ?_)) _) _) _
  apply before_at

end outs
set_option maxHeartbeats 900000 in
theorem places : ∀ t : Fin cfg0.N, win0_0.index t = ![32 + t.val, 0] ∧ win0_1.index t = ![32 + t.val, 0]
    ∧ win0_2.index t = ![0 + t.val, 0] ∧ win0_10.index t = ![0 + t.val, 0]
    ∧ win0_3.index t = ![32 + t.val, 0] ∧ win0_11.index t = ![32 + t.val, 0]
    ∧ win0_4.index t = ![64 + t.val, 0] ∧ win0_12.index t = ![64 + t.val, 0]
    ∧ win0_5.index t = ![96 + t.val, 0] ∧ win0_13.index t = ![96 + t.val, 0]
    ∧ win0_6.index t = ![128 + t.val, 0] ∧ win0_14.index t = ![128 + t.val, 0]
    ∧ win0_7.index t = ![160 + t.val, 0] ∧ win0_15.index t = ![160 + t.val, 0]
    ∧ win0_8.index t = ![192 + t.val, 0] ∧ win0_16.index t = ![192 + t.val, 0]
    ∧ win0_9.index t = ![224 + t.val, 0] ∧ win0_17.index t = ![224 + t.val, 0]
    ∧ win0_18.index t = ![0, 0] ∧ win0_19.index t = ![0, 0] ∧ win0_20.index t = ![0, 0] ∧ win0_21.index t = ![0, 0] ∧ win0_22.index t = ![32 + t.val, 0] :=
  (by decide +kernel : ∀ t : Fin grid0.N, _)

section blocks

variable (m : (ℓ : Loc nD τ sig) → Buf (Elt Ideal) ℓ) (c : Dev nD)

/-- A row of the chunk's result, of the run's arrays. -/
def rowAt (q : Fin 16384) (k : Fin 1024) : EReal :=
  normed (combined (fun i => V m c main_arg0 (ix2 (token q) i)) (fun e => V m c main_v3 (ix2 (token q) e)) (fun e i => V m c main_arg2 (ix2 (place e q) i))
    (fun e i => V m c main_arg3 (ix2 (place e q) i)) (fun i e => V m c main_v1 (ix2 i ⟨e.val, by omega⟩)) (fun i e => V m c main_v1 (ix2 i ⟨256 + e.val, by omega⟩))
    (fun e i => V m c main_v2 (ix2 e i))) (fun i => V m c main_v4 (ix2 0 i)) (fun i => V m c main_v5 (ix2 0 i)) k

/-- A block's words are rows of the whole arrays. -/
theorem words_a (t : Fin cfg0.N) (r : Fin 512) (q : Fin 16384) (hq : q.val = t.val * 512 + r.val) (e : Fin 8) (i : Fin 256) :
    words (iblk m c 2 t) (iblk m c 3 t) (iblk m c 4 t) (iblk m c 5 t) (iblk m c 6 t) (iblk m c 7 t) (iblk m c 8 t) (iblk m c 9 t) e (ix2 r i) = V m c main_arg2 (ix2 (place e q) i) := by
  match e with
  | 0 =>
    show iblk m c 2 t (ix2 r i) = _
    blk_point [iblk, places t, hq]
  | 1 =>
    show iblk m c 3 t (ix2 r i) = _
    blk_point [iblk, places t, hq]
  | 2 =>
    show iblk m c 4 t (ix2 r i) = _
    blk_point [iblk, places t, hq]
  | 3 =>
    show iblk m c 5 t (ix2 r i) = _
    blk_point [iblk, places t, hq]
  | 4 =>
    show iblk m c 6 t (ix2 r i) = _
    blk_point [iblk, places t, hq]
  | 5 =>
    show iblk m c 7 t (ix2 r i) = _
    blk_point [iblk, places t, hq]
  | 6 =>
    show iblk m c 8 t (ix2 r i) = _
    blk_point [iblk, places t, hq]
  | 7 =>
    show iblk m c 9 t (ix2 r i) = _
    blk_point [iblk, places t, hq]
theorem words_b (t : Fin cfg0.N) (r : Fin 512) (q : Fin 16384) (hq : q.val = t.val * 512 + r.val) (e : Fin 8) (i : Fin 256) :
    words (iblk m c 10 t) (iblk m c 11 t) (iblk m c 12 t) (iblk m c 13 t) (iblk m c 14 t) (iblk m c 15 t) (iblk m c 16 t) (iblk m c 17 t) e (ix2 r i) = V m c main_arg3 (ix2 (place e q) i) := by
  match e with
  | 0 =>
    show iblk m c 10 t (ix2 r i) = _
    blk_point [iblk, places t, hq]
  | 1 =>
    show iblk m c 11 t (ix2 r i) = _
    blk_point [iblk, places t, hq]
  | 2 =>
    show iblk m c 12 t (ix2 r i) = _
    blk_point [iblk, places t, hq]
  | 3 =>
    show iblk m c 13 t (ix2 r i) = _
    blk_point [iblk, places t, hq]
  | 4 =>
    show iblk m c 14 t (ix2 r i) = _
    blk_point [iblk, places t, hq]
  | 5 =>
    show iblk m c 15 t (ix2 r i) = _
    blk_point [iblk, places t, hq]
  | 6 =>
    show iblk m c 16 t (ix2 r i) = _
    blk_point [iblk, places t, hq]
  | 7 =>
    show iblk m c 17 t (ix2 r i) = _
    blk_point [iblk, places t, hq]

theorem block_row (t : Fin cfg0.N) (r : Fin 512) (k : Fin 1024) (q : Fin 16384) (hq : q.val = t.val * 512 + r.val) :
    blockRow (iblk m c 0 t) (iblk m c 1 t) (words (iblk m c 2 t) (iblk m c 3 t) (iblk m c 4 t) (iblk m c 5 t) (iblk m c 6 t) (iblk m c 7 t) (iblk m c 8 t) (iblk m c 9 t)) (words (iblk m c 10 t) (iblk m c 11 t) (iblk m c 12 t) (iblk m c 13 t) (iblk m c 14 t) (iblk m c 15 t) (iblk m c 16 t) (iblk m c 17 t)) (iblk m c 18 t) (iblk m c 19 t) (iblk m c 20 t) (iblk m c 21 t) r k = rowAt m c q k := by
  unfold blockRow rowAt
  have e0 : (fun j => iblk m c 0 t (ix2 r j)) = fun j : Fin 1024 => V m c main_arg0 (ix2 (token q) j) := by
    funext j; blk_point [iblk, places t, hq]
  have e1 : (fun j => iblk m c 1 t (ix2 r j)) = fun j : Fin 8 => V m c main_v3 (ix2 (token q) j) := by
    funext j; blk_point [iblk, places t, hq]
  have ea := funext fun e : Fin 8 => funext fun i : Fin 256 => words_a m c t r q hq e i
  have eb := funext fun e : Fin 8 => funext fun i : Fin 256 => words_b m c t r q hq e i
  have e18 : iblk m c 18 t = V m c main_v1 := by
    funext y; blk_point [iblk, places t]
  have e19 : iblk m c 19 t = V m c main_v2 := by
    funext y; blk_point [iblk, places t]
  have e20 : (fun j => iblk m c 20 t (ix2 0 j)) = fun j : Fin 1024 => V m c main_v4 (ix2 0 j) := by
    funext j; blk_point [iblk, places t]
  have e21 : (fun j => iblk m c 21 t (ix2 0 j)) = fun j : Fin 1024 => V m c main_v5 (ix2 0 j) := by
    funext j; blk_point [iblk, places t]
  rw [e18, e19]
  exact congrFun (congr (congr (congrArg normed (congrFun (congrFun (congrFun (congr (congr (congr (congrArg combined e0) e1) ea) eb) _) _) _)) e20) e21) k

/-- A token's number within the chunk. -/
def within (n : ℕ) : Fin 16384 := ⟨(n - 16384) % 16384, Nat.mod_lt _ (by decide)⟩
theorem within_val (n : ℕ) (q : ℕ) (hn : n = 16384 + q) (hq : q < 16384) : (within n).val = q := by
  subst hn
  show (16384 + q - 16384) % 16384 = q
  omega

/-- The result array after the run: the chunk's rows, the others as they were before. -/
theorem final : (dats m 0 c).arrAt 22 (cfgs 0).N =
    fun j : S65536x1024.Idx => if 32 * 512 ≤ (j 0 : ℕ) ∧ (j 0 : ℕ) < 64 * 512 then rowAt m c (within (j 0)) (j 1) else V m c main_v6 j := by
  refine (dats m 0 c).arrAt_eq_of_coversWhere 22 _ (fun β => 32 ≤ β 0 ∧ β 0 < 64) (by decide +kernel) (fun t hf y => ?_)
    (fun j => by blk_simp [Pipeline.Window.cell_apply]; omega)
  blk_simp
  rw [after0_22]
  unfold outsAt0
  rw [out_row]
  have ht : t.val < 32 := t.isLt
  have h0 : (y 0).val < 512 := (y 0).isLt
  have hi : win0_22.index t 0 = 32 + t.val := congrFun (places t).2.2.2.2.2.2.2.2.2.2.2.2.2.2.2.2.2.2.2.2.2.2 0
  refine (block_row m c t _ _ (within (win0_22.index t 0 * 512 + (y 0).val)) (within_val _ _ ?_ ?_)).trans (congrArg (rowAt m c _) ?_)
  · rw [hi]
    omega
  · omega
  · refine Fin.ext ?_
    blk_simp [places t]

end blocks

end Cert.Proof.Combined
-- ==== Proof.CombineClaim.lean ====
/-
  The combine's claims: the runs of both prints, and the chunk's rows against the reference's.
-/
module

public import proofs.«01_k».proof.Proof.Combine
public import proofs.«01_k».proof.Proof.CombinePlain
public import proofs.«01_k».proof.Proof.Gen.Combine
public import proofs.«01_k».proof.Proof.Gen.CombineReference
public import proofs.«01_k».proof.Defs
public import Idealize.ShloMosaic.Lib.Pipeline.ValueKit
public import Idealize.ShloMosaic.Lib.Claim

@[expose] public section

set_option maxRecDepth 16384

noncomputable section

namespace Cert.Proof.Combined

open Idealize.ShloMosaic Idealize.ShloMosaic.TcCoe Idealize.SL.Sem
open Cert.Proof.Merged (mean normed)

set_option maxHeartbeats 4000000 in
/-- The two prints have one body table: label by label the same text. -/
theorem table_eq : Cert.Combine.defs₀ (F := Bits) = Cert.CombineIdeal.defs₀ (F := Bits) := by
  unfold Cert.Combine.defs₀ Cert.CombineIdeal.defs₀
  congr 1
  funext l a
  match l, a with
  | 0, (t, s) => rfl

theorem defs_eq : Cert.Combine.defs (F := Bits) = Cert.CombineIdeal.defs (F := Bits) :=
  congrArg (fun d => Pipeline.defs (Cert.CombineIdeal.pcfgs (F := Bits)) d) table_eq

theorem frame_bits : Cert.quiescent_Combine := fun m ρ _ => by
  rw [defs_eq]
  exact Cert.CombineIdeal.Gen.frame (F := Bits) m ρ
theorem frame_ideal : Cert.quiescent_CombineIdeal := fun m ρ _ => Cert.CombineIdeal.Gen.frame (F := Ideal) m ρ
theorem ref_frame_bits : Cert.quiescent_CombineReference := fun m ρ _ =>
  (θ_run Cert.CombineReferenceIdeal.defs _ _).mono (fun r h => ⟨fun c => (h c).2, sem_eq_zero_of_no_sems (by decide) r.2⟩)
    (Cert.CombineReferenceIdeal.Value.run (F := Bits) m ρ)
theorem ref_frame_ideal : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

section kernel

open Cert.CombineIdeal Cert.CombineIdeal.Gen

variable (m : (ℓ : Loc nD τ sig) → Buf (Elt Ideal) ℓ) (c : Dev nD)

/-- A row of the kernel's chunk from the arguments. -/
theorem rowAt_eq (q : Fin 16384) (k : Fin 1024) : rowAt m c q k =
    rowOf (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) q k := by
  have e0 : V m c main_arg0 = m ((c.tc : Thread nD τ).loc main_arg0) := by entry_read; try rfl
  have e2 : V m c main_arg2 = m ((c.tc : Thread nD τ).loc main_arg2) := by entry_read; try rfl
  have e3 : V m c main_arg3 = m ((c.tc : Thread nD τ).loc main_arg3) := by entry_read; try rfl
  have w1 : V m c main_v1 = truncf (F := Ideal) .bf16 (concatenate S1024x512 1 [⟨S1024x256, (m ((c.tc : Thread nD τ).loc main_arg4) : FVec Ideal S1024x256 .f32)⟩,
      ⟨S1024x256, (m ((c.tc : Thread nD τ).loc main_arg5) : FVec Ideal S1024x256 .f32)⟩] concatenates_S1024x256_S1024x256_S1024x512_d1) bitsLt_bf16_f32 := by entry_read; rfl
  have w2 : V m c main_v2 = m ((c.tc : Thread nD τ).loc main_arg6) := by entry_read; rfl
  have w3 : V m c main_v3 = transpose S65536x8 [1, 0] (m ((c.tc : Thread nD τ).loc main_arg1)) transposes_S8x65536_S65536x8_1_0 := by entry_read; rfl
  have w4 : V m c main_v4 = shapeCast S1x1024 (m ((c.tc : Thread nD τ).loc main_arg7)) shapeCasts_S1024_S1x1024 := by entry_read; rfl
  have w5 : V m c main_v5 = shapeCast S1x1024 (m ((c.tc : Thread nD τ).loc main_arg8)) shapeCasts_S1024_S1x1024 := by entry_read; rfl
  unfold rowAt rowOf
  rw [e0, e2, e3, w1, w2, w3, w4, w5]
  have c1 : ∀ v : FVec Ideal S1024 .f32, (fun i : Fin 1024 => shapeCast S1x1024 v shapeCasts_S1024_S1x1024 (ix2 0 i)) = fun i => v (ix1 i) := by
    intro v; funext i; pointwise []
  have c2 : ∀ v : FVec Ideal S8x65536 .f32, (fun e : Fin 8 => transpose S65536x8 [1, 0] v transposes_S8x65536_S65536x8_1_0 (ix2 (token q) e)) = fun e => v (ix2 e (token q)) := by
    intro v; funext e; pointwise []
  have c3 : ∀ a b : FVec Ideal S1024x256 .f32, (fun (i : Fin 1024) (e : Fin 256) => truncf (F := Ideal) .bf16 (concatenate S1024x512 1 [⟨S1024x256, a⟩, ⟨S1024x256, b⟩] concatenates_S1024x256_S1024x256_S1024x512_d1) bitsLt_bf16_f32 (ix2 i ⟨e.val, by omega⟩))
      = fun i e => a (ix2 i e) := by
    intro a b; funext i e; pointwise []
  have c4 : ∀ a b : FVec Ideal S1024x256 .f32, (fun (i : Fin 1024) (e : Fin 256) => truncf (F := Ideal) .bf16 (concatenate S1024x512 1 [⟨S1024x256, a⟩, ⟨S1024x256, b⟩] concatenates_S1024x256_S1024x256_S1024x512_d1) bitsLt_bf16_f32 (ix2 i ⟨256 + e.val, by omega⟩))
      = fun i e => b (ix2 i e) := by
    intro a b; funext i e; pointwise []
  rw [c1, c1, c2, c3, c4]

end kernel

open Cert.CombineReferenceIdeal Cert.CombineReferenceIdeal.Gen

/-- On equal arguments the reference's result is the kernel's. -/
theorem agree (m : (ℓ : Loc Cert.CombineIdeal.nD Cert.CombineIdeal.τ Cert.CombineIdeal.sig) → Buf (Elt Ideal) ℓ) (m' : (ℓ : Loc nD τ Cert.CombineReferenceIdeal.sig) → Buf (Elt Ideal) ℓ)
    (c : Dev nD)
    (e : m' (c.tc.loc main_arg0) = m (c.tc.loc Cert.CombineIdeal.main_arg0) ∧ m' (c.tc.loc main_arg1) = m (c.tc.loc Cert.CombineIdeal.main_arg1)
      ∧ m' (c.tc.loc main_arg2) = m (c.tc.loc Cert.CombineIdeal.main_arg2) ∧ m' (c.tc.loc main_arg3) = m (c.tc.loc Cert.CombineIdeal.main_arg3)
      ∧ m' (c.tc.loc main_arg4) = m (c.tc.loc Cert.CombineIdeal.main_arg4) ∧ m' (c.tc.loc main_arg5) = m (c.tc.loc Cert.CombineIdeal.main_arg5)
      ∧ m' (c.tc.loc main_arg6) = m (c.tc.loc Cert.CombineIdeal.main_arg6) ∧ m' (c.tc.loc main_arg7) = m (c.tc.loc Cert.CombineIdeal.main_arg7)
      ∧ m' (c.tc.loc main_arg8) = m (c.tc.loc Cert.CombineIdeal.main_arg8) ∧ m' (c.tc.loc main_arg9) = m (c.tc.loc Cert.CombineIdeal.main_arg9)) :
    (Cert.CombineReferenceIdeal.Value.res_out0 (F := Ideal) m' c : FVec Ideal S65536x1024 .f32) = (Cert.CombineIdeal.Gen.dats m 0 c).arrAt 22 (Cert.CombineIdeal.cfgs 0).N := by
  obtain ⟨e0, e1, e2, e3, e4, e5, e6, e7, e8, e9⟩ := e
  refine Eq.trans ?_ (final m c).symm
  rw [res, e0, e1, e2, e3, e4, e5, e6, e7, e8, e9]
  funext j
  by_cases h : 32 * 512 ≤ (j 0 : ℕ) ∧ (j 0 : ℕ) < 64 * 512
  · rw [if_pos h]
    have hw : (j 0 : ℕ) = 16384 + (within (j 0)).val := by
      have := within_val (j 0) ((j 0 : ℕ) - 16384) (by omega) (by omega)
      omega
    refine ((whole_in _ _ j (within (j 0)) hw).trans (rows_at _ _ _ _ _ _ _ _ _ _)).trans ?_
    exact (rowAt_eq m c (within (j 0)) (j 1)).symm
  · rw [if_neg h, whole_out _ _ j (by omega)]
    have e6 : Cert.CombineIdeal.Gen.V m c Cert.CombineIdeal.main_v6 = m ((c.tc : Thread nD τ).loc Cert.CombineIdeal.main_arg9) := by entry_read; rfl
    rw [e6]

/-- The combine's result is the reference's. -/
theorem claim_combine : Cert.algebraic_CombineIdeal_CombineReferenceIdeal := by
  pair_intro
  · run_from Cert.CombineIdeal.Value.run_blocks m g
  · run_from Cert.CombineReferenceIdeal.Value.run m' g'
    exact agree m m' c (hagree c)

end Cert.Proof.Combined
-- ==== Proof.ScatterArith.lean ====
/-
  The scatter's pipeline counters, trip by trip: what the loop carries at the start of trip `t` (the cursors of the two
  fetches and of the two waits, the block number), and at those values every offset the body slices by, every condition it
  branches on and every side condition it assumes. Thirty-two tiles, sixteen trips: decided.
-/
module

public import proofs.«01_k».proof.Defs
public import proofs.«01_k».proof.Proof.Gen.ScatterIdeal.Skeleton

@[expose] public section

noncomputable section

namespace Cert.Proof.Scattered

open Cert.ScatterIdeal Cert.ScatterIdeal.Gen
open Idealize.ShloMosaic

/-- The first token of tile `L`'s own part. -/
def base (L : grid0.Coords) : ℕ := 2048 * (L 1).val + 32768 * (L 0).val

/-- What the loop carries at the start of trip `t`. -/
@[reducible] def c6 (t : ℕ) : BitVec 32 := BitVec.ofNat 32 (min (t + 1) 16)
@[reducible] def c7 (t : ℕ) : BitVec 32 := BitVec.ofNat 32 t
@[reducible] def c10 (t : ℕ) : BitVec 32 := BitVec.ofNat 32 (t % 16)
abbrev Carry : Type := BitVec 32 × BitVec 32 × BitVec 32 × BitVec 32 × BitVec 32
@[reducible] def carry (t : ℕ) : Carry := (c6 t, c7 t, c6 t, c7 t, c10 t)

theorem trips_eq : k0_t1_loop.trips = 16 := by decide +kernel

/-! ## The conditions -/

theorem cond1_iff : ∀ (L : grid0.Coords) (t : Fin k0_t1_loop.trips), k0_cond1 L t (c10 t) = 1#1 ↔ t.val < 15 := by decide +kernel
theorem cond2_iff : ∀ (L : grid0.Coords) (t : Fin k0_t1_loop.trips), k0_cond2 L t (c10 t) = 1#1 ↔ t.val < 15 := by decide +kernel
theorem cond3_one : ∀ (L : grid0.Coords) (t : Fin k0_t1_loop.trips), k0_cond3 L t (c10 t) = 1#1 := by decide +kernel
theorem cond4_one : ∀ (L : grid0.Coords) (t : Fin k0_t1_loop.trips), k0_cond4 L t (c10 t) = 1#1 := by decide +kernel

/-! ## The offsets -/

theorem off1_eq : k0_off1 = ![0 % 2, 0, 0, 0] := by decide +kernel
theorem off2_eq : ∀ L : grid0.Coords, k0_off2 L = ![2048 * (L 1).val + 32768 * (L 0).val + 128 * 0, 0, 0] := by decide +kernel
theorem off3_eq : k0_off3 = ![0 % 2] := by decide +kernel
theorem off4_eq : k0_off4 = ![0 % 2, 0, 0] := by decide +kernel
theorem off5_eq : ∀ L : grid0.Coords, k0_off5 L = ![0, 2048 * (L 1).val + 32768 * (L 0).val + 128 * 0] := by decide +kernel
theorem off6_eq : ∀ t : Fin k0_t1_loop.trips, k0_off6 (c6 t) = ![(t.val + 1) % 2, 0, 0, 0] := by decide +kernel
theorem off7_eq : ∀ (L : grid0.Coords) (t : Fin k0_t1_loop.trips), t.val < 15 →
    k0_off7 L (c10 t) = ![2048 * (L 1).val + 32768 * (L 0).val + 128 * (t.val + 1), 0, 0] := by decide +kernel
theorem off8_eq : ∀ t : Fin k0_t1_loop.trips, k0_off8 (c6 t) = ![(t.val + 1) % 2] := by decide +kernel
theorem off9_eq : ∀ t : Fin k0_t1_loop.trips, k0_off9 (c6 t) = ![(t.val + 1) % 2, 0, 0] := by decide +kernel
theorem off10_eq : ∀ (L : grid0.Coords) (t : Fin k0_t1_loop.trips), t.val < 15 →
    k0_off10 L (c10 t) = ![0, 2048 * (L 1).val + 32768 * (L 0).val + 128 * (t.val + 1)] := by decide +kernel
theorem off11_eq : ∀ t : Fin k0_t1_loop.trips, k0_off11 (c6 t) = ![(t.val + 1) % 2] := by decide +kernel
theorem off12_eq : ∀ t : Fin k0_t1_loop.trips, k0_off12 (c7 t) = ![t.val % 2, 0, 0, 0] := by decide +kernel
theorem off13_eq : ∀ (L : grid0.Coords) (t : Fin k0_t1_loop.trips),
    k0_off13 L (c10 t) = ![2048 * (L 1).val + 32768 * (L 0).val + 128 * t.val, 0, 0] := by decide +kernel
theorem off14_eq : ∀ t : Fin k0_t1_loop.trips, k0_off14 (c7 t) = ![t.val % 2] := by decide +kernel
theorem off15_eq : ∀ t : Fin k0_t1_loop.trips, k0_off15 (c7 t) = ![t.val % 2, 0, 0] := by decide +kernel
theorem off16_eq : ∀ (L : grid0.Coords) (t : Fin k0_t1_loop.trips),
    k0_off16 L (c10 t) = ![0, 2048 * (L 1).val + 32768 * (L 0).val + 128 * t.val] := by decide +kernel
theorem off17_eq : ∀ t : Fin k0_t1_loop.trips, k0_off17 (c7 t) = ![t.val % 2] := by decide +kernel
theorem off18_eq : ∀ t : Fin k0_t1_loop.trips, k0_off18 (c7 t) = ![t.val % 2, 0, 0, 0] := by decide +kernel
theorem off19_eq : ∀ t : Fin k0_t1_loop.trips, k0_off19 (c7 t) = ![t.val % 2, 0, 0] := by decide +kernel

/-! ## The side conditions the body assumes -/

theorem chk1_ok : ∀ (L : grid0.Coords) (t : Fin k0_t1_loop.trips), k0_chk1 L t (c6 t) (c7 t) (c6 t) (c7 t) (c10 t) := by decide +kernel
theorem chk2_ok : ∀ t : Fin k0_t1_loop.trips, k0_chk2 (c7 t) := by decide +kernel
theorem chk3_ok : ∀ t : Fin k0_t1_loop.trips, k0_chk3 (c7 t) := by decide +kernel

end Cert.Proof.Scattered

end
-- ==== Proof.ScatterSetup.lean ====
/-
  What the proof of the scatter speaks of: the program as the launch theorem sees it, the windows of the rows and of the
  destination list, the two slots of each of the pipeline's buffers with their semaphores, the rows of the output each
  scatter writes, and what the output is to hold. `ScatterIdeal` over any float `F` (the program moves 32-bit words only).
-/
module

public import proofs.«01_k».proof.Defs
public import proofs.«01_k».proof.Proof.ScatterArith
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic

@[expose] public section

noncomputable section

namespace Cert.Proof.Scattered

open Cert.ScatterIdeal Cert.ScatterIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev iLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

local notation "xV" => (Memref.whole Cert.ScatterIdeal.main_v0_scv : Memref Cert.ScatterIdeal.sig Kind.scVector Space.hbm Cert.ScatterIdeal.S65536x2x128 EltTy.i32)
local notation "iV" => (Memref.whole Cert.ScatterIdeal.main_arg1_scv : Memref Cert.ScatterIdeal.sig Kind.scVector Space.hbm Cert.ScatterIdeal.S8x65536 EltTy.i32)
local notation "oV" => (Memref.whole Cert.ScatterIdeal.main_v1_scv : Memref Cert.ScatterIdeal.sig Kind.scVector Space.hbm Cert.ScatterIdeal.S786432x2x128 EltTy.i32)
local notation "rV" => (Memref.whole Cert.ScatterIdeal.cc0_scoped0 : Memref Cert.ScatterIdeal.sig Kind.scVector Space.vmem Cert.ScatterIdeal.S2x128x2x128 EltTy.i32)
local notation "sV" => (Memref.whole Cert.ScatterIdeal.cc0_scoped2 : Memref Cert.ScatterIdeal.sig Kind.scVector Space.vmem Cert.ScatterIdeal.S2x8x128 EltTy.i32)

/-! ### Slices at any offset -/

/-- 128 rows. -/
abbrev xAt (o : Fin 3 → ℕ) (h : ∀ a, o a + S128x2x128.size a ≤ S65536x2x128.size a) : Memref sig .scVector .hbm S128x2x128 .i32 :=
  (xV).slice (Rect.unit (s := S65536x2x128) o S128x2x128.size h) (fun _ => rfl)
/-- 128 words of each of the eight lists. -/
abbrev iAt (o : Fin 2 → ℕ) (h : ∀ a, o a + S8x128.size a ≤ S8x65536.size a) : Memref sig .scVector .hbm S8x128 .i32 :=
  (iV).slice (Rect.unit (s := S8x65536) o S8x128.size h) (fun _ => rfl)
/-- A slot of the row buffer. -/
abbrev rAt (o : Fin 4 → ℕ) (h : ∀ a, o a + S1x128x2x128.size a ≤ S2x128x2x128.size a) : Memref sig .scVector .vmem S128x2x128 .i32 :=
  ((rV).slice (Rect.unit (s := S2x128x2x128) o S1x128x2x128.size h) (fun _ => rfl)).squeeze S128x2x128 squeezes_S1x128x2x128_S128x2x128
/-- A slot of the list buffer, -/
abbrev sAt (o : Fin 3 → ℕ) (h : ∀ a, o a + S1x8x128.size a ≤ S2x8x128.size a) : Memref sig .scVector .vmem S8x128 .i32 :=
  ((sV).slice (Rect.unit (s := S2x8x128) o S1x8x128.size h) (fun _ => rfl)).squeeze S8x128 squeezes_S1x8x128_S8x128
/-- and list `p 0` of the eight in it. -/
abbrev lAt (o : Fin 3 → ℕ) (h : ∀ a, o a + S1x8x128.size a ≤ S2x8x128.size a) (p : Fin 2 → ℕ) (hp : ∀ a, p a + S1x128.size a ≤ S8x128.size a) :
    Memref sig .scVector .vmem S128 .i32 :=
  ((sAt o h).slice (Rect.unit (s := S8x128) p S1x128.size hp) (fun _ => rfl)).squeeze S128 squeezes_S1x128_S128
/-- A semaphore of a pair. -/
abbrev semAt (a : DmaSems sig S2) (o : Fin 1 → ℕ) (h : ∀ i, o i + S1.size i ≤ S2.size i) : DmaSem sig :=
  ((a.slice (Rect.unit (s := S2) o S1.size h)).squeeze S_ squeezes_S1_S_).sem
/-- The whole output, as the body slices it. -/
abbrev oAll : Memref sig .scVector .hbm S786432x2x128 .i32 :=
  (oV).slice (Rect.unit (s := S786432x2x128) ![0, 0, 0] S786432x2x128.size inb_S786432x2x128_S786432x2x128_0_0_0) (fun _ => rfl)

/-! ### The windows and the slots -/

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem l0_lt (L : grid0.Coords) : (L 0).val < 2 := (L 0).isLt
theorem l1_lt (L : grid0.Coords) : (L 1).val < 16 := (L 1).isLt
theorem base_le (L : grid0.Coords) : base L + 2048 ≤ 65536 := by
  have := l0_lt L; have := l1_lt L; unfold base; omega

/-- The first token of window `w` of tile `L` (windows counted modulo 16). -/
def row0 (w : ℕ) : ℕ := base L + 128 * (w % 16)
theorem row0_le (w : ℕ) : row0 L w + 128 ≤ 65536 := by
  have := base_le L; unfold row0; omega

abbrev xOff (w : ℕ) : Fin 3 → ℕ := ![row0 L w, 0, 0]
abbrev iOff (w : ℕ) : Fin 2 → ℕ := ![0, row0 L w]
abbrev rOff (t : ℕ) : Fin 4 → ℕ := ![t % 2, 0, 0, 0]
abbrev sOff (t : ℕ) : Fin 3 → ℕ := ![t % 2, 0, 0]
abbrev lOff (k : Fin 8) : Fin 2 → ℕ := ![k.val, 0]
abbrev mOff (t : ℕ) : Fin 1 → ℕ := ![t % 2]

theorem xOff_inb (w : ℕ) : ∀ a, xOff L w a + S128x2x128.size a ≤ S65536x2x128.size a := by
  intro a; have := row0_le L w
  match a with
  | ⟨0, _⟩ => show row0 L w + 128 ≤ 65536; omega
  | ⟨1, _⟩ => show 0 + 2 ≤ 2; omega
  | ⟨2, _⟩ => show 0 + 128 ≤ 128; omega
theorem iOff_inb (w : ℕ) : ∀ a, iOff L w a + S8x128.size a ≤ S8x65536.size a := by
  intro a; have := row0_le L w
  match a with
  | ⟨0, _⟩ => show 0 + 8 ≤ 8; omega
  | ⟨1, _⟩ => show row0 L w + 128 ≤ 65536; omega
theorem rOff_inb (t : ℕ) : ∀ a, rOff t a + S1x128x2x128.size a ≤ S2x128x2x128.size a := by
  intro a
  match a with
  | ⟨0, _⟩ => show t % 2 + 1 ≤ 2; omega
  | ⟨1, _⟩ => show 0 + 128 ≤ 128; omega
  | ⟨2, _⟩ => show 0 + 2 ≤ 2; omega
  | ⟨3, _⟩ => show 0 + 128 ≤ 128; omega
theorem sOff_inb (t : ℕ) : ∀ a, sOff t a + S1x8x128.size a ≤ S2x8x128.size a := by
  intro a
  match a with
  | ⟨0, _⟩ => show t % 2 + 1 ≤ 2; omega
  | ⟨1, _⟩ => show 0 + 8 ≤ 8; omega
  | ⟨2, _⟩ => show 0 + 128 ≤ 128; omega
theorem lOff_inb (k : Fin 8) : ∀ a, lOff k a + S1x128.size a ≤ S8x128.size a := by
  intro a
  match a with
  | ⟨0, _⟩ => show k.val + 1 ≤ 8; omega
  | ⟨1, _⟩ => show 0 + 128 ≤ 128; omega
theorem mOff_inb (t : ℕ) : ∀ a, mOff t a + S1.size a ≤ S2.size a := by
  intro a
  match a with
  | ⟨0, _⟩ => show t % 2 + 1 ≤ 2; omega

abbrev xWin (w : ℕ) : Memref sig .scVector .hbm S128x2x128 .i32 := xAt (xOff L w) (xOff_inb L w)
abbrev iWin (w : ℕ) : Memref sig .scVector .hbm S8x128 .i32 := iAt (iOff L w) (iOff_inb L w)
abbrev rSlot (t : ℕ) : Memref sig .scVector .vmem S128x2x128 .i32 := rAt (rOff t) (rOff_inb t)
abbrev sSlot (t : ℕ) : Memref sig .scVector .vmem S8x128 .i32 := sAt (sOff t) (sOff_inb t)
abbrev lSlot (t : ℕ) (k : Fin 8) : Memref sig .scVector .vmem S128 .i32 := lAt (sOff t) (sOff_inb t) (lOff k) (lOff_inb k)
abbrev semX (t : ℕ) : DmaSem sig := semAt cc0_scoped1 (mOff t) (mOff_inb t)
abbrev semI (t : ℕ) : DmaSem sig := semAt cc0_scoped3 (mOff t) (mOff_inb t)
/-- The semaphore of scatter `k`. -/
def semS : Fin 8 → DmaSem sig
  | 0 => cc0_scoped4.sem
  | 1 => cc0_scoped5.sem
  | 2 => cc0_scoped6.sem
  | 3 => cc0_scoped7.sem
  | 4 => cc0_scoped8.sem
  | 5 => cc0_scoped9.sem
  | 6 => cc0_scoped10.sem
  | 7 => cc0_scoped11.sem

/-! ### What the output is to hold -/

/-- Token `x` of window `w`. -/
def wrow (w : ℕ) (x : Fin 128) : Fin 65536 := ⟨row0 L w + x.val, by have := row0_le L w; omega⟩

/-- Every word of the lists names a row, and no two words name the same one. -/
def Distinct (I : S8x65536.Idx → BitVec 32) : Prop :=
  (∀ j, (I j).toNat < 786432) ∧ ∀ j j', (I j).toNat = (I j').toNat → j = j'

/-- The scattered rows: at a row some word names, the row of the word's token; every other row as it was. -/
def scat {α : Type} (X : S65536x2x128.Idx → α) (I : S8x65536.Idx → BitVec 32) (O0 : S786432x2x128.Idx → α) : S786432x2x128.Idx → α :=
  open scoped Classical in
  fun j => if h : ∃ p : Fin 8 × Fin 65536, (I (ix2 p.1 p.2)).toNat = (j 0).val then X (ix3 h.choose.2 (j 1) (j 2)) else O0 j

theorem scat_named {α : Type} (X : S65536x2x128.Idx → α) (I : S8x65536.Idx → BitVec 32) (O0 : S786432x2x128.Idx → α) (hI : Distinct I)
    (k : Fin 8) (r : Fin 65536) (j : S786432x2x128.Idx) (h : (I (ix2 k r)).toNat = (j 0).val) : scat X I O0 j = X (ix3 r (j 1) (j 2)) := by
  unfold scat
  have hx : ∃ p : Fin 8 × Fin 65536, (I (ix2 p.1 p.2)).toNat = (j 0).val := ⟨(k, r), h⟩
  rw [dif_pos hx]
  have e := hI.2 _ _ (hx.choose_spec.trans h.symm)
  have e1 : hx.choose.2 = r := congrFun e 1
  rw [e1]

theorem scat_other {α : Type} (X : S65536x2x128.Idx → α) (I : S8x65536.Idx → BitVec 32) (O0 : S786432x2x128.Idx → α)
    (j : S786432x2x128.Idx) (h : ∀ k r, (I (ix2 k r)).toNat ≠ (j 0).val) : scat X I O0 j = O0 j := by
  unfold scat
  rw [dif_neg (fun ⟨p, hp⟩ => h p.1 p.2 hp)]

/-- The elements of the rows that list `k` names for window `w`. -/
def oSet (I : S8x65536.Idx → BitVec 32) (w : ℕ) (k : Fin 8) : Finset S786432x2x128.Idx :=
  open scoped Classical in Finset.univ.filter fun j => ∃ x : Fin 128, (I (ix2 k (wrow L w x))).toNat = (j 0).val

theorem mem_oSet (I : S8x65536.Idx → BitVec 32) (w : ℕ) (k : Fin 8) (j : S786432x2x128.Idx) :
    j ∈ oSet L I w k ↔ ∃ x : Fin 128, (I (ix2 k (wrow L w x))).toNat = (j 0).val := by
  unfold oSet; simp

theorem emb_xWin (w : ℕ) (y : S128x2x128.Idx) : (xWin L w).view.emb y = ix3 (wrow L w (y 0)) (y 1) (y 2) := by
  funext a
  match a with
  | ⟨0, _⟩ => apply Fin.ext; show row0 L w + 1 * (y 0).val = row0 L w + (y 0).val; omega
  | ⟨1, _⟩ => apply Fin.ext; show 0 + 1 * (y 1).val = (y 1).val; omega
  | ⟨2, _⟩ => apply Fin.ext; show 0 + 1 * (y 2).val = (y 2).val; omega
theorem emb_iWin (w : ℕ) (x : S8x128.Idx) : (iWin L w).view.emb x = ix2 (x 0) (wrow L w (x 1)) := by
  funext a
  match a with
  | ⟨0, _⟩ => apply Fin.ext; show 0 + 1 * (x 0).val = (x 0).val; omega
  | ⟨1, _⟩ => apply Fin.ext; show row0 L w + 1 * (x 1).val = row0 L w + (x 1).val; omega
theorem emb_oAll (y : S786432x2x128.Idx) : oAll.view.emb y = y := by
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 0 + 1 * (y 2).val = (y 2).val; omega
/-- Word `x` of list `k` in the slot is word `(k, x)` of the slot. -/
theorem emb_lSlot (t : ℕ) (k : Fin 8) (x : S128.Idx) : (lSlot t k).view.emb x = (sSlot t).view.emb (ix2 k (x 0)) := by
  show (sSlot t).view.emb ((Rect.unit (s := S8x128) (lOff k) S1x128.size (lOff_inb k)).emb
    (Shape.reshapeEquiv squeezes_S1x128_S128.numel_eq x)) = _
  congr 1
  have h : Shape.reshapeEquiv squeezes_S1x128_S128.numel_eq x = (ix2 (0 : Fin 1) (x 0) : S1x128.Idx) :=
    Shape.reshapeEquiv_eq_of_rowMajor _ (by
      rw [Shape.rowMajor_val_two, Shape.rowMajor_val_one]
      show 0 * 128 + (x 0).val = (x 0).val; omega)
  rw [h]
  funext a
  match a with
  | ⟨0, _⟩ => apply Fin.ext; show k.val + 1 * 0 = k.val; omega
  | ⟨1, _⟩ => apply Fin.ext; show 0 + 1 * (x 0).val = (x 0).val; omega

theorem set_lSlot (t : ℕ) (k : Fin 8) : (lSlot t k).view.set ⊆ (sSlot t).view.set := by
  intro i
  simp only [View.set, Finset.mem_map, Finset.mem_univ, true_and]
  rintro ⟨x, rfl⟩
  exact ⟨_, (emb_lSlot t k x).symm⟩

/-! ### Slots and windows come back round -/

theorem sSlot_congr {t u : ℕ} (h : t % 2 = u % 2) : sSlot t = sSlot u := by
  simp only [sSlot, sOff, h]
theorem rSlot_congr {t u : ℕ} (h : t % 2 = u % 2) : rSlot t = rSlot u := by
  simp only [rSlot, rOff, h]
theorem semI_congr {t u : ℕ} (h : t % 2 = u % 2) : semI t = semI u := by
  simp only [semI, mOff, h]
theorem semX_congr {t u : ℕ} (h : t % 2 = u % 2) : semX t = semX u := by
  simp only [semX, mOff, h]

end Cert.Proof.Scattered

end
-- ==== Proof.ScatterSteps.lean ====
/-
  The scatter's transfers, one at a time: the fetch of a window of the rows and of the lists into their slots, their
  waits, the indirect scatter of a row slot onto the rows a list in the list slot names, its wait. Each is stated at any
  offsets equal to the slot's and the window's, so that the printed slices meet it as they stand.
-/
module

public import proofs.«01_k».proof.Proof.ScatterSetup
public import Idealize.ShloMosaic.Lib.SparseCore.Scatter

@[expose] public section

noncomputable section

namespace Cert.Proof.Scattered

open Cert.ScatterIdeal Cert.ScatterIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (X : Buf (Elt F) (xLoc d)) (I : Buf (Elt F) (iLoc d)) (O0 : Buf (Elt F) (oLoc d))

/-! ## What is held -/

/-- Window `w` of the rows. -/
abbrev XWin (w : ℕ) : sProp 𝕄 := iprop((xWin L w).view.loc (thr d L) ↦[(xWin L w).view.set]{fullShare} X)
/-- Window `w` of the lists. -/
abbrev IWin (w : ℕ) : sProp 𝕄 := iprop((iWin L w).view.loc (thr d L) ↦[(iWin L w).view.set]{fullShare} I)
/-- The rows of the output list `k` names for window `w`, at contents `f`. -/
abbrev OPc (f : Buf (Elt F) (oLoc d)) (w : ℕ) (k : Fin 8) : sProp 𝕄 := iprop(oLoc d ↦[oSet L I w k]{fullShare} f)
/-- A slot of the row buffer, at some contents. -/
abbrev RSl (t : ℕ) : sProp 𝕄 := iprop(∃ f, (rSlot t).view.loc (thr d L) ↦[(rSlot t).view.set]{fullShare} f)
/-- A slot of the list buffer, at some contents. -/
abbrev SSl (t : ℕ) : sProp 𝕄 := iprop(∃ f, (sSlot t).view.loc (thr d L) ↦[(sSlot t).view.set]{fullShare} f)
/-- The slot holding window `w` of the rows. -/
abbrev RFull (w t : ℕ) : sProp 𝕄 :=
  iprop(∃ f, ⌜∀ y : S128x2x128.Idx, (rSlot t).view.read (Elt F) f y = X (ix3 (wrow L w (y 0)) (y 1) (y 2))⌝
    ∗ (rSlot t).view.loc (thr d L) ↦[(rSlot t).view.set]{fullShare} f)
/-- The slot holding window `w` of the lists. -/
abbrev SFull (w t : ℕ) : sProp 𝕄 :=
  iprop(∃ f, ⌜∀ x : S8x128.Idx, (sSlot t).view.read (Elt F) f x = I (ix2 (x 0) (wrow L w (x 1)))⌝
    ∗ (sSlot t).view.loc (thr d L) ↦[(sSlot t).view.set]{fullShare} f)
/-- A semaphore at zero. -/
abbrev Zero (s : DmaSem sig) : sProp 𝕄 := iprop(semVal (thr d L, SemLoc.dma s) 0)

/-! ## What is in flight -/

abbrev NI : ℕ := (sSlot 0).view.dmaCredit
abbrev NR : ℕ := (rSlot 0).view.dmaCredit

abbrev FlX (w t : ℕ) : sProp 𝕄 :=
  Transfers.Flight countersEmb (thr d L) (.dma (semX t)) (default : HIx 1) NR iprop(RFull d L X w t ∗ XWin d L X w)
abbrev FlI (w t : ℕ) : sProp 𝕄 :=
  Transfers.Flight countersEmb (thr d L) (.dma (semI t)) (default : HIx 1) NI iprop(SFull d L I w t ∗ IWin d L I w)
/-- Scatter `k` in flight, beside the other words of the list slot. -/
abbrev FlS (w t : ℕ) (k : Fin 8) : sProp 𝕄 :=
  iprop(∃ f, ⌜∀ x : S8x128.Idx, (sSlot t).view.read (Elt F) f x = I (ix2 (x 0) (wrow L w (x 1)))⌝
    ∗ Transfers.Flight countersEmb (thr d L) (.dma (semS k)) (default : HIx 1) NR
        iprop(OPc d L I (scat X I O0) w k ∗ RFull d L X w t ∗ (lSlot t k).view.loc (thr d L) ↦[(lSlot t k).view.set]{fullShare} f)
    ∗ (sSlot t).view.loc (thr d L) ↦[(sSlot t).view.set \ (lSlot t k).view.set]{fullShare} f)

local notation "WP" => wp frame (wpE (defs₀ (F := F)) 𝒱₀ (thr d L) none) Set.univ

/-! ## The fetches -/

theorem fetchX {w t : ℕ} {o o' m} (ho : o = xOff L w) (ho' : o' = rOff t) (hm : m = mOff t) {h h' h''}
    {hsrc : (xAt o h).view.WordExact} {hdst : (rAt o' h').view.WordExact}
    {Q : PUnit → sProp 𝕄} :
    iprop(XWin d L X w ∗ RSl (F := F) d L t ∗ Zero (F := F) d L (semX t))
      ⊢ iprop((FlX d L X w t -∗ Q ⟨⟩)
          -∗ WP (Prog.lift (.enqueueDma (xAt o h) (.here (rAt o' h')) (.dma (semAt cc0_scoped1 m h'')) hsrc hdst ⟨Or.inl rfl, trivial⟩)) Q) := by
  subst ho ho' hm
  iintro ⟨Hi, ⟨%f, Hs⟩, Hz⟩ Hk
  iapply (Transfers.wp_dmaLocal countersEmb 𝒱₀ (thr d L) none (default : HIx 1) NR rfl (by decide) (Finset.Subset.refl _)) $$ [Hi Hs Hz]
  · isplitl [Hi]; · iexact Hi
    isplitl [Hs]; · iexact Hs
    iexact Hz
  iintro Hfl
  rw [wp_ret]; imodintro
  iapply Hk
  iapply (Transfers.Flight_mono countersEmb (thr d L) ?_) $$ Hfl
  iintro ⟨Hs, Hi⟩
  isplitl [Hs]
  · iexists _
    isplitr
    swap; · iexact Hs
    ipureintro
    intro x
    rw [View.read_write_univ]
    show (xWin L w).view.read (Elt F) X x = _
    exact ((View.read_apply _ _).trans (cast_eq _ _)).trans (congrArg X (emb_xWin L w x))
  · iexact Hi

theorem fetchI {w t : ℕ} {o o' m} (ho : o = iOff L w) (ho' : o' = sOff t) (hm : m = mOff t) {h h' h''}
    {hsrc : (iAt o h).view.WordExact} {hdst : (sAt o' h').view.WordExact}
    {Q : PUnit → sProp 𝕄} :
    iprop(IWin d L I w ∗ SSl (F := F) d L t ∗ Zero (F := F) d L (semI t))
      ⊢ iprop((FlI d L I w t -∗ Q ⟨⟩)
          -∗ WP (Prog.lift (.enqueueDma (iAt o h) (.here (sAt o' h')) (.dma (semAt cc0_scoped3 m h'')) hsrc hdst ⟨Or.inl rfl, trivial⟩)) Q) := by
  subst ho ho' hm
  iintro ⟨Hi, ⟨%f, Hs⟩, Hz⟩ Hk
  iapply (Transfers.wp_dmaLocal countersEmb 𝒱₀ (thr d L) none (default : HIx 1) NI rfl (by decide) (Finset.Subset.refl _)) $$ [Hi Hs Hz]
  · isplitl [Hi]; · iexact Hi
    isplitl [Hs]; · iexact Hs
    iexact Hz
  iintro Hfl
  rw [wp_ret]; imodintro
  iapply Hk
  iapply (Transfers.Flight_mono countersEmb (thr d L) ?_) $$ Hfl
  iintro ⟨Hs, Hi⟩
  isplitl [Hs]
  · iexists _
    isplitr
    swap; · iexact Hs
    ipureintro
    intro x
    rw [View.read_write_univ]
    show (iWin L w).view.read (Elt F) I x = _
    exact ((View.read_apply _ _).trans (cast_eq _ _)).trans (congrArg I (emb_iWin L w x))
  · iexact Hi

theorem fetchXWait {w t : ℕ} {o o' m} (ho : o = xOff L w) (ho' : o' = rOff t) (hm : m = mOff t) {h h' h''}
    {hsrc : (xAt o h).view.WordExact} {hdst : (rAt o' h').view.WordExact}
    {O : CellTallies nD τ sig (HIx 1)} {W : Waits sig (HIx 1)} {Q : PUnit → sProp 𝕄} :
    iprop(FlX d L X w t ∗ owes (thr d L) O W ∗ MayWait (thr d L) (.dma (semX t)) (default : HIx 1) O)
      ⊢ iprop((iprop((RFull d L X w t ∗ XWin d L X w) ∗ Zero (F := F) d L (semX t)
                ∗ owes (thr d L) O (insert (SemLoc.dma (semX t), (default : HIx 1)) W)) -∗ Q ⟨⟩)
          -∗ WP (Prog.lift (.waitDma2 (semAt cc0_scoped1 m h'') (xAt o h) (rAt o' h') hsrc hdst)) Q) := by
  subst ho ho' hm
  iintro H Hk
  iapply (Transfers.wp_waitLocalO countersEmb 𝒱₀ (thr d L) none (default : HIx 1) (rfl : (rSlot t).view.dmaCredit = NR)) $$ H
  iintro H
  rw [wp_ret]; imodintro
  iapply Hk; iexact H

theorem fetchIWait {w t : ℕ} {o o' m} (ho : o = iOff L w) (ho' : o' = sOff t) (hm : m = mOff t) {h h' h''}
    {hsrc : (iAt o h).view.WordExact} {hdst : (sAt o' h').view.WordExact}
    {O : CellTallies nD τ sig (HIx 1)} {W : Waits sig (HIx 1)} {Q : PUnit → sProp 𝕄} :
    iprop(FlI d L I w t ∗ owes (thr d L) O W ∗ MayWait (thr d L) (.dma (semI t)) (default : HIx 1) O)
      ⊢ iprop((iprop((SFull d L I w t ∗ IWin d L I w) ∗ Zero (F := F) d L (semI t)
                ∗ owes (thr d L) O (insert (SemLoc.dma (semI t), (default : HIx 1)) W)) -∗ Q ⟨⟩)
          -∗ WP (Prog.lift (.waitDma2 (semAt cc0_scoped3 m h'') (iAt o h) (sAt o' h') hsrc hdst)) Q) := by
  subst ho ho' hm
  iintro H Hk
  iapply (Transfers.wp_waitLocalO countersEmb 𝒱₀ (thr d L) none (default : HIx 1) (rfl : (sSlot t).view.dmaCredit = NI)) $$ H
  iintro H
  rw [wp_ret]; imodintro
  iapply Hk; iexact H

/-! ## The scatter of a window's rows along one list -/

theorem read_lSlot (t : ℕ) (k : Fin 8) (f : Buf (Elt F) ((sSlot t).view.loc (thr d L))) (x : S128.Idx) :
    (lSlot t k).view.read (Elt F) f x = (sSlot t).view.read (Elt F) f (ix2 k (x 0)) := by
  refine ((View.read_apply _ _).trans (cast_eq _ _)).trans (Eq.trans ?_ ((View.read_apply _ _).trans (cast_eq _ _)).symm)
  exact congrArg f (emb_lSlot t k x)

section Words

variable {w t : ℕ} {k : Fin 8} {f : Buf (Elt F) ((sSlot t).view.loc (thr d L))}

theorem word_lSlot (hf : ∀ x : S8x128.Idx, (sSlot t).view.read (Elt F) f x = I (ix2 (x 0) (wrow L w (x 1)))) (x : S128.Idx) :
    (lSlot t k).view.read (Elt F) f x = I (ix2 k (wrow L w (x 0))) := by
  rw [read_lSlot, hf]

theorem rows_val (hn : S128.numel = 128) (hf : ∀ x : S8x128.Idx, (sSlot t).view.read (Elt F) f x = I (ix2 (x 0) (wrow L w (x 1))))
    (hin : ∀ x, ((lSlot t k).view.read (Elt F) f x).toNat < 786432) (j : Fin 128) :
    (SparseCore.rows ((lSlot t k).view.read (Elt F) f) hn hin j).val = (I (ix2 k (wrow L w j))).toNat := by
  show ((lSlot t k).view.read (Elt F) f _).toNat = _
  rw [word_lSlot d L I hf]
  congr 3
  show wrow L w _ = wrow L w _
  congr 1
  apply Fin.ext
  have := Shape.rowMajor_val_one (S128.rowMajor.symm (j.cast hn.symm))
  rw [Equiv.apply_symm_apply] at this
  exact this.symm

theorem words_inj (hI : Distinct I) (hf : ∀ x : S8x128.Idx, (sSlot t).view.read (Elt F) f x = I (ix2 (x 0) (wrow L w (x 1)))) :
    Function.Injective fun x => ((lSlot t k).view.read (Elt F) f x).toNat := by
  intro x y h
  simp only [word_lSlot d L I hf] at h
  have e := congrFun (hI.2 _ _ h) 1
  have e' : wrow L w (x 0) = wrow L w (y 0) := e
  have e2 : row0 L w + (x 0).val = row0 L w + (y 0).val := congrArg Fin.val e'
  funext a
  match a with
  | ⟨0, _⟩ => apply Fin.ext; show (x 0).val = (y 0).val; omega

end Words

/-- An element of row `r` of the output is one of that row's in the view the stream writes through. -/
theorem mem_oRow (hg : S786432x2x128.Gathers 0 S128x2x128) (r : Fin 786432) (j : S786432x2x128.Idx) :
    j ∈ (oAll.view.slice (S786432x2x128.rowRect hg.axis r)).set ↔ (j 0).val = r.val := by
  constructor
  · intro h
    obtain ⟨z, -, rfl⟩ := Finset.mem_map.mp h
    show (oAll.view.emb ((S786432x2x128.rowRect hg.axis r).emb z) 0).val = r.val
    rw [emb_oAll]
    exact congrArg Fin.val (Shape.rowRect_emb_axis hg.axis r z)
  · intro h
    refine Finset.mem_map.mpr ⟨S786432x2x128.rowProj hg.axis j, Finset.mem_univ _, ?_⟩
    show oAll.view.emb ((S786432x2x128.rowRect hg.axis r).emb _) = j
    rw [emb_oAll]
    have hr : r = j hg.axis := Fin.ext h.symm
    rw [hr]
    exact Shape.rowRect_emb_rowProj hg.axis j

theorem named_eq (hg : S786432x2x128.Gathers 0 S128x2x128) (hn : S128.numel = S128x2x128.size hg.axis') {w t : ℕ} {k : Fin 8}
    {f : Buf (Elt F) ((sSlot t).view.loc (thr d L))}
    (hf : ∀ x : S8x128.Idx, (sSlot t).view.read (Elt F) f x = I (ix2 (x 0) (wrow L w (x 1))))
    (hin : ∀ x, ((lSlot t k).view.read (Elt F) f x).toNat < S786432x2x128.size hg.axis) :
    SparseCore.namedRows (thr d L) oAll.view hg.axis (SparseCore.rows ((lSlot t k).view.read (Elt F) f) hn hin) = oSet L I w k := by
  ext j
  rw [mem_oSet]
  refine Finset.mem_biUnion.trans ?_
  constructor
  · rintro ⟨x, -, hx⟩
    exact ⟨x, ((rows_val d L I hn hf hin x).symm.trans ((mem_oRow hg _ j).mp hx).symm)⟩
  · rintro ⟨x, hx⟩
    exact ⟨x, Finset.mem_univ _, (mem_oRow hg _ j).mpr (hx.symm.trans (rows_val d L I hn hf hin x).symm)⟩

/-- What the stream leaves on the rows the list names. -/
theorem scatter_value (hI : Distinct I) (hg : S786432x2x128.Gathers 0 S128x2x128) (hn : S128.numel = S128x2x128.size hg.axis') {w t : ℕ} {k : Fin 8}
    {f : Buf (Elt F) ((sSlot t).view.loc (thr d L))} {g : Buf (Elt F) ((rSlot t).view.loc (thr d L))}
    (hf : ∀ x : S8x128.Idx, (sSlot t).view.read (Elt F) f x = I (ix2 (x 0) (wrow L w (x 1))))
    (hr : ∀ y : S128x2x128.Idx, (rSlot t).view.read (Elt F) g y = X (ix3 (wrow L w (y 0)) (y 1) (y 2)))
    (hin : ∀ x, ((lSlot t k).view.read (Elt F) f x).toNat < S786432x2x128.size hg.axis)
    (hinj : Function.Injective (SparseCore.rows ((lSlot t k).view.read (Elt F) f) hn hin))
    (j : S786432x2x128.Idx) (hj : j ∈ oSet L I w k) :
    SparseCore.scatterBuf (thr d L) oAll.view hg.axis (SparseCore.rows ((lSlot t k).view.read (Elt F) f) hn hin)
        (SparseCore.scatterRowPayload (thr d L) (rSlot t) hg g) O0 j = scat X I O0 j := by
  obtain ⟨x, hx⟩ := (mem_oSet L I w k j).mp hj
  have hm : j ∈ (oAll.view.slice (S786432x2x128.rowRect hg.axis (SparseCore.rows ((lSlot t k).view.read (Elt F) f) hn hin x))).set :=
    (mem_oRow hg _ j).mpr (hx.symm.trans (rows_val d L I hn hf hin x).symm)
  refine (SparseCore.scatterBuf_of_mem (thr d L) oAll.view hg.axis _ hinj _ O0 hm).trans ?_
  rw [scat_named X I O0 hI k (wrow L w x) j hx]
  obtain ⟨z, -, hz⟩ := Finset.mem_map.mp hm
  have hz' : (S786432x2x128.rowRect hg.axis (SparseCore.rows ((lSlot t k).view.read (Elt F) f) hn hin x)).emb z = j :=
    (emb_oAll _).symm.trans hz
  rw [← hz]
  refine (View.write_emb_of_mem _ _ (Finset.mem_univ _)).trans ((cast_eq _ _).trans ?_)
  rw [hz]
  unfold SparseCore.scatterRowPayload
  show ((((rSlot t).slice (S128x2x128.rowRect hg.axis' x) (S128x2x128.stride_rowRect _ _)).view.cast hg.rowShape_eq rfl).read (Elt F) g) z = _
  refine (congrFun (View.read_cast ((rSlot t).slice (S128x2x128.rowRect hg.axis' x) (S128x2x128.stride_rowRect _ _)).view hg.rowShape_eq rfl g) z).trans ?_
  show (rSlot t).view.read (Elt F) g ((S128x2x128.rowRect hg.axis' x).emb ((Shape.idxEquiv hg.rowShape_eq).symm z)) = _
  rw [hr]
  have h0 : ((S128x2x128.rowRect hg.axis' x).emb ((Shape.idxEquiv hg.rowShape_eq).symm z)) 0 = x := Shape.rowRect_emb_axis hg.axis' x _
  have h1 : (((S128x2x128.rowRect hg.axis' x).emb ((Shape.idxEquiv hg.rowShape_eq).symm z)) 1).val = (j 1).val := by
    rw [← hz']
    refine (Shape.rowRect_emb_of_ne hg.axis' x _ (b := (1 : Fin 3)) (fun e => absurd (show (1 : ℕ) = 0 from congrArg Fin.val e) (by decide))).trans ((Shape.idxEquiv_symm_apply_val hg.rowShape_eq z (1 : Fin 3)).trans ?_)
    exact (Shape.rowRect_emb_of_ne hg.axis _ z (b := (1 : Fin 3)) (fun e => absurd (show (1 : ℕ) = 0 from congrArg Fin.val e) (by decide))).symm
  have h2 : (((S128x2x128.rowRect hg.axis' x).emb ((Shape.idxEquiv hg.rowShape_eq).symm z)) 2).val = (j 2).val := by
    rw [← hz']
    refine (Shape.rowRect_emb_of_ne hg.axis' x _ (b := (2 : Fin 3)) (fun e => absurd (show (2 : ℕ) = 0 from congrArg Fin.val e) (by decide))).trans ((Shape.idxEquiv_symm_apply_val hg.rowShape_eq z (2 : Fin 3)).trans ?_)
    exact (Shape.rowRect_emb_of_ne hg.axis _ z (b := (2 : Fin 3)) (fun e => absurd (show (2 : ℕ) = 0 from congrArg Fin.val e) (by decide))).symm
  congr 1
  funext a
  match a with
  | ⟨0, _⟩ => exact congrArg (wrow L w) h0
  | ⟨1, _⟩ => exact Fin.ext h1
  | ⟨2, _⟩ => exact Fin.ext h2

theorem send {w t : ℕ} (k : Fin 8) (hI : Distinct I) {o o' p} {s : DmaSem sig} (ho : o = sOff t) (ho' : o' = rOff t) (hp : p = lOff k) (hsem : s = semS k)
    {h h' h''} {hn hk he hs hr} {Q : PUnit → sProp 𝕄} :
    iprop(RFull d L X w t ∗ SFull d L I w t ∗ OPc d L I O0 w k ∗ Zero (F := F) d L (semS k))
      ⊢ iprop((FlS d L X I O0 w t k -∗ Q ⟨⟩)
          -∗ WP (SparseCore.enqueueIndirectScatter hk (rAt o' h') oAll gathers_S786432x2x128_S128x2x128 (lAt o h p h'') hn s he hs hr) Q) := by
  subst ho ho' hp hsem
  iintro ⟨⟨%g, %hg, Hr⟩, ⟨%f, %hf, Hs⟩, Ho, Hz⟩ Hk
  have hin : ∀ x, ((lSlot t k).view.read (Elt F) f x).toNat < 786432 := fun x => by rw [word_lSlot d L I hf]; exact hI.1 _
  have hinj : Function.Injective (SparseCore.rows ((lSlot t k).view.read (Elt F) f) hn hin) :=
    SparseCore.rows_injective (F := F) (words_inj d L I hI hf)
  have hR := SparseCore.wp_indirectScatterLocal (EC := countersEmb) (U := UU) (Name := ℕ) 𝒱₀ (thr d L) none (src := rSlot t) (dst := oAll) (offs := lSlot t k) (defs := defs₀ (F := F))
      (hg := gathers_S786432x2x128_S128x2x128) (hn := hn) (sem := semS k) (hp := hk) (he := he) (hsp := hs) (hr := hr)
      (k := fun _ => .ret ⟨⟩) (Q := Q) (q := fullShare) (qo := fullShare) (fs := g) (fd := O0) (fo := f)
      (default : HIx 1) NR (by decide) hin hinj
      (SparseCore.sum_scatterCredit_eq_srcCredit (thr d L) (rSlot t) oAll gathers_S786432x2x128_S128x2x128 rfl _ (fun _ => rfl) (fun _ => rfl))
  rw [named_eq d L I gathers_S786432x2x128_S128x2x128 hn hf hin] at hR
  ihave Hs := ((pointsTo_split_subset (set_lSlot t k)).1) $$ Hs
  icases Hs with ⟨Hl, Hs⟩
  iapply hR $$ [Hr Ho Hl Hz]
  · isplitl [Hr]; · iexact Hr
    isplitl [Ho]; · iexact Ho
    isplitl [Hl]; · iexact Hl
    iexact Hz
  iintro Hfl
  rw [wp_ret]; imodintro
  iapply Hk
  iexists f
  isplitr; · ipureintro; exact hf
  isplitl [Hfl]
  · iapply (Transfers.Flight_mono countersEmb (thr d L) ?_) $$ Hfl
    iintro ⟨Ho, Hr, Hl⟩
    isplitl [Ho]
    · iapply (Entails.of_eq (pointsTo_congr ?_)) $$ Ho
      intro j hj
      exact scatter_value d L X I O0 hI gathers_S786432x2x128_S128x2x128 hn hf hg hin hinj j hj
    isplitl [Hr]
    · iexists g
      isplitr; · ipureintro; exact hg
      iexact Hr
    iexact Hl
  iexact Hs

theorem sent {w t : ℕ} (k : Fin 8) {o'} {s : DmaSem sig} (ho' : o' = rOff t) (hsem : s = semS k) {h'}
    {hsrc : (rAt o' h').view.WordExact} {hdst : oAll.view.WordExact}
    {O : CellTallies nD τ sig (HIx 1)} {W : Waits sig (HIx 1)} {Q : PUnit → sProp 𝕄} :
    iprop(FlS d L X I O0 w t k ∗ owes (thr d L) O W ∗ MayWait (thr d L) (.dma (semS k)) (default : HIx 1) O)
      ⊢ iprop((iprop((RFull d L X w t ∗ SFull d L I w t ∗ OPc d L I (scat X I O0) w k ∗ Zero (F := F) d L (semS k))
                ∗ owes (thr d L) O (insert (SemLoc.dma (semS k), (default : HIx 1)) W)) -∗ Q ⟨⟩)
          -∗ WP (SparseCore.waitIndirectScatter s (rAt o' h') oAll hsrc hdst) Q) := by
  subst ho' hsem
  iintro ⟨⟨%f, %hf, Hfl, Hs⟩, HO, Hmw⟩ Hk
  iapply (Transfers.wp_waitLocalO countersEmb 𝒱₀ (thr d L) none (default : HIx 1) (rfl : (rSlot t).view.dmaCredit = NR)) $$ [Hfl HO Hmw]
  · isplitl [Hfl]; · iexact Hfl
    isplitl [HO]; · iexact HO
    iexact Hmw
  iintro ⟨⟨Ho, Hr, Hl⟩, Hz, HO⟩
  rw [wp_ret]; imodintro
  iapply Hk
  isplitr [HO]
  · isplitl [Hr]; · iexact Hr
    isplitl [Hs Hl]
    · iexists f
      isplitr; · ipureintro; exact hf
      iapply ((pointsTo_split_subset (set_lSlot t k)).2)
      isplitl [Hl]; · iexact Hl
      iexact Hs
    isplitl [Ho]; · iexact Ho
    iexact Hz
  iexact HO

end Cert.Proof.Scattered

end
-- ==== Proof.ScatterTrip.lean ====
/-
  One trip of the pipeline's loop. At the start of trip `t` the fetches of window `t` of the rows and of the lists are in
  flight into their slots; the trip issues the next fetches, waits for its own, and then scatters the rows eight times,
  each scatter waited for before the next is sent.
-/
module

public import proofs.«01_k».proof.Proof.ScatterSteps

@[expose] public section

noncomputable section

namespace Cert.Proof.Scattered

open Cert.ScatterIdeal Cert.ScatterIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.ScatterIdeal.main_v0_scv : Memref Cert.ScatterIdeal.sig Kind.scVector Space.hbm Cert.ScatterIdeal.S65536x2x128 EltTy.i32)
local notation "iV" => (Memref.whole Cert.ScatterIdeal.main_arg1_scv : Memref Cert.ScatterIdeal.sig Kind.scVector Space.hbm Cert.ScatterIdeal.S8x65536 EltTy.i32)
local notation "oV" => (Memref.whole Cert.ScatterIdeal.main_v1_scv : Memref Cert.ScatterIdeal.sig Kind.scVector Space.hbm Cert.ScatterIdeal.S786432x2x128 EltTy.i32)
local notation "rV" => (Memref.whole Cert.ScatterIdeal.cc0_scoped0 : Memref Cert.ScatterIdeal.sig Kind.scVector Space.vmem Cert.ScatterIdeal.S2x128x2x128 EltTy.i32)
local notation "sV" => (Memref.whole Cert.ScatterIdeal.cc0_scoped2 : Memref Cert.ScatterIdeal.sig Kind.scVector Space.vmem Cert.ScatterIdeal.S2x8x128 EltTy.i32)

variable (d : Dev nD) (L : grid0.Coords)
variable (X : Buf (Elt F) (xLoc d)) (I : Buf (Elt F) (iLoc d)) (O0 : Buf (Elt F) (oLoc d))

def win (t : ℕ) : Fin 16 := ⟨t % 16, Nat.mod_lt _ (by decide)⟩
theorem win_val {t : ℕ} (h : t < 16) : (win t).val = t := Nat.mod_eq_of_lt h
theorem win_ne {t u : ℕ} (ht : t < 16) (hu : u < 16) (h : t ≠ u) : win t ≠ win u := fun e => h (by
  rw [← win_val ht, ← win_val hu, e])

theorem SSl_congr {t u : ℕ} (h : t % 2 = u % 2) : SSl (F := F) d L t = SSl (F := F) d L u :=
  congrArg (fun M : Memref sig .scVector .vmem S8x128 .i32 =>
    (iprop(∃ f, M.view.loc (thr d L) ↦[M.view.set]{fullShare} f) : sProp 𝕄)) (sSlot_congr h)
theorem RSl_congr {t u : ℕ} (h : t % 2 = u % 2) : RSl (F := F) d L t = RSl (F := F) d L u :=
  congrArg (fun M : Memref sig .scVector .vmem S128x2x128 .i32 =>
    (iprop(∃ f, M.view.loc (thr d L) ↦[M.view.set]{fullShare} f) : sProp 𝕄)) (rSlot_congr h)

theorem RFull_RSl (w t : ℕ) : RFull d L X w t ⊢ RSl (F := F) d L t := by
  iintro ⟨%f, -, H⟩
  iexists f; iexact H
theorem SFull_SSl (w t : ℕ) : SFull d L I w t ⊢ SSl (F := F) d L t := by
  iintro ⟨%f, -, H⟩
  iexists f; iexact H

/-! ## The rows -/

/-- What is held of the rows and their two slots at the start of trip `t`, -/
def InSX (t : ℕ) : sProp 𝕄 :=
  if t < 16 then
    iprop(FlX d L X t t ∗ RSl (F := F) d L (t + 1) ∗ Zero (F := F) d L (semX (t + 1))
      ∗ bigSep (Finset.univ.erase (win t)) fun w => XWin d L X w.val)
  else
    iprop(RSl (F := F) d L t ∗ RSl (F := F) d L (t + 1) ∗ Zero (F := F) d L (semX t) ∗ Zero (F := F) d L (semX (t + 1))
      ∗ bigSep Finset.univ fun w : Fin 16 => XWin d L X w.val)
/-- and what is held beside its own fetch once the next fetch is issued. -/
def InNextX (t : ℕ) : sProp 𝕄 :=
  if t + 1 < 16 then
    iprop(FlX d L X (t + 1) (t + 1) ∗ bigSep ((Finset.univ.erase (win t)).erase (win (t + 1))) fun w => XWin d L X w.val)
  else
    iprop(RSl (F := F) d L (t + 1) ∗ Zero (F := F) d L (semX (t + 1)) ∗ bigSep (Finset.univ.erase (win t)) fun w => XWin d L X w.val)

theorem in_stepX {t : ℕ} (ht : t < 16) :
    iprop(InNextX d L X t ∗ RSl (F := F) d L t ∗ Zero (F := F) d L (semX t) ∗ XWin d L X t) ⊢ InSX d L X (t + 1) := by
  unfold InNextX InSX
  by_cases h : t + 1 < 16
  · rw [if_pos h, if_pos h, RSl_congr d L (t := t + 1 + 1) (u := t) (by omega), semX_congr (t := t + 1 + 1) (u := t) (by omega),
      SparseCore.bigSep_erase' (s := Finset.univ.erase (win (t + 1))) (i := win t)
        (Finset.mem_erase.mpr ⟨win_ne ht h (by omega), Finset.mem_univ _⟩), Finset.erase_right_comm, win_val ht]
    iintro ⟨⟨Hf, Hr⟩, Hs, Hz, Hi⟩
    isplitl [Hf]; · iexact Hf
    isplitl [Hs]; · iexact Hs
    isplitl [Hz]; · iexact Hz
    isplitl [Hi]; · iexact Hi
    iexact Hr
  · rw [if_neg h, if_neg h, RSl_congr d L (t := t + 1 + 1) (u := t) (by omega), semX_congr (t := t + 1 + 1) (u := t) (by omega),
      SparseCore.bigSep_erase' (s := Finset.univ) (i := win t) (Finset.mem_univ _), win_val ht]
    iintro ⟨⟨Hf, Hf', Hr⟩, Hs, Hz, Hi⟩
    isplitl [Hf]; · iexact Hf
    isplitl [Hs]; · iexact Hs
    isplitl [Hf']; · iexact Hf'
    isplitl [Hz]; · iexact Hz
    isplitl [Hi]; · iexact Hi
    iexact Hr

theorem in_takeX {t : ℕ} (ht : t + 1 < 16) :
    (bigSep (Finset.univ.erase (win t)) fun w => XWin d L X w.val : sProp 𝕄)
      ⊢ iprop(XWin d L X (t + 1) ∗ bigSep ((Finset.univ.erase (win t)).erase (win (t + 1))) fun w => XWin d L X w.val) := by
  rw [SparseCore.bigSep_erase' (s := Finset.univ.erase (win t)) (i := win (t + 1))
    (Finset.mem_erase.mpr ⟨win_ne (by omega) (by omega) (by omega), Finset.mem_univ _⟩), win_val ht]

/-! ## The lists -/

/-- What is held of the lists and their two slots at the start of trip `t`, -/
def InSI (t : ℕ) : sProp 𝕄 :=
  if t < 16 then
    iprop(FlI d L I t t ∗ SSl (F := F) d L (t + 1) ∗ Zero (F := F) d L (semI (t + 1))
      ∗ bigSep (Finset.univ.erase (win t)) fun w => IWin d L I w.val)
  else
    iprop(SSl (F := F) d L t ∗ SSl (F := F) d L (t + 1) ∗ Zero (F := F) d L (semI t) ∗ Zero (F := F) d L (semI (t + 1))
      ∗ bigSep Finset.univ fun w : Fin 16 => IWin d L I w.val)
/-- and what is held beside its own fetch once the next fetch is issued. -/
def InNextI (t : ℕ) : sProp 𝕄 :=
  if t + 1 < 16 then
    iprop(FlI d L I (t + 1) (t + 1) ∗ bigSep ((Finset.univ.erase (win t)).erase (win (t + 1))) fun w => IWin d L I w.val)
  else
    iprop(SSl (F := F) d L (t + 1) ∗ Zero (F := F) d L (semI (t + 1)) ∗ bigSep (Finset.univ.erase (win t)) fun w => IWin d L I w.val)

theorem in_stepI {t : ℕ} (ht : t < 16) :
    iprop(InNextI d L I t ∗ SSl (F := F) d L t ∗ Zero (F := F) d L (semI t) ∗ IWin d L I t) ⊢ InSI d L I (t + 1) := by
  unfold InNextI InSI
  by_cases h : t + 1 < 16
  · rw [if_pos h, if_pos h, SSl_congr d L (t := t + 1 + 1) (u := t) (by omega), semI_congr (t := t + 1 + 1) (u := t) (by omega),
      SparseCore.bigSep_erase' (s := Finset.univ.erase (win (t + 1))) (i := win t)
        (Finset.mem_erase.mpr ⟨win_ne ht h (by omega), Finset.mem_univ _⟩), Finset.erase_right_comm, win_val ht]
    iintro ⟨⟨Hf, Hr⟩, Hs, Hz, Hi⟩
    isplitl [Hf]; · iexact Hf
    isplitl [Hs]; · iexact Hs
    isplitl [Hz]; · iexact Hz
    isplitl [Hi]; · iexact Hi
    iexact Hr
  · rw [if_neg h, if_neg h, SSl_congr d L (t := t + 1 + 1) (u := t) (by omega), semI_congr (t := t + 1 + 1) (u := t) (by omega),
      SparseCore.bigSep_erase' (s := Finset.univ) (i := win t) (Finset.mem_univ _), win_val ht]
    iintro ⟨⟨Hf, Hf', Hr⟩, Hs, Hz, Hi⟩
    isplitl [Hf]; · iexact Hf
    isplitl [Hs]; · iexact Hs
    isplitl [Hf']; · iexact Hf'
    isplitl [Hz]; · iexact Hz
    isplitl [Hi]; · iexact Hi
    iexact Hr

theorem in_takeI {t : ℕ} (ht : t + 1 < 16) :
    (bigSep (Finset.univ.erase (win t)) fun w => IWin d L I w.val : sProp 𝕄)
      ⊢ iprop(IWin d L I (t + 1) ∗ bigSep ((Finset.univ.erase (win t)).erase (win (t + 1))) fun w => IWin d L I w.val) := by
  rw [SparseCore.bigSep_erase' (s := Finset.univ.erase (win t)) (i := win (t + 1))
    (Finset.mem_erase.mpr ⟨win_ne (by omega) (by omega) (by omega), Finset.mem_univ _⟩), win_val ht]

/-- What the core owes, with the waits recorded so far. -/
def Ow (O : CellTallies nD τ sig (HIx 1)) (W : Waits sig (HIx 1)) : sProp 𝕄 :=
  iprop(∃ W', ⌜∀ p ∈ W', p ∈ W ∨ p.2 = none⌝ ∗ owes (thr d L) O W')

theorem Ow_open {O : CellTallies nD τ sig (HIx 1)} {W : Waits sig (HIx 1)} :
    Ow (F := F) d L O W ⊢ iprop(∃ W', ⌜∀ p ∈ W', p ∈ W ∨ p.2 = none⌝ ∗ owes (thr d L) O W') := .rfl

theorem Ow_insert {O : CellTallies nD τ sig (HIx 1)} {W W' : Waits sig (HIx 1)} (h : ∀ p ∈ W', p ∈ W ∨ p.2 = none) (s : SemLoc sig) :
    (owes (thr d L) O (insert (s, (default : HIx 1)) W') : sProp 𝕄) ⊢ Ow d L O W := by
  unfold Ow
  iintro H
  iexists _
  isplitr
  swap; · iexact H
  ipureintro
  intro p hp
  rcases Finset.mem_insert.mp hp with hp | hp
  · exact .inr (hp ▸ rfl)
  · exact h p hp

local notation "WP" => wp frame (wpE (defs₀ (F := F)) 𝒱₀ (thr d L) none) Set.univ

/-- A side condition that holds. -/
theorem assumed {p : Prop} {dc : Decidable p} (h : p) {Q : PLift p → sProp 𝕄} : Q ⟨h⟩ ⊢ WP (Prog.lift (.assume p dc)) Q := by
  have h1 := wp_assume_of (Ix := HIx 1) (Name := ℕ) (U := UU) (Lvl := ℕ) (defs := defs₀ (F := F)) 𝒱₀ (thr d L) none Set.univ (P := p) (d := dc) (k := fun x => .ret x) (Q := Q) h
  rw [wp_ret] at h1
  iintro H
  iapply (Entails.of_eq h1.symm)
  imodintro; iexact H

/-- The next fetch, issued while a window is left. -/
theorem ifFetchX {α : Type} {t : ℕ} (ht : t < 16) {c : Prop} [Decidable c] (hc : c ↔ t < 15) {o o' m} (ho : t < 15 → o = xOff L (t + 1))
    (ho' : o' = rOff (t + 1)) (hm : m = mOff (t + 1))
    {h : c → ∀ a, o a + S128x2x128.size a ≤ S65536x2x128.size a} {h' : c → ∀ a, o' a + S1x128x2x128.size a ≤ S2x128x2x128.size a} {h'' : c → ∀ a, m a + S1.size a ≤ S2.size a}
    {hsrc : ∀ x : c, (xAt o (h x)).view.WordExact} {hdst : ∀ x : c, (rAt o' (h' x)).view.WordExact} {k : Prog (TpuEff nD τ sig (Elt F) Λ₀ (.scVector (cV L) (jV L))) α} {Q : α → sProp 𝕄} :
    InSX d L X t ⊢ iprop((iprop(FlX d L X t t ∗ InNextX d L X t) -∗ WP k Q)
      -∗ WP (if x : c then (do
          Prog.lift (.enqueueDma (xAt o (h x)) (.here (rAt o' (h' x))) (.dma (semAt cc0_scoped1 m (h'' x))) (hsrc x) (hdst x) ⟨Or.inl rfl, trivial⟩)
          k) else k) Q) := by
  unfold InSX InNextX
  rw [if_pos ht]
  iintro ⟨Hf, Hs, Hz, Hr⟩ Hk
  by_cases hx : t < 15
  · rw [dif_pos (hc.mpr hx), if_pos (show t + 1 < 16 by omega), wp_bind]
    ihave Hr := (in_takeX d L X (t := t) (by omega)) $$ Hr
    icases Hr with ⟨Hi, Hr⟩
    iapply (fetchX d L X (ho hx) ho' hm) $$ [Hi Hs Hz]
    · isplitl [Hi]; · iexact Hi
      isplitl [Hs]; · iexact Hs
      iexact Hz
    iintro Hf'
    iapply Hk
    isplitl [Hf]; · iexact Hf
    isplitl [Hf']; · iexact Hf'
    iexact Hr
  · rw [dif_neg (fun h => hx (hc.mp h)), if_neg (show ¬ t + 1 < 16 by omega)]
    iapply Hk
    isplitl [Hf]; · iexact Hf
    isplitl [Hs]; · iexact Hs
    isplitl [Hz]; · iexact Hz
    iexact Hr

/-- The next fetch, issued while a window is left. -/
theorem ifFetchI {α : Type} {t : ℕ} (ht : t < 16) {c : Prop} [Decidable c] (hc : c ↔ t < 15) {o o' m} (ho : t < 15 → o = iOff L (t + 1))
    (ho' : o' = sOff (t + 1)) (hm : m = mOff (t + 1))
    {h : c → ∀ a, o a + S8x128.size a ≤ S8x65536.size a} {h' : c → ∀ a, o' a + S1x8x128.size a ≤ S2x8x128.size a} {h'' : c → ∀ a, m a + S1.size a ≤ S2.size a}
    {hsrc : ∀ x : c, (iAt o (h x)).view.WordExact} {hdst : ∀ x : c, (sAt o' (h' x)).view.WordExact} {k : Prog (TpuEff nD τ sig (Elt F) Λ₀ (.scVector (cV L) (jV L))) α} {Q : α → sProp 𝕄} :
    InSI d L I t ⊢ iprop((iprop(FlI d L I t t ∗ InNextI d L I t) -∗ WP k Q)
      -∗ WP (if x : c then (do
          Prog.lift (.enqueueDma (iAt o (h x)) (.here (sAt o' (h' x))) (.dma (semAt cc0_scoped3 m (h'' x))) (hsrc x) (hdst x) ⟨Or.inl rfl, trivial⟩)
          k) else k) Q) := by
  unfold InSI InNextI
  rw [if_pos ht]
  iintro ⟨Hf, Hs, Hz, Hr⟩ Hk
  by_cases hx : t < 15
  · rw [dif_pos (hc.mpr hx), if_pos (show t + 1 < 16 by omega), wp_bind]
    ihave Hr := (in_takeI d L I (t := t) (by omega)) $$ Hr
    icases Hr with ⟨Hi, Hr⟩
    iapply (fetchI d L I (ho hx) ho' hm) $$ [Hi Hs Hz]
    · isplitl [Hi]; · iexact Hi
      isplitl [Hs]; · iexact Hs
      iexact Hz
    iintro Hf'
    iapply Hk
    isplitl [Hf]; · iexact Hf
    isplitl [Hf']; · iexact Hf'
    iexact Hr
  · rw [dif_neg (fun h => hx (hc.mp h)), if_neg (show ¬ t + 1 < 16 by omega)]
    iapply Hk
    isplitl [Hf]; · iexact Hf
    isplitl [Hs]; · iexact Hs
    isplitl [Hz]; · iexact Hz
    iexact Hr

/-! ## The eight scatters of a window -/

/-- The rows list `k` names, once the lists below `n` are scattered. -/
abbrev OPiece (w n : ℕ) (k : Fin 8) : sProp 𝕄 := OPc d L I (if k.val < n then scat X I O0 else O0) w k

/-- Between scatters: the first `n` are done. -/
def St (w t n : ℕ) : sProp 𝕄 :=
  iprop(RFull d L X w t ∗ SFull d L I w t ∗ (bigSep Finset.univ fun k : Fin 8 => Zero (F := F) d L (semS k))
    ∗ bigSep Finset.univ fun k : Fin 8 => OPiece d L X I O0 w n k)
/-- Scatter `n` in flight. -/
def Mid (w t : ℕ) (n : Fin 8) : sProp 𝕄 :=
  iprop(FlS d L X I O0 w t n ∗ (bigSep (Finset.univ.erase n) fun k : Fin 8 => Zero (F := F) d L (semS k))
    ∗ bigSep (Finset.univ.erase n) fun k : Fin 8 => OPiece d L X I O0 w n.val k)

theorem sendS {w t m : ℕ} (n : Fin 8) (hm : n.val = m) (hI : Distinct I) {o o' p} {s : DmaSem sig} (ho : o = sOff t) (ho' : o' = rOff t) (hp : p = lOff n) (hsem : s = semS n)
    {h h' h''} {hn hk he hs hr} {Q : PUnit → sProp 𝕄} :
    St d L X I O0 w t m
      ⊢ iprop((Mid d L X I O0 w t n -∗ Q ⟨⟩)
          -∗ WP (SparseCore.enqueueIndirectScatter hk (rAt o' h') oAll gathers_S786432x2x128_S128x2x128 (lAt o h p h'') hn s he hs hr) Q) := by
  subst hm
  unfold St Mid
  rw [SparseCore.bigSep_erase' (s := Finset.univ) (i := n) (Φ := fun k : Fin 8 => Zero (F := F) d L (semS k)) (Finset.mem_univ _),
    SparseCore.bigSep_erase' (s := Finset.univ) (i := n) (Φ := fun k : Fin 8 => OPiece d L X I O0 w n.val k) (Finset.mem_univ _),
    show OPiece d L X I O0 w n.val n = OPc d L I O0 w n by rw [OPiece, if_neg (lt_irrefl _)]]
  iintro ⟨Hr, Hs, ⟨Hz, Hzr⟩, Ho, Hor⟩ Hk
  iapply (send d L X I O0 n hI ho ho' hp hsem) $$ [Hr Hs Hz Ho]
  · isplitl [Hr]; · iexact Hr
    isplitl [Hs]; · iexact Hs
    isplitl [Ho]; · iexact Ho
    iexact Hz
  iintro Hf
  iapply Hk
  isplitl [Hf]; · iexact Hf
  isplitl [Hzr]; · iexact Hzr
  iexact Hor

theorem sentS {w t m : ℕ} (n : Fin 8) (hm : n.val + 1 = m) {o'} {s : DmaSem sig} (ho' : o' = rOff t) (hsem : s = semS n) {h'}
    {hsrc : (rAt o' h').view.WordExact} {hdst : oAll.view.WordExact}
    {O : CellTallies nD τ sig (HIx 1)} {W : Waits sig (HIx 1)} {Q : PUnit → sProp 𝕄} :
    iprop(Transfers.MayWaits (thr d L) (default : HIx 1) O ∗ Mid d L X I O0 w t n ∗ Ow (F := F) d L O W)
      ⊢ iprop((iprop(St d L X I O0 w t m ∗ Ow (F := F) d L O W) -∗ Q ⟨⟩)
          -∗ WP (SparseCore.waitIndirectScatter s (rAt o' h') oAll hsrc hdst) Q) := by
  subst hm
  unfold St Mid
  rw [SparseCore.bigSep_erase' (s := Finset.univ) (i := n) (Φ := fun k : Fin 8 => Zero (F := F) d L (semS k)) (Finset.mem_univ _),
    SparseCore.bigSep_erase' (s := Finset.univ) (i := n) (Φ := fun k : Fin 8 => OPiece d L X I O0 w (n.val + 1) k) (Finset.mem_univ _),
    show OPiece d L X I O0 w (n.val + 1) n = OPc d L I (scat X I O0) w n by rw [OPiece, if_pos (by omega)],
    bigSep_congr (s := Finset.univ.erase n) (Φ := fun k : Fin 8 => OPiece d L X I O0 w (n.val + 1) k)
      (Ψ := fun k : Fin 8 => OPiece d L X I O0 w n.val k) fun k hk => by
        have h1 : k ≠ n := (Finset.mem_erase.mp hk).1
        have h2 : k.val ≠ n.val := fun e => h1 (Fin.ext e)
        have h3 : (k.val < n.val + 1) = (k.val < n.val) := propext ⟨fun h => by omega, fun h => by omega⟩
        simp only [OPiece, h3]]
  iintro ⟨Hmw, ⟨Hf, Hzr, Hor⟩, HO⟩ Hk
  ihave HO := (Ow_open (F := F) d L) $$ HO
  icases HO with ⟨%W', %hW, HO⟩
  iapply (sent d L X I O0 (w := w) (t := t) n ho' hsem) $$ [Hf HO Hmw]
  · isplitl [Hf]; · iexact Hf
    isplitl [HO]; · iexact HO
    iapply (Transfers.MayWaits.elim (SemLoc.dma (semS n))) $$ Hmw
  iintro ⟨⟨Hr, Hs, Ho, Hz⟩, HO⟩
  iapply Hk
  isplitr [HO]
  · isplitl [Hr]; · iexact Hr
    isplitl [Hs]; · iexact Hs
    isplitl [Hz Hzr]
    · isplitl [Hz]; · iexact Hz
      iexact Hzr
    isplitl [Ho]; · iexact Ho
    iexact Hor
  iapply (Ow_insert (F := F) d L hW) $$ HO

/-! ## The output -/

/-- The output's rows of the tile: the windows below `t` are scattered. -/
def OutS (t : ℕ) : sProp 𝕄 :=
  bigSep Finset.univ fun w : Fin 16 => bigSep Finset.univ fun k : Fin 8 => OPc d L I (if w.val < t then scat X I O0 else O0) w.val k
/-- All of them but window `t`. -/
def OutRest (t : ℕ) : sProp 𝕄 :=
  bigSep (Finset.univ.erase (win t)) fun w : Fin 16 => bigSep Finset.univ fun k : Fin 8 => OPc d L I (if w.val < t then scat X I O0 else O0) w.val k

theorem out_take {t : ℕ} (ht : t < 16) :
    OutS d L X I O0 t ⊢ iprop((bigSep Finset.univ fun k : Fin 8 => OPiece d L X I O0 t 0 k) ∗ OutRest d L X I O0 t) := by
  unfold OutS OutRest
  rw [SparseCore.bigSep_erase' (s := Finset.univ) (i := win t) (Finset.mem_univ _), win_val ht, if_neg (lt_irrefl _)]
  simp only [OPiece, Nat.not_lt_zero, if_false]
  exact .rfl

theorem out_put {t : ℕ} (ht : t < 16) :
    iprop((bigSep Finset.univ fun k : Fin 8 => OPiece d L X I O0 t 8 k) ∗ OutRest d L X I O0 t) ⊢ OutS d L X I O0 (t + 1) := by
  unfold OutS OutRest
  rw [SparseCore.bigSep_erase' (s := Finset.univ) (i := win t) (Finset.mem_univ _), win_val ht, if_pos (by omega),
    bigSep_congr (s := Finset.univ.erase (win t))
      (Φ := fun w : Fin 16 => bigSep Finset.univ fun k : Fin 8 => OPc d L I (if w.val < t + 1 then scat X I O0 else O0) w.val k)
      (Ψ := fun w : Fin 16 => bigSep Finset.univ fun k : Fin 8 => OPc d L I (if w.val < t then scat X I O0 else O0) w.val k) fun w hw => by
        have h1 : w ≠ win t := (Finset.mem_erase.mp hw).1
        have h2 : w.val ≠ t := fun e => h1 (Fin.ext (e.trans (win_val ht).symm))
        have h3 : (w.val < t + 1) = (w.val < t) := propext ⟨fun h => by omega, fun h => by omega⟩
        simp only [h3],
    bigSep_congr (s := Finset.univ) (Φ := fun k : Fin 8 => OPiece d L X I O0 t 8 k) (Ψ := fun k : Fin 8 => OPc d L I (scat X I O0) t k) fun k _ => by
      rw [OPiece, if_pos k.isLt]]

/-! ## The trip -/

def Inv (O : CellTallies nD τ sig (HIx 1)) (W : Waits sig (HIx 1)) (t : ℕ) (acc : Carry) : sProp 𝕄 :=
  iprop(⌜acc = carry t⌝ ∗ Transfers.MayWaits (thr d L) (default : HIx 1) O ∗ (bigSep Finset.univ fun k : Fin 8 => Zero (F := F) d L (semS k))
    ∗ Ow (F := F) d L O W ∗ InSX d L X t ∗ InSI d L I t ∗ OutS d L X I O0 t)

/-- The tile's number times the windows of a tile, as the kernel counts them. -/
abbrev tileNo (L : grid0.Coords) : BitVec 32 :=
  Scalar.muli (Scalar.addi (Scalar.addi 0#32 (Scalar.muli (BitVec.ofNat 32 (L 1).val) 1#32)) (Scalar.muli (BitVec.ofNat 32 (L 0).val) 16#32)) 16#32

/-- The body's own arithmetic takes the carried values of trip `t` to those of trip `t + 1`. -/
theorem carry_next : ∀ (L : grid0.Coords) (t : Fin k0_t1_loop.trips),
    (Scalar.select
        (Scalar.andi
          (Scalar.andi
            (Scalar.cmpi CmpIPredicate.ne (Scalar.addi (c10 ↑t) (tileNo L))
              (Scalar.addi
                (Scalar.select
                  (Scalar.cmpi CmpIPredicate.eq (Scalar.select (1#1) (Scalar.addi (c10 ↑t) 1#32) (c10 ↑t)) 16#32) (0#32)
                  (Scalar.select (1#1) (Scalar.addi (c10 ↑t) 1#32) (c10 ↑t)))
                (tileNo L)))
            (Scalar.xori (Scalar.cmpi CmpIPredicate.sge (Scf.iv 0#32 1#32 ↑t) 15#32) 1#1))
          1#1)
        (Scalar.addi (c6 ↑t) 1#32) (c6 ↑t),
      Scalar.select
        (Scalar.ori
          (Scalar.cmpi CmpIPredicate.ne (Scalar.addi (c10 ↑t) (tileNo L))
            (Scalar.addi
              (Scalar.select
                (Scalar.cmpi CmpIPredicate.eq (Scalar.select (1#1) (Scalar.addi (c10 ↑t) 1#32) (c10 ↑t)) 16#32) (0#32)
                (Scalar.select (1#1) (Scalar.addi (c10 ↑t) 1#32) (c10 ↑t)))
              (tileNo L)))
          (Scalar.cmpi CmpIPredicate.eq (Scf.iv 0#32 1#32 ↑t) 15#32))
        (Scalar.addi (c7 ↑t) 1#32) (c7 ↑t),
      Scalar.select
        (Scalar.andi
          (Scalar.andi
            (Scalar.cmpi CmpIPredicate.ne (Scalar.addi (c10 ↑t) (tileNo L))
              (Scalar.addi
                (Scalar.select
                  (Scalar.cmpi CmpIPredicate.eq (Scalar.select (1#1) (Scalar.addi (c10 ↑t) 1#32) (c10 ↑t)) 16#32) (0#32)
                  (Scalar.select (1#1) (Scalar.addi (c10 ↑t) 1#32) (c10 ↑t)))
                (tileNo L)))
            (Scalar.xori (Scalar.cmpi CmpIPredicate.sge (Scf.iv 0#32 1#32 ↑t) 15#32) 1#1))
          1#1)
        (Scalar.addi (c6 ↑t) 1#32) (c6 ↑t),
      Scalar.select
        (Scalar.ori
          (Scalar.cmpi CmpIPredicate.ne (Scalar.addi (c10 ↑t) (tileNo L))
            (Scalar.addi
              (Scalar.select
                (Scalar.cmpi CmpIPredicate.eq (Scalar.select (1#1) (Scalar.addi (c10 ↑t) 1#32) (c10 ↑t)) 16#32) (0#32)
                (Scalar.select (1#1) (Scalar.addi (c10 ↑t) 1#32) (c10 ↑t)))
              (tileNo L)))
          (Scalar.cmpi CmpIPredicate.eq (Scf.iv 0#32 1#32 ↑t) 15#32))
        (Scalar.addi (c7 ↑t) 1#32) (c7 ↑t),
      Scalar.select (Scalar.cmpi CmpIPredicate.eq (Scalar.select (1#1) (Scalar.addi (c10 ↑t) 1#32) (c10 ↑t)) 16#32)
        (0#32) (Scalar.select (1#1) (Scalar.addi (c10 ↑t) 1#32) (c10 ↑t))) =
    carry (↑t + 1) := by
  decide +kernel

set_option maxHeartbeats 8000000 in
theorem trip (hI : Distinct I) (O : CellTallies nD τ sig (HIx 1)) (W : Waits sig (HIx 1))
    (t : Fin k0_t1_loop.trips) (acc : Carry) :
    Inv d L X I O0 O W t acc
      ⊢ WP (k0_t1_body L xV (Memref.isWhole_whole _) iV (Memref.isWhole_whole _) oV (Memref.isWhole_whole _) rV (Memref.isWhole_whole _)
          cc0_scoped1 sV (Memref.isWhole_whole _) cc0_scoped3 cc0_scoped4 cc0_scoped5 cc0_scoped6 cc0_scoped7 cc0_scoped8 cc0_scoped9 cc0_scoped10 cc0_scoped11
          (tileNo L) (Scalar.addi 0#32 (tileNo L)) t acc) (Inv d L X I O0 O W (t.val + 1)) := by
  have ht : t.val < 16 := lt_of_lt_of_eq t.isLt trips_eq
  have hrow : ∀ k, k < 16 → row0 L k = 2048 * (L 1).val + 32768 * (L 0).val + 128 * k := fun k hk => by
    rw [row0, base, Nat.mod_eq_of_lt hk]
  unfold Inv
  iintro ⟨%hacc, #Hmw, Hzs, HO, HinX, HinI, Hout⟩
  subst hacc
  unfold k0_t1_body
  simp only [k0_part1_eq_skeleton]
  unfold k0_part1_skel
  simp only [wp_bind]
  iapply (assumed (F := F) d L (chk3_ok t))
  iapply (assumed (F := F) d L (chk2_ok t))
  iapply (assumed (F := F) d L (chk1_ok L t))
  iapply (ifFetchX d L X ht (cond1_iff L t) (fun h => by rw [off7_eq L t h, xOff, hrow _ (by omega)]) (off6_eq t) (off8_eq t)) $$ HinX
  iintro ⟨HfX, HnextX⟩
  rw [wp_pure]; imodintro
  simp only [k0_part2_eq_skeleton]
  unfold k0_part2_skel
  simp only [dif_pos (cond3_one L t), dif_pos (cond4_one L t)]
  iapply (ifFetchI d L I ht (cond2_iff L t) (fun h => by rw [off10_eq L t h, iOff, hrow _ (by omega)]) (off9_eq t) (off11_eq t)) $$ HinI
  iintro ⟨HfI, HnextI⟩
  simp only [wp_bind]
  ihave HO := (Ow_open (F := F) d L) $$ HO
  icases HO with ⟨%W', %hW, HO⟩
  iapply (fetchXWait d L X (w := t) (t := t) (by rw [off13_eq L t, xOff, hrow _ ht]) (off12_eq t) (off14_eq t)) $$ [HfX HO]
  · isplitl [HfX]; · iexact HfX
    isplitl [HO]; · iexact HO
    iapply (Transfers.MayWaits.elim (SemLoc.dma (semX t))) $$ Hmw
  iintro ⟨⟨Hr, HiX⟩, HzX, HO⟩
  ihave HO := (Ow_insert (F := F) d L hW _) $$ HO
  ihave HO := (Ow_open (F := F) d L) $$ HO
  icases HO with ⟨%W'', %hW', HO⟩
  iapply (fetchIWait d L I (w := t) (t := t) (by rw [off16_eq L t, iOff, hrow _ ht]) (off15_eq t) (off17_eq t)) $$ [HfI HO]
  · isplitl [HfI]; · iexact HfI
    isplitl [HO]; · iexact HO
    iapply (Transfers.MayWaits.elim (SemLoc.dma (semI t))) $$ Hmw
  iintro ⟨⟨Hs, HiI⟩, HzI, HO⟩
  ihave HO := (Ow_insert (F := F) d L hW' _) $$ HO
  ihave Hout := (out_take d L X I O0 ht) $$ Hout
  icases Hout with ⟨Ho, Hout⟩
  ihave HS := (show iprop(RFull d L X t t ∗ SFull d L I t t ∗ (bigSep Finset.univ fun k : Fin 8 => Zero (F := F) d L (semS k))
    ∗ bigSep Finset.univ fun k : Fin 8 => OPiece d L X I O0 t 0 k) ⊢ St d L X I O0 t t 0 from .rfl) $$ [Hr Hs Hzs Ho]
  · isplitl [Hr]; · iexact Hr
    isplitl [Hs]; · iexact Hs
    isplitl [Hzs]; · iexact Hzs
    iexact Ho
  iapply (sendS d L X I O0 (w := t) (m := 0) (p := ![0, 0]) (s := cc0_scoped4.sem) 0 rfl hI (off19_eq t) (off18_eq t) rfl rfl) $$ HS
  iintro HS
  rw [wp_pure]; imodintro
  simp only [k0_part3_eq_skeleton]
  unfold k0_part3_skel
  simp only [ite_self, wp_bind]
  iapply (sentS d L X I O0 (w := t) (m := 1) (s := cc0_scoped4.sem) 0 rfl (off18_eq t) rfl) $$ [HS HO]
  · isplitr; · iexact Hmw
    isplitl [HS]; · iexact HS
    iexact HO
  iintro ⟨HS, HO⟩
  iapply (sendS d L X I O0 (w := t) (m := 1) (p := ![1, 0]) (s := cc0_scoped5.sem) 1 rfl hI (off19_eq t) (off18_eq t) rfl rfl) $$ HS
  iintro HS
  iapply (sentS d L X I O0 (w := t) (m := 2) (s := cc0_scoped5.sem) 1 rfl (off18_eq t) rfl) $$ [HS HO]
  · isplitr; · iexact Hmw
    isplitl [HS]; · iexact HS
    iexact HO
  iintro ⟨HS, HO⟩
  iapply (sendS d L X I O0 (w := t) (m := 2) (p := ![2, 0]) (s := cc0_scoped6.sem) 2 rfl hI (off19_eq t) (off18_eq t) rfl rfl) $$ HS
  iintro HS
  rw [wp_pure]; imodintro
  simp only [k0_part4_eq_skeleton]
  unfold k0_part4_skel
  simp only [ite_self, wp_bind]
  iapply (sentS d L X I O0 (w := t) (m := 3) (s := cc0_scoped6.sem) 2 rfl (off18_eq t) rfl) $$ [HS HO]
  · isplitr; · iexact Hmw
    isplitl [HS]; · iexact HS
    iexact HO
  iintro ⟨HS, HO⟩
  iapply (sendS d L X I O0 (w := t) (m := 3) (p := ![3, 0]) (s := cc0_scoped7.sem) 3 rfl hI (off19_eq t) (off18_eq t) rfl rfl) $$ HS
  iintro HS
  iapply (sentS d L X I O0 (w := t) (m := 4) (s := cc0_scoped7.sem) 3 rfl (off18_eq t) rfl) $$ [HS HO]
  · isplitr; · iexact Hmw
    isplitl [HS]; · iexact HS
    iexact HO
  iintro ⟨HS, HO⟩
  rw [wp_pure]; imodintro
  simp only [k0_part5_eq_skeleton]
  unfold k0_part5_skel
  simp only [ite_self, wp_bind]
  iapply (sendS d L X I O0 (w := t) (m := 4) (p := ![4, 0]) (s := cc0_scoped8.sem) 4 rfl hI (off19_eq t) (off18_eq t) rfl rfl) $$ HS
  iintro HS
  iapply (sentS d L X I O0 (w := t) (m := 5) (s := cc0_scoped8.sem) 4 rfl (off18_eq t) rfl) $$ [HS HO]
  · isplitr; · iexact Hmw
    isplitl [HS]; · iexact HS
    iexact HO
  iintro ⟨HS, HO⟩
  iapply (sendS d L X I O0 (w := t) (m := 5) (p := ![5, 0]) (s := cc0_scoped9.sem) 5 rfl hI (off19_eq t) (off18_eq t) rfl rfl) $$ HS
  iintro HS
  rw [wp_pure]; imodintro
  simp only [k0_part6_eq_skeleton]
  unfold k0_part6_skel
  simp only [ite_self, wp_bind]
  iapply (sentS d L X I O0 (w := t) (m := 6) (s := cc0_scoped9.sem) 5 rfl (off18_eq t) rfl) $$ [HS HO]
  · isplitr; · iexact Hmw
    isplitl [HS]; · iexact HS
    iexact HO
  iintro ⟨HS, HO⟩
  iapply (sendS d L X I O0 (w := t) (m := 6) (p := ![6, 0]) (s := cc0_scoped10.sem) 6 rfl hI (off19_eq t) (off18_eq t) rfl rfl) $$ HS
  iintro HS
  iapply (sentS d L X I O0 (w := t) (m := 7) (s := cc0_scoped10.sem) 6 rfl (off18_eq t) rfl) $$ [HS HO]
  · isplitr; · iexact Hmw
    isplitl [HS]; · iexact HS
    iexact HO
  iintro ⟨HS, HO⟩
  iapply (sendS d L X I O0 (w := t) (m := 7) (p := ![7, 0]) (s := cc0_scoped11.sem) 7 rfl hI (off19_eq t) (off18_eq t) rfl rfl) $$ HS
  iintro HS
  rw [wp_pure]; imodintro
  simp only [k0_part7_eq_skeleton]
  unfold k0_part7_skel
  simp only [ite_self, wp_bind]
  iapply (sentS d L X I O0 (w := t) (m := 8) (s := cc0_scoped11.sem) 7 rfl (off18_eq t) rfl) $$ [HS HO]
  · isplitr; · iexact Hmw
    isplitl [HS]; · iexact HS
    iexact HO
  iintro ⟨HS, HO⟩
  simp only [wp_pure]
  repeat imodintro
  ihave HS := (show St d L X I O0 t t 8 ⊢ iprop(RFull d L X t t ∗ SFull d L I t t ∗ (bigSep Finset.univ fun k : Fin 8 => Zero (F := F) d L (semS k))
    ∗ bigSep Finset.univ fun k : Fin 8 => OPiece d L X I O0 t 8 k) from .rfl) $$ HS
  icases HS with ⟨Hr, Hs, Hzs, Ho⟩
  isplitr
  · ipureintro
    exact carry_next L t
  isplitr; · iexact Hmw
  isplitl [Hzs]; · iexact Hzs
  isplitl [HO]; · iexact HO
  isplitl [HnextX Hr HzX HiX]
  · iapply (in_stepX d L X ht)
    isplitl [HnextX]; · iexact HnextX
    isplitl [Hr]; · iapply (RFull_RSl d L X t t) $$ Hr
    isplitl [HzX]; · iexact HzX
    iexact HiX
  isplitl [HnextI Hs HzI HiI]
  · iapply (in_stepI d L I ht)
    isplitl [HnextI]; · iexact HnextI
    isplitl [Hs]; · iapply (SFull_SSl d L I t t) $$ Hs
    isplitl [HzI]; · iexact HzI
    iexact HiI
  iapply (out_put d L X I O0 ht)
  isplitl [Ho]; · iexact Ho
  iexact Hout

end Cert.Proof.Scattered

end
-- ==== Proof.ScatterTile.lean ====
/-
  The task of one vector subcore, whole: the first fetches and the loop, from the subcore's windows of the rows and of the
  lists and the output's rows its lists name, its two buffers and twelve semaphores.
-/
module

public import proofs.«01_k».proof.Proof.ScatterTrip

@[expose] public section

noncomputable section

namespace Cert.Proof.Scattered

open Cert.ScatterIdeal Cert.ScatterIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.ScatterIdeal.main_v0_scv : Memref Cert.ScatterIdeal.sig Kind.scVector Space.hbm Cert.ScatterIdeal.S65536x2x128 EltTy.i32)
local notation "iV" => (Memref.whole Cert.ScatterIdeal.main_arg1_scv : Memref Cert.ScatterIdeal.sig Kind.scVector Space.hbm Cert.ScatterIdeal.S8x65536 EltTy.i32)
local notation "oV" => (Memref.whole Cert.ScatterIdeal.main_v1_scv : Memref Cert.ScatterIdeal.sig Kind.scVector Space.hbm Cert.ScatterIdeal.S786432x2x128 EltTy.i32)
local notation "rV" => (Memref.whole Cert.ScatterIdeal.cc0_scoped0 : Memref Cert.ScatterIdeal.sig Kind.scVector Space.vmem Cert.ScatterIdeal.S2x128x2x128 EltTy.i32)
local notation "sV" => (Memref.whole Cert.ScatterIdeal.cc0_scoped2 : Memref Cert.ScatterIdeal.sig Kind.scVector Space.vmem Cert.ScatterIdeal.S2x8x128 EltTy.i32)

variable (d : Dev nD) (L : grid0.Coords)
variable (X : Buf (Elt F) (xLoc d)) (I : Buf (Elt F) (iLoc d)) (O0 : Buf (Elt F) (oLoc d))

/-! ## A buffer is its two slots -/

theorem mem_sSlot {t : ℕ} (i : S2x8x128.Idx) : i ∈ (sSlot t).view.set ↔ (i 0).val = t % 2 := by
  show i ∈ (((View.whole (cc0_scoped2 : Ref sig .scVector)).slice (Rect.unit (s := S2x8x128) (sOff t) S1x8x128.size (sOff_inb t))).reshape S8x128 squeezes_S1x8x128_S8x128.numel_eq).set ↔ _
  rw [View.set_reshape, View.set_slice_whole, Rect.mem_set_unit]
  constructor
  · intro h; have : t % 2 ≤ (i 0).val ∧ (i 0).val < t % 2 + 1 := h 0; omega
  · intro h a
    match a with
    | ⟨0, _⟩ => show t % 2 ≤ (i 0).val ∧ (i 0).val < t % 2 + 1; omega
    | ⟨1, _⟩ => exact ⟨Nat.zero_le _, lt_of_lt_of_eq (i 1).isLt rfl⟩
    | ⟨2, _⟩ => exact ⟨Nat.zero_le _, lt_of_lt_of_eq (i 2).isLt rfl⟩
theorem mem_rSlot {t : ℕ} (i : S2x128x2x128.Idx) : i ∈ (rSlot t).view.set ↔ (i 0).val = t % 2 := by
  show i ∈ (((View.whole (cc0_scoped0 : Ref sig .scVector)).slice (Rect.unit (s := S2x128x2x128) (rOff t) S1x128x2x128.size (rOff_inb t))).reshape S128x2x128 squeezes_S1x128x2x128_S128x2x128.numel_eq).set ↔ _
  rw [View.set_reshape, View.set_slice_whole, Rect.mem_set_unit]
  constructor
  · intro h; have : t % 2 ≤ (i 0).val ∧ (i 0).val < t % 2 + 1 := h 0; omega
  · intro h a
    match a with
    | ⟨0, _⟩ => show t % 2 ≤ (i 0).val ∧ (i 0).val < t % 2 + 1; omega
    | ⟨1, _⟩ => exact ⟨Nat.zero_le _, lt_of_lt_of_eq (i 1).isLt rfl⟩
    | ⟨2, _⟩ => exact ⟨Nat.zero_le _, lt_of_lt_of_eq (i 2).isLt rfl⟩
    | ⟨3, _⟩ => exact ⟨Nat.zero_le _, lt_of_lt_of_eq (i 3).isLt rfl⟩

/-- The elements of slot `i`. -/
abbrev sSet (i : Fin 2) : Finset S2x8x128.Idx := (sSlot i.val).view.set

theorem sSlots_disjoint : ∀ i ∈ (Finset.univ : Finset (Fin 2)), ∀ j ∈ (Finset.univ : Finset (Fin 2)), i ≠ j →
    Disjoint (sSet i) (sSet j) := fun i _ j _ h =>
  Finset.disjoint_left.mpr fun x hx hy => h (Fin.ext (by
    have h1 := (mem_sSlot x).mp hx; have h2 := (mem_sSlot x).mp hy; omega))
/-- The elements of slot `i`. -/
abbrev rSet (i : Fin 2) : Finset S2x128x2x128.Idx := (rSlot i.val).view.set

theorem rSlots_disjoint : ∀ i ∈ (Finset.univ : Finset (Fin 2)), ∀ j ∈ (Finset.univ : Finset (Fin 2)), i ≠ j →
    Disjoint (rSet i) (rSet j) := fun i _ j _ h =>
  Finset.disjoint_left.mpr fun x hx hy => h (Fin.ext (by
    have h1 := (mem_rSlot x).mp hx; have h2 := (mem_rSlot x).mp hy; omega))
theorem sSlots_cover : (Finset.univ : Finset (Fin 2)).biUnion sSet = Finset.univ := by
  refine Finset.eq_univ_iff_forall.mpr fun x => Finset.mem_biUnion.mpr ⟨⟨(x 0).val, (x 0).isLt⟩, Finset.mem_univ _, (mem_sSlot x).mpr ?_⟩
  have : (x 0).val < 2 := (x 0).isLt
  exact (Nat.mod_eq_of_lt this).symm
theorem rSlots_cover : (Finset.univ : Finset (Fin 2)).biUnion rSet = Finset.univ := by
  refine Finset.eq_univ_iff_forall.mpr fun x => Finset.mem_biUnion.mpr ⟨⟨(x 0).val, (x 0).isLt⟩, Finset.mem_univ _, (mem_rSlot x).mpr ?_⟩
  have : (x 0).val < 2 := (x 0).isLt
  exact (Nat.mod_eq_of_lt this).symm

theorem sBuf_split : (iprop(∃ f, (thr d L).loc cc0_scoped2 ↦{fullShare} f) : sProp 𝕄) ⊢ iprop(SSl (F := F) d L 0 ∗ SSl (F := F) d L 1) := by
  iintro ⟨%f, H⟩
  ihave H := (Entails.of_eq (show ((thr d L).loc cc0_scoped2 ↦{fullShare} f : sProp 𝕄)
      = iprop(((sSlot 0).view.loc (thr d L) ↦[(sSlot 0).view.set]{fullShare} f) ∗ (sSlot 1).view.loc (thr d L) ↦[(sSlot 1).view.set]{fullShare} f) by
    rw [← sSlots_cover, pointsTo_biUnion Finset.univ (ℓ := (thr d L).loc cc0_scoped2) _ sSlots_disjoint, BI.bigSep_fin_two]; rfl)) $$ H
  icases H with ⟨H0, H1⟩
  isplitl [H0]; · iexists _; iexact H0
  iexists _; iexact H1
theorem rBuf_split : (iprop(∃ f, (thr d L).loc cc0_scoped0 ↦{fullShare} f) : sProp 𝕄) ⊢ iprop(RSl (F := F) d L 0 ∗ RSl (F := F) d L 1) := by
  iintro ⟨%f, H⟩
  ihave H := (Entails.of_eq (show ((thr d L).loc cc0_scoped0 ↦{fullShare} f : sProp 𝕄)
      = iprop(((rSlot 0).view.loc (thr d L) ↦[(rSlot 0).view.set]{fullShare} f) ∗ (rSlot 1).view.loc (thr d L) ↦[(rSlot 1).view.set]{fullShare} f) by
    rw [← rSlots_cover, pointsTo_biUnion Finset.univ (ℓ := (thr d L).loc cc0_scoped0) _ rSlots_disjoint, BI.bigSep_fin_two]; rfl)) $$ H
  icases H with ⟨H0, H1⟩
  isplitl [H0]; · iexists _; iexact H0
  iexists _; iexact H1

theorem sBuf_join : iprop(SSl (F := F) d L 0 ∗ SSl (F := F) d L 1) ⊢ (iprop(∃ f, (thr d L).loc cc0_scoped2 ↦{fullShare} f) : sProp 𝕄) := by
  iintro ⟨⟨%f, H0⟩, ⟨%g, H1⟩⟩
  ihave H := (pointsTo_biUnion_join (ℓ := (thr d L).loc cc0_scoped2) (q := fullShare) (Val := Elt F) Finset.univ sSet
    (fun i => if i = 0 then f else g) f sSlots_disjoint) $$ [H0 H1]
  · iapply (Entails.of_eq (show (bigSep Finset.univ fun i : Fin 2 => (thr d L).loc cc0_scoped2 ↦[sSet i]{fullShare} (if i = 0 then f else g) : sProp 𝕄)
      = iprop(((sSlot 0).view.loc (thr d L) ↦[(sSlot 0).view.set]{fullShare} f) ∗ (sSlot 1).view.loc (thr d L) ↦[(sSlot 1).view.set]{fullShare} g) from
        BI.bigSep_fin_two _).symm)
    isplitl [H0]; · iexact H0
    iexact H1
  icases H with ⟨%w, -, H⟩
  rw [sSlots_cover]
  iexists w; iexact H
theorem rBuf_join : iprop(RSl (F := F) d L 0 ∗ RSl (F := F) d L 1) ⊢ (iprop(∃ f, (thr d L).loc cc0_scoped0 ↦{fullShare} f) : sProp 𝕄) := by
  iintro ⟨⟨%f, H0⟩, ⟨%g, H1⟩⟩
  ihave H := (pointsTo_biUnion_join (ℓ := (thr d L).loc cc0_scoped0) (q := fullShare) (Val := Elt F) Finset.univ rSet
    (fun i => if i = 0 then f else g) f rSlots_disjoint) $$ [H0 H1]
  · iapply (Entails.of_eq (show (bigSep Finset.univ fun i : Fin 2 => (thr d L).loc cc0_scoped0 ↦[rSet i]{fullShare} (if i = 0 then f else g) : sProp 𝕄)
      = iprop(((rSlot 0).view.loc (thr d L) ↦[(rSlot 0).view.set]{fullShare} f) ∗ (rSlot 1).view.loc (thr d L) ↦[(rSlot 1).view.set]{fullShare} g) from
        BI.bigSep_fin_two _).symm)
    isplitl [H0]; · iexact H0
    iexact H1
  icases H with ⟨%w, -, H⟩
  rw [rSlots_cover]
  iexists w; iexact H

/-! ## The subcore's semaphores and buffers, those of the kernel named -/

abbrev cell (s : DmaSem sig) : GSem nD τ sig := (thr d L, .dma s)

/-- The kernel's twelve semaphores. -/
def allSem : Fin 4 ⊕ Fin 8 → DmaSem sig
  | .inl 0 => semX 0
  | .inl 1 => semX 1
  | .inl 2 => semI 0
  | .inl 3 => semI 1
  | .inr k => semS k

theorem allSem_inj : ∀ a b, allSem a = allSem b → a = b := by decide +kernel
theorem allSem_scoped : ∀ a, (SemLoc.dma (allSem a) : SemLoc sig).isScoped .scVector = true := by decide +kernel

theorem ownSems0_V : ∃ R : sProp 𝕄,
    (ownSems0 (thr d L) : sProp 𝕄)
      = iprop(((Zero (F := F) d L (semX 0) ∗ Zero (F := F) d L (semX 1) ∗ Zero (F := F) d L (semI 0) ∗ Zero (F := F) d L (semI 1))
          ∗ bigSep Finset.univ fun k : Fin 8 => Zero (F := F) d L (semS k)) ∗ R) := by
  let e : (Fin 4 ⊕ Fin 8) ↪ GSem nD τ sig := ⟨fun a => cell d L (allSem a), fun a b h => allSem_inj a b (by
    have := (Prod.mk.inj h).2; injection this)⟩
  have hs : Finset.univ.map e ⊆ ownCells (thr d L) := by
    intro g hg
    obtain ⟨a, -, rfl⟩ := Finset.mem_map.mp hg
    exact (mem_ownCells (g := cell d L (allSem a))).mpr ⟨rfl, allSem_scoped a⟩
  unfold SparseCore.Cfg.ownSems0
  refine ⟨bigSep (ownCells (thr d L) \ Finset.univ.map e) (fun g => semVal g 0), ?_⟩
  rw [SparseCore.bigSep_sdiff_split' hs, BI.bigSep_map, BI.bigSep_univ_sum]
  rw [BI.bigSep_univ_eq_bigSepL (I := Fin 4) [0, 1, 2, 3] (by decide) (by decide)]
  rfl

theorem ownBufs_V : ∃ R : sProp 𝕄,
    (ownBufs (thr d L) : sProp 𝕄)
      = iprop((∃ f, (thr d L).loc cc0_scoped0 ↦{fullShare} f) ∗ (∃ f, (thr d L).loc cc0_scoped2 ↦{fullShare} f) ∗ R) := by
  unfold SparseCore.Cfg.ownBufs
  refine ⟨bigSep (((ownRefs (τ := τ) (.scVector (cV L) (jV L))).erase ((Proc.scVector (cV L) (jV L)).devRef cc0_scoped0)).erase
      ((Proc.scVector (cV L) (jV L)).devRef cc0_scoped2)) (fun b => iprop(∃ f, ((d, b) : Loc nD τ sig) ↦{fullShare} f)), (SparseCore.bigSep_erase' (SparseCore.Cfg.mem_ownRefs_of_owner (p := Proc.scVector (cV L) (jV L))
    (b := (Proc.scVector (cV L) (jV L)).devRef cc0_scoped0) rfl)).trans ?_⟩
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

/-- What a task takes and brings back: its windows of the rows and of the lists, and the output's rows its lists name at
    contents `f`. -/
abbrev TileRes (f : Buf (Elt F) (oLoc d)) : sProp 𝕄 :=
  iprop((bigSep Finset.univ fun w : Fin 16 => XWin d L X w.val) ∗ (bigSep Finset.univ fun w : Fin 16 => IWin d L I w.val)
    ∗ bigSep Finset.univ fun w : Fin 16 => bigSep Finset.univ fun k : Fin 8 => OPc d L I f w.val k)

theorem out_start : (bigSep Finset.univ fun w : Fin 16 => bigSep Finset.univ fun k : Fin 8 => OPc d L I O0 w.val k : sProp 𝕄) ⊢ OutS d L X I O0 0 := by
  unfold OutS
  simp only [Nat.not_lt_zero, if_false]
  exact .rfl

theorem out_done : OutS d L X I O0 16
    ⊢ (bigSep Finset.univ fun w : Fin 16 => bigSep Finset.univ fun k : Fin 8 => OPc d L I (scat X I O0) w.val k : sProp 𝕄) := by
  unfold OutS
  refine Entails.of_eq (bigSep_congr fun w _ => ?_)
  rw [if_pos w.isLt]

theorem in_openX : (bigSep Finset.univ fun w : Fin 16 => XWin d L X w.val : sProp 𝕄)
    ⊢ iprop(XWin d L X 0 ∗ bigSep (Finset.univ.erase (win 0)) fun w => XWin d L X w.val) := by
  rw [SparseCore.bigSep_erase' (s := Finset.univ) (i := win 0) (Finset.mem_univ _), win_val (by omega)]

theorem in_closeX : InSX d L X 16 ⊢ iprop((RSl (F := F) d L 0 ∗ RSl (F := F) d L 1) ∗ Zero (F := F) d L (semX 0) ∗ Zero (F := F) d L (semX 1)
      ∗ bigSep Finset.univ fun w : Fin 16 => XWin d L X w.val) := by
  unfold InSX
  rw [if_neg (by omega)]
  iintro ⟨H0, H1, Hz, Hz', Hi⟩
  isplitl [H0 H1]
  · isplitl [H0]; · iexact H0
    iexact H1
  isplitl [Hz]; · iexact Hz
  isplitl [Hz']; · iexact Hz'
  iexact Hi

theorem in_openI : (bigSep Finset.univ fun w : Fin 16 => IWin d L I w.val : sProp 𝕄)
    ⊢ iprop(IWin d L I 0 ∗ bigSep (Finset.univ.erase (win 0)) fun w => IWin d L I w.val) := by
  rw [SparseCore.bigSep_erase' (s := Finset.univ) (i := win 0) (Finset.mem_univ _), win_val (by omega)]

theorem in_closeI : InSI d L I 16 ⊢ iprop((SSl (F := F) d L 0 ∗ SSl (F := F) d L 1) ∗ Zero (F := F) d L (semI 0) ∗ Zero (F := F) d L (semI 1)
      ∗ bigSep Finset.univ fun w : Fin 16 => IWin d L I w.val) := by
  unfold InSI
  rw [if_neg (by omega)]
  iintro ⟨H0, H1, Hz, Hz', Hi⟩
  isplitl [H0 H1]
  · isplitl [H0]; · iexact H0
    iexact H1
  isplitl [Hz]; · iexact Hz
  isplitl [Hz']; · iexact Hz'
  iexact Hi

local notation "WP" => wp frame (wpE (defs₀ (F := F)) 𝒱₀ (thr d L) none) Set.univ

set_option maxHeartbeats 4000000 in
theorem task (hI : Distinct I) (O : CellTallies nD τ sig (HIx 1)) (W : Waits sig (HIx 1)) :
    iprop(Transfers.MayWaits (thr d L) (default : HIx 1) O ∗ TileRes d L X I O0
        ∗ (RSl (F := F) d L 0 ∗ RSl (F := F) d L 1) ∗ (SSl (F := F) d L 0 ∗ SSl (F := F) d L 1)
        ∗ ((Zero (F := F) d L (semX 0) ∗ Zero (F := F) d L (semX 1) ∗ Zero (F := F) d L (semI 0) ∗ Zero (F := F) d L (semI 1))
          ∗ bigSep Finset.univ fun k : Fin 8 => Zero (F := F) d L (semS k))
        ∗ owes (thr d L) O W)
      ⊢ WP (cc0_sc_scatter L xV (Memref.isWhole_whole _) iV (Memref.isWhole_whole _) oV (Memref.isWhole_whole _) rV (Memref.isWhole_whole _)
          cc0_scoped1 sV (Memref.isWhole_whole _) cc0_scoped3 cc0_scoped4 cc0_scoped5 cc0_scoped6 cc0_scoped7 cc0_scoped8 cc0_scoped9 cc0_scoped10 cc0_scoped11)
        fun _ => iprop(TileRes d L X I (scat X I O0)
          ∗ (RSl (F := F) d L 0 ∗ RSl (F := F) d L 1) ∗ (SSl (F := F) d L 0 ∗ SSl (F := F) d L 1)
          ∗ ((Zero (F := F) d L (semX 0) ∗ Zero (F := F) d L (semX 1) ∗ Zero (F := F) d L (semI 0) ∗ Zero (F := F) d L (semI 1))
            ∗ bigSep Finset.univ fun k : Fin 8 => Zero (F := F) d L (semS k))
          ∗ Ow (F := F) d L O W) := by
  have hrow : ∀ k, k < 16 → row0 L k = 2048 * (L 1).val + 32768 * (L 0).val + 128 * k := fun k hk => by
    rw [row0, base, Nat.mod_eq_of_lt hk]
  iintro ⟨#Hmw, ⟨Hx, Hi, Ho⟩, ⟨Hr0, Hr1⟩, ⟨Hs0, Hs1⟩, ⟨⟨HzX0, HzX1, HzI0, HzI1⟩, Hzs⟩, HO⟩
  simp only [cc0_sc_scatter_eq_skeleton]
  unfold cc0_sc_scatter_skel
  simp only [k0_part8_eq_skeleton]
  unfold k0_part8_skel
  simp only [wp_bind]
  rw [wp_pure]; imodintro
  simp only [k0_part9_eq_skeleton]
  unfold k0_part9_skel
  simp only [wp_bind]
  ihave Hx := (in_openX (F := F) d L X) $$ Hx
  icases Hx with ⟨Hx, Hxr⟩
  iapply (fetchX d L X (w := 0) (t := 0) (by rw [off2_eq L, xOff, hrow _ (by omega)]) off1_eq off3_eq) $$ [Hx Hr0 HzX0]
  · isplitl [Hx]; · iexact Hx
    isplitl [Hr0]; · iexact Hr0
    iexact HzX0
  iintro HfX
  ihave Hi := (in_openI (F := F) d L I) $$ Hi
  icases Hi with ⟨Hi, Hir⟩
  iapply (fetchI d L I (w := 0) (t := 0) (by rw [off5_eq L, iOff, hrow _ (by omega)]) off4_eq off3_eq) $$ [Hi Hs0 HzI0]
  · isplitl [Hi]; · iexact Hi
    isplitl [Hs0]; · iexact Hs0
    iexact HzI0
  iintro HfI
  iapply (Scf.wp_for frame (wpE (defs₀ (F := F)) 𝒱₀ (thr d L) none) Set.univ k0_t1_loop.lb k0_t1_loop.ub k0_t1_loop.st k0_t1_ok _ _
    (Inv d L X I O0 O W) (fun t acc => trip d L X I O0 hI O W t acc))
  isplitl [HfX Hxr Hr1 HzX1 HfI Hir Hs1 HzI1 Ho Hzs HO]
  · unfold Inv InSX InSI Ow
    isplitr; · ipureintro; rfl
    isplitr; · iexact Hmw
    isplitl [Hzs]; · iexact Hzs
    isplitl [HO]
    · iexists W
      isplitr; · ipureintro; exact fun p hp => .inl hp
      iexact HO
    isplitl [HfX Hxr Hr1 HzX1]
    · rw [if_pos (by omega)]
      isplitl [HfX]; · iexact HfX
      isplitl [Hr1]; · iexact Hr1
      isplitl [HzX1]; · iexact HzX1
      iexact Hxr
    isplitl [HfI Hir Hs1 HzI1]
    · rw [if_pos (by omega)]
      isplitl [HfI]; · iexact HfI
      isplitl [Hs1]; · iexact Hs1
      isplitl [HzI1]; · iexact HzI1
      iexact Hir
    iapply (out_start d L X I O0) $$ Ho
  iintro %acc HInv
  ihave HInv := (show Inv d L X I O0 O W k0_t1_loop.trips acc ⊢ iprop(⌜acc = carry 16⌝ ∗ Transfers.MayWaits (thr d L) (default : HIx 1) O
      ∗ (bigSep Finset.univ fun k : Fin 8 => Zero (F := F) d L (semS k))
      ∗ Ow (F := F) d L O W ∗ InSX d L X 16 ∗ InSI d L I 16 ∗ OutS d L X I O0 16) from by rw [trips_eq]; exact .rfl) $$ HInv
  icases HInv with ⟨%hacc, -, Hzs, HO, HinX, HinI, Hout⟩
  subst hacc
  simp only [wp_pure]
  repeat imodintro
  ihave HinX := (in_closeX (F := F) d L X) $$ HinX
  icases HinX with ⟨Hr, HzX0, HzX1, Hx⟩
  ihave HinI := (in_closeI (F := F) d L I) $$ HinI
  icases HinI with ⟨Hs, HzI0, HzI1, Hi⟩
  isplitl [Hx Hi Hout]
  · isplitl [Hx]; · iexact Hx
    isplitl [Hi]; · iexact Hi
    iapply (out_done d L X I O0) $$ Hout
  isplitl [Hr]; · iexact Hr
  isplitl [Hs]; · iexact Hs
  isplitl [HzX0 HzX1 HzI0 HzI1 Hzs]
  · isplitr [Hzs]
    · isplitl [HzX0]; · iexact HzX0
      isplitl [HzX1]; · iexact HzX1
      isplitl [HzI0]; · iexact HzI0
      iexact HzI1
    iexact Hzs
  iexact HO

end Cert.Proof.Scattered

end
-- ==== Proof.ScatterLaunch.lean ====
/-
  The scatter's launch: each subcore's task from what the call hands it, the windows of all 32 subcores making up the
  token rows and the lists, the output's rows the lists name dealt out to them, the host code before and after the call,
  and the run: the arguments unchanged, the result the output read back at the lists, every semaphore back at zero.
-/
module

public import proofs.«01_k».proof.Proof.ScatterTile

@[expose] public section

noncomputable section

namespace Cert.Proof.Scattered

open Cert.ScatterIdeal Cert.ScatterIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within after after_cons after_nil)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.ScatterIdeal.main_v0_scv : Memref Cert.ScatterIdeal.sig Kind.scVector Space.hbm Cert.ScatterIdeal.S65536x2x128 EltTy.i32)
local notation "iV" => (Memref.whole Cert.ScatterIdeal.main_arg1_scv : Memref Cert.ScatterIdeal.sig Kind.scVector Space.hbm Cert.ScatterIdeal.S8x65536 EltTy.i32)
local notation "oV" => (Memref.whole Cert.ScatterIdeal.main_v1_scv : Memref Cert.ScatterIdeal.sig Kind.scVector Space.hbm Cert.ScatterIdeal.S786432x2x128 EltTy.i32)
local notation "rV" => (Memref.whole Cert.ScatterIdeal.cc0_scoped0 : Memref Cert.ScatterIdeal.sig Kind.scVector Space.vmem Cert.ScatterIdeal.S2x128x2x128 EltTy.i32)
local notation "sV" => (Memref.whole Cert.ScatterIdeal.cc0_scoped2 : Memref Cert.ScatterIdeal.sig Kind.scVector Space.vmem Cert.ScatterIdeal.S2x8x128 EltTy.i32)

/-! ## The subcore's task from what the call hands it -/

section Task

variable (d : Dev nD) (L : grid0.Coords)
variable (X : Buf (Elt F) (xLoc d)) (I : Buf (Elt F) (iLoc d)) (O0 : Buf (Elt F) (oLoc d))

theorem tile_body (hF : (K (F := F)).Facts) (hI : Distinct I) (O : CellTallies nD τ sig (HIx 1)) (W : Waits sig (HIx 1))
    (hO : ∀ g, O g none = 0) :
    iprop(levAts (K (F := F)).L (K (F := F)).lev ∗ emp ∗ TileRes d L X I O0
        ∗ scopedBufs (thr d L) ∗ scopedSems0 (thr d L) ∗ owes (thr d L) O W)
      ⊢ wp frame (wpE (defs₀ (F := F)) 𝒱₀ (thr d L) none) Set.univ
          (cc0_sc_scatter L xV (Memref.isWhole_whole _) iV (Memref.isWhole_whole _) oV (Memref.isWhole_whole _) rV (Memref.isWhole_whole _)
            cc0_scoped1 sV (Memref.isWhole_whole _) cc0_scoped3 cc0_scoped4 cc0_scoped5 cc0_scoped6 cc0_scoped7 cc0_scoped8 cc0_scoped9 cc0_scoped10 cc0_scoped11)
          fun _ => iprop(TileRes d L X I (scat X I O0) ∗ scopedBufs (thr d L) ∗ scopedSems0 (thr d L)
            ∗ ∃ W', ⌜∀ p ∈ W', p ∈ W ∨ p.2 = none⌝ ∗ owes (thr d L) O W') := by
  obtain ⟨RB, hB⟩ := ownBufs_V (F := F) d L
  obtain ⟨RS, hS⟩ := ownSems0_V (F := F) d L
  rw [(K (F := F)).scopedBufs_V hF d (cV L) (jV L), SparseCore.Cfg.scopedSems0_V (Val := Elt F) d (cV L) (jV L), hB, hS]
  have hpost : ∀ _ : PUnit, iprop((RB ∗ RS) ∗ (TileRes d L X I (scat X I O0)
          ∗ (RSl (F := F) d L 0 ∗ RSl (F := F) d L 1) ∗ (SSl (F := F) d L 0 ∗ SSl (F := F) d L 1)
          ∗ ((Zero (F := F) d L (semX 0) ∗ Zero (F := F) d L (semX 1) ∗ Zero (F := F) d L (semI 0) ∗ Zero (F := F) d L (semI 1))
            ∗ bigSep Finset.univ fun k : Fin 8 => Zero (F := F) d L (semS k))
          ∗ Ow (F := F) d L O W))
      ⊢ iprop(TileRes d L X I (scat X I O0)
          ∗ ((∃ f, (thr d L).loc cc0_scoped0 ↦{fullShare} f) ∗ (∃ f, (thr d L).loc cc0_scoped2 ↦{fullShare} f) ∗ RB)
          ∗ (((Zero (F := F) d L (semX 0) ∗ Zero (F := F) d L (semX 1) ∗ Zero (F := F) d L (semI 0) ∗ Zero (F := F) d L (semI 1))
            ∗ bigSep Finset.univ fun k : Fin 8 => Zero (F := F) d L (semS k)) ∗ RS)
          ∗ ∃ W', ⌜∀ p ∈ W', p ∈ W ∨ p.2 = none⌝ ∗ owes (thr d L) O W') := fun _ => by
    iintro ⟨⟨HB, HS⟩, HT, Hr, Hs, Hz, HO⟩
    isplitl [HT]; · iexact HT
    isplitl [Hs Hr HB]
    · isplitl [Hr]; · iapply (rBuf_join (F := F) d L); iexact Hr
      isplitl [Hs]; · iapply (sBuf_join (F := F) d L); iexact Hs
      iexact HB
    isplitr [HO]
    · isplitl [Hz]; · iexact Hz
      iexact HS
    iapply (Ow_open (F := F) d L); iexact HO
  refine BI.Entails.trans ?_ (wp_mono frame _ _ hpost)
  refine BI.Entails.trans ?_ (wp_frame_l frame _ _)
  show iprop(_ ∗ _) ⊢ iprop((RB ∗ RS) ∗ _)
  iintro ⟨#Hlv, -, HT, ⟨Hr, Hs, HB⟩, ⟨Hz, HS⟩, HO⟩
  ihave Hmw := (show levAts (K (F := F)).L (K (F := F)).lev ⊢ Transfers.MayWaits (thr d L) (default : HIx 1) O from
    (K (F := F)).mayWaits_none (thr := thr d L) hO) $$ Hlv
  isplitl [HB HS]
  · isplitl [HB]; · iexact HB
    iexact HS
  iapply (task (F := F) d L X I O0 hI O W)
  isplitl [Hmw]; · iexact Hmw
  isplitl [HT]; · iexact HT
  isplitl [Hr]; · iapply (rBuf_split (F := F) d L); iexact Hr
  isplitl [Hs]; · iapply (sBuf_split (F := F) d L); iexact Hs
  isplitl [Hz]; · iexact Hz
  iexact HO

end Task

/-! ## The arrays over all subcores -/

/-- The grid position of subcore `s` of SparseCore `c`. -/
def at2 (c : Fin 2) (s : Fin 16) : grid0.Coords :=
  fun | 0 => c | 1 => s | ⟨_ + 2, h⟩ => absurd h (Nat.not_lt.2 (Nat.le_add_left _ _))

/-- All windows: SparseCore, subcore, window of the subcore. -/
abbrev Tri : Type := Fin 2 × Fin 16 × Fin 16

abbrev xSet (t : Tri) : Finset S65536x2x128.Idx := (xWin (at2 t.1 t.2.1) t.2.2.val).view.set
abbrev iSet (t : Tri) : Finset S8x65536.Idx := (iWin (at2 t.1 t.2.1) t.2.2.val).view.set

/-- The window token `r` lies in. -/
def tri (r : ℕ) (h : r < 65536) : Tri :=
  (⟨r / 32768, by omega⟩, ⟨r % 32768 / 2048, by omega⟩, ⟨r % 2048 / 128, by omega⟩)

theorem row0_tri (t : Tri) : row0 (at2 t.1 t.2.1) t.2.2.val = 2048 * t.2.1.val + 32768 * t.1.val + 128 * t.2.2.val := by
  have := t.2.2.isLt
  rw [row0, Nat.mod_eq_of_lt this]; rfl
theorem row_iff {r : ℕ} (h : r < 65536) (t : Tri) :
    (row0 (at2 t.1 t.2.1) t.2.2.val ≤ r ∧ r < row0 (at2 t.1 t.2.1) t.2.2.val + 128) ↔ t = tri r h := by
  obtain ⟨⟨c, hc⟩, ⟨s, hs⟩, ⟨w, hw⟩⟩ := t
  rw [row0_tri]
  simp only [tri, Prod.mk.injEq, Fin.mk.injEq]
  omega

theorem mem_xSet (t : Tri) (i : S65536x2x128.Idx) : i ∈ xSet t ↔ t = tri (i 0).val (i 0).isLt := by
  show i ∈ ((View.whole (main_v0_scv : Ref sig .scVector)).slice (Rect.unit (s := S65536x2x128) (xOff (at2 t.1 t.2.1) t.2.2.val) S128x2x128.size (xOff_inb _ _))).set ↔ _
  rw [View.set_slice_whole, Rect.mem_set_unit]
  refine Iff.trans ?_ (row_iff (i 0).isLt t)
  constructor
  · intro h; exact h 0
  · intro h a
    match a with
    | ⟨0, _⟩ => exact h
    | ⟨1, _⟩ => exact ⟨Nat.zero_le _, lt_of_lt_of_eq (i 1).isLt rfl⟩
    | ⟨2, _⟩ => exact ⟨Nat.zero_le _, lt_of_lt_of_eq (i 2).isLt rfl⟩
theorem mem_iSet (t : Tri) (i : S8x65536.Idx) : i ∈ iSet t ↔ t = tri (i 1).val (i 1).isLt := by
  show i ∈ ((View.whole (main_arg1_scv : Ref sig .scVector)).slice (Rect.unit (s := S8x65536) (iOff (at2 t.1 t.2.1) t.2.2.val) S8x128.size (iOff_inb _ _))).set ↔ _
  rw [View.set_slice_whole, Rect.mem_set_unit]
  refine Iff.trans ?_ (row_iff (i 1).isLt t)
  constructor
  · intro h; exact h 1
  · intro h a
    match a with
    | ⟨0, _⟩ => exact ⟨Nat.zero_le _, lt_of_lt_of_eq (i 0).isLt rfl⟩
    | ⟨1, _⟩ => exact h

theorem xSet_disjoint : ∀ t ∈ (Finset.univ : Finset Tri), ∀ u ∈ (Finset.univ : Finset Tri), t ≠ u → Disjoint (xSet t) (xSet u) :=
  fun t _ u _ h => Finset.disjoint_left.mpr fun i hi hj => h (((mem_xSet t i).mp hi).trans ((mem_xSet u i).mp hj).symm)
theorem iSet_disjoint : ∀ t ∈ (Finset.univ : Finset Tri), ∀ u ∈ (Finset.univ : Finset Tri), t ≠ u → Disjoint (iSet t) (iSet u) :=
  fun t _ u _ h => Finset.disjoint_left.mpr fun i hi hj => h (((mem_iSet t i).mp hi).trans ((mem_iSet u i).mp hj).symm)
theorem xSet_cover : (Finset.univ : Finset Tri).biUnion xSet = Finset.univ := by
  ext i; simp only [Finset.mem_biUnion, Finset.mem_univ, true_and, iff_true]
  exact ⟨_, (mem_xSet _ i).mpr rfl⟩
theorem iSet_cover : (Finset.univ : Finset Tri).biUnion iSet = Finset.univ := by
  ext i; simp only [Finset.mem_biUnion, Finset.mem_univ, true_and, iff_true]
  exact ⟨_, (mem_iSet _ i).mpr rfl⟩

/-! ### The output's rows, dealt out by the lists -/

/-- All scatters: SparseCore, subcore, window of the subcore, list. -/
abbrev Quad : Type := Fin 2 × Fin 16 × Fin 16 × Fin 8

/-- The rows scatter `q` writes, -/
abbrev oQ (I : S8x65536.Idx → BitVec 32) (q : Quad) : Finset S786432x2x128.Idx := oSet (at2 q.1 q.2.1) I q.2.2.1.val q.2.2.2
/-- and all rows some scatter writes. -/
@[irreducible] def Named (I : S8x65536.Idx → BitVec 32) : Finset S786432x2x128.Idx := (Finset.univ : Finset Quad).biUnion (oQ I)

theorem wrow_in (L : grid0.Coords) (w : ℕ) (x : Fin 128) : row0 L w ≤ (wrow L w x).val ∧ (wrow L w x).val < row0 L w + 128 := by
  show row0 L w ≤ row0 L w + x.val ∧ row0 L w + x.val < row0 L w + 128
  omega

theorem wrow_tri (r : Fin 65536) (hx : r.val % 128 < 128) :
    wrow (at2 (tri r.val r.isLt).1 (tri r.val r.isLt).2.1) (tri r.val r.isLt).2.2.val ⟨r.val % 128, hx⟩ = r := by
  apply Fin.ext
  have h := row0_tri (tri r.val r.isLt)
  show row0 _ _ + r.val % 128 = r.val
  rw [h]
  simp only [tri]
  omega

theorem mem_Named (I : S8x65536.Idx → BitVec 32) (j : S786432x2x128.Idx) :
    j ∈ Named I ↔ ∃ (k : Fin 8) (r : Fin 65536), (I (ix2 k r)).toNat = (j 0).val := by
  unfold Named
  simp only [Finset.mem_biUnion, Finset.mem_univ, true_and]
  constructor
  · rintro ⟨q, hq⟩
    obtain ⟨x, hx⟩ := (mem_oSet _ I _ _ j).mp hq
    exact ⟨_, _, hx⟩
  · rintro ⟨k, r, h⟩
    refine ⟨((tri r.val r.isLt).1, (tri r.val r.isLt).2.1, (tri r.val r.isLt).2.2, k), (mem_oSet _ I _ _ j).mpr
      ⟨⟨r.val % 128, Nat.mod_lt _ (by decide)⟩, ?_⟩⟩
    rw [wrow_tri r (Nat.mod_lt _ (by decide))]
    exact h

/-- No two scatters write the same row, the lists naming distinct rows. -/
theorem oQ_disjoint (I : S8x65536.Idx → BitVec 32) (hI : Distinct I) :
    ∀ q ∈ (Finset.univ : Finset Quad), ∀ p ∈ (Finset.univ : Finset Quad), q ≠ p → Disjoint (oQ I q) (oQ I p) := by
  intro q _ p _ h
  refine Finset.disjoint_left.mpr fun j hq hp => h ?_
  obtain ⟨x, hx⟩ := (mem_oSet _ I _ _ j).mp hq
  obtain ⟨y, hy⟩ := (mem_oSet _ I _ _ j).mp hp
  have e := hI.2 _ _ (hx.trans hy.symm)
  have e0 : q.2.2.2 = p.2.2.2 := congrFun e 0
  have e1 : wrow (at2 q.1 q.2.1) q.2.2.1.val x = wrow (at2 p.1 p.2.1) p.2.2.1.val y := congrFun e 1
  have e2 := congrArg Fin.val e1
  have a := (row_iff (wrow (at2 q.1 q.2.1) q.2.2.1.val x).isLt (q.1, q.2.1, q.2.2.1)).mp (wrow_in _ _ x)
  have b := (row_iff (wrow (at2 q.1 q.2.1) q.2.2.1.val x).isLt (p.1, p.2.1, p.2.2.1)).mp (by rw [e2]; exact wrow_in _ _ y)
  have t := a.trans b.symm
  obtain ⟨q1, q2, q3, q4⟩ := q
  obtain ⟨p1, p2, p3, p4⟩ := p
  simp only [Prod.mk.injEq] at t ⊢
  exact ⟨t.1, t.2.1, t.2.2, e0⟩

section Arrays

variable (d : Dev nD)

theorem xPts_windows (f : Buf (Elt F) (xLoc d)) : (xLoc d ↦{fullShare} f : sProp 𝕄)
    = bigSep Finset.univ fun c => bigSep Finset.univ fun s => bigSep Finset.univ fun w : Fin 16 => XWin d (at2 c s) f w.val := by
  have h : (xLoc d ↦{fullShare} f : sProp 𝕄) = bigSep Finset.univ fun t : Tri => xLoc d ↦[xSet t]{fullShare} f := by
    rw [← pointsTo_biUnion Finset.univ (ℓ := xLoc d) xSet xSet_disjoint, xSet_cover]; try rfl
  rw [h, bigSep_univ_prod]
  exact bigSep_congr fun c _ => bigSep_univ_prod _
theorem iPts_windows (f : Buf (Elt F) (iLoc d)) : (iLoc d ↦{fullShare} f : sProp 𝕄)
    = bigSep Finset.univ fun c => bigSep Finset.univ fun s => bigSep Finset.univ fun w : Fin 16 => IWin d (at2 c s) f w.val := by
  have h : (iLoc d ↦{fullShare} f : sProp 𝕄) = bigSep Finset.univ fun t : Tri => iLoc d ↦[iSet t]{fullShare} f := by
    rw [← pointsTo_biUnion Finset.univ (ℓ := iLoc d) iSet iSet_disjoint, iSet_cover]; try rfl
  rw [h, bigSep_univ_prod]
  exact bigSep_congr fun c _ => bigSep_univ_prod _
theorem oPts_named (I : Buf (Elt F) (iLoc d)) (hI : Distinct I) (f : Buf (Elt F) (oLoc d)) : (oLoc d ↦[Named I]{fullShare} f : sProp 𝕄)
    = bigSep Finset.univ fun c => bigSep Finset.univ fun s => bigSep Finset.univ fun w : Fin 16 => bigSep Finset.univ fun k : Fin 8 =>
        OPc d (at2 c s) I f w.val k := by
  unfold Named
  rw [pointsTo_biUnion Finset.univ (ℓ := oLoc d) (oQ I) (oQ_disjoint I hI), bigSep_univ_prod]
  refine bigSep_congr fun c _ => ?_
  rw [bigSep_univ_prod]
  exact bigSep_congr fun s _ => bigSep_univ_prod _

/-- The token rows, the lists and the rows the lists name are what all subcores are handed. -/
theorem arrays_eq (X : Buf (Elt F) (xLoc d)) (I : Buf (Elt F) (iLoc d)) (hI : Distinct I) (f : Buf (Elt F) (oLoc d)) :
    (bigSep Finset.univ fun c => bigSep Finset.univ fun s => TileRes d (at2 c s) X I f : sProp 𝕄)
      = iprop((xLoc d ↦{fullShare} X) ∗ (iLoc d ↦{fullShare} I) ∗ oLoc d ↦[Named I]{fullShare} f) := by
  rw [xPts_windows, iPts_windows, oPts_named d I hI]
  simp only [bigSep_sep']

/-- The output is the rows the lists name and the others. -/
theorem out_split (I : Buf (Elt F) (iLoc d)) (f : Buf (Elt F) (oLoc d)) :
    (oLoc d ↦{fullShare} f : sProp 𝕄) ⊢ iprop((oLoc d ↦[Named I]{fullShare} f) ∗ oLoc d ↦[Finset.univ \ Named I]{fullShare} f) :=
  (pointsTo_split_subset (ℓ := oLoc d) (Finset.subset_univ (Named I))).1
/-- A row no list names is as it was. -/
theorem scat_rest {α : Type} (X : S65536x2x128.Idx → α) (I : S8x65536.Idx → BitVec 32) (O0 : S786432x2x128.Idx → α) (j : S786432x2x128.Idx)
    (hj : ¬ (j ∈ Named I)) : O0 j = scat X I O0 j := by
  have h : ∀ (k : Fin 8) (r : Fin 65536), (I (ix2 k r)).toNat ≠ (j 0).val := by
    intro k r h
    have hm : j ∈ Named I := by
      rw [mem_Named]
      exact Exists.intro k (Exists.intro r h)
    exact absurd hm hj
  exact Eq.symm (scat_other X I O0 j h)
/-- A part of a buffer at `g` and the rest at what agrees with `g` there are the buffer at `g`. -/
theorem whole_join {ℓ : Loc nD τ sig} (N : Finset (Idx ℓ)) (f g : Buf (Elt F) ℓ) (h : ∀ j, j ∉ N → f j = g j) :
    iprop((ℓ ↦[N]{fullShare} g) ∗ ℓ ↦[Finset.univ \ N]{fullShare} f) ⊢ (ℓ ↦{fullShare} g : sProp 𝕄) := by
  have e : (ℓ ↦[Finset.univ \ N]{fullShare} f : sProp 𝕄) = ℓ ↦[Finset.univ \ N]{fullShare} g :=
    pointsTo_congr fun j hj => h j (Finset.mem_sdiff.mp hj).2
  rw [e]
  exact (pointsTo_split_subset (Finset.subset_univ N)).2
/-- The others are as they were in the scattered rows. -/
theorem out_join (X : Buf (Elt F) (xLoc d)) (I : Buf (Elt F) (iLoc d)) (O0 : Buf (Elt F) (oLoc d)) :
    iprop((oLoc d ↦[Named I]{fullShare} (scat X I O0 : Buf (Elt F) (oLoc d))) ∗ oLoc d ↦[Finset.univ \ Named I]{fullShare} O0)
      ⊢ (oLoc d ↦{fullShare} (scat X I O0 : Buf (Elt F) (oLoc d)) : sProp 𝕄) := by
  exact whole_join (ℓ := oLoc d) (Named I) O0 (scat X I O0) (scat_rest X I O0)

end Arrays

/-! ## The launch's contents -/

variable (m : (ℓ : Loc nD τ sig) → Buf (Elt F) ℓ) (ρ : Dev nD → PrngReg)

/-- The tokens as rows of two times 128 words, -/
abbrev X1 (d : Dev nD) : Buf (Elt F) (xLoc d) := fun i => shapeCast S65536x2x128 (m (aLoc d)) shapeCasts_S65536x256_S65536x2x128 i
/-- the lists. -/
abbrev I1 (d : Dev nD) : Buf (Elt F) (iLoc d) := m (iLoc d)
/-- What the call leaves in its output. -/
abbrev G1 (d : Dev nD) : Buf (Elt F) (oLoc d) := scat (X1 m d) (I1 m d) (m (oLoc d))

def PreOK : Prop := ∀ d, Distinct (I1 m d)

abbrev cc (c : Fin ((K (F := F)).nCore 0)) : Fin 2 := Fin.cast nCore_zero c
abbrev si (i : Fin ((K (F := F)).nSub 0)) : Fin 16 := Fin.cast nSub_zero i

theorem bigSep_cc (Φ : Fin 2 → sProp 𝕄) : (bigSep Finset.univ fun c : Fin ((K (F := F)).nCore 0) => Φ (cc (F := F) c)) = bigSep Finset.univ Φ :=
  bigSep_congr fun _ _ => congrArg Φ (Fin.ext rfl)
theorem bigSep_si (Φ : Fin 16 → sProp 𝕄) : (bigSep Finset.univ fun i : Fin ((K (F := F)).nSub 0) => Φ (si (F := F) i)) = bigSep Finset.univ Φ :=
  bigSep_congr fun _ _ => congrArg Φ (Fin.ext rfl)

/-- What the call hands subcore `s` of SparseCore `c`, and what it brings back. -/
abbrev Go (d : Dev nD) (c : Fin 2) (s : Fin 16) : sProp 𝕄 := TileRes d (at2 c s) (X1 m d) (I1 m d) (m (oLoc d))
abbrev Td (d : Dev nD) (c : Fin 2) (s : Fin 16) : sProp 𝕄 := TileRes d (at2 c s) (X1 m d) (I1 m d) (G1 m d)

/-- What the call's signals carry. -/
def P : (K (F := F)).Pay (nD := nD) (Val := Elt F) (Name := ℕ) (U := UU) where
  st := fun q d c => match q with
    | 0 => bigSep Finset.univ fun s => Go m d (cc c) s
  dn := fun q d c => match q with
    | 0 => bigSep Finset.univ fun s => Td m d (cc c) s
  go := fun q d c i => match q with
    | 0 => Go m d (cc c) (si i)
  td := fun q d c i => match q with
    | 0 => Td m d (cc c) (si i)
  x := fun _ _ => iprop(emp)

instance P_storable : (P m).IsStorable where
  st := fun q d c => match q with
    | 0 => (inferInstance : BI.Storable (upEmb : UEmb _ 𝕄) (bigSep Finset.univ fun s => Go m d (cc c) s))
  dn := fun q d c => match q with
    | 0 => (inferInstance : BI.Storable (upEmb : UEmb _ 𝕄) (bigSep Finset.univ fun s => Td m d (cc c) s))
  go := fun q d c i => match q with
    | 0 => (inferInstance : BI.Storable (upEmb : UEmb _ 𝕄) (Go m d (cc c) (si i)))
  td := fun q d c i => match q with
    | 0 => (inferInstance : BI.Storable (upEmb : UEmb _ 𝕄) (Td m d (cc c) (si i)))

theorem vecSplit : (K (F := F)).VecSplit' (P m) 0 := by
  intro d c
  show (bigSep Finset.univ fun s => Go m d (cc c) s : sProp 𝕄) ⊢ |={Set.univ}=> iprop(
      (bigSep Finset.univ fun i : Fin ((K (F := F)).nSub 0) => Go m d (cc c) (si i))
      ∗ ((bigSep Finset.univ fun i : Fin ((K (F := F)).nSub 0) => Td m d (cc c) (si i)) -∗ bigSep Finset.univ fun s => Td m d (cc c) s))
  rw [bigSep_si (F := F) (fun s => Go m d (cc c) s), bigSep_si (F := F) (fun s => Td m d (cc c) s)]
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0_sc_scatter (at2 c s) xV (Memref.isWhole_whole _) iV (Memref.isWhole_whole _) oV (Memref.isWhole_whole _) rV (Memref.isWhole_whole _)
            cc0_scoped1 sV (Memref.isWhole_whole _) cc0_scoped3 cc0_scoped4 cc0_scoped5 cc0_scoped6 cc0_scoped7 cc0_scoped8 cc0_scoped9 cc0_scoped10 cc0_scoped11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; intro p hp; rcases h p hp with h | h
    · exact .inl h
    · exact .inr (.inl h)
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at2 ⟨_, hci.1⟩ ⟨_, hci.2⟩) (X1 m d) (I1 m d) (m (oLoc d)) hF (hpre d) O W hO).trans (wp_mono frame _ _ fun _ => obl_post)

/-! ## The launch element of the ghost state -/

def u₀ : UU := (initOf (K (F := F)).hsCells (K (F := F)).hsToks, 1)

theorem emps {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host code: a reshape, the call, and the read at the lists -/

abbrev eLoc (d : Dev nD) : Loc nD τ sig := (SparseCore.T d).loc main_v8

abbrev ra : DevRef τ sig := Proc.devRef .tc (main_arg0 : Ref sig .tc)
abbrev ri : DevRef τ sig := Proc.devRef .tc (main_arg1 : Ref sig .tc)
abbrev rx : DevRef τ sig := Proc.devRef .tc (main_v0 : Ref sig .tc)
abbrev ro : DevRef τ sig := Proc.devRef .tc (main_v1 : Ref sig .tc)
abbrev re : DevRef τ sig := Proc.devRef .tc (main_v8 : Ref sig .tc)
abbrev rc : DevRef τ sig := Proc.devRef .tc (main_c : Ref sig .tc)
abbrev r2 : DevRef τ sig := Proc.devRef .tc (main_v2 : Ref sig .tc)
abbrev r3 : DevRef τ sig := Proc.devRef .tc (main_v3 : Ref sig .tc)
abbrev rn : DevRef τ sig := Proc.devRef .tc (main_c_0 : Ref sig .tc)
abbrev r4 : DevRef τ sig := Proc.devRef .tc (main_v4 : Ref sig .tc)
abbrev r5 : DevRef τ sig := Proc.devRef .tc (main_v5 : Ref sig .tc)
abbrev r6 : DevRef τ sig := Proc.devRef .tc (main_v6 : Ref sig .tc)
abbrev r7 : DevRef τ sig := Proc.devRef .tc (main_v7 : Ref sig .tc)
abbrev opX : HloOp τ sig (Elt F) := StableHlo.reshape main_arg0 main_v0 (rfl : (.i32 : EltTy) = .i32) shapeCasts_S65536x256_S65536x2x128
abbrev p1 : HloOp τ sig (Elt F) := StableHlo.nullary main_c (constantI S_ 32 0#32)
abbrev p2 : HloOp τ sig (Elt F) := StableHlo.unary main_c main_v2 (broadcastInDim S8x65536 ![] bcast_S_S8x65536 : (⟨S_, .i32⟩ : BufTy).Contents (Elt F) → (⟨S8x65536, .i32⟩ : BufTy).Contents (Elt F))
abbrev p3 : HloOp τ sig (Elt F) := StableHlo.binary main_arg1 main_v2 main_v3 (cmpi .slt : (⟨S8x65536, .i32⟩ : BufTy).Contents (Elt F) → (⟨S8x65536, .i32⟩ : BufTy).Contents (Elt F) → (⟨S8x65536, .i1⟩ : BufTy).Contents (Elt F))
abbrev p4 : HloOp τ sig (Elt F) := StableHlo.nullary main_c_0 (constantI S_ 32 786432#32)
abbrev p5 : HloOp τ sig (Elt F) := StableHlo.unary main_c_0 main_v4 (broadcastInDim S8x65536 ![] bcast_S_S8x65536 : (⟨S_, .i32⟩ : BufTy).Contents (Elt F) → (⟨S8x65536, .i32⟩ : BufTy).Contents (Elt F))
abbrev p6 : HloOp τ sig (Elt F) := StableHlo.binary main_arg1 main_v4 main_v5 (addi : (⟨S8x65536, .i32⟩ : BufTy).Contents (Elt F) → (⟨S8x65536, .i32⟩ : BufTy).Contents (Elt F) → (⟨S8x65536, .i32⟩ : BufTy).Contents (Elt F))
abbrev p7 : HloOp τ sig (Elt F) := StableHlo.ternary main_v3 main_v5 main_arg1 main_v6 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F))
abbrev p8 : HloOp τ sig (Elt F) := StableHlo.unary main_v6 main_v7 (broadcastInDim S8x65536x1 ![0, 1] bcast_S8x65536_S8x65536x1_0_1 : (⟨S8x65536, .i32⟩ : BufTy).Contents (Elt F) → (⟨S8x65536x1, .i32⟩ : BufTy).Contents (Elt F))
abbrev p9 : HloOp τ sig (Elt F) := StableHlo.binary main_v1 main_v7 main_v8 ((fun x i => Host.gather gather_S786432x2x128_S8x65536x1_S8x65536x2x128_23_0_n_n_0_2_12128 x i) : (⟨S786432x2x128, .i32⟩ : BufTy).Contents (Elt F) → (⟨S8x65536x1, .i32⟩ : BufTy).Contents (Elt F) → (⟨S8x65536x2x128, .i32⟩ : BufTy).Contents (Elt F))
abbrev Oth : Finset (DevRef τ sig) := {rc, r2, r3, rn, r4, r5, r6, r7}
abbrev Arr : Finset (DevRef τ sig) := {ra, ri, rx, ro, re, rc, r2, r3, rn, r4, r5, r6, r7}

theorem held_Arr (d : Dev nD) (W : Valuation τ sig (Elt F)) :
    (held (T d) Arr W : sProp 𝕄)
      = iprop((aLoc d ↦{fullShare} W ra) ∗ (iLoc d ↦{fullShare} W ri) ∗ (xLoc d ↦{fullShare} W rx) ∗ (oLoc d ↦{fullShare} W ro)
          ∗ (eLoc d ↦{fullShare} W re) ∗ held (T d) Oth W) := by
  unfold held Arr
  rw [SparseCore.bigSep_insert' (by decide), SparseCore.bigSep_insert' (by decide), SparseCore.bigSep_insert' (by decide),
    SparseCore.bigSep_insert' (by decide), SparseCore.bigSep_insert' (by decide)]

def V0 (d : Dev nD) : Valuation τ sig (Elt F) := fun b => m (d, b)
/-- Before the call, -/
def V1 (d : Dev nD) : Valuation τ sig (Elt F) := (opX (F := F)).result (V0 m d)
/-- after it, -/
def V2 (d : Dev nD) : Valuation τ sig (Elt F) := Function.update (V1 m d) ro (G1 m d)
/-- and at the end. -/
def V3 (d : Dev nD) : Valuation τ sig (Elt F) := after [p1, p2, p3, p4, p5, p6, p7, p8, p9] (V2 m d)

theorem unscoped_held (d : Dev nD) : (unscopedBufs d (fun b => m ((SparseCore.T d).loc b)) : sProp 𝕄) = held (T d) Arr (V0 m d) := by
  unfold unscopedBufs held Arr
  rw [show (Finset.univ.filter fun b : Ref sig .tc => ¬ b.isScoped)
      = {main_arg0, main_arg1, main_v0, main_v1, main_v8, main_c, main_v2, main_v3, main_c_0, main_v4, main_v5, main_v6, main_v7} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton, bigSep_singleton]
  rfl

theorem V1_of (d : Dev nD) (b : DevRef τ sig) (h : b ≠ rx) : V1 m d b = m (d, b) := by
  unfold V1
  rw [(opX (F := F)).result_of_not_mem _ (show b ∉ ({rx} : Finset (DevRef τ sig)) from fun hb => h (Finset.mem_singleton.mp hb))]
  rfl
theorem V1_x (d : Dev nD) : V1 m d rx = X1 m d := by
  unfold V1
  exact StableHlo.reshape_result _ _ _ _ _ _ _

theorem held_V1 (d : Dev nD) : (held (T d) Arr ((opX (F := F)).result (V0 m d)) : sProp 𝕄)
      = iprop((aLoc d ↦{fullShare} m (aLoc d)) ∗ (iLoc d ↦{fullShare} I1 m d) ∗ (xLoc d ↦{fullShare} X1 m d) ∗ (oLoc d ↦{fullShare} m (oLoc d))
          ∗ (eLoc d ↦{fullShare} m (eLoc d)) ∗ held (T d) Oth (V1 m d)) := by
  show held (SparseCore.T d) Arr (V1 m d) = _
  rw [held_Arr, V1_x, V1_of m d ra (by decide), V1_of m d ri (by decide), V1_of m d ro (by decide), V1_of m d re (by decide)]

theorem held_V2 (d : Dev nD) : (held (T d) Arr (V2 m d) : sProp 𝕄)
      = iprop((aLoc d ↦{fullShare} m (aLoc d)) ∗ (iLoc d ↦{fullShare} I1 m d) ∗ (xLoc d ↦{fullShare} X1 m d) ∗ (oLoc d ↦{fullShare} G1 m d)
          ∗ (eLoc d ↦{fullShare} m (eLoc d)) ∗ held (T d) Oth (V1 m d)) := by
  have hne : ∀ b : DevRef τ sig, b ≠ ro → V2 m d b = V1 m d b := fun b h => by unfold V2; exact Function.update_of_ne h _ _
  have hro : V2 m d ro = G1 m d := by unfold V2; exact Function.update_self _ _ _
  have hO : (held (T d) Oth (V2 m d) : sProp 𝕄) = held (T d) Oth (V1 m d) := by
    unfold held
    exact bigSep_congr fun b hb => by rw [hne b (fun e => absurd (e ▸ hb) (by decide))]
  rw [held_Arr, hO, hro, hne ra (by decide), hne ri (by decide), hne rx (by decide), hne re (by decide),
    V1_x, V1_of m d ra (by decide), V1_of m d ri (by decide), V1_of m d re (by decide)]

theorem hX : (opX (F := F)).bufs ⊆ Arr := show ({ra, rx} : Finset (DevRef τ sig)) ⊆ Arr by decide
theorem hp1 : (p1 (F := F)).bufs ⊆ Arr := show ({rc} : Finset (DevRef τ sig)) ⊆ Arr by decide
theorem hp2 : (p2 (F := F)).bufs ⊆ Arr := show ({rc, r2} : Finset (DevRef τ sig)) ⊆ Arr by decide
theorem hp3 : (p3 (F := F)).bufs ⊆ Arr := show ({ri, r2, r3} : Finset (DevRef τ sig)) ⊆ Arr by decide
theorem hp4 : (p4 (F := F)).bufs ⊆ Arr := show ({rn} : Finset (DevRef τ sig)) ⊆ Arr by decide
theorem hp5 : (p5 (F := F)).bufs ⊆ Arr := show ({rn, r4} : Finset (DevRef τ sig)) ⊆ Arr by decide
theorem hp6 : (p6 (F := F)).bufs ⊆ Arr := show ({ri, r4, r5} : Finset (DevRef τ sig)) ⊆ Arr by decide
theorem hp7 : (p7 (F := F)).bufs ⊆ Arr := show ({r3, r5, ri, r6} : Finset (DevRef τ sig)) ⊆ Arr by decide
theorem hp8 : (p8 (F := F)).bufs ⊆ Arr := show ({r6, r7} : Finset (DevRef τ sig)) ⊆ Arr by decide
theorem hp9 : (p9 (F := F)).bufs ⊆ Arr := show ({ro, r7, re} : Finset (DevRef τ sig)) ⊆ Arr by decide

/-- The result: the call's output read at the lists. -/
abbrev E1 (d : Dev nD) : Buf (Elt F) (eLoc d) :=
  Host.gather gather_S786432x2x128_S8x65536x1_S8x65536x2x128_23_0_n_n_0_2_12128 (G1 m d)
    (broadcastInDim S8x65536x1 ![0, 1] bcast_S8x65536_S8x65536x1_0_1
      (select (cmpi .slt (I1 m d) (broadcastInDim S8x65536 ![] bcast_S_S8x65536 (constantI S_ 32 0#32)))
        (addi (I1 m d) (broadcastInDim S8x65536 ![] bcast_S_S8x65536 (constantI S_ 32 786432#32))) (I1 m d)))

theorem V3_e (d : Dev nD) : V3 m d re = E1 m d := by
  have hi : V2 m d ri = I1 m d := by
    unfold V2; rw [Function.update_of_ne (show ri ≠ ro by decide)]; exact V1_of m d ri (by decide)
  have ho : V2 m d ro = G1 m d := by unfold V2; exact Function.update_self _ _ _
  unfold V3 E1
  rw [← hi, ← ho]
  after_results <;> rfl
theorem V3_a (d : Dev nD) : V3 m d ra = m (aLoc d) := by
  have ha : V2 m d ra = m (aLoc d) := by
    unfold V2; rw [Function.update_of_ne (show ra ≠ ro by decide)]; exact V1_of m d ra (by decide)
  unfold V3
  rw [← ha]
  after_results <;> rfl
theorem V3_i (d : Dev nD) : V3 m d ri = m (iLoc d) := by
  have hi : V2 m d ri = m (iLoc d) := by
    unfold V2; rw [Function.update_of_ne (show ri ≠ ro by decide)]; exact V1_of m d ri (by decide)
  unfold V3
  rw [← hi]
  after_results <;> rfl

theorem held_V3 (d : Dev nD) : (held (T d) Arr (V3 m d) : sProp 𝕄)
      = iprop((aLoc d ↦{fullShare} m (aLoc d)) ∗ (iLoc d ↦{fullShare} m (iLoc d)) ∗ (xLoc d ↦{fullShare} V3 m d rx) ∗ (oLoc d ↦{fullShare} V3 m d ro)
          ∗ (eLoc d ↦{fullShare} E1 m d) ∗ held (T d) Oth (V3 m d)) := by
  rw [held_Arr, V3_a, V3_i, V3_e]

theorem st0_eq (hpre : PreOK m) (d : Dev nD) : (bigSep Finset.univ fun c : Fin ((K (F := F)).nCore 0) => (P m).st 0 d c)
    = iprop((xLoc d ↦{fullShare} X1 m d) ∗ (iLoc d ↦{fullShare} I1 m d) ∗ oLoc d ↦[Named (I1 m d)]{fullShare} m (oLoc d)) :=
  (bigSep_cc (F := F) fun c => bigSep Finset.univ fun s => Go m d c s).trans (arrays_eq d (X1 m d) (I1 m d) (hpre d) (m (oLoc d)))
theorem dn0_eq (hpre : PreOK m) (d : Dev nD) : (bigSep Finset.univ fun c : Fin ((K (F := F)).nCore 0) => (P m).dn 0 d c)
    = iprop((xLoc d ↦{fullShare} X1 m d) ∗ (iLoc d ↦{fullShare} I1 m d) ∗ oLoc d ↦[Named (I1 m d)]{fullShare} G1 m d) :=
  (bigSep_cc (F := F) fun c => bigSep Finset.univ fun s => Td m d c s).trans (arrays_eq d (X1 m d) (I1 m d) (hpre d) (G1 m d))

/-- What the host code leaves: both arguments as they were, the result. -/
abbrev FIN (d : Dev nD) : sProp 𝕄 := iprop((aLoc d ↦{fullShare} m (aLoc d)) ∗ (iLoc d ↦{fullShare} m (iLoc d)) ∗ eLoc d ↦{fullShare} E1 m d)

set_option maxHeartbeats 4000000 in
theorem hmain (hpre : PreOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := Arr) hX (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hi, Hx, Ho, He, Hr⟩
  ihave Ho := (out_split (F := F) d (I1 m d) (m (oLoc d))) $$ Ho
  icases Ho with ⟨Ho, Hor⟩
  iapply ((K (F := F)).wp_run (D (F := F)) 𝒱 (EH := EH) (P := P m) κ d 0) $$ [Hst Hx Hi Ho Hor Hb Ha He Hr Hts]
  isplitr; · iexact Hctx
  isplitl [Hst]; · iexact Hst
  isplitl [Hx Hi Ho]
  · rw [st0_eq m hpre]
    isplitl [Hx]; · iexact Hx
    isplitl [Hi]; · iexact Hi
    iexact Ho
  iintro ⟨Hst, Hdn⟩
  ihave Hdn' := (Entails.of_eq (dn0_eq m hpre d)) $$ Hdn
  icases Hdn' with ⟨Hx, Hi, Ho⟩
  ihave Ho := (out_join (F := F) d (X1 m d) (I1 m d) (m (oLoc d))) $$ [Ho Hor]
  · isplitl [Ho] <;> iassumption
  ihave Hheld := (Entails.of_eq (held_V2 (F := F) m d).symm) $$ [Ha Hi Hx Ho He Hr]
  · isplitl [Ha]; · iexact Ha
    isplitl [Hi]; · iexact Hi
    isplitl [Hx]; · iexact Hx
    isplitl [Ho]; · iexact Ho
    isplitl [He]; · iexact He
    iexact Hr
  iapply (wp_hlo_within 𝒱 (SparseCore.T d) none Set.univ (op := p1) (S := Arr) hp1 (V := (V2 m d))) $$ [Hb Hheld]
  · isplitl [Hb] <;> iassumption
  iintro ⟨Hb, Hheld⟩
  rw [wp_ret]; imodintro
  iapply (wp_hlo_within 𝒱 (SparseCore.T d) none Set.univ (op := p2) (S := Arr) hp2 (V := ((p1 (F := F)).result (V2 m d)))) $$ [Hb Hheld]
  · isplitl [Hb] <;> iassumption
  iintro ⟨Hb, Hheld⟩
  rw [wp_ret]; imodintro
  iapply (wp_hlo_within 𝒱 (SparseCore.T d) none Set.univ (op := p3) (S := Arr) hp3 (V := ((p2 (F := F)).result ((p1 (F := F)).result (V2 m d))))) $$ [Hb Hheld]
  · isplitl [Hb] <;> iassumption
  iintro ⟨Hb, Hheld⟩
  rw [wp_ret]; imodintro
  iapply (wp_hlo_within 𝒱 (SparseCore.T d) none Set.univ (op := p4) (S := Arr) hp4 (V := ((p3 (F := F)).result ((p2 (F := F)).result ((p1 (F := F)).result (V2 m d)))))) $$ [Hb Hheld]
  · isplitl [Hb] <;> iassumption
  iintro ⟨Hb, Hheld⟩
  rw [wp_ret]; imodintro
  iapply (wp_hlo_within 𝒱 (SparseCore.T d) none Set.univ (op := p5) (S := Arr) hp5 (V := ((p4 (F := F)).result ((p3 (F := F)).result ((p2 (F := F)).result ((p1 (F := F)).result (V2 m d))))))) $$ [Hb Hheld]
  · isplitl [Hb] <;> iassumption
  iintro ⟨Hb, Hheld⟩
  rw [wp_ret]; imodintro
  iapply (wp_hlo_within 𝒱 (SparseCore.T d) none Set.univ (op := p6) (S := Arr) hp6 (V := ((p5 (F := F)).result ((p4 (F := F)).result ((p3 (F := F)).result ((p2 (F := F)).result ((p1 (F := F)).result (V2 m d)))))))) $$ [Hb Hheld]
  · isplitl [Hb] <;> iassumption
  iintro ⟨Hb, Hheld⟩
  rw [wp_ret]; imodintro
  iapply (wp_hlo_within 𝒱 (SparseCore.T d) none Set.univ (op := p7) (S := Arr) hp7 (V := ((p6 (F := F)).result ((p5 (F := F)).result ((p4 (F := F)).result ((p3 (F := F)).result ((p2 (F := F)).result ((p1 (F := F)).result (V2 m d))))))))) $$ [Hb Hheld]
  · isplitl [Hb] <;> iassumption
  iintro ⟨Hb, Hheld⟩
  rw [wp_ret]; imodintro
  iapply (wp_hlo_within 𝒱 (SparseCore.T d) none Set.univ (op := p8) (S := Arr) hp8 (V := ((p7 (F := F)).result ((p6 (F := F)).result ((p5 (F := F)).result ((p4 (F := F)).result ((p3 (F := F)).result ((p2 (F := F)).result ((p1 (F := F)).result (V2 m d)))))))))) $$ [Hb Hheld]
  · isplitl [Hb] <;> iassumption
  iintro ⟨Hb, Hheld⟩
  rw [wp_ret]; imodintro
  iapply (wp_hlo_within 𝒱 (SparseCore.T d) none Set.univ (op := p9) (S := Arr) hp9 (V := ((p8 (F := F)).result ((p7 (F := F)).result ((p6 (F := F)).result ((p5 (F := F)).result ((p4 (F := F)).result ((p3 (F := F)).result ((p2 (F := F)).result ((p1 (F := F)).result (V2 m d))))))))))) $$ [Hb Hheld]
  · isplitl [Hb] <;> iassumption
  iintro ⟨Hb, Hheld⟩
  rw [wp_ret]; imodintro
  ihave Hh := (show (held (T d) Arr ((p9 (F := F)).result ((p8 (F := F)).result ((p7 (F := F)).result ((p6 (F := F)).result ((p5 (F := F)).result ((p4 (F := F)).result ((p3 (F := F)).result ((p2 (F := F)).result ((p1 (F := F)).result (V2 m d)))))))))) : sProp 𝕄) ⊢ _ from Entails.of_eq (held_V3 (F := F) m d)) $$ Hheld
  icases Hh with ⟨Ha, Hi, -, -, He, -⟩
  imodintro
  isplitl [Hst]; · iexact Hst
  isplitr [Hb Hts]
  · isplitl [Ha]; · iexact Ha
    isplitl [Hi]; · iexact Hi
    iexact He
  isplitl [Hb] <;> iassumption

def fq (d : Dev nD) (s' : Phys nD τ sig (Elt F)) : Prop :=
  s'.mem.mem (aLoc d) = m (aLoc d) ∧ s'.mem.mem (iLoc d) = m (iLoc d) ∧ s'.mem.mem (eLoc d) = E1 m d

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hb]
  · isplitl [HSI] <;> iassumption
  icases H with ⟨%h2, HSI, -⟩
  ihave H := (SI_pointsTo_agree (st := s') (ℓ := eLoc d) (I := Finset.univ) (q := fullShare) (f := E1 m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (aLoc c) = m (aLoc c) ∧ r.2.mem (iLoc c) = m (iLoc c) ∧ r.2.mem (eLoc c) = E1 m c) ∧ r.2.sem = fun _ => 0

/-- The scatter runs: the arguments unchanged, the result the scattered rows read at the lists, the semaphores at zero. -/
theorem run_scatter [∀ e, Nonempty (Elt F e)] (hpre : PreOK m) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ hpre) (fq m) (hfin m) (QC m) (fun _ h hz => ⟨h, hz⟩)

end Cert.Proof.Scattered

end
-- ==== Proof.ScatterClaim.lean ====
/-
  The scatter's claims: what the read at the lists gives, that it is the reference's value, what the precondition says of
  the lists, and the frames and values of the two programs at both instances.
-/
module

public import proofs.«01_k».proof.Proof.ScatterLaunch
public import proofs.«01_k».proof.Proof.Gen.Scatter
public import proofs.«01_k».proof.Proof.Gen.ScatterReference
public import proofs.«01_k».proof.Proof.Gen.ScatterReferenceIdeal
public import proofs.«01_k».proof.Proof.Gen.ScatterReferenceIdeal.Run
public import proofs.«01_k».proof.Proof.Gen.Pre_dest_distinct
public import Idealize.ShloMosaic.Lib.ReduceAll
public import Idealize.ShloMosaic.Lib.SortFacts

@[expose] public section

noncomputable section

namespace Cert.Proof.Scattered

open Idealize.ShloMosaic Idealize.ShloMosaic.ValueIdx Idealize.SL.Sem
open Cert.ScatterIdeal Cert.ScatterIdeal.Gen

/-! ## The value -/

/-- The gather along the first axis at one row number per list word, the number in range: the row itself. -/
theorem rows_at {α : Type} (x : S786432x2x128.Idx → α) (idx : IVec S8x65536x1 32) (k : Fin 8) (t : Fin 65536) (p : Fin 2) (l : Fin 128)
    (h : (idx (ix3 k t (0 : Fin 1))).toNat < 786432) :
    Host.gather gather_S786432x2x128_S8x65536x1_S8x65536x2x128_23_0_n_n_0_2_12128 x idx (ix4 k t p l)
      = x (ix3 (⟨(idx (ix3 k t (0 : Fin 1))).toNat, h⟩ : Fin 786432) p l) := by
  unfold Host.gather
  congr 1
  have h0 : (gather_S786432x2x128_S8x65536x1_S8x65536x2x128_23_0_n_n_0_2_12128).start (ix4 k t p l) idx (0 : Fin 3) = (idx (ix3 k t (0 : Fin 1))).toNat := by
    unfold GatherDims.start
    rw [dif_pos (show (0 : Fin 3) ∈ (gather_S786432x2x128_S8x65536x1_S8x65536x2x128_23_0_n_n_0_2_12128).startIndexMap from List.mem_singleton.mpr rfl)]
    have hsi : (gather_S786432x2x128_S8x65536x1_S8x65536x2x128_23_0_n_n_0_2_12128).siIdx (ix4 k t p l)
        ⟨List.idxOf (0 : Fin 3) (gather_S786432x2x128_S8x65536x1_S8x65536x2x128_23_0_n_n_0_2_12128).startIndexMap,
        List.idxOf_lt_length_iff.2 (List.mem_singleton.mpr rfl)⟩ = ix3 k t (0 : Fin 1) := by
      funext b; refine Fin.ext ?_
      match b with
      | ⟨0, _⟩ => rfl
      | ⟨1, _⟩ => rfl
      | ⟨2, _⟩ => rfl
    rw [hsi, BitVec.toInt_eq_toNat_of_lt (by omega), Int.toNat_natCast]
    show min (idx (ix3 k t (0 : Fin 1))).toNat (786432 - 1) = _
    omega
  funext a
  refine Fin.ext ?_
  show (gather_S786432x2x128_S8x65536x1_S8x65536x2x128_23_0_n_n_0_2_12128).start (ix4 k t p l) idx a
      + (gather_S786432x2x128_S8x65536x1_S8x65536x2x128_23_0_n_n_0_2_12128).batchCoord (ix4 k t p l) a
      + (gather_S786432x2x128_S8x65536x1_S8x65536x2x128_23_0_n_n_0_2_12128).offCoord (ix4 k t p l) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    exact h0
  | ⟨1, _⟩ =>
    show 0 + 0 + p.val = p.val
    omega
  | ⟨2, _⟩ =>
    show 0 + 0 + l.val = l.val
    omega

/-- Reading the scattered rows at the lists gives, for every list, the token rows in order: the reference's value. -/
theorem value_eq {α : Type} (x : S65536x2x128.Idx → α) (I : IVec S8x65536 32) (O0 : S786432x2x128.Idx → α) (hI : Distinct I) :
    Host.gather gather_S786432x2x128_S8x65536x1_S8x65536x2x128_23_0_n_n_0_2_12128 (scat x I O0)
      (broadcastInDim S8x65536x1 ![0, 1] bcast_S8x65536_S8x65536x1_0_1
        (select (cmpi .slt I (broadcastInDim S8x65536 ![] bcast_S_S8x65536 (constantI S_ 32 0#32)))
          (addi I (broadcastInDim S8x65536 ![] bcast_S_S8x65536 (constantI S_ 32 786432#32))) I))
      = broadcastInDim Cert.ScatterReferenceIdeal.S8x65536x2x128 ![0, 1, 2, 3] Cert.ScatterReferenceIdeal.Gen.facts₀.bcast_S1x65536x2x128_S8x65536x2x128_0_1_2_3
          (broadcastInDim Cert.ScatterReferenceIdeal.S1x65536x2x128 ![1, 2, 3] Cert.ScatterReferenceIdeal.Gen.facts₀.bcast_S65536x2x128_S1x65536x2x128_1_2_3 x) := by
  have hsel : select (cmpi .slt I (broadcastInDim S8x65536 ![] bcast_S_S8x65536 (constantI S_ 32 0#32)))
      (addi I (broadcastInDim S8x65536 ![] bcast_S_S8x65536 (constantI S_ 32 786432#32))) I = I := by
    funext j
    have h := hI.1 j
    have hc : IntOp.cmpi .slt (I j) 0#32 = 0#1 := by
      have : (I j).slt 0#32 = false := by
        rw [BitVec.slt_eq_decide, BitVec.toInt_eq_toNat_of_lt (by omega)]; simp
      show BitVec.ofBool ((I j).slt 0#32) = 0#1
      rw [this]; rfl
    show Scalar.select (IntOp.cmpi .slt (I j) 0#32) _ (I j) = I j
    rw [hc, select_zero]
  rw [hsel]
  funext y
  obtain ⟨k, t, p, l, rfl⟩ : ∃ (k : Fin 8) (t : Fin 65536) (p : Fin 2) (l : Fin 128), y = ix4 k t p l := ⟨y 0, y 1, y 2, y 3, by
    funext a
    match a with
    | ⟨0, _⟩ => rfl
    | ⟨1, _⟩ => rfl
    | ⟨2, _⟩ => rfl
    | ⟨3, _⟩ => rfl⟩
  have hbr : broadcastInDim S8x65536x1 ![0, 1] bcast_S8x65536_S8x65536x1_0_1 I (ix3 k t (0 : Fin 1)) = I (ix2 k t) := by
    unfold broadcastInDim
    congr 1
    funext a
    match a with
    | ⟨0, _⟩ => rfl
    | ⟨1, _⟩ => rfl
  have hlt : (broadcastInDim S8x65536x1 ![0, 1] bcast_S8x65536_S8x65536x1_0_1 I (ix3 k t (0 : Fin 1))).toNat < 786432 := by
    rw [hbr]; exact hI.1 _
  rw [rows_at (scat x I O0) _ k t p l hlt,
    scat_named x I O0 hI k t (ix3 (⟨_, hlt⟩ : Fin 786432) p l) (congrArg BitVec.toNat hbr.symm)]
  unfold broadcastInDim
  congr 1
  funext a
  match a with
  | ⟨0, _⟩ => rfl
  | ⟨1, _⟩ => rfl
  | ⟨2, _⟩ => rfl

/-! ## What the precondition says -/

/-- A sequence of words rising at every step rises. -/
theorem rises {n : ℕ} (f : Fin n → ℕ) (h : ∀ (i : ℕ) (hi : i + 1 < n), f ⟨i, by omega⟩ < f ⟨i + 1, hi⟩) :
    ∀ (e : ℕ) (i : ℕ) (hi : i + (e + 1) < n), f ⟨i, by omega⟩ < f ⟨i + (e + 1), hi⟩ := by
  intro e
  induction e with
  | zero => intro i hi; exact h i hi
  | succ e ih =>
    intro i hi
    exact (ih i (by omega)).trans (h (i + (e + 1)) (by omega))

/-- A word no less than zero and less than the number of rows, as signed numbers, names a row. -/
theorem word_lt (w : BitVec 32) (h0 : IntOp.cmpi .sge w 0#32 = 1#1) (h1 : IntOp.cmpi .slt w 786432#32 = 1#1) : w.toNat < 786432 := by
  have one (p : Bool) : BitVec.ofBool p = 1#1 → p = true := by cases p <;> decide
  have h0 := one _ (show BitVec.ofBool ((0#32).sle w) = 1#1 from h0)
  have h1 := one _ (show BitVec.ofBool (w.slt 786432#32) = 1#1 from h1)
  rw [BitVec.sle_eq_decide, decide_eq_true_eq] at h0
  rw [BitVec.slt_eq_decide, decide_eq_true_eq] at h1
  have z : (0#32).toInt = 0 := by decide
  have n : (786432#32).toInt = 786432 := by decide
  rw [z] at h0; rw [n] at h1
  rw [BitVec.toInt_eq_toNat_cond] at h0 h1
  split at h0 <;> omega

/-- Of two words naming rows, the lesser signed number is the lesser. -/
theorem word_slt (v w : BitVec 32) (hv : v.toNat < 786432) (hw : w.toNat < 786432) (h : IntOp.cmpi .slt v w = 1#1) : v.toNat < w.toNat := by
  have one (p : Bool) : BitVec.ofBool p = 1#1 → p = true := by cases p <;> decide
  have h := one _ (show BitVec.ofBool (v.slt w) = 1#1 from h)
  rw [BitVec.slt_eq_decide, decide_eq_true_eq, BitVec.toInt_eq_toNat_of_lt (by omega), BitVec.toInt_eq_toNat_of_lt (by omega)] at h
  omega

/-- The precondition, as the claims print it, says every word names a row and no two words the same one. -/
theorem distinct_of_pre {F : FTy → Type} [FloatOps F] (a : IVec S65536x256 32) (I : IVec S8x65536 32)
    (h : Cert.Pre_dest_distinct.fn (F := F) a I = fun _ => 1#1) : Distinct I := by
  have e := congrFun h (fun i => i.elim0)
  obtain ⟨eR, eS⟩ := IntOp.andi_eq_one.mp e
  haveI : Subsingleton Cert.Pre_dest_distinct.S_.Idx := ⟨fun p q => funext fun i => i.elim0⟩
  have hr : ∀ j, (I j).toNat < 786432 := fun j => by
    obtain ⟨h0, h1⟩ := IntOp.andi_eq_one.mp (Host.reduce_andi_all _ _ _ _ _ eR j)
    exact word_lt _ h0 h1
  refine ⟨hr, ?_⟩
  let fl : IVec ⟨1, ![524288]⟩ 32 := shapeCast Cert.Pre_dest_distinct.S524288 I Cert.Pre_dest_distinct.Gen.shapeCasts_S8x65536_S524288
  have hfl : ∀ j, (fl j).toNat < 786432 := fun j => hr _
  have hs : ∀ j, (Host.sort ⟨1, ![524288]⟩ 0 Cert.Pre_dest_distinct.comparator_i32_d0 fl j).toNat < 786432 := fun j => by
    rw [Host.sort_rank1]; exact hfl _
  have hadj : ∀ (i : ℕ) (hi : i + 1 < 524288),
      (Host.sort ⟨1, ![524288]⟩ 0 Cert.Pre_dest_distinct.comparator_i32_d0 fl (Shape.Idx.ofFin (⟨i, by omega⟩ : Fin 524288))).toNat
        < (Host.sort ⟨1, ![524288]⟩ 0 Cert.Pre_dest_distinct.comparator_i32_d0 fl (Shape.Idx.ofFin (⟨i + 1, hi⟩ : Fin 524288))).toNat := by
    intro i hi
    have q := Host.reduce_andi_all _ _ _ _ _ eS (ix1 (⟨i, by omega⟩ : Fin 524287))
    refine word_slt _ _ (hs _) (hs _) (Eq.trans ?_ q)
    refine congrArg₂ (IntOp.cmpi .slt) (congrArg _ ?_) (congrArg _ ?_)
    · funext b
      match b with
      | ⟨0, _⟩ => apply Fin.ext; show i = 0 + i; omega
    · funext b
      match b with
      | ⟨0, _⟩ => apply Fin.ext; show i + 1 = 1 + i; omega
  have hinj := injective_toNat_of_sort_strict Cert.Pre_dest_distinct.comparator_i32_d0 fl (by
    intro k k' hk
    have hk' : k.val < k'.val := hk
    have := rises (fun i : Fin 524288 => (Host.sort ⟨1, ![524288]⟩ 0 Cert.Pre_dest_distinct.comparator_i32_d0 fl (Shape.Idx.ofFin i)).toNat) hadj
      (k'.val - k.val - 1) k.val (by have := k'.isLt; omega)
    have ek : (⟨k.val + (k'.val - k.val - 1 + 1), by have := k'.isLt; omega⟩ : Fin 524288) = k' := Fin.ext (by show k.val + _ = k'.val; omega)
    rw [ek] at this
    exact this)
  intro j j' hjj
  have at1 : ∀ (k : Fin 8) (t : Fin 65536), fl (ix1 (⟨k.val * 65536 + t.val, by omega⟩ : Fin 524288)) = I (ix2 k t) := fun k t =>
    shapeCast_apply I _ _ _ (by
      rw [Shape.rowMajor_val_two, Shape.rowMajor_val_one]; rfl)
  have two : ∀ i : S8x65536.Idx, i = ix2 (i 0) (i 1) := fun i => by
    funext b
    match b with
    | ⟨0, _⟩ => rfl
    | ⟨1, _⟩ => rfl
  have key : ∀ (k k' : Fin 8) (t t' : Fin 65536), (I (ix2 k t)).toNat = (I (ix2 k' t')).toNat → k = k' ∧ t = t' := by
    intro k k' t t' ht
    rw [← at1 k t, ← at1 k' t'] at ht
    have e := congrArg Fin.val (congrFun (hinj ht) 0)
    have e : k.val * 65536 + t.val = k'.val * 65536 + t'.val := e
    exact ⟨Fin.ext (by omega), Fin.ext (by omega)⟩
  rw [two j, two j'] at hjj
  obtain ⟨e0, e1⟩ := key _ _ _ _ hjj
  rw [two j, two j', e0, e1]

/-! ## The claims -/

section Claims

theorem ok_bits (m : (ℓ : Loc Cert.Scatter.nD Cert.Scatter.τ Cert.Scatter.sig) → Buf (Elt Bits) ℓ) (h : Cert.Pre_Scatter m) :
    PreOK (F := Bits) m := fun d => distinct_of_pre _ _ (h d)
theorem ok_ideal (m : (ℓ : Loc nD τ sig) → Buf (Elt Ideal) ℓ) (h : Cert.Pre_ScatterIdeal m) :
    PreOK (F := Ideal) m := fun d => distinct_of_pre _ _ (h d)

theorem frame_bits : Cert.quiescent_Scatter := fun m ρ hp =>
  (θ_run Cert.ScatterIdeal.defs _ _).mono (fun _ h => ⟨fun c => ⟨(h.1 c).1, (h.1 c).2.1⟩, h.2⟩)
    (run_scatter (F := Bits) m ρ (ok_bits m hp))
theorem frame_ideal : Cert.quiescent_ScatterIdeal := fun m ρ hp =>
  (θ_run Cert.ScatterIdeal.defs _ _).mono (fun _ h => ⟨fun c => ⟨(h.1 c).1, (h.1 c).2.1⟩, h.2⟩)
    (run_scatter (F := Ideal) m ρ (ok_ideal m hp))

theorem ref_frame_bits : Cert.quiescent_ScatterReference := fun m ρ _ =>
  (θ_run Cert.ScatterReferenceIdeal.defs _ _).mono (fun r h => ⟨fun c => (h c).2, sem_eq_zero_of_no_sems (by decide) r.2⟩)
    (Cert.ScatterReferenceIdeal.Value.run (F := Bits) m ρ)
theorem ref_frame_ideal : Cert.quiescent_ScatterReferenceIdeal := fun m ρ _ =>
  (θ_run Cert.ScatterReferenceIdeal.defs _ _).mono (fun r h => ⟨fun c => (h c).2, sem_eq_zero_of_no_sems (by decide) r.2⟩)
    (Cert.ScatterReferenceIdeal.Value.run (F := Ideal) m ρ)

/-- The two sides' values, the arguments being equal. -/
theorem sides {F : FTy → Type} [FloatOps F] (m : (ℓ : Loc nD τ sig) → Buf (Elt F) ℓ) (d : Dev nD) (hI : Distinct (I1 m d))
    (b : IVec S65536x256 32) (hb : b = m (aLoc d)) (hc : S65536x256.ShapeCasts S65536x2x128) :
    broadcastInDim Cert.ScatterReferenceIdeal.S8x65536x2x128 ![0, 1, 2, 3] Cert.ScatterReferenceIdeal.Gen.facts₀.bcast_S1x65536x2x128_S8x65536x2x128_0_1_2_3
          (broadcastInDim Cert.ScatterReferenceIdeal.S1x65536x2x128 ![1, 2, 3] Cert.ScatterReferenceIdeal.Gen.facts₀.bcast_S65536x2x128_S1x65536x2x128_1_2_3
            (shapeCast S65536x2x128 b hc)) = E1 m d := by
  subst hb
  exact (value_eq (X1 m d) (I1 m d) (m (oLoc d)) hI).symm

theorem claim_bits : Cert.bitexact_Scatter_ScatterReference := fun m ρ m' ρ' hp hag =>
  ⟨fun c => E1 (F := Bits) m c,
    (θ_run Cert.ScatterIdeal.defs _ _).mono (fun _ h c => ⟨(h.1 c).2.2, (h.1 c).1, (h.1 c).2.1⟩) (run_scatter (F := Bits) m ρ (ok_bits m hp)),
    (θ_run Cert.ScatterReferenceIdeal.defs _ _).mono (fun _ h c =>
      ⟨(h c).1.trans (sides (F := Bits) m c (ok_bits m hp c) _ (hag c).1 _), (h c).2⟩) (Cert.ScatterReferenceIdeal.Value.run (F := Bits) m' ρ')⟩

theorem claim_ideal : Cert.algebraic_ScatterIdeal_ScatterReferenceIdeal := fun m ρ m' ρ' hp hag =>
  ⟨fun c => E1 (F := Ideal) m c,
    (θ_run Cert.ScatterIdeal.defs _ _).mono (fun _ h c => ⟨(h.1 c).2.2, (h.1 c).1, (h.1 c).2.1⟩) (run_scatter (F := Ideal) m ρ (ok_ideal m hp)),
    (θ_run Cert.ScatterReferenceIdeal.defs _ _).mono (fun _ h c =>
      ⟨(h c).1.trans (sides (F := Ideal) m c (ok_ideal m hp c) _ (hag c).1 _), (h c).2⟩) (Cert.ScatterReferenceIdeal.Value.run (F := Ideal) m' ρ')⟩

end Claims

end Cert.Proof.Scattered

end
-- ==== Proof.lean ====
/-
  The claims: the SparseCore gather of the grouped rows runs, leaves its arguments alone and its semaphores at zero, and
  ends with the rows `table[idx]`, word for word, at the bits and at the ideal instance alike.  The SparseCore scatter
  of the token rows runs the same way, and ends with every row the lists name holding its token's row.  The projection, the merge of
  the branches, the experts and one chunk of the combine run, leave their arguments alone, and end with their references' values at the ideal instance.
-/
module

public import proofs.«01_k».proof.Defs
public import proofs.«01_k».proof.Proof.Launch
public import proofs.«01_k».proof.Proof.Reference
public import proofs.«01_k».proof.Proof.Gen.Kernel
public import proofs.«01_k».proof.Proof.Gen.Reference
public import proofs.«01_k».proof.Proof.Gen.ReferenceIdeal
public import proofs.«01_k».proof.Proof.Gen.ReferenceIdeal.Run
public import proofs.«01_k».proof.Proof.Gen.Pre_idx_in_rows
public import proofs.«01_k».proof.Proof.Gen.Proj
public import proofs.«01_k».proof.Proof.Gen.ProjIdeal
public import proofs.«01_k».proof.Proof.Proj
public import proofs.«01_k».proof.Proof.MergeClaim
public import proofs.«01_k».proof.Proof.ExpertsClaim
public import proofs.«01_k».proof.Proof.CombineClaim
public import proofs.«01_k».proof.Proof.ScatterClaim
public import proofs.«01_k».proof.Proof.Gen.Scatter
public import proofs.«01_k».proof.Proof.Gen.ScatterIdeal
public import proofs.«01_k».proof.Proof.Gen.ScatterReference
public import proofs.«01_k».proof.Proof.Gen.ScatterReferenceIdeal
public import proofs.«01_k».proof.Proof.Gen.ScatterReferenceIdeal.Run
public import proofs.«01_k».proof.Proof.Gen.Pre_dest_distinct
public import proofs.«01_k».proof.Proof.Gen.ProjReference
public import proofs.«01_k».proof.Proof.Gen.ProjReferenceIdeal
public import proofs.«01_k».proof.Proof.Gen.Merge
public import proofs.«01_k».proof.Proof.Gen.MergeIdeal
public import proofs.«01_k».proof.Proof.Gen.MergeReference
public import proofs.«01_k».proof.Proof.Gen.MergeReferenceIdeal

@[expose] public section

noncomputable section

namespace Cert.Proof

open Idealize.ShloMosaic Idealize.SL.Sem

/-! ## The gather -/

theorem gather_ok_bits (m : (ℓ : Loc Cert.Kernel.nD Cert.Kernel.τ Cert.Kernel.sig) → Buf (Elt Bits) ℓ) (h : Cert.Pre_Kernel m) :
    Gather.PreOK (F := Bits) m := fun d => Gather.inRows_of (F := Bits) _ (Gather.words_of_pre _ _ (h d)) _
theorem gather_ok_ideal (m : (ℓ : Loc Cert.KernelIdeal.nD Cert.KernelIdeal.τ Cert.KernelIdeal.sig) → Buf (Elt Ideal) ℓ) (h : Cert.Pre_KernelIdeal m) :
    Gather.PreOK (F := Ideal) m := fun d => Gather.inRows_of (F := Ideal) _ (Gather.words_of_pre _ _ (h d)) _

theorem gather_frame : Cert.quiescent_Kernel := fun m ρ hp =>
  (θ_run Cert.KernelIdeal.defs _ _).mono (fun _ h => ⟨fun c => ⟨(h.1 c).1, (h.1 c).2.1⟩, h.2⟩)
    (Gather.run_gather (F := Bits) m ρ (gather_ok_bits m hp))
theorem gather_frame_ideal : Cert.quiescent_KernelIdeal := fun m ρ hp =>
  (θ_run Cert.KernelIdeal.defs _ _).mono (fun _ h => ⟨fun c => ⟨(h.1 c).1, (h.1 c).2.1⟩, h.2⟩)
    (Gather.run_gather (F := Ideal) m ρ (gather_ok_ideal m hp))

theorem rows_frame : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)
theorem rows_frame_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem gather_bits : Cert.bitexact_Kernel_Reference := fun m ρ m' ρ' hp hag => by
  refine ⟨fun c => Gather.G1 (F := Bits) m c,
    (θ_run Cert.KernelIdeal.defs _ _).mono (fun _ h c => ⟨(h.1 c).2.2, (h.1 c).1, (h.1 c).2.1⟩) (Gather.run_gather (F := Bits) m ρ (gather_ok_bits m hp)),
    (θ_run Cert.ReferenceIdeal.defs _ _).mono (fun _ h c => ⟨(h c).1.trans ?_, (h c).2⟩) (Cert.ReferenceIdeal.Value.run (F := Bits) m' ρ')⟩
  have e0 := (hag c).1
  have e1 := (hag c).2
  refine (Gather.value_eq _ _ (fun j => ?_) _ Cert.KernelIdeal.Gen.facts₀.shapeCasts_S786432x256_S786432x2x128 Cert.KernelIdeal.Gen.facts₀.shapeCasts_S131072_S1x131072).trans ?_
  · exact (congrArg (fun b : IVec Cert.KernelIdeal.S131072 32 => (b j).toNat) e1).trans_lt (Gather.words_of_pre _ _ (hp c) j)
  · exact congrArg₂ (fun (a : IVec Cert.KernelIdeal.S786432x256 32) (b : IVec Cert.KernelIdeal.S131072 32) =>
      Gather.gath (fun i => shapeCast Cert.KernelIdeal.S786432x2x128 a Cert.KernelIdeal.Gen.facts₀.shapeCasts_S786432x256_S786432x2x128 i)
        (fun i => shapeCast Cert.KernelIdeal.S1x131072 b Cert.KernelIdeal.Gen.facts₀.shapeCasts_S131072_S1x131072 i)) e0 e1

theorem gather_ideal : Cert.algebraic_KernelIdeal_ReferenceIdeal := fun m ρ m' ρ' hp hag => by
  refine ⟨fun c => Gather.G1 (F := Ideal) m c,
    (θ_run Cert.KernelIdeal.defs _ _).mono (fun _ h c => ⟨(h.1 c).2.2, (h.1 c).1, (h.1 c).2.1⟩) (Gather.run_gather (F := Ideal) m ρ (gather_ok_ideal m hp)),
    (θ_run Cert.ReferenceIdeal.defs _ _).mono (fun _ h c => ⟨(h c).1.trans ?_, (h c).2⟩) (Cert.ReferenceIdeal.Value.run (F := Ideal) m' ρ')⟩
  have e0 := (hag c).1
  have e1 := (hag c).2
  refine (Gather.value_eq _ _ (fun j => ?_) _ Cert.KernelIdeal.Gen.facts₀.shapeCasts_S786432x256_S786432x2x128 Cert.KernelIdeal.Gen.facts₀.shapeCasts_S131072_S1x131072).trans ?_
  · exact (congrArg (fun b : IVec Cert.KernelIdeal.S131072 32 => (b j).toNat) e1).trans_lt (Gather.words_of_pre _ _ (hp c) j)
  · exact congrArg₂ (fun (a : IVec Cert.KernelIdeal.S786432x256 32) (b : IVec Cert.KernelIdeal.S131072 32) =>
      Gather.gath (fun i => shapeCast Cert.KernelIdeal.S786432x2x128 a Cert.KernelIdeal.Gen.facts₀.shapeCasts_S786432x256_S786432x2x128 i)
        (fun i => shapeCast Cert.KernelIdeal.S1x131072 b Cert.KernelIdeal.Gen.facts₀.shapeCasts_S131072_S1x131072 i)) e0 e1

theorem claim : Cert.Claim :=
  ⟨Cert.Kernel.Gen.facts, Cert.KernelIdeal.Gen.facts, Cert.Reference.Gen.facts, Cert.ReferenceIdeal.Gen.facts,
    Cert.Proj.Gen.facts, Cert.ProjIdeal.Gen.facts, Cert.ProjReference.Gen.facts, Cert.ProjReferenceIdeal.Gen.facts,
    Cert.Merge.Gen.facts, Cert.MergeIdeal.Gen.facts, Cert.MergeReference.Gen.facts, Cert.MergeReferenceIdeal.Gen.facts,
    Cert.Experts.Gen.facts, Cert.ExpertsIdeal.Gen.facts, Cert.ExpertsReference.Gen.facts, Cert.ExpertsReferenceIdeal.Gen.facts,
    Cert.Combine.Gen.facts, Cert.CombineIdeal.Gen.facts, Cert.CombineReference.Gen.facts, Cert.CombineReferenceIdeal.Gen.facts,
    Cert.Scatter.Gen.facts, Cert.ScatterIdeal.Gen.facts, Cert.ScatterReference.Gen.facts, Cert.ScatterReferenceIdeal.Gen.facts,
    Cert.Pre_idx_in_rows.Gen.facts, Cert.Pre_blocks_in_order.Gen.facts, Cert.Pre_dest_distinct.Gen.facts,
    gather_frame, gather_frame_ideal, rows_frame, fun m ρ _ => rows_frame m ρ trivial, rows_frame_ideal, fun m ρ _ => rows_frame_ideal m ρ trivial,
    Projection.frame_bits, Projection.frame_ideal, Projection.ref_frame_bits, Projection.ref_frame_ideal,
    Merged.frame_bits, Merged.frame_ideal, Merged.ref_frame_bits, Merged.ref_frame_ideal,
    Cert.ExpertsIdeal.Blocks.frame_bits, Cert.ExpertsIdeal.Blocks.frame_ideal, Cert.ExpertsIdeal.Blocks.ref_frame_bits, Cert.ExpertsIdeal.Blocks.ref_frame_ideal,
    fun m ρ _ => Cert.ExpertsIdeal.Blocks.ref_frame_ideal m ρ trivial,
    Combined.frame_bits, Combined.frame_ideal, Combined.ref_frame_bits, Combined.ref_frame_ideal,
    Scattered.frame_bits, Scattered.frame_ideal, Scattered.ref_frame_bits, fun m ρ _ => Scattered.ref_frame_bits m ρ trivial,
    Scattered.ref_frame_ideal, fun m ρ _ => Scattered.ref_frame_ideal m ρ trivial,
    trivial, gather_bits, gather_ideal, trivial, Projection.claim_proj, trivial, Merged.claim_merge, trivial, Cert.ExpertsIdeal.Blocks.claim_experts,
    trivial, Combined.claim_combine, trivial, Scattered.claim_bits, Scattered.claim_ideal⟩

end Cert.Proof

end
